-- ==== Defs.lean ====
def Pre_Kernel [hPre_uniform_Kernel : Cert.Pre_uniform_Kernel.Facts] (m : (ℓ : Loc Cert.Kernel.nD Cert.Kernel.τ Cert.Kernel.sig) → Buf (Elt Bits) ℓ) : Prop :=
  ∀ c : Dev Cert.Kernel.nD,
    (Cert.Pre_uniform_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_uniform_Kernel : Cert.Pre_uniform_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_uniform_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_uniform_ReferenceIdeal [hPre_uniform_ReferenceIdeal : Cert.Pre_uniform_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_uniform_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] [hPre_uniform_Kernel : Cert.Pre_uniform_Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] [hPre_uniform_Kernel : Cert.Pre_uniform_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_uniform_ReferenceIdeal [hReferenceIdeal : Cert.ReferenceIdeal.Facts] [hPre_uniform_ReferenceIdeal : Cert.Pre_uniform_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_uniform_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_uniform_Kernel : Cert.Pre_uniform_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![4096, 1024]⟩ ⟨2, ![16384, 1024]⟩ 0 4 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨1, ![4096]⟩ ⟨1, ![16384]⟩ 0 4 c (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v35) = Layout.block ⟨2, ![4096, 1024]⟩ ⟨2, ![16384, 1024]⟩ 0 4 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v7) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_uniform_Kernel : Cert.Pre_uniform_Kernel.Facts) (hPre_uniform_ReferenceIdeal : Cert.Pre_uniform_ReferenceIdeal.Facts),
    quiescent_Kernel (hKernel := hKernel) (hPre_uniform_Kernel := hPre_uniform_Kernel)
    ∧ quiescent_KernelIdeal (hKernelIdeal := hKernelIdeal) (hPre_uniform_Kernel := hPre_uniform_Kernel)
    ∧ quiescent_ReferenceIdeal (hReferenceIdeal := hReferenceIdeal)
    ∧ quiescent_ReferenceIdeal_pre_uniform_ReferenceIdeal (hReferenceIdeal := hReferenceIdeal) (hPre_uniform_ReferenceIdeal := hPre_uniform_ReferenceIdeal)
    ∧ preserves_Kernel_KernelIdeal
    ∧ algebraic_KernelIdeal_ReferenceIdeal (hKernelIdeal := hKernelIdeal) (hReferenceIdeal := hReferenceIdeal) (hPre_uniform_Kernel := hPre_uniform_Kernel)
-- ==== Pre_uniform_Kernel.lean ====
abbrev S4096x1024 : Shape := ⟨2, ![4096, 1024]⟩
abbrev S4096 : Shape := ⟨1, ![4096]⟩
abbrev S4096x1 : Shape := ⟨2, ![4096, 1]⟩
abbrev S4 : Shape := ⟨1, ![4]⟩
abbrev S1x4 : Shape := ⟨2, ![1, 4]⟩
abbrev S4096x4 : Shape := ⟨2, ![4096, 4]⟩
abbrev S_ : Shape := ⟨0, ![]⟩

class Facts : Prop where
  bcast_S4096_S4096x1_0 : S4096.BroadcastsInDim S4096x1 (![0] : Fin 1 → Fin S4096x1.rank)
  bcast_S4_S1x4_1 : S4.BroadcastsInDim S1x4 (![1] : Fin 1 → Fin S1x4.rank)
  bcast_S4096x1_S4096x4_0_1 : S4096x1.BroadcastsInDim S4096x4 (![0, 1] : Fin 2 → Fin S4096x4.rank)
  bcast_S1x4_S4096x4_0_1 : S1x4.BroadcastsInDim S4096x4 (![0, 1] : Fin 2 → Fin S4096x4.rank)
  natLt_1_32 : 1 < 32
  reducesTo_S4096x4_S4_d0 : S4096x4.ReducesTo [0] S4
  h_S_ : 0 < S_.numel
  bcast_S_S4 : S_.BroadcastsInDim S4 (![] : Fin 0 → Fin S4.rank)

variable [Facts]

def fn {F : FTy → Type} [FloatOps F] (main_arg0 : FVec F S4096x1024 .bf16) (main_arg1 : IVec S4096 32) : IVec S4 1 :=
  let main_v0 : IVec S4096x1 32 := broadcastInDim S4096x1 ![0] bcast_S4096_S4096x1_0 main_arg1
  let main_v1 : IVec S4 32 := iotaInDim S4 32 0
  let main_v2 : IVec S1x4 32 := broadcastInDim S1x4 ![1] bcast_S4_S1x4_1 main_v1
  let main_v3 : IVec S4096x4 32 := broadcastInDim S4096x4 ![0, 1] bcast_S4096x1_S4096x4_0_1 main_v0
  let main_v4 : IVec S4096x4 32 := broadcastInDim S4096x4 ![0, 1] bcast_S1x4_S4096x4_0_1 main_v2
  let main_v5 : IVec S4096x4 1 := cmpi .eq main_v3 main_v4
  let main_v6 : IVec S4096x4 32 := (extui 32 · natLt_1_32) main_v5
  let main_c : IVec S_ 32 := constantI S_ 32 0#32
  let main_v7 : IVec S4 32 := (fun x v => Host.reduce IntOp.addi x v reducesTo_S4096x4_S4_d0 h_S_) main_v6 main_c
  let main_c_0 : IVec S_ 32 := constantI S_ 32 1024#32
  let main_v8 : IVec S4 32 := broadcastInDim S4 ![] bcast_S_S4 main_c_0
  let main_v9 : IVec S4 1 := cmpi .eq main_v7 main_v8
  main_v9
-- ==== Pre_uniform_ReferenceIdeal.lean ====
abbrev S16384x1024 : Shape := ⟨2, ![16384, 1024]⟩
abbrev S16384 : Shape := ⟨1, ![16384]⟩
abbrev S16384x1 : Shape := ⟨2, ![16384, 1]⟩
abbrev S4 : Shape := ⟨1, ![4]⟩
abbrev S1x4 : Shape := ⟨2, ![1, 4]⟩
abbrev S16384x4 : Shape := ⟨2, ![16384, 4]⟩
abbrev S_ : Shape := ⟨0, ![]⟩

class Facts : Prop where
  bcast_S16384_S16384x1_0 : S16384.BroadcastsInDim S16384x1 (![0] : Fin 1 → Fin S16384x1.rank)
  bcast_S4_S1x4_1 : S4.BroadcastsInDim S1x4 (![1] : Fin 1 → Fin S1x4.rank)
  bcast_S16384x1_S16384x4_0_1 : S16384x1.BroadcastsInDim S16384x4 (![0, 1] : Fin 2 → Fin S16384x4.rank)
  bcast_S1x4_S16384x4_0_1 : S1x4.BroadcastsInDim S16384x4 (![0, 1] : Fin 2 → Fin S16384x4.rank)
  natLt_1_32 : 1 < 32
  reducesTo_S16384x4_S4_d0 : S16384x4.ReducesTo [0] S4
  h_S_ : 0 < S_.numel
  bcast_S_S4 : S_.BroadcastsInDim S4 (![] : Fin 0 → Fin S4.rank)

variable [Facts]

def fn {F : FTy → Type} [FloatOps F] (main_arg0 : FVec F S16384x1024 .bf16) (main_arg1 : IVec S16384 32) : IVec S4 1 :=
  let main_v0 : IVec S16384x1 32 := broadcastInDim S16384x1 ![0] bcast_S16384_S16384x1_0 main_arg1
  let main_v1 : IVec S4 32 := iotaInDim S4 32 0
  let main_v2 : IVec S1x4 32 := broadcastInDim S1x4 ![1] bcast_S4_S1x4_1 main_v1
  let main_v3 : IVec S16384x4 32 := broadcastInDim S16384x4 ![0, 1] bcast_S16384x1_S16384x4_0_1 main_v0
  let main_v4 : IVec S16384x4 32 := broadcastInDim S16384x4 ![0, 1] bcast_S1x4_S16384x4_0_1 main_v2
  let main_v5 : IVec S16384x4 1 := cmpi .eq main_v3 main_v4
  let main_v6 : IVec S16384x4 32 := (extui 32 · natLt_1_32) main_v5
  let main_c : IVec S_ 32 := constantI S_ 32 0#32
  let main_v7 : IVec S4 32 := (fun x v => Host.reduce IntOp.addi x v reducesTo_S16384x4_S4_d0 h_S_) main_v6 main_c
  let main_c_0 : IVec S_ 32 := constantI S_ 32 1024#32
  let main_v8 : IVec S4 32 := broadcastInDim S4 ![] bcast_S_S4 main_c_0
  let main_v9 : IVec S4 1 := cmpi .eq main_v7 main_v8
  main_v9
-- ==== Kernel.lean ====
abbrev S4096x1024 : Shape := ⟨2, ![4096, 1024]⟩
abbrev S4096 : Shape := ⟨1, ![4096]⟩
abbrev S_ : Shape := ⟨0, ![]⟩
abbrev S4096x1 : Shape := ⟨2, ![4096, 1]⟩
abbrev S4096x8x128 : Shape := ⟨3, ![4096, 8, 128]⟩
abbrev S4 : Shape := ⟨1, ![4]⟩
abbrev S1x4 : Shape := ⟨2, ![1, 4]⟩
abbrev S4096x4 : Shape := ⟨2, ![4096, 4]⟩
abbrev S1x8x128 : Shape := ⟨3, ![1, 8, 128]⟩
abbrev S1 : Shape := ⟨1, ![1]⟩
abbrev S3 : Shape := ⟨1, ![3]⟩
abbrev S4x8x128 : Shape := ⟨3, ![4, 8, 128]⟩
abbrev S1x1x1 : Shape := ⟨3, ![1, 1, 1]⟩
abbrev S32x8x128 : Shape := ⟨3, ![32, 8, 128]⟩

abbrev nBuf : Space → Nat
  | .hbm => 67
  | .vmem => 4
  | .smem => 1
  | _ => 0

abbrev bufTy : (tb : Table) → Fin (tcTables nBuf tb) → BufTy
  | .hbm, ⟨0, _⟩ => ⟨S4096x1024, .bf16⟩
  | .hbm, ⟨1, _⟩ => ⟨S4096, .i32⟩
  | .hbm, ⟨2, _⟩ => ⟨S_, .i32⟩
  | .hbm, ⟨3, _⟩ => ⟨S_, .i32⟩
  | .hbm, ⟨4, _⟩ => ⟨S_, .i32⟩
  | .hbm, ⟨5, _⟩ => ⟨S_, .i32⟩
  | .hbm, ⟨6, _⟩ => ⟨S_, .i32⟩
  | .hbm, ⟨7, _⟩ => ⟨S_, .i32⟩
  | .hbm, ⟨8, _⟩ => ⟨S4096, .i32⟩
  | .hbm, ⟨9, _⟩ => ⟨S_, .i32⟩
  | .hbm, ⟨10, _⟩ => ⟨S4096, .i32⟩
  | .hbm, ⟨11, _⟩ => ⟨S4096, .i32⟩
  | .hbm, ⟨12, _⟩ => ⟨S4096, .i32⟩
  | .hbm, ⟨13, _⟩ => ⟨S4096, .i32⟩
  | .hbm, ⟨14, _⟩ => ⟨S_, .i32⟩
  | .hbm, ⟨15, _⟩ => ⟨S_, .i32⟩
  | .hbm, ⟨16, _⟩ => ⟨S_, .i1⟩
  | .hbm, ⟨17, _⟩ => ⟨S_, .i32⟩
  | .hbm, ⟨18, _⟩ => ⟨S_, .i32⟩
  | .hbm, ⟨19, _⟩ => ⟨S4096, .i32⟩
  | .hbm, ⟨20, _⟩ => ⟨S4096, .i32⟩
  | .hbm, ⟨21, _⟩ => ⟨S_, .i32⟩
  | .hbm, ⟨22, _⟩ => ⟨S4096, .i32⟩
  | .hbm, ⟨23, _⟩ => ⟨S4096, .i1⟩
  | .hbm, ⟨24, _⟩ => ⟨S_, .i32⟩
  | .hbm, ⟨25, _⟩ => ⟨S4096, .i32⟩
  | .hbm, ⟨26, _⟩ => ⟨S4096, .i1⟩
  | .hbm, ⟨27, _⟩ => ⟨S_, .i32⟩
  | .hbm, ⟨28, _⟩ => ⟨S_, .i1⟩
  | .hbm, ⟨29, _⟩ => ⟨S4096, .i1⟩
  | .hbm, ⟨30, _⟩ => ⟨S4096, .i1⟩
  | .hbm, ⟨31, _⟩ => ⟨S4096, .i1⟩
  | .hbm, ⟨32, _⟩ => ⟨S4096, .i32⟩
  | .hbm, ⟨33, _⟩ => ⟨S4096, .i32⟩
  | .hbm, ⟨34, _⟩ => ⟨S4096, .i32⟩
  | .hbm, ⟨35, _⟩ => ⟨S_, .i32⟩
  | .hbm, ⟨36, _⟩ => ⟨S4096, .i32⟩
  | .hbm, ⟨37, _⟩ => ⟨S4096, .i1⟩
  | .hbm, ⟨38, _⟩ => ⟨S_, .i32⟩
  | .hbm, ⟨39, _⟩ => ⟨S4096, .i32⟩
  | .hbm, ⟨40, _⟩ => ⟨S4096, .i32⟩
  | .hbm, ⟨41, _⟩ => ⟨S4096, .i32⟩
  | .hbm, ⟨42, _⟩ => ⟨S4096x1, .i32⟩
  | .hbm, ⟨43, _⟩ => ⟨S4096x1024, .bf16⟩
  | .hbm, ⟨44, _⟩ => ⟨S4096x8x128, .bf16⟩
  | .hbm, ⟨45, _⟩ => ⟨S4096x1, .i32⟩
  | .hbm, ⟨46, _⟩ => ⟨S4, .i32⟩
  | .hbm, ⟨47, _⟩ => ⟨S1x4, .i32⟩
  | .hbm, ⟨48, _⟩ => ⟨S4096x4, .i32⟩
  | .hbm, ⟨49, _⟩ => ⟨S4096x4, .i32⟩
  | .hbm, ⟨50, _⟩ => ⟨S4096x4, .i1⟩
  | .hbm, ⟨51, _⟩ => ⟨S4096x4, .i32⟩
  | .hbm, ⟨52, _⟩ => ⟨S_, .i32⟩
  | .hbm, ⟨53, _⟩ => ⟨S4, .i32⟩
  | .hbm, ⟨54, _⟩ => ⟨S_, .i32⟩
  | .hbm, ⟨55, _⟩ => ⟨S1x8x128, .i32⟩
  | .hbm, ⟨56, _⟩ => ⟨S_, .i32⟩
  | .hbm, ⟨57, _⟩ => ⟨S1, .i32⟩
  | .hbm, ⟨58, _⟩ => ⟨S_, .i32⟩
  | .hbm, ⟨59, _⟩ => ⟨S1, .i32⟩
  | .hbm, ⟨60, _⟩ => ⟨S_, .i32⟩
  | .hbm, ⟨61, _⟩ => ⟨S1, .i32⟩
  | .hbm, ⟨62, _⟩ => ⟨S3, .i32⟩
  | .hbm, ⟨63, _⟩ => ⟨S1x8x128, .i32⟩
  | .hbm, ⟨64, _⟩ => ⟨S4x8x128, .i32⟩
  | .hbm, ⟨65, _⟩ => ⟨S4096x8x128, .bf16⟩
  | .hbm, ⟨66, _⟩ => ⟨S4096x1024, .bf16⟩
  | .local _ .vmem, ⟨0, _⟩ => ⟨S1x8x128, .i32⟩
  | .local _ .vmem, ⟨1, _⟩ => ⟨S4x8x128, .i32⟩
  | .local _ .vmem, ⟨2, _⟩ => ⟨S4096x8x128, .bf16⟩
  | .local _ .vmem, ⟨3, _⟩ => ⟨S4096x8x128, .bf16⟩
  | .local _ .smem, ⟨0, _⟩ => ⟨S4x8x128, .i32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .smem, ⟨0, _⟩ => true
  | _, _ => false

abbrev semScoped : Fin 2 → Bool
  | ⟨0, _⟩ => false
  | ⟨1, _⟩ => false
  | _ => false

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  (ofTc nBuf bufTy 2 18 bufScoped semScoped dmaSemScoped tileCredit tileCredit_eq_zero tileCredit_pos).withBarriers [(0, 0), (1, 1)]

abbrev main_arg0 : Ref sig .tc := ⟨.hbm, 0, rfl⟩
abbrev main_arg1 : Ref sig .tc := ⟨.hbm, 1, rfl⟩
abbrev main_c : Ref sig .tc := ⟨.hbm, 2, rfl⟩
abbrev main_c_0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_c_1 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_c_2 : Ref sig .tc := ⟨.hbm, 14, rfl⟩
abbrev main_call1_c : Ref sig .tc := ⟨.hbm, 15, rfl⟩
abbrev main_call1_v0 : Ref sig .tc := ⟨.hbm, 16, rfl⟩
abbrev main_call1_c_0 : Ref sig .tc := ⟨.hbm, 17, rfl⟩
abbrev main_call1_v1 : Ref sig .tc := ⟨.hbm, 18, rfl⟩
abbrev main_call1_v2 : Ref sig .tc := ⟨.hbm, 19, rfl⟩
abbrev main_call1_v3 : Ref sig .tc := ⟨.hbm, 20, rfl⟩
abbrev main_call1_c_1 : Ref sig .tc := ⟨.hbm, 21, rfl⟩
abbrev main_call1_v4 : Ref sig .tc := ⟨.hbm, 22, rfl⟩
abbrev main_call1_v5 : Ref sig .tc := ⟨.hbm, 23, rfl⟩
abbrev main_call1_c_2 : Ref sig .tc := ⟨.hbm, 24, rfl⟩
abbrev main_call1_v6 : Ref sig .tc := ⟨.hbm, 25, rfl⟩
abbrev main_call1_v7 : Ref sig .tc := ⟨.hbm, 26, rfl⟩
abbrev main_call1_c_3 : Ref sig .tc := ⟨.hbm, 27, rfl⟩
abbrev main_call1_v8 : Ref sig .tc := ⟨.hbm, 28, rfl⟩
abbrev main_call1_v9 : Ref sig .tc := ⟨.hbm, 29, rfl⟩
abbrev main_call1_v10 : Ref sig .tc := ⟨.hbm, 30, rfl⟩
abbrev main_call1_v11 : Ref sig .tc := ⟨.hbm, 31, rfl⟩
abbrev main_call1_v12 : Ref sig .tc := ⟨.hbm, 32, rfl⟩
abbrev main_call1_v13 : Ref sig .tc := ⟨.hbm, 33, rfl⟩
abbrev main_v10 : Ref sig .tc := ⟨.hbm, 34, rfl⟩
abbrev main_c_3 : Ref sig .tc := ⟨.hbm, 35, rfl⟩
abbrev main_v11 : Ref sig .tc := ⟨.hbm, 36, rfl⟩
abbrev main_v12 : Ref sig .tc := ⟨.hbm, 37, rfl⟩
abbrev main_c_4 : Ref sig .tc := ⟨.hbm, 38, rfl⟩
abbrev main_v13 : Ref sig .tc := ⟨.hbm, 39, rfl⟩
abbrev main_v14 : Ref sig .tc := ⟨.hbm, 40, rfl⟩
abbrev main_v15 : Ref sig .tc := ⟨.hbm, 41, rfl⟩
abbrev main_v16 : Ref sig .tc := ⟨.hbm, 42, rfl⟩
abbrev main_v17 : Ref sig .tc := ⟨.hbm, 43, rfl⟩
abbrev main_v18 : Ref sig .tc := ⟨.hbm, 44, rfl⟩
abbrev main_v19 : Ref sig .tc := ⟨.hbm, 45, rfl⟩
abbrev main_v20 : Ref sig .tc := ⟨.hbm, 46, rfl⟩
abbrev main_v21 : Ref sig .tc := ⟨.hbm, 47, rfl⟩
abbrev main_v22 : Ref sig .tc := ⟨.hbm, 48, rfl⟩
abbrev main_v23 : Ref sig .tc := ⟨.hbm, 49, rfl⟩
abbrev main_v24 : Ref sig .tc := ⟨.hbm, 50, rfl⟩
abbrev main_v25 : Ref sig .tc := ⟨.hbm, 51, rfl⟩
abbrev main_c_5 : Ref sig .tc := ⟨.hbm, 52, rfl⟩
abbrev main_v26 : Ref sig .tc := ⟨.hbm, 53, rfl⟩
abbrev main_c_6 : Ref sig .tc := ⟨.hbm, 54, rfl⟩
abbrev main_v27 : Ref sig .tc := ⟨.hbm, 55, rfl⟩
abbrev main_c_7 : Ref sig .tc := ⟨.hbm, 56, rfl⟩
abbrev main_v28 : Ref sig .tc := ⟨.hbm, 57, rfl⟩
abbrev main_c_8 : Ref sig .tc := ⟨.hbm, 58, rfl⟩
abbrev main_v29 : Ref sig .tc := ⟨.hbm, 59, rfl⟩
abbrev main_c_9 : Ref sig .tc := ⟨.hbm, 60, rfl⟩
abbrev main_v30 : Ref sig .tc := ⟨.hbm, 61, rfl⟩
abbrev main_v31 : Ref sig .tc := ⟨.hbm, 62, rfl⟩
abbrev main_v32 : Ref sig .tc := ⟨.hbm, 63, rfl⟩
abbrev main_v33 : Ref sig .tc := ⟨.hbm, 64, rfl⟩
abbrev main_v34 : Ref sig .tc := ⟨.hbm, 65, rfl⟩
abbrev main_v35 : Ref sig .tc := ⟨.hbm, 66, rfl⟩
abbrev cc0_stg0_0 : Ref sig .tc := ⟨.vmem, 0, rfl⟩
abbrev cc0_stg1_0 : Ref sig .tc := ⟨.vmem, 1, rfl⟩
abbrev cc1_stg0_0 : Ref sig .tc := ⟨.vmem, 2, rfl⟩
abbrev cc1_stg2_0 : Ref sig .tc := ⟨.vmem, 3, rfl⟩
abbrev cc1_stg1_0 : Ref sig .tc := ⟨.smem, 0, rfl⟩
abbrev cc0_sem0_0 : DmaSem sig := 0
abbrev cc0_sem1_0 : DmaSem sig := 1
abbrev cc1_sem0_0 : DmaSem sig := 9
abbrev cc1_sem1_0 : DmaSem sig := 10
abbrev cc1_sem2_0 : DmaSem sig := 11
abbrev barrier0 : Sem sig := 0
abbrev barrier1 : Sem sig := 1

abbrev nD : Nat := 4
abbrev τ : Topo := Topo.v7x

variable {F : FTy → Type} [FloatOps F]

abbrev grid0 : Pipeline.Grid := .none

def k0_dev1 (d0 : Dev nD) : Nat :=
  let c0_i32_8 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v4 : BitVec 32 := Scalar.addi v2 c1_i32_0
  let c4_i32_1 : BitVec 32 := 4#32
  let c0_i32 : BitVec 32 := 0#32
  let v5 : BitVec 1 := Scalar.cmpi .eq c4_i32_1 c0_i32
  let c1_i32_2 : BitVec 32 := 1#32
  let v6 : BitVec 32 := Scalar.select v5 c1_i32_2 c4_i32_1
  let v7 : BitVec 32 := Scalar.remsi v4 v6
  let c0_i32_4 : BitVec 32 := 0#32
  let v9 : BitVec 1 := Scalar.cmpi .slt v7 c0_i32_4
  let c0_i32_5 : BitVec 32 := 0#32
  let v10 : BitVec 1 := Scalar.cmpi .slt v6 c0_i32_5
  let v11 : BitVec 1 := Scalar.xori v9 v10
  let c0_i32_3 : BitVec 32 := 0#32
  let v8 : BitVec 1 := Scalar.cmpi .ne v7 c0_i32_3
  let v12 : BitVec 1 := Scalar.andi v11 v8
  let v13 : BitVec 32 := Scalar.addi v7 v6
  let v14 : BitVec 32 := Scalar.select v12 v13 v7
  let c1_i32_7 : BitVec 32 := 1#32
  let v15 : BitVec 32 := Scalar.muli v14 c1_i32_7
  let v16 : BitVec 32 := Scalar.addi c0_i32_8 v15
  v16.toNat
def k0_dev2 (d0 : Dev nD) : Nat :=
  let c0_i32_17 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let v17 : BitVec 32 := Scalar.addi v2 c2_i32
  let c4_i32_9 : BitVec 32 := 4#32
  let c0_i32_10 : BitVec 32 := 0#32
  let v18 : BitVec 1 := Scalar.cmpi .eq c4_i32_9 c0_i32_10
  let c1_i32_11 : BitVec 32 := 1#32
  let v19 : BitVec 32 := Scalar.select v18 c1_i32_11 c4_i32_9
  let v20 : BitVec 32 := Scalar.remsi v17 v19
  let c0_i32_13 : BitVec 32 := 0#32
  let v22 : BitVec 1 := Scalar.cmpi .slt v20 c0_i32_13
  let c0_i32_14 : BitVec 32 := 0#32
  let v23 : BitVec 1 := Scalar.cmpi .slt v19 c0_i32_14
  let v24 : BitVec 1 := Scalar.xori v22 v23
  let c0_i32_12 : BitVec 32 := 0#32
  let v21 : BitVec 1 := Scalar.cmpi .ne v20 c0_i32_12
  let v25 : BitVec 1 := Scalar.andi v24 v21
  let v26 : BitVec 32 := Scalar.addi v20 v19
  let v27 : BitVec 32 := Scalar.select v25 v26 v20
  let c1_i32_16 : BitVec 32 := 1#32
  let v28 : BitVec 32 := Scalar.muli v27 c1_i32_16
  let v29 : BitVec 32 := Scalar.addi c0_i32_17 v28
  v29.toNat
def k0_dev3 (d0 : Dev nD) : Nat :=
  let c0_i32_26 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v30 : BitVec 32 := Scalar.addi v2 c3_i32
  let c4_i32_18 : BitVec 32 := 4#32
  let c0_i32_19 : BitVec 32 := 0#32
  let v31 : BitVec 1 := Scalar.cmpi .eq c4_i32_18 c0_i32_19
  let c1_i32_20 : BitVec 32 := 1#32
  let v32 : BitVec 32 := Scalar.select v31 c1_i32_20 c4_i32_18
  let v33 : BitVec 32 := Scalar.remsi v30 v32
  let c0_i32_22 : BitVec 32 := 0#32
  let v35 : BitVec 1 := Scalar.cmpi .slt v33 c0_i32_22
  let c0_i32_23 : BitVec 32 := 0#32
  let v36 : BitVec 1 := Scalar.cmpi .slt v32 c0_i32_23
  let v37 : BitVec 1 := Scalar.xori v35 v36
  let c0_i32_21 : BitVec 32 := 0#32
  let v34 : BitVec 1 := Scalar.cmpi .ne v33 c0_i32_21
  let v38 : BitVec 1 := Scalar.andi v37 v34
  let v39 : BitVec 32 := Scalar.addi v33 v32
  let v40 : BitVec 32 := Scalar.select v38 v39 v33
  let c1_i32_25 : BitVec 32 := 1#32
  let v41 : BitVec 32 := Scalar.muli v40 c1_i32_25
  let v42 : BitVec 32 := Scalar.addi c0_i32_26 v41
  v42.toNat
def k0_off1 (d0 : Dev nD) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_28 : BitVec 32 := 0#32
  let c0_i32_29 : BitVec 32 := 0#32
  ![v2.toNat, 0, 0]
def k0_dev4 (d0 : Dev nD) : Nat :=
  let c0_i32_40 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_30 : BitVec 32 := 1#32
  let v44 : BitVec 32 := Scalar.addi v2 c1_i32_30
  let c4_i32_31 : BitVec 32 := 4#32
  let c0_i32_32 : BitVec 32 := 0#32
  let v45 : BitVec 1 := Scalar.cmpi .eq c4_i32_31 c0_i32_32
  let c1_i32_33 : BitVec 32 := 1#32
  let v46 : BitVec 32 := Scalar.select v45 c1_i32_33 c4_i32_31
  let v47 : BitVec 32 := Scalar.remsi v44 v46
  let c0_i32_35 : BitVec 32 := 0#32
  let v49 : BitVec 1 := Scalar.cmpi .slt v47 c0_i32_35
  let c0_i32_36 : BitVec 32 := 0#32
  let v50 : BitVec 1 := Scalar.cmpi .slt v46 c0_i32_36
  let v51 : BitVec 1 := Scalar.xori v49 v50
  let c0_i32_34 : BitVec 32 := 0#32
  let v48 : BitVec 1 := Scalar.cmpi .ne v47 c0_i32_34
  let v52 : BitVec 1 := Scalar.andi v51 v48
  let v53 : BitVec 32 := Scalar.addi v47 v46
  let v54 : BitVec 32 := Scalar.select v52 v53 v47
  let c1_i32_39 : BitVec 32 := 1#32
  let v55 : BitVec 32 := Scalar.muli v54 c1_i32_39
  let v56 : BitVec 32 := Scalar.addi c0_i32_40 v55
  v56.toNat
def k0_dev5 (d0 : Dev nD) : Nat :=
  let c0_i32_53 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_43 : BitVec 32 := 2#32
  let v62 : BitVec 32 := Scalar.addi v2 c2_i32_43
  let c4_i32_44 : BitVec 32 := 4#32
  let c0_i32_45 : BitVec 32 := 0#32
  let v63 : BitVec 1 := Scalar.cmpi .eq c4_i32_44 c0_i32_45
  let c1_i32_46 : BitVec 32 := 1#32
  let v64 : BitVec 32 := Scalar.select v63 c1_i32_46 c4_i32_44
  let v65 : BitVec 32 := Scalar.remsi v62 v64
  let c0_i32_48 : BitVec 32 := 0#32
  let v67 : BitVec 1 := Scalar.cmpi .slt v65 c0_i32_48
  let c0_i32_49 : BitVec 32 := 0#32
  let v68 : BitVec 1 := Scalar.cmpi .slt v64 c0_i32_49
  let v69 : BitVec 1 := Scalar.xori v67 v68
  let c0_i32_47 : BitVec 32 := 0#32
  let v66 : BitVec 1 := Scalar.cmpi .ne v65 c0_i32_47
  let v70 : BitVec 1 := Scalar.andi v69 v66
  let v71 : BitVec 32 := Scalar.addi v65 v64
  let v72 : BitVec 32 := Scalar.select v70 v71 v65
  let c1_i32_52 : BitVec 32 := 1#32
  let v73 : BitVec 32 := Scalar.muli v72 c1_i32_52
  let v74 : BitVec 32 := Scalar.addi c0_i32_53 v73
  v74.toNat
def k0_dev6 (d0 : Dev nD) : Nat :=
  let c0_i32_66 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_56 : BitVec 32 := 3#32
  let v80 : BitVec 32 := Scalar.addi v2 c3_i32_56
  let c4_i32_57 : BitVec 32 := 4#32
  let c0_i32_58 : BitVec 32 := 0#32
  let v81 : BitVec 1 := Scalar.cmpi .eq c4_i32_57 c0_i32_58
  let c1_i32_59 : BitVec 32 := 1#32
  let v82 : BitVec 32 := Scalar.select v81 c1_i32_59 c4_i32_57
  let v83 : BitVec 32 := Scalar.remsi v80 v82
  let c0_i32_61 : BitVec 32 := 0#32
  let v85 : BitVec 1 := Scalar.cmpi .slt v83 c0_i32_61
  let c0_i32_62 : BitVec 32 := 0#32
  let v86 : BitVec 1 := Scalar.cmpi .slt v82 c0_i32_62
  let v87 : BitVec 1 := Scalar.xori v85 v86
  let c0_i32_60 : BitVec 32 := 0#32
  let v84 : BitVec 1 := Scalar.cmpi .ne v83 c0_i32_60
  let v88 : BitVec 1 := Scalar.andi v87 v84
  let v89 : BitVec 32 := Scalar.addi v83 v82
  let v90 : BitVec 32 := Scalar.select v88 v89 v83
  let c1_i32_65 : BitVec 32 := 1#32
  let v91 : BitVec 32 := Scalar.muli v90 c1_i32_65
  let v92 : BitVec 32 := Scalar.addi c0_i32_66 v91
  v92.toNat
abbrev stage0_0 : Fin 1 → Memref sig .tc .vmem S1x8x128 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4x8x128 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev grid1 : Pipeline.Grid := .none

def k1_dev1 (d0 : Dev nD) : Nat :=
  let c0_i32_8 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v4 : BitVec 32 := Scalar.addi v2 c1_i32_0
  let c4_i32_1 : BitVec 32 := 4#32
  let c0_i32 : BitVec 32 := 0#32
  let v5 : BitVec 1 := Scalar.cmpi .eq c4_i32_1 c0_i32
  let c1_i32_2 : BitVec 32 := 1#32
  let v6 : BitVec 32 := Scalar.select v5 c1_i32_2 c4_i32_1
  let v7 : BitVec 32 := Scalar.remsi v4 v6
  let c0_i32_4 : BitVec 32 := 0#32
  let v9 : BitVec 1 := Scalar.cmpi .slt v7 c0_i32_4
  let c0_i32_5 : BitVec 32 := 0#32
  let v10 : BitVec 1 := Scalar.cmpi .slt v6 c0_i32_5
  let v11 : BitVec 1 := Scalar.xori v9 v10
  let c0_i32_3 : BitVec 32 := 0#32
  let v8 : BitVec 1 := Scalar.cmpi .ne v7 c0_i32_3
  let v12 : BitVec 1 := Scalar.andi v11 v8
  let v13 : BitVec 32 := Scalar.addi v7 v6
  let v14 : BitVec 32 := Scalar.select v12 v13 v7
  let c1_i32_7 : BitVec 32 := 1#32
  let v15 : BitVec 32 := Scalar.muli v14 c1_i32_7
  let v16 : BitVec 32 := Scalar.addi c0_i32_8 v15
  v16.toNat
def k1_dev2 (d0 : Dev nD) : Nat :=
  let c0_i32_17 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let v17 : BitVec 32 := Scalar.addi v2 c2_i32
  let c4_i32_9 : BitVec 32 := 4#32
  let c0_i32_10 : BitVec 32 := 0#32
  let v18 : BitVec 1 := Scalar.cmpi .eq c4_i32_9 c0_i32_10
  let c1_i32_11 : BitVec 32 := 1#32
  let v19 : BitVec 32 := Scalar.select v18 c1_i32_11 c4_i32_9
  let v20 : BitVec 32 := Scalar.remsi v17 v19
  let c0_i32_13 : BitVec 32 := 0#32
  let v22 : BitVec 1 := Scalar.cmpi .slt v20 c0_i32_13
  let c0_i32_14 : BitVec 32 := 0#32
  let v23 : BitVec 1 := Scalar.cmpi .slt v19 c0_i32_14
  let v24 : BitVec 1 := Scalar.xori v22 v23
  let c0_i32_12 : BitVec 32 := 0#32
  let v21 : BitVec 1 := Scalar.cmpi .ne v20 c0_i32_12
  let v25 : BitVec 1 := Scalar.andi v24 v21
  let v26 : BitVec 32 := Scalar.addi v20 v19
  let v27 : BitVec 32 := Scalar.select v25 v26 v20
  let c1_i32_16 : BitVec 32 := 1#32
  let v28 : BitVec 32 := Scalar.muli v27 c1_i32_16
  let v29 : BitVec 32 := Scalar.addi c0_i32_17 v28
  v29.toNat
def k1_dev3 (d0 : Dev nD) : Nat :=
  let c0_i32_26 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v30 : BitVec 32 := Scalar.addi v2 c3_i32
  let c4_i32_18 : BitVec 32 := 4#32
  let c0_i32_19 : BitVec 32 := 0#32
  let v31 : BitVec 1 := Scalar.cmpi .eq c4_i32_18 c0_i32_19
  let c1_i32_20 : BitVec 32 := 1#32
  let v32 : BitVec 32 := Scalar.select v31 c1_i32_20 c4_i32_18
  let v33 : BitVec 32 := Scalar.remsi v30 v32
  let c0_i32_22 : BitVec 32 := 0#32
  let v35 : BitVec 1 := Scalar.cmpi .slt v33 c0_i32_22
  let c0_i32_23 : BitVec 32 := 0#32
  let v36 : BitVec 1 := Scalar.cmpi .slt v32 c0_i32_23
  let v37 : BitVec 1 := Scalar.xori v35 v36
  let c0_i32_21 : BitVec 32 := 0#32
  let v34 : BitVec 1 := Scalar.cmpi .ne v33 c0_i32_21
  let v38 : BitVec 1 := Scalar.andi v37 v34
  let v39 : BitVec 32 := Scalar.addi v33 v32
  let v40 : BitVec 32 := Scalar.select v38 v39 v33
  let c1_i32_25 : BitVec 32 := 1#32
  let v41 : BitVec 32 := Scalar.muli v40 c1_i32_25
  let v42 : BitVec 32 := Scalar.addi c0_i32_26 v41
  v42.toNat
def k1_off1 (d0 : Dev nD) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v54 : Index := Scalar.indexCast v2
  let c0 : Index := 0#32
  let c1_i32_28 : BitVec 32 := 1#32
  let v43 : BitVec 32 := Scalar.addi v2 c1_i32_28
  let c4_i32_29 : BitVec 32 := 4#32
  let c0_i32_30 : BitVec 32 := 0#32
  let v44 : BitVec 1 := Scalar.cmpi .eq c4_i32_29 c0_i32_30
  let c1_i32_31 : BitVec 32 := 1#32
  let v45 : BitVec 32 := Scalar.select v44 c1_i32_31 c4_i32_29
  let v46 : BitVec 32 := Scalar.remsi v43 v45
  let c0_i32_33 : BitVec 32 := 0#32
  let v48 : BitVec 1 := Scalar.cmpi .slt v46 c0_i32_33
  let c0_i32_34 : BitVec 32 := 0#32
  let v49 : BitVec 1 := Scalar.cmpi .slt v45 c0_i32_34
  let v50 : BitVec 1 := Scalar.xori v48 v49
  let c0_i32_32 : BitVec 32 := 0#32
  let v47 : BitVec 1 := Scalar.cmpi .ne v46 c0_i32_32
  let v51 : BitVec 1 := Scalar.andi v50 v47
  let v52 : BitVec 32 := Scalar.addi v46 v45
  let v53 : BitVec 32 := Scalar.select v51 v52 v46
  let v55 : Index := Scalar.indexCast v53
  ![v54.toNat, 0, v55.toNat]
def k1_off2 (d0 : Dev nD) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v58 : Index := Scalar.indexCast v2
  let c0_36 : Index := 0#32
  let c0_37 : Index := 0#32
  ![v58.toNat, 0, 0]
def k1_off3 (d0 : Dev nD) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v63 : Index := Scalar.indexCast v2
  let c0_41 : Index := 0#32
  let c1 : Index := 1#32
  ![v63.toNat, 0, 1]
def k1_off4 (d0 : Dev nD) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v68 : Index := Scalar.indexCast v2
  let c0_44 : Index := 0#32
  let c2 : Index := 2#32
  ![v68.toNat, 0, 2]
def k1_off5 (d0 : Dev nD) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v73 : Index := Scalar.indexCast v2
  let c0_47 : Index := 0#32
  let c3 : Index := 3#32
  ![v73.toNat, 0, 3]
def k1_off6 (d0 : Dev nD) : Fin 3 → Nat :=
  let c0_50 : Index := 0#32
  let c0_51 : Index := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_28 : BitVec 32 := 1#32
  let v43 : BitVec 32 := Scalar.addi v2 c1_i32_28
  let c4_i32_29 : BitVec 32 := 4#32
  let c0_i32_30 : BitVec 32 := 0#32
  let v44 : BitVec 1 := Scalar.cmpi .eq c4_i32_29 c0_i32_30
  let c1_i32_31 : BitVec 32 := 1#32
  let v45 : BitVec 32 := Scalar.select v44 c1_i32_31 c4_i32_29
  let v46 : BitVec 32 := Scalar.remsi v43 v45
  let c0_i32_33 : BitVec 32 := 0#32
  let v48 : BitVec 1 := Scalar.cmpi .slt v46 c0_i32_33
  let c0_i32_34 : BitVec 32 := 0#32
  let v49 : BitVec 1 := Scalar.cmpi .slt v45 c0_i32_34
  let v50 : BitVec 1 := Scalar.xori v48 v49
  let c0_i32_32 : BitVec 32 := 0#32
  let v47 : BitVec 1 := Scalar.cmpi .ne v46 c0_i32_32
  let v51 : BitVec 1 := Scalar.andi v50 v47
  let v52 : BitVec 32 := Scalar.addi v46 v45
  let v53 : BitVec 32 := Scalar.select v51 v52 v46
  let v78 : Index := Scalar.indexCast v53
  ![0, 0, v78.toNat]
def k1_off7 (d0 : Dev nD) : Fin 3 → Nat :=
  let c1_55 : Index := 1#32
  let c0_56 : Index := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_28 : BitVec 32 := 1#32
  let v43 : BitVec 32 := Scalar.addi v2 c1_i32_28
  let c4_i32_29 : BitVec 32 := 4#32
  let c0_i32_30 : BitVec 32 := 0#32
  let v44 : BitVec 1 := Scalar.cmpi .eq c4_i32_29 c0_i32_30
  let c1_i32_31 : BitVec 32 := 1#32
  let v45 : BitVec 32 := Scalar.select v44 c1_i32_31 c4_i32_29
  let v46 : BitVec 32 := Scalar.remsi v43 v45
  let c0_i32_33 : BitVec 32 := 0#32
  let v48 : BitVec 1 := Scalar.cmpi .slt v46 c0_i32_33
  let c0_i32_34 : BitVec 32 := 0#32
  let v49 : BitVec 1 := Scalar.cmpi .slt v45 c0_i32_34
  let v50 : BitVec 1 := Scalar.xori v48 v49
  let c0_i32_32 : BitVec 32 := 0#32
  let v47 : BitVec 1 := Scalar.cmpi .ne v46 c0_i32_32
  let v51 : BitVec 1 := Scalar.andi v50 v47
  let v52 : BitVec 32 := Scalar.addi v46 v45
  let v53 : BitVec 32 := Scalar.select v51 v52 v46
  let v83 : Index := Scalar.indexCast v53
  ![1, 0, v83.toNat]
def k1_off8 (d0 : Dev nD) : Fin 3 → Nat :=
  let c2_59 : Index := 2#32
  let c0_60 : Index := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_28 : BitVec 32 := 1#32
  let v43 : BitVec 32 := Scalar.addi v2 c1_i32_28
  let c4_i32_29 : BitVec 32 := 4#32
  let c0_i32_30 : BitVec 32 := 0#32
  let v44 : BitVec 1 := Scalar.cmpi .eq c4_i32_29 c0_i32_30
  let c1_i32_31 : BitVec 32 := 1#32
  let v45 : BitVec 32 := Scalar.select v44 c1_i32_31 c4_i32_29
  let v46 : BitVec 32 := Scalar.remsi v43 v45
  let c0_i32_33 : BitVec 32 := 0#32
  let v48 : BitVec 1 := Scalar.cmpi .slt v46 c0_i32_33
  let c0_i32_34 : BitVec 32 := 0#32
  let v49 : BitVec 1 := Scalar.cmpi .slt v45 c0_i32_34
  let v50 : BitVec 1 := Scalar.xori v48 v49
  let c0_i32_32 : BitVec 32 := 0#32
  let v47 : BitVec 1 := Scalar.cmpi .ne v46 c0_i32_32
  let v51 : BitVec 1 := Scalar.andi v50 v47
  let v52 : BitVec 32 := Scalar.addi v46 v45
  let v53 : BitVec 32 := Scalar.select v51 v52 v46
  let v88 : Index := Scalar.indexCast v53
  ![2, 0, v88.toNat]
def k1_off9 (d0 : Dev nD) : Fin 3 → Nat :=
  let c3_63 : Index := 3#32
  let c0_64 : Index := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_28 : BitVec 32 := 1#32
  let v43 : BitVec 32 := Scalar.addi v2 c1_i32_28
  let c4_i32_29 : BitVec 32 := 4#32
  let c0_i32_30 : BitVec 32 := 0#32
  let v44 : BitVec 1 := Scalar.cmpi .eq c4_i32_29 c0_i32_30
  let c1_i32_31 : BitVec 32 := 1#32
  let v45 : BitVec 32 := Scalar.select v44 c1_i32_31 c4_i32_29
  let v46 : BitVec 32 := Scalar.remsi v43 v45
  let c0_i32_33 : BitVec 32 := 0#32
  let v48 : BitVec 1 := Scalar.cmpi .slt v46 c0_i32_33
  let c0_i32_34 : BitVec 32 := 0#32
  let v49 : BitVec 1 := Scalar.cmpi .slt v45 c0_i32_34
  let v50 : BitVec 1 := Scalar.xori v48 v49
  let c0_i32_32 : BitVec 32 := 0#32
  let v47 : BitVec 1 := Scalar.cmpi .ne v46 c0_i32_32
  let v51 : BitVec 1 := Scalar.andi v50 v47
  let v52 : BitVec 32 := Scalar.addi v46 v45
  let v53 : BitVec 32 := Scalar.select v51 v52 v46
  let v93 : Index := Scalar.indexCast v53
  ![3, 0, v93.toNat]
@[reducible] def k1_t1_loop (v56 : BitVec 32) : Scf.Loop 32 :=
  let c0_i32_73 : BitVec 32 := 0#32
  let c0_i32_66 : BitVec 32 := 0#32
  let v98 : BitVec 1 := Scalar.cmpi .sgt v56 c0_i32_66
  let v99 : BitVec 32 := Scalar.extui v98
  let c0_i32_67 : BitVec 32 := 0#32
  let v100 : BitVec 1 := Scalar.cmpi .slt v56 c0_i32_67
  let v101 : BitVec 32 := Scalar.extui v100
  let v102 : BitVec 32 := Scalar.subi v99 v101
  let c32_i32 : BitVec 32 := 32#32
  let c0_i32_68 : BitVec 32 := 0#32
  let v103 : BitVec 1 := Scalar.cmpi .sgt c32_i32 c0_i32_68
  let v104 : BitVec 32 := Scalar.extui v103
  let c0_i32_69 : BitVec 32 := 0#32
  let v105 : BitVec 1 := Scalar.cmpi .slt c32_i32 c0_i32_69
  let v106 : BitVec 32 := Scalar.extui v105
  let v107 : BitVec 32 := Scalar.subi v104 v106
  let v108 : BitVec 1 := Scalar.cmpi .ne v102 v107
  let v109 : BitVec 32 := Scalar.remsi v56 c32_i32
  let c0_i32_70 : BitVec 32 := 0#32
  let v110 : BitVec 1 := Scalar.cmpi .ne v109 c0_i32_70
  let v111 : BitVec 1 := Scalar.andi v108 v110
  let v97 : BitVec 32 := Scalar.divsi v56 c32_i32
  let c1_i32_71 : BitVec 32 := 1#32
  let v112 : BitVec 32 := Scalar.subi v97 c1_i32_71
  let v113 : BitVec 32 := Scalar.select v111 v112 v97
  let v116 : BitVec 32 := Scalar.subi v113 c0_i32_73
  let c1_i32_75 : BitVec 32 := 1#32
  let v118 : BitVec 32 := Scalar.divsi v116 c1_i32_75
  let v119 : BitVec 32 := Scalar.muli v118 c1_i32_75
  let v120 : BitVec 32 := Scalar.addi c0_i32_73 v119
  let c1_i32_76 : BitVec 32 := 1#32
  ⟨c0_i32_73, v120, c1_i32_76⟩

def k1_off10 (d0 : Dev nD) (v56 : BitVec 32) (v79 : BitVec 32) (v84 : BitVec 32) (v89 : BitVec 32) (v94 : BitVec 32) (k1_t1 : Fin (k1_t1_loop v56).trips) : Fin 3 → Nat :=
  let c0_i32_53 : BitVec 32 := 0#32
  let c0_i32_49 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v77 : BitVec 1 := Scalar.cmpi .slt c0_i32_49 v2
  let c0_i32_52 : BitVec 32 := 0#32
  let v80 : BitVec 32 := Scalar.select v77 v79 c0_i32_52
  let v81 : BitVec 32 := Scalar.addi c0_i32_53 v80
  let c1_i32_54 : BitVec 32 := 1#32
  let v82 : BitVec 1 := Scalar.cmpi .slt c1_i32_54 v2
  let c0_i32_57 : BitVec 32 := 0#32
  let v85 : BitVec 32 := Scalar.select v82 v84 c0_i32_57
  let v86 : BitVec 32 := Scalar.addi v81 v85
  let c2_i32_58 : BitVec 32 := 2#32
  let v87 : BitVec 1 := Scalar.cmpi .slt c2_i32_58 v2
  let c0_i32_61 : BitVec 32 := 0#32
  let v90 : BitVec 32 := Scalar.select v87 v89 c0_i32_61
  let v91 : BitVec 32 := Scalar.addi v86 v90
  let c3_i32_62 : BitVec 32 := 3#32
  let v92 : BitVec 1 := Scalar.cmpi .slt c3_i32_62 v2
  let c0_i32_65 : BitVec 32 := 0#32
  let v95 : BitVec 32 := Scalar.select v92 v94 c0_i32_65
  let v96 : BitVec 32 := Scalar.addi v91 v95
  let c0_i32_73 : BitVec 32 := 0#32
  let c1_i32_76 : BitVec 32 := 1#32
  let arg9 : BitVec 32 := Scf.iv c0_i32_73 c1_i32_76 k1_t1
  let c32_i32_367 : BitVec 32 := 32#32
  let v570 : BitVec 32 := Scalar.muli arg9 c32_i32_367
  let v571 : BitVec 32 := Scalar.addi v96 v570
  let c0_i32_370 : BitVec 32 := 0#32
  let c0_i32_371 : BitVec 32 := 0#32
  ![v571.toNat, 0, 0]

def k1_off11 (d0 : Dev nD) (v56 : BitVec 32) (v59 : BitVec 32) (v64 : BitVec 32) (v69 : BitVec 32) (v74 : BitVec 32) (k1_t1 : Fin (k1_t1_loop v56).trips) : Fin 3 → Nat :=
  let c0_i32_39 : BitVec 32 := 0#32
  let c0_i32_35 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_28 : BitVec 32 := 1#32
  let v43 : BitVec 32 := Scalar.addi v2 c1_i32_28
  let c4_i32_29 : BitVec 32 := 4#32
  let c0_i32_30 : BitVec 32 := 0#32
  let v44 : BitVec 1 := Scalar.cmpi .eq c4_i32_29 c0_i32_30
  let c1_i32_31 : BitVec 32 := 1#32
  let v45 : BitVec 32 := Scalar.select v44 c1_i32_31 c4_i32_29
  let v46 : BitVec 32 := Scalar.remsi v43 v45
  let c0_i32_33 : BitVec 32 := 0#32
  let v48 : BitVec 1 := Scalar.cmpi .slt v46 c0_i32_33
  let c0_i32_34 : BitVec 32 := 0#32
  let v49 : BitVec 1 := Scalar.cmpi .slt v45 c0_i32_34
  let v50 : BitVec 1 := Scalar.xori v48 v49
  let c0_i32_32 : BitVec 32 := 0#32
  let v47 : BitVec 1 := Scalar.cmpi .ne v46 c0_i32_32
  let v51 : BitVec 1 := Scalar.andi v50 v47
  let v52 : BitVec 32 := Scalar.addi v46 v45
  let v53 : BitVec 32 := Scalar.select v51 v52 v46
  let v57 : BitVec 1 := Scalar.cmpi .slt c0_i32_35 v53
  let c0_i32_38 : BitVec 32 := 0#32
  let v60 : BitVec 32 := Scalar.select v57 v59 c0_i32_38
  let v61 : BitVec 32 := Scalar.addi c0_i32_39 v60
  let c1_i32_40 : BitVec 32 := 1#32
  let v62 : BitVec 1 := Scalar.cmpi .slt c1_i32_40 v53
  let c0_i32_42 : BitVec 32 := 0#32
  let v65 : BitVec 32 := Scalar.select v62 v64 c0_i32_42
  let v66 : BitVec 32 := Scalar.addi v61 v65
  let c2_i32_43 : BitVec 32 := 2#32
  let v67 : BitVec 1 := Scalar.cmpi .slt c2_i32_43 v53
  let c0_i32_45 : BitVec 32 := 0#32
  let v70 : BitVec 32 := Scalar.select v67 v69 c0_i32_45
  let v71 : BitVec 32 := Scalar.addi v66 v70
  let c3_i32_46 : BitVec 32 := 3#32
  let v72 : BitVec 1 := Scalar.cmpi .slt c3_i32_46 v53
  let c0_i32_48 : BitVec 32 := 0#32
  let v75 : BitVec 32 := Scalar.select v72 v74 c0_i32_48
  let v76 : BitVec 32 := Scalar.addi v71 v75
  let c0_i32_73 : BitVec 32 := 0#32
  let c1_i32_76 : BitVec 32 := 1#32
  let arg9 : BitVec 32 := Scf.iv c0_i32_73 c1_i32_76 k1_t1
  let c32_i32_366 : BitVec 32 := 32#32
  let v568 : BitVec 32 := Scalar.muli arg9 c32_i32_366
  let v569 : BitVec 32 := Scalar.addi v76 v568
  let c0_i32_372 : BitVec 32 := 0#32
  let c0_i32_373 : BitVec 32 := 0#32
  ![v569.toNat, 0, 0]

def k1_dev4 (d0 : Dev nD) : Nat :=
  let c0_i32_369 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_28 : BitVec 32 := 1#32
  let v43 : BitVec 32 := Scalar.addi v2 c1_i32_28
  let c4_i32_29 : BitVec 32 := 4#32
  let c0_i32_30 : BitVec 32 := 0#32
  let v44 : BitVec 1 := Scalar.cmpi .eq c4_i32_29 c0_i32_30
  let c1_i32_31 : BitVec 32 := 1#32
  let v45 : BitVec 32 := Scalar.select v44 c1_i32_31 c4_i32_29
  let v46 : BitVec 32 := Scalar.remsi v43 v45
  let c0_i32_33 : BitVec 32 := 0#32
  let v48 : BitVec 1 := Scalar.cmpi .slt v46 c0_i32_33
  let c0_i32_34 : BitVec 32 := 0#32
  let v49 : BitVec 1 := Scalar.cmpi .slt v45 c0_i32_34
  let v50 : BitVec 1 := Scalar.xori v48 v49
  let c0_i32_32 : BitVec 32 := 0#32
  let v47 : BitVec 1 := Scalar.cmpi .ne v46 c0_i32_32
  let v51 : BitVec 1 := Scalar.andi v50 v47
  let v52 : BitVec 32 := Scalar.addi v46 v45
  let v53 : BitVec 32 := Scalar.select v51 v52 v46
  let c1_i32_368 : BitVec 32 := 1#32
  let v572 : BitVec 32 := Scalar.muli v53 c1_i32_368
  let v573 : BitVec 32 := Scalar.addi c0_i32_369 v572
  v573.toNat
@[reducible] def k1_t2_loop (v56 : BitVec 32) : Scf.Loop 32 :=
  let c0_i32_73 : BitVec 32 := 0#32
  let c0_i32_66 : BitVec 32 := 0#32
  let v98 : BitVec 1 := Scalar.cmpi .sgt v56 c0_i32_66
  let v99 : BitVec 32 := Scalar.extui v98
  let c0_i32_67 : BitVec 32 := 0#32
  let v100 : BitVec 1 := Scalar.cmpi .slt v56 c0_i32_67
  let v101 : BitVec 32 := Scalar.extui v100
  let v102 : BitVec 32 := Scalar.subi v99 v101
  let c32_i32 : BitVec 32 := 32#32
  let c0_i32_68 : BitVec 32 := 0#32
  let v103 : BitVec 1 := Scalar.cmpi .sgt c32_i32 c0_i32_68
  let v104 : BitVec 32 := Scalar.extui v103
  let c0_i32_69 : BitVec 32 := 0#32
  let v105 : BitVec 1 := Scalar.cmpi .slt c32_i32 c0_i32_69
  let v106 : BitVec 32 := Scalar.extui v105
  let v107 : BitVec 32 := Scalar.subi v104 v106
  let v108 : BitVec 1 := Scalar.cmpi .ne v102 v107
  let v109 : BitVec 32 := Scalar.remsi v56 c32_i32
  let c0_i32_70 : BitVec 32 := 0#32
  let v110 : BitVec 1 := Scalar.cmpi .ne v109 c0_i32_70
  let v111 : BitVec 1 := Scalar.andi v108 v110
  let v97 : BitVec 32 := Scalar.divsi v56 c32_i32
  let c1_i32_71 : BitVec 32 := 1#32
  let v112 : BitVec 32 := Scalar.subi v97 c1_i32_71
  let v113 : BitVec 32 := Scalar.select v111 v112 v97
  let v116 : BitVec 32 := Scalar.subi v113 c0_i32_73
  let c1_i32_75 : BitVec 32 := 1#32
  let v118 : BitVec 32 := Scalar.divsi v116 c1_i32_75
  let v119 : BitVec 32 := Scalar.muli v118 c1_i32_75
  let v120 : BitVec 32 := Scalar.addi c0_i32_73 v119
  let v117 : BitVec 32 := Scalar.addi c0_i32_73 v116
  let c1_i32_77 : BitVec 32 := 1#32
  ⟨v120, v117, c1_i32_77⟩
def k1_off12 (d0 : Dev nD) (v56 : BitVec 32) (v79 : BitVec 32) (v84 : BitVec 32) (v89 : BitVec 32) (v94 : BitVec 32) (k1_t2 : Fin (k1_t2_loop v56).trips) : Fin 3 → Nat :=
  let c0_i32_53 : BitVec 32 := 0#32
  let c0_i32_49 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v77 : BitVec 1 := Scalar.cmpi .slt c0_i32_49 v2
  let c0_i32_52 : BitVec 32 := 0#32
  let v80 : BitVec 32 := Scalar.select v77 v79 c0_i32_52
  let v81 : BitVec 32 := Scalar.addi c0_i32_53 v80
  let c1_i32_54 : BitVec 32 := 1#32
  let v82 : BitVec 1 := Scalar.cmpi .slt c1_i32_54 v2
  let c0_i32_57 : BitVec 32 := 0#32
  let v85 : BitVec 32 := Scalar.select v82 v84 c0_i32_57
  let v86 : BitVec 32 := Scalar.addi v81 v85
  let c2_i32_58 : BitVec 32 := 2#32
  let v87 : BitVec 1 := Scalar.cmpi .slt c2_i32_58 v2
  let c0_i32_61 : BitVec 32 := 0#32
  let v90 : BitVec 32 := Scalar.select v87 v89 c0_i32_61
  let v91 : BitVec 32 := Scalar.addi v86 v90
  let c3_i32_62 : BitVec 32 := 3#32
  let v92 : BitVec 1 := Scalar.cmpi .slt c3_i32_62 v2
  let c0_i32_65 : BitVec 32 := 0#32
  let v95 : BitVec 32 := Scalar.select v92 v94 c0_i32_65
  let v96 : BitVec 32 := Scalar.addi v91 v95
  let c0_i32_73 : BitVec 32 := 0#32
  let c0_i32_66 : BitVec 32 := 0#32
  let v98 : BitVec 1 := Scalar.cmpi .sgt v56 c0_i32_66
  let v99 : BitVec 32 := Scalar.extui v98
  let c0_i32_67 : BitVec 32 := 0#32
  let v100 : BitVec 1 := Scalar.cmpi .slt v56 c0_i32_67
  let v101 : BitVec 32 := Scalar.extui v100
  let v102 : BitVec 32 := Scalar.subi v99 v101
  let c32_i32 : BitVec 32 := 32#32
  let c0_i32_68 : BitVec 32 := 0#32
  let v103 : BitVec 1 := Scalar.cmpi .sgt c32_i32 c0_i32_68
  let v104 : BitVec 32 := Scalar.extui v103
  let c0_i32_69 : BitVec 32 := 0#32
  let v105 : BitVec 1 := Scalar.cmpi .slt c32_i32 c0_i32_69
  let v106 : BitVec 32 := Scalar.extui v105
  let v107 : BitVec 32 := Scalar.subi v104 v106
  let v108 : BitVec 1 := Scalar.cmpi .ne v102 v107
  let v109 : BitVec 32 := Scalar.remsi v56 c32_i32
  let c0_i32_70 : BitVec 32 := 0#32
  let v110 : BitVec 1 := Scalar.cmpi .ne v109 c0_i32_70
  let v111 : BitVec 1 := Scalar.andi v108 v110
  let v97 : BitVec 32 := Scalar.divsi v56 c32_i32
  let c1_i32_71 : BitVec 32 := 1#32
  let v112 : BitVec 32 := Scalar.subi v97 c1_i32_71
  let v113 : BitVec 32 := Scalar.select v111 v112 v97
  let v116 : BitVec 32 := Scalar.subi v113 c0_i32_73
  let c1_i32_75 : BitVec 32 := 1#32
  let v118 : BitVec 32 := Scalar.divsi v116 c1_i32_75
  let v119 : BitVec 32 := Scalar.muli v118 c1_i32_75
  let v120 : BitVec 32 := Scalar.addi c0_i32_73 v119
  let c1_i32_77 : BitVec 32 := 1#32
  let arg9 : BitVec 32 := Scf.iv v120 c1_i32_77 k1_t2
  let c32_i32_367 : BitVec 32 := 32#32
  let v570 : BitVec 32 := Scalar.muli arg9 c32_i32_367
  let v571 : BitVec 32 := Scalar.addi v96 v570
  let c0_i32_370 : BitVec 32 := 0#32
  let c0_i32_371 : BitVec 32 := 0#32
  ![v571.toNat, 0, 0]
def k1_off13 (d0 : Dev nD) (v56 : BitVec 32) (v59 : BitVec 32) (v64 : BitVec 32) (v69 : BitVec 32) (v74 : BitVec 32) (k1_t2 : Fin (k1_t2_loop v56).trips) : Fin 3 → Nat :=
  let c0_i32_39 : BitVec 32 := 0#32
  let c0_i32_35 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_28 : BitVec 32 := 1#32
  let v43 : BitVec 32 := Scalar.addi v2 c1_i32_28
  let c4_i32_29 : BitVec 32 := 4#32
  let c0_i32_30 : BitVec 32 := 0#32
  let v44 : BitVec 1 := Scalar.cmpi .eq c4_i32_29 c0_i32_30
  let c1_i32_31 : BitVec 32 := 1#32
  let v45 : BitVec 32 := Scalar.select v44 c1_i32_31 c4_i32_29
  let v46 : BitVec 32 := Scalar.remsi v43 v45
  let c0_i32_33 : BitVec 32 := 0#32
  let v48 : BitVec 1 := Scalar.cmpi .slt v46 c0_i32_33
  let c0_i32_34 : BitVec 32 := 0#32
  let v49 : BitVec 1 := Scalar.cmpi .slt v45 c0_i32_34
  let v50 : BitVec 1 := Scalar.xori v48 v49
  let c0_i32_32 : BitVec 32 := 0#32
  let v47 : BitVec 1 := Scalar.cmpi .ne v46 c0_i32_32
  let v51 : BitVec 1 := Scalar.andi v50 v47
  let v52 : BitVec 32 := Scalar.addi v46 v45
  let v53 : BitVec 32 := Scalar.select v51 v52 v46
  let v57 : BitVec 1 := Scalar.cmpi .slt c0_i32_35 v53
  let c0_i32_38 : BitVec 32 := 0#32
  let v60 : BitVec 32 := Scalar.select v57 v59 c0_i32_38
  let v61 : BitVec 32 := Scalar.addi c0_i32_39 v60
  let c1_i32_40 : BitVec 32 := 1#32
  let v62 : BitVec 1 := Scalar.cmpi .slt c1_i32_40 v53
  let c0_i32_42 : BitVec 32 := 0#32
  let v65 : BitVec 32 := Scalar.select v62 v64 c0_i32_42
  let v66 : BitVec 32 := Scalar.addi v61 v65
  let c2_i32_43 : BitVec 32 := 2#32
  let v67 : BitVec 1 := Scalar.cmpi .slt c2_i32_43 v53
  let c0_i32_45 : BitVec 32 := 0#32
  let v70 : BitVec 32 := Scalar.select v67 v69 c0_i32_45
  let v71 : BitVec 32 := Scalar.addi v66 v70
  let c3_i32_46 : BitVec 32 := 3#32
  let v72 : BitVec 1 := Scalar.cmpi .slt c3_i32_46 v53
  let c0_i32_48 : BitVec 32 := 0#32
  let v75 : BitVec 32 := Scalar.select v72 v74 c0_i32_48
  let v76 : BitVec 32 := Scalar.addi v71 v75
  let c0_i32_73 : BitVec 32 := 0#32
  let c0_i32_66 : BitVec 32 := 0#32
  let v98 : BitVec 1 := Scalar.cmpi .sgt v56 c0_i32_66
  let v99 : BitVec 32 := Scalar.extui v98
  let c0_i32_67 : BitVec 32 := 0#32
  let v100 : BitVec 1 := Scalar.cmpi .slt v56 c0_i32_67
  let v101 : BitVec 32 := Scalar.extui v100
  let v102 : BitVec 32 := Scalar.subi v99 v101
  let c32_i32 : BitVec 32 := 32#32
  let c0_i32_68 : BitVec 32 := 0#32
  let v103 : BitVec 1 := Scalar.cmpi .sgt c32_i32 c0_i32_68
  let v104 : BitVec 32 := Scalar.extui v103
  let c0_i32_69 : BitVec 32 := 0#32
  let v105 : BitVec 1 := Scalar.cmpi .slt c32_i32 c0_i32_69
  let v106 : BitVec 32 := Scalar.extui v105
  let v107 : BitVec 32 := Scalar.subi v104 v106
  let v108 : BitVec 1 := Scalar.cmpi .ne v102 v107
  let v109 : BitVec 32 := Scalar.remsi v56 c32_i32
  let c0_i32_70 : BitVec 32 := 0#32
  let v110 : BitVec 1 := Scalar.cmpi .ne v109 c0_i32_70
  let v111 : BitVec 1 := Scalar.andi v108 v110
  let v97 : BitVec 32 := Scalar.divsi v56 c32_i32
  let c1_i32_71 : BitVec 32 := 1#32
  let v112 : BitVec 32 := Scalar.subi v97 c1_i32_71
  let v113 : BitVec 32 := Scalar.select v111 v112 v97
  let v116 : BitVec 32 := Scalar.subi v113 c0_i32_73
  let c1_i32_75 : BitVec 32 := 1#32
  let v118 : BitVec 32 := Scalar.divsi v116 c1_i32_75
  let v119 : BitVec 32 := Scalar.muli v118 c1_i32_75
  let v120 : BitVec 32 := Scalar.addi c0_i32_73 v119
  let c1_i32_77 : BitVec 32 := 1#32
  let arg9 : BitVec 32 := Scf.iv v120 c1_i32_77 k1_t2
  let c32_i32_366 : BitVec 32 := 32#32
  let v568 : BitVec 32 := Scalar.muli arg9 c32_i32_366
  let v569 : BitVec 32 := Scalar.addi v76 v568
  let c0_i32_372 : BitVec 32 := 0#32
  let c0_i32_373 : BitVec 32 := 0#32
  ![v569.toNat, 0, 0]
def k1_dev5 (d0 : Dev nD) : Nat :=
  let c0_i32_369 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_28 : BitVec 32 := 1#32
  let v43 : BitVec 32 := Scalar.addi v2 c1_i32_28
  let c4_i32_29 : BitVec 32 := 4#32
  let c0_i32_30 : BitVec 32 := 0#32
  let v44 : BitVec 1 := Scalar.cmpi .eq c4_i32_29 c0_i32_30
  let c1_i32_31 : BitVec 32 := 1#32
  let v45 : BitVec 32 := Scalar.select v44 c1_i32_31 c4_i32_29
  let v46 : BitVec 32 := Scalar.remsi v43 v45
  let c0_i32_33 : BitVec 32 := 0#32
  let v48 : BitVec 1 := Scalar.cmpi .slt v46 c0_i32_33
  let c0_i32_34 : BitVec 32 := 0#32
  let v49 : BitVec 1 := Scalar.cmpi .slt v45 c0_i32_34
  let v50 : BitVec 1 := Scalar.xori v48 v49
  let c0_i32_32 : BitVec 32 := 0#32
  let v47 : BitVec 1 := Scalar.cmpi .ne v46 c0_i32_32
  let v51 : BitVec 1 := Scalar.andi v50 v47
  let v52 : BitVec 32 := Scalar.addi v46 v45
  let v53 : BitVec 32 := Scalar.select v51 v52 v46
  let c1_i32_368 : BitVec 32 := 1#32
  let v572 : BitVec 32 := Scalar.muli v53 c1_i32_368
  let v573 : BitVec 32 := Scalar.addi c0_i32_369 v572
  v573.toNat
@[reducible] def k1_t3_loop (v56 : BitVec 32) : Scf.Loop 32 :=
  let c0_i32_79 : BitVec 32 := 0#32
  let c0_i32_66 : BitVec 32 := 0#32
  let v98 : BitVec 1 := Scalar.cmpi .sgt v56 c0_i32_66
  let v99 : BitVec 32 := Scalar.extui v98
  let c0_i32_67 : BitVec 32 := 0#32
  let v100 : BitVec 1 := Scalar.cmpi .slt v56 c0_i32_67
  let v101 : BitVec 32 := Scalar.extui v100
  let v102 : BitVec 32 := Scalar.subi v99 v101
  let c32_i32 : BitVec 32 := 32#32
  let c0_i32_68 : BitVec 32 := 0#32
  let v103 : BitVec 1 := Scalar.cmpi .sgt c32_i32 c0_i32_68
  let v104 : BitVec 32 := Scalar.extui v103
  let c0_i32_69 : BitVec 32 := 0#32
  let v105 : BitVec 1 := Scalar.cmpi .slt c32_i32 c0_i32_69
  let v106 : BitVec 32 := Scalar.extui v105
  let v107 : BitVec 32 := Scalar.subi v104 v106
  let v108 : BitVec 1 := Scalar.cmpi .ne v102 v107
  let v109 : BitVec 32 := Scalar.remsi v56 c32_i32
  let c0_i32_70 : BitVec 32 := 0#32
  let v110 : BitVec 1 := Scalar.cmpi .ne v109 c0_i32_70
  let v111 : BitVec 1 := Scalar.andi v108 v110
  let v97 : BitVec 32 := Scalar.divsi v56 c32_i32
  let c1_i32_71 : BitVec 32 := 1#32
  let v112 : BitVec 32 := Scalar.subi v97 c1_i32_71
  let v113 : BitVec 32 := Scalar.select v111 v112 v97
  let c32_i32_72 : BitVec 32 := 32#32
  let v114 : BitVec 32 := Scalar.muli v113 c32_i32_72
  let v115 : BitVec 32 := Scalar.subi v56 v114
  let v124 : BitVec 32 := Scalar.subi v115 c0_i32_79
  let c1_i32_81 : BitVec 32 := 1#32
  let v126 : BitVec 32 := Scalar.divsi v124 c1_i32_81
  let v127 : BitVec 32 := Scalar.muli v126 c1_i32_81
  let v128 : BitVec 32 := Scalar.addi c0_i32_79 v127
  let c1_i32_82 : BitVec 32 := 1#32
  ⟨c0_i32_79, v128, c1_i32_82⟩
def k1_off14 (d0 : Dev nD) (v56 : BitVec 32) (v79 : BitVec 32) (v84 : BitVec 32) (v89 : BitVec 32) (v94 : BitVec 32) (k1_t3 : Fin (k1_t3_loop v56).trips) : Fin 3 → Nat :=
  let c0_i32_53 : BitVec 32 := 0#32
  let c0_i32_49 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v77 : BitVec 1 := Scalar.cmpi .slt c0_i32_49 v2
  let c0_i32_52 : BitVec 32 := 0#32
  let v80 : BitVec 32 := Scalar.select v77 v79 c0_i32_52
  let v81 : BitVec 32 := Scalar.addi c0_i32_53 v80
  let c1_i32_54 : BitVec 32 := 1#32
  let v82 : BitVec 1 := Scalar.cmpi .slt c1_i32_54 v2
  let c0_i32_57 : BitVec 32 := 0#32
  let v85 : BitVec 32 := Scalar.select v82 v84 c0_i32_57
  let v86 : BitVec 32 := Scalar.addi v81 v85
  let c2_i32_58 : BitVec 32 := 2#32
  let v87 : BitVec 1 := Scalar.cmpi .slt c2_i32_58 v2
  let c0_i32_61 : BitVec 32 := 0#32
  let v90 : BitVec 32 := Scalar.select v87 v89 c0_i32_61
  let v91 : BitVec 32 := Scalar.addi v86 v90
  let c3_i32_62 : BitVec 32 := 3#32
  let v92 : BitVec 1 := Scalar.cmpi .slt c3_i32_62 v2
  let c0_i32_65 : BitVec 32 := 0#32
  let v95 : BitVec 32 := Scalar.select v92 v94 c0_i32_65
  let v96 : BitVec 32 := Scalar.addi v91 v95
  let c0_i32_66 : BitVec 32 := 0#32
  let v98 : BitVec 1 := Scalar.cmpi .sgt v56 c0_i32_66
  let v99 : BitVec 32 := Scalar.extui v98
  let c0_i32_67 : BitVec 32 := 0#32
  let v100 : BitVec 1 := Scalar.cmpi .slt v56 c0_i32_67
  let v101 : BitVec 32 := Scalar.extui v100
  let v102 : BitVec 32 := Scalar.subi v99 v101
  let c32_i32 : BitVec 32 := 32#32
  let c0_i32_68 : BitVec 32 := 0#32
  let v103 : BitVec 1 := Scalar.cmpi .sgt c32_i32 c0_i32_68
  let v104 : BitVec 32 := Scalar.extui v103
  let c0_i32_69 : BitVec 32 := 0#32
  let v105 : BitVec 1 := Scalar.cmpi .slt c32_i32 c0_i32_69
  let v106 : BitVec 32 := Scalar.extui v105
  let v107 : BitVec 32 := Scalar.subi v104 v106
  let v108 : BitVec 1 := Scalar.cmpi .ne v102 v107
  let v109 : BitVec 32 := Scalar.remsi v56 c32_i32
  let c0_i32_70 : BitVec 32 := 0#32
  let v110 : BitVec 1 := Scalar.cmpi .ne v109 c0_i32_70
  let v111 : BitVec 1 := Scalar.andi v108 v110
  let v97 : BitVec 32 := Scalar.divsi v56 c32_i32
  let c1_i32_71 : BitVec 32 := 1#32
  let v112 : BitVec 32 := Scalar.subi v97 c1_i32_71
  let v113 : BitVec 32 := Scalar.select v111 v112 v97
  let c32_i32_78 : BitVec 32 := 32#32
  let v123 : BitVec 32 := Scalar.muli v113 c32_i32_78
  let v570 : BitVec 32 := Scalar.addi v96 v123
  let c0_i32_79 : BitVec 32 := 0#32
  let c1_i32_82 : BitVec 32 := 1#32
  let arg9 : BitVec 32 := Scf.iv c0_i32_79 c1_i32_82 k1_t3
  let v571 : BitVec 32 := Scalar.addi v570 arg9
  let c0_i32_368 : BitVec 32 := 0#32
  let c0_i32_369 : BitVec 32 := 0#32
  ![v571.toNat, 0, 0]
def k1_off15 (d0 : Dev nD) (v56 : BitVec 32) (v59 : BitVec 32) (v64 : BitVec 32) (v69 : BitVec 32) (v74 : BitVec 32) (k1_t3 : Fin (k1_t3_loop v56).trips) : Fin 3 → Nat :=
  let c0_i32_39 : BitVec 32 := 0#32
  let c0_i32_35 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_28 : BitVec 32 := 1#32
  let v43 : BitVec 32 := Scalar.addi v2 c1_i32_28
  let c4_i32_29 : BitVec 32 := 4#32
  let c0_i32_30 : BitVec 32 := 0#32
  let v44 : BitVec 1 := Scalar.cmpi .eq c4_i32_29 c0_i32_30
  let c1_i32_31 : BitVec 32 := 1#32
  let v45 : BitVec 32 := Scalar.select v44 c1_i32_31 c4_i32_29
  let v46 : BitVec 32 := Scalar.remsi v43 v45
  let c0_i32_33 : BitVec 32 := 0#32
  let v48 : BitVec 1 := Scalar.cmpi .slt v46 c0_i32_33
  let c0_i32_34 : BitVec 32 := 0#32
  let v49 : BitVec 1 := Scalar.cmpi .slt v45 c0_i32_34
  let v50 : BitVec 1 := Scalar.xori v48 v49
  let c0_i32_32 : BitVec 32 := 0#32
  let v47 : BitVec 1 := Scalar.cmpi .ne v46 c0_i32_32
  let v51 : BitVec 1 := Scalar.andi v50 v47
  let v52 : BitVec 32 := Scalar.addi v46 v45
  let v53 : BitVec 32 := Scalar.select v51 v52 v46
  let v57 : BitVec 1 := Scalar.cmpi .slt c0_i32_35 v53
  let c0_i32_38 : BitVec 32 := 0#32
  let v60 : BitVec 32 := Scalar.select v57 v59 c0_i32_38
  let v61 : BitVec 32 := Scalar.addi c0_i32_39 v60
  let c1_i32_40 : BitVec 32 := 1#32
  let v62 : BitVec 1 := Scalar.cmpi .slt c1_i32_40 v53
  let c0_i32_42 : BitVec 32 := 0#32
  let v65 : BitVec 32 := Scalar.select v62 v64 c0_i32_42
  let v66 : BitVec 32 := Scalar.addi v61 v65
  let c2_i32_43 : BitVec 32 := 2#32
  let v67 : BitVec 1 := Scalar.cmpi .slt c2_i32_43 v53
  let c0_i32_45 : BitVec 32 := 0#32
  let v70 : BitVec 32 := Scalar.select v67 v69 c0_i32_45
  let v71 : BitVec 32 := Scalar.addi v66 v70
  let c3_i32_46 : BitVec 32 := 3#32
  let v72 : BitVec 1 := Scalar.cmpi .slt c3_i32_46 v53
  let c0_i32_48 : BitVec 32 := 0#32
  let v75 : BitVec 32 := Scalar.select v72 v74 c0_i32_48
  let v76 : BitVec 32 := Scalar.addi v71 v75
  let c0_i32_66 : BitVec 32 := 0#32
  let v98 : BitVec 1 := Scalar.cmpi .sgt v56 c0_i32_66
  let v99 : BitVec 32 := Scalar.extui v98
  let c0_i32_67 : BitVec 32 := 0#32
  let v100 : BitVec 1 := Scalar.cmpi .slt v56 c0_i32_67
  let v101 : BitVec 32 := Scalar.extui v100
  let v102 : BitVec 32 := Scalar.subi v99 v101
  let c32_i32 : BitVec 32 := 32#32
  let c0_i32_68 : BitVec 32 := 0#32
  let v103 : BitVec 1 := Scalar.cmpi .sgt c32_i32 c0_i32_68
  let v104 : BitVec 32 := Scalar.extui v103
  let c0_i32_69 : BitVec 32 := 0#32
  let v105 : BitVec 1 := Scalar.cmpi .slt c32_i32 c0_i32_69
  let v106 : BitVec 32 := Scalar.extui v105
  let v107 : BitVec 32 := Scalar.subi v104 v106
  let v108 : BitVec 1 := Scalar.cmpi .ne v102 v107
  let v109 : BitVec 32 := Scalar.remsi v56 c32_i32
  let c0_i32_70 : BitVec 32 := 0#32
  let v110 : BitVec 1 := Scalar.cmpi .ne v109 c0_i32_70
  let v111 : BitVec 1 := Scalar.andi v108 v110
  let v97 : BitVec 32 := Scalar.divsi v56 c32_i32
  let c1_i32_71 : BitVec 32 := 1#32
  let v112 : BitVec 32 := Scalar.subi v97 c1_i32_71
  let v113 : BitVec 32 := Scalar.select v111 v112 v97
  let c32_i32_78 : BitVec 32 := 32#32
  let v123 : BitVec 32 := Scalar.muli v113 c32_i32_78
  let v568 : BitVec 32 := Scalar.addi v76 v123
  let c0_i32_79 : BitVec 32 := 0#32
  let c1_i32_82 : BitVec 32 := 1#32
  let arg9 : BitVec 32 := Scf.iv c0_i32_79 c1_i32_82 k1_t3
  let v569 : BitVec 32 := Scalar.addi v568 arg9
  let c0_i32_370 : BitVec 32 := 0#32
  let c0_i32_371 : BitVec 32 := 0#32
  ![v569.toNat, 0, 0]
def k1_dev6 (d0 : Dev nD) : Nat :=
  let c0_i32_367 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_28 : BitVec 32 := 1#32
  let v43 : BitVec 32 := Scalar.addi v2 c1_i32_28
  let c4_i32_29 : BitVec 32 := 4#32
  let c0_i32_30 : BitVec 32 := 0#32
  let v44 : BitVec 1 := Scalar.cmpi .eq c4_i32_29 c0_i32_30
  let c1_i32_31 : BitVec 32 := 1#32
  let v45 : BitVec 32 := Scalar.select v44 c1_i32_31 c4_i32_29
  let v46 : BitVec 32 := Scalar.remsi v43 v45
  let c0_i32_33 : BitVec 32 := 0#32
  let v48 : BitVec 1 := Scalar.cmpi .slt v46 c0_i32_33
  let c0_i32_34 : BitVec 32 := 0#32
  let v49 : BitVec 1 := Scalar.cmpi .slt v45 c0_i32_34
  let v50 : BitVec 1 := Scalar.xori v48 v49
  let c0_i32_32 : BitVec 32 := 0#32
  let v47 : BitVec 1 := Scalar.cmpi .ne v46 c0_i32_32
  let v51 : BitVec 1 := Scalar.andi v50 v47
  let v52 : BitVec 32 := Scalar.addi v46 v45
  let v53 : BitVec 32 := Scalar.select v51 v52 v46
  let c1_i32_366 : BitVec 32 := 1#32
  let v572 : BitVec 32 := Scalar.muli v53 c1_i32_366
  let v573 : BitVec 32 := Scalar.addi c0_i32_367 v572
  v573.toNat
@[reducible] def k1_t4_loop (v56 : BitVec 32) : Scf.Loop 32 :=
  let c0_i32_79 : BitVec 32 := 0#32
  let c0_i32_66 : BitVec 32 := 0#32
  let v98 : BitVec 1 := Scalar.cmpi .sgt v56 c0_i32_66
  let v99 : BitVec 32 := Scalar.extui v98
  let c0_i32_67 : BitVec 32 := 0#32
  let v100 : BitVec 1 := Scalar.cmpi .slt v56 c0_i32_67
  let v101 : BitVec 32 := Scalar.extui v100
  let v102 : BitVec 32 := Scalar.subi v99 v101
  let c32_i32 : BitVec 32 := 32#32
  let c0_i32_68 : BitVec 32 := 0#32
  let v103 : BitVec 1 := Scalar.cmpi .sgt c32_i32 c0_i32_68
  let v104 : BitVec 32 := Scalar.extui v103
  let c0_i32_69 : BitVec 32 := 0#32
  let v105 : BitVec 1 := Scalar.cmpi .slt c32_i32 c0_i32_69
  let v106 : BitVec 32 := Scalar.extui v105
  let v107 : BitVec 32 := Scalar.subi v104 v106
  let v108 : BitVec 1 := Scalar.cmpi .ne v102 v107
  let v109 : BitVec 32 := Scalar.remsi v56 c32_i32
  let c0_i32_70 : BitVec 32 := 0#32
  let v110 : BitVec 1 := Scalar.cmpi .ne v109 c0_i32_70
  let v111 : BitVec 1 := Scalar.andi v108 v110
  let v97 : BitVec 32 := Scalar.divsi v56 c32_i32
  let c1_i32_71 : BitVec 32 := 1#32
  let v112 : BitVec 32 := Scalar.subi v97 c1_i32_71
  let v113 : BitVec 32 := Scalar.select v111 v112 v97
  let c32_i32_72 : BitVec 32 := 32#32
  let v114 : BitVec 32 := Scalar.muli v113 c32_i32_72
  let v115 : BitVec 32 := Scalar.subi v56 v114
  let v124 : BitVec 32 := Scalar.subi v115 c0_i32_79
  let c1_i32_81 : BitVec 32 := 1#32
  let v126 : BitVec 32 := Scalar.divsi v124 c1_i32_81
  let v127 : BitVec 32 := Scalar.muli v126 c1_i32_81
  let v128 : BitVec 32 := Scalar.addi c0_i32_79 v127
  let v125 : BitVec 32 := Scalar.addi c0_i32_79 v124
  let c1_i32_83 : BitVec 32 := 1#32
  ⟨v128, v125, c1_i32_83⟩

def k1_chk1 (v56 : BitVec 32) : Prop :=
  ((k1_t1_loop v56).OK) ∧
  ((k1_t2_loop v56).OK) ∧
  ((k1_t3_loop v56).OK) ∧
  ((k1_t4_loop v56).OK)
theorem k1_t1_ok : ∀ (v56 : BitVec 32) (k1_hw1 : k1_chk1 v56), (k1_t1_loop v56).OK := fun v56 k1_hw1 => k1_hw1.1
theorem k1_t2_ok : ∀ (v56 : BitVec 32) (k1_hw1 : k1_chk1 v56), (k1_t2_loop v56).OK := fun v56 k1_hw1 => k1_hw1.2.1
theorem k1_t3_ok : ∀ (v56 : BitVec 32) (k1_hw1 : k1_chk1 v56), (k1_t3_loop v56).OK := fun v56 k1_hw1 => k1_hw1.2.2.1
theorem k1_t4_ok : ∀ (v56 : BitVec 32) (k1_hw1 : k1_chk1 v56), (k1_t4_loop v56).OK := fun v56 k1_hw1 => k1_hw1.2.2.2

def k1_off16 (d0 : Dev nD) (v56 : BitVec 32) (v79 : BitVec 32) (v84 : BitVec 32) (v89 : BitVec 32) (v94 : BitVec 32) (k1_t4 : Fin (k1_t4_loop v56).trips) : Fin 3 → Nat :=
  let c0_i32_53 : BitVec 32 := 0#32
  let c0_i32_49 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v77 : BitVec 1 := Scalar.cmpi .slt c0_i32_49 v2
  let c0_i32_52 : BitVec 32 := 0#32
  let v80 : BitVec 32 := Scalar.select v77 v79 c0_i32_52
  let v81 : BitVec 32 := Scalar.addi c0_i32_53 v80
  let c1_i32_54 : BitVec 32 := 1#32
  let v82 : BitVec 1 := Scalar.cmpi .slt c1_i32_54 v2
  let c0_i32_57 : BitVec 32 := 0#32
  let v85 : BitVec 32 := Scalar.select v82 v84 c0_i32_57
  let v86 : BitVec 32 := Scalar.addi v81 v85
  let c2_i32_58 : BitVec 32 := 2#32
  let v87 : BitVec 1 := Scalar.cmpi .slt c2_i32_58 v2
  let c0_i32_61 : BitVec 32 := 0#32
  let v90 : BitVec 32 := Scalar.select v87 v89 c0_i32_61
  let v91 : BitVec 32 := Scalar.addi v86 v90
  let c3_i32_62 : BitVec 32 := 3#32
  let v92 : BitVec 1 := Scalar.cmpi .slt c3_i32_62 v2
  let c0_i32_65 : BitVec 32 := 0#32
  let v95 : BitVec 32 := Scalar.select v92 v94 c0_i32_65
  let v96 : BitVec 32 := Scalar.addi v91 v95
  let c0_i32_66 : BitVec 32 := 0#32
  let v98 : BitVec 1 := Scalar.cmpi .sgt v56 c0_i32_66
  let v99 : BitVec 32 := Scalar.extui v98
  let c0_i32_67 : BitVec 32 := 0#32
  let v100 : BitVec 1 := Scalar.cmpi .slt v56 c0_i32_67
  let v101 : BitVec 32 := Scalar.extui v100
  let v102 : BitVec 32 := Scalar.subi v99 v101
  let c32_i32 : BitVec 32 := 32#32
  let c0_i32_68 : BitVec 32 := 0#32
  let v103 : BitVec 1 := Scalar.cmpi .sgt c32_i32 c0_i32_68
  let v104 : BitVec 32 := Scalar.extui v103
  let c0_i32_69 : BitVec 32 := 0#32
  let v105 : BitVec 1 := Scalar.cmpi .slt c32_i32 c0_i32_69
  let v106 : BitVec 32 := Scalar.extui v105
  let v107 : BitVec 32 := Scalar.subi v104 v106
  let v108 : BitVec 1 := Scalar.cmpi .ne v102 v107
  let v109 : BitVec 32 := Scalar.remsi v56 c32_i32
  let c0_i32_70 : BitVec 32 := 0#32
  let v110 : BitVec 1 := Scalar.cmpi .ne v109 c0_i32_70
  let v111 : BitVec 1 := Scalar.andi v108 v110
  let v97 : BitVec 32 := Scalar.divsi v56 c32_i32
  let c1_i32_71 : BitVec 32 := 1#32
  let v112 : BitVec 32 := Scalar.subi v97 c1_i32_71
  let v113 : BitVec 32 := Scalar.select v111 v112 v97
  let c32_i32_78 : BitVec 32 := 32#32
  let v123 : BitVec 32 := Scalar.muli v113 c32_i32_78
  let v570 : BitVec 32 := Scalar.addi v96 v123
  let c0_i32_79 : BitVec 32 := 0#32
  let c32_i32_72 : BitVec 32 := 32#32
  let v114 : BitVec 32 := Scalar.muli v113 c32_i32_72
  let v115 : BitVec 32 := Scalar.subi v56 v114
  let v124 : BitVec 32 := Scalar.subi v115 c0_i32_79
  let c1_i32_81 : BitVec 32 := 1#32
  let v126 : BitVec 32 := Scalar.divsi v124 c1_i32_81
  let v127 : BitVec 32 := Scalar.muli v126 c1_i32_81
  let v128 : BitVec 32 := Scalar.addi c0_i32_79 v127
  let c1_i32_83 : BitVec 32 := 1#32
  let arg9 : BitVec 32 := Scf.iv v128 c1_i32_83 k1_t4
  let v571 : BitVec 32 := Scalar.addi v570 arg9
  let c0_i32_368 : BitVec 32 := 0#32
  let c0_i32_369 : BitVec 32 := 0#32
  ![v571.toNat, 0, 0]
def k1_off17 (d0 : Dev nD) (v56 : BitVec 32) (v59 : BitVec 32) (v64 : BitVec 32) (v69 : BitVec 32) (v74 : BitVec 32) (k1_t4 : Fin (k1_t4_loop v56).trips) : Fin 3 → Nat :=
  let c0_i32_39 : BitVec 32 := 0#32
  let c0_i32_35 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_28 : BitVec 32 := 1#32
  let v43 : BitVec 32 := Scalar.addi v2 c1_i32_28
  let c4_i32_29 : BitVec 32 := 4#32
  let c0_i32_30 : BitVec 32 := 0#32
  let v44 : BitVec 1 := Scalar.cmpi .eq c4_i32_29 c0_i32_30
  let c1_i32_31 : BitVec 32 := 1#32
  let v45 : BitVec 32 := Scalar.select v44 c1_i32_31 c4_i32_29
  let v46 : BitVec 32 := Scalar.remsi v43 v45
  let c0_i32_33 : BitVec 32 := 0#32
  let v48 : BitVec 1 := Scalar.cmpi .slt v46 c0_i32_33
  let c0_i32_34 : BitVec 32 := 0#32
  let v49 : BitVec 1 := Scalar.cmpi .slt v45 c0_i32_34
  let v50 : BitVec 1 := Scalar.xori v48 v49
  let c0_i32_32 : BitVec 32 := 0#32
  let v47 : BitVec 1 := Scalar.cmpi .ne v46 c0_i32_32
  let v51 : BitVec 1 := Scalar.andi v50 v47
  let v52 : BitVec 32 := Scalar.addi v46 v45
  let v53 : BitVec 32 := Scalar.select v51 v52 v46
  let v57 : BitVec 1 := Scalar.cmpi .slt c0_i32_35 v53
  let c0_i32_38 : BitVec 32 := 0#32
  let v60 : BitVec 32 := Scalar.select v57 v59 c0_i32_38
  let v61 : BitVec 32 := Scalar.addi c0_i32_39 v60
  let c1_i32_40 : BitVec 32 := 1#32
  let v62 : BitVec 1 := Scalar.cmpi .slt c1_i32_40 v53
  let c0_i32_42 : BitVec 32 := 0#32
  let v65 : BitVec 32 := Scalar.select v62 v64 c0_i32_42
  let v66 : BitVec 32 := Scalar.addi v61 v65
  let c2_i32_43 : BitVec 32 := 2#32
  let v67 : BitVec 1 := Scalar.cmpi .slt c2_i32_43 v53
  let c0_i32_45 : BitVec 32 := 0#32
  let v70 : BitVec 32 := Scalar.select v67 v69 c0_i32_45
  let v71 : BitVec 32 := Scalar.addi v66 v70
  let c3_i32_46 : BitVec 32 := 3#32
  let v72 : BitVec 1 := Scalar.cmpi .slt c3_i32_46 v53
  let c0_i32_48 : BitVec 32 := 0#32
  let v75 : BitVec 32 := Scalar.select v72 v74 c0_i32_48
  let v76 : BitVec 32 := Scalar.addi v71 v75
  let c0_i32_66 : BitVec 32 := 0#32
  let v98 : BitVec 1 := Scalar.cmpi .sgt v56 c0_i32_66
  let v99 : BitVec 32 := Scalar.extui v98
  let c0_i32_67 : BitVec 32 := 0#32
  let v100 : BitVec 1 := Scalar.cmpi .slt v56 c0_i32_67
  let v101 : BitVec 32 := Scalar.extui v100
  let v102 : BitVec 32 := Scalar.subi v99 v101
  let c32_i32 : BitVec 32 := 32#32
  let c0_i32_68 : BitVec 32 := 0#32
  let v103 : BitVec 1 := Scalar.cmpi .sgt c32_i32 c0_i32_68
  let v104 : BitVec 32 := Scalar.extui v103
  let c0_i32_69 : BitVec 32 := 0#32
  let v105 : BitVec 1 := Scalar.cmpi .slt c32_i32 c0_i32_69
  let v106 : BitVec 32 := Scalar.extui v105
  let v107 : BitVec 32 := Scalar.subi v104 v106
  let v108 : BitVec 1 := Scalar.cmpi .ne v102 v107
  let v109 : BitVec 32 := Scalar.remsi v56 c32_i32
  let c0_i32_70 : BitVec 32 := 0#32
  let v110 : BitVec 1 := Scalar.cmpi .ne v109 c0_i32_70
  let v111 : BitVec 1 := Scalar.andi v108 v110
  let v97 : BitVec 32 := Scalar.divsi v56 c32_i32
  let c1_i32_71 : BitVec 32 := 1#32
  let v112 : BitVec 32 := Scalar.subi v97 c1_i32_71
  let v113 : BitVec 32 := Scalar.select v111 v112 v97
  let c32_i32_78 : BitVec 32 := 32#32
  let v123 : BitVec 32 := Scalar.muli v113 c32_i32_78
  let v568 : BitVec 32 := Scalar.addi v76 v123
  let c0_i32_79 : BitVec 32 := 0#32
  let c32_i32_72 : BitVec 32 := 32#32
  let v114 : BitVec 32 := Scalar.muli v113 c32_i32_72
  let v115 : BitVec 32 := Scalar.subi v56 v114
  let v124 : BitVec 32 := Scalar.subi v115 c0_i32_79
  let c1_i32_81 : BitVec 32 := 1#32
  let v126 : BitVec 32 := Scalar.divsi v124 c1_i32_81
  let v127 : BitVec 32 := Scalar.muli v126 c1_i32_81
  let v128 : BitVec 32 := Scalar.addi c0_i32_79 v127
  let c1_i32_83 : BitVec 32 := 1#32
  let arg9 : BitVec 32 := Scf.iv v128 c1_i32_83 k1_t4
  let v569 : BitVec 32 := Scalar.addi v568 arg9
  let c0_i32_370 : BitVec 32 := 0#32
  let c0_i32_371 : BitVec 32 := 0#32
  ![v569.toNat, 0, 0]

def k1_chk3 (d0 : Dev nD) (v56 : BitVec 32) (v59 : BitVec 32) (v64 : BitVec 32) (v69 : BitVec 32) (v74 : BitVec 32) : Prop :=
  (∀ k1_t1 : Fin (k1_t1_loop v56).trips, ∀ a, (k1_off11 d0 v56 v59 v64 v69 v74 k1_t1) a + S32x8x128.size a ≤ S4096x8x128.size a) ∧
  (∀ k1_t1 : Fin (k1_t1_loop v56).trips, ∀ (hinb : ∀ a, (k1_off11 d0 v56 v59 v64 v69 v74 k1_t1) a + S32x8x128.size a ≤ S4096x8x128.size a), (Rect.unit (s := S4096x8x128) (k1_off11 d0 v56 v59 v64 v69 v74 k1_t1) S32x8x128.size hinb).WholeWords (EltTy.packing .bf16)) ∧
  (∀ k1_t2 : Fin (k1_t2_loop v56).trips, ∀ a, (k1_off13 d0 v56 v59 v64 v69 v74 k1_t2) a + S32x8x128.size a ≤ S4096x8x128.size a) ∧
  (∀ k1_t2 : Fin (k1_t2_loop v56).trips, ∀ (hinb : ∀ a, (k1_off13 d0 v56 v59 v64 v69 v74 k1_t2) a + S32x8x128.size a ≤ S4096x8x128.size a), (Rect.unit (s := S4096x8x128) (k1_off13 d0 v56 v59 v64 v69 v74 k1_t2) S32x8x128.size hinb).WholeWords (EltTy.packing .bf16)) ∧
  (∀ k1_t3 : Fin (k1_t3_loop v56).trips, ∀ a, (k1_off15 d0 v56 v59 v64 v69 v74 k1_t3) a + S1x8x128.size a ≤ S4096x8x128.size a) ∧
  (∀ k1_t3 : Fin (k1_t3_loop v56).trips, ∀ (hinb : ∀ a, (k1_off15 d0 v56 v59 v64 v69 v74 k1_t3) a + S1x8x128.size a ≤ S4096x8x128.size a), (Rect.unit (s := S4096x8x128) (k1_off15 d0 v56 v59 v64 v69 v74 k1_t3) S1x8x128.size hinb).WholeWords (EltTy.packing .bf16)) ∧
  (∀ k1_t4 : Fin (k1_t4_loop v56).trips, ∀ a, (k1_off17 d0 v56 v59 v64 v69 v74 k1_t4) a + S1x8x128.size a ≤ S4096x8x128.size a) ∧
  (∀ k1_t4 : Fin (k1_t4_loop v56).trips, ∀ (hinb : ∀ a, (k1_off17 d0 v56 v59 v64 v69 v74 k1_t4) a + S1x8x128.size a ≤ S4096x8x128.size a), (Rect.unit (s := S4096x8x128) (k1_off17 d0 v56 v59 v64 v69 v74 k1_t4) S1x8x128.size hinb).WholeWords (EltTy.packing .bf16))
theorem k1_off11_inb : ∀ (d0 : Dev nD) (v56 : BitVec 32) (v59 : BitVec 32) (v64 : BitVec 32) (v69 : BitVec 32) (v74 : BitVec 32) (k1_hw3 : k1_chk3 d0 v56 v59 v64 v69 v74) (k1_t1 : Fin (k1_t1_loop v56).trips), ∀ a, (k1_off11 d0 v56 v59 v64 v69 v74 k1_t1) a + S32x8x128.size a ≤ S4096x8x128.size a := fun d0 v56 v59 v64 v69 v74 k1_hw3 k1_t1 => k1_hw3.1 k1_t1
theorem k1_off11_wordsbf16 : ∀ (d0 : Dev nD) (v56 : BitVec 32) (v59 : BitVec 32) (v64 : BitVec 32) (v69 : BitVec 32) (v74 : BitVec 32) (k1_hw3 : k1_chk3 d0 v56 v59 v64 v69 v74) (k1_t1 : Fin (k1_t1_loop v56).trips), (Rect.unit (s := S4096x8x128) (k1_off11 d0 v56 v59 v64 v69 v74 k1_t1) S32x8x128.size (k1_off11_inb d0 v56 v59 v64 v69 v74 k1_hw3 k1_t1)).WholeWords (EltTy.packing .bf16) := fun d0 v56 v59 v64 v69 v74 k1_hw3 k1_t1 => k1_hw3.2.1 k1_t1 (k1_off11_inb d0 v56 v59 v64 v69 v74 k1_hw3 k1_t1)
theorem k1_off13_inb : ∀ (d0 : Dev nD) (v56 : BitVec 32) (v59 : BitVec 32) (v64 : BitVec 32) (v69 : BitVec 32) (v74 : BitVec 32) (k1_hw3 : k1_chk3 d0 v56 v59 v64 v69 v74) (k1_t2 : Fin (k1_t2_loop v56).trips), ∀ a, (k1_off13 d0 v56 v59 v64 v69 v74 k1_t2) a + S32x8x128.size a ≤ S4096x8x128.size a := fun d0 v56 v59 v64 v69 v74 k1_hw3 k1_t2 => k1_hw3.2.2.1 k1_t2
theorem k1_off13_wordsbf16 : ∀ (d0 : Dev nD) (v56 : BitVec 32) (v59 : BitVec 32) (v64 : BitVec 32) (v69 : BitVec 32) (v74 : BitVec 32) (k1_hw3 : k1_chk3 d0 v56 v59 v64 v69 v74) (k1_t2 : Fin (k1_t2_loop v56).trips), (Rect.unit (s := S4096x8x128) (k1_off13 d0 v56 v59 v64 v69 v74 k1_t2) S32x8x128.size (k1_off13_inb d0 v56 v59 v64 v69 v74 k1_hw3 k1_t2)).WholeWords (EltTy.packing .bf16) := fun d0 v56 v59 v64 v69 v74 k1_hw3 k1_t2 => k1_hw3.2.2.2.1 k1_t2 (k1_off13_inb d0 v56 v59 v64 v69 v74 k1_hw3 k1_t2)
theorem k1_off15_inb : ∀ (d0 : Dev nD) (v56 : BitVec 32) (v59 : BitVec 32) (v64 : BitVec 32) (v69 : BitVec 32) (v74 : BitVec 32) (k1_hw3 : k1_chk3 d0 v56 v59 v64 v69 v74) (k1_t3 : Fin (k1_t3_loop v56).trips), ∀ a, (k1_off15 d0 v56 v59 v64 v69 v74 k1_t3) a + S1x8x128.size a ≤ S4096x8x128.size a := fun d0 v56 v59 v64 v69 v74 k1_hw3 k1_t3 => k1_hw3.2.2.2.2.1 k1_t3
theorem k1_off15_wordsbf16 : ∀ (d0 : Dev nD) (v56 : BitVec 32) (v59 : BitVec 32) (v64 : BitVec 32) (v69 : BitVec 32) (v74 : BitVec 32) (k1_hw3 : k1_chk3 d0 v56 v59 v64 v69 v74) (k1_t3 : Fin (k1_t3_loop v56).trips), (Rect.unit (s := S4096x8x128) (k1_off15 d0 v56 v59 v64 v69 v74 k1_t3) S1x8x128.size (k1_off15_inb d0 v56 v59 v64 v69 v74 k1_hw3 k1_t3)).WholeWords (EltTy.packing .bf16) := fun d0 v56 v59 v64 v69 v74 k1_hw3 k1_t3 => k1_hw3.2.2.2.2.2.1 k1_t3 (k1_off15_inb d0 v56 v59 v64 v69 v74 k1_hw3 k1_t3)
theorem k1_off17_inb : ∀ (d0 : Dev nD) (v56 : BitVec 32) (v59 : BitVec 32) (v64 : BitVec 32) (v69 : BitVec 32) (v74 : BitVec 32) (k1_hw3 : k1_chk3 d0 v56 v59 v64 v69 v74) (k1_t4 : Fin (k1_t4_loop v56).trips), ∀ a, (k1_off17 d0 v56 v59 v64 v69 v74 k1_t4) a + S1x8x128.size a ≤ S4096x8x128.size a := fun d0 v56 v59 v64 v69 v74 k1_hw3 k1_t4 => k1_hw3.2.2.2.2.2.2.1 k1_t4
theorem k1_off17_wordsbf16 : ∀ (d0 : Dev nD) (v56 : BitVec 32) (v59 : BitVec 32) (v64 : BitVec 32) (v69 : BitVec 32) (v74 : BitVec 32) (k1_hw3 : k1_chk3 d0 v56 v59 v64 v69 v74) (k1_t4 : Fin (k1_t4_loop v56).trips), (Rect.unit (s := S4096x8x128) (k1_off17 d0 v56 v59 v64 v69 v74 k1_t4) S1x8x128.size (k1_off17_inb d0 v56 v59 v64 v69 v74 k1_hw3 k1_t4)).WholeWords (EltTy.packing .bf16) := fun d0 v56 v59 v64 v69 v74 k1_hw3 k1_t4 => k1_hw3.2.2.2.2.2.2.2 k1_t4 (k1_off17_inb d0 v56 v59 v64 v69 v74 k1_hw3 k1_t4)

def k1_chk2 (d0 : Dev nD) (v56 : BitVec 32) (v79 : BitVec 32) (v84 : BitVec 32) (v89 : BitVec 32) (v94 : BitVec 32) : Prop :=
  (∀ k1_t1 : Fin (k1_t1_loop v56).trips, ∀ a, (k1_off10 d0 v56 v79 v84 v89 v94 k1_t1) a + S32x8x128.size a ≤ S4096x8x128.size a) ∧
  (∀ k1_t1 : Fin (k1_t1_loop v56).trips, ∀ (hinb : ∀ a, (k1_off10 d0 v56 v79 v84 v89 v94 k1_t1) a + S32x8x128.size a ≤ S4096x8x128.size a), (Rect.unit (s := S4096x8x128) (k1_off10 d0 v56 v79 v84 v89 v94 k1_t1) S32x8x128.size hinb).WholeWords (EltTy.packing .bf16)) ∧
  (∀ k1_t2 : Fin (k1_t2_loop v56).trips, ∀ a, (k1_off12 d0 v56 v79 v84 v89 v94 k1_t2) a + S32x8x128.size a ≤ S4096x8x128.size a) ∧
  (∀ k1_t2 : Fin (k1_t2_loop v56).trips, ∀ (hinb : ∀ a, (k1_off12 d0 v56 v79 v84 v89 v94 k1_t2) a + S32x8x128.size a ≤ S4096x8x128.size a), (Rect.unit (s := S4096x8x128) (k1_off12 d0 v56 v79 v84 v89 v94 k1_t2) S32x8x128.size hinb).WholeWords (EltTy.packing .bf16)) ∧
  (∀ k1_t3 : Fin (k1_t3_loop v56).trips, ∀ a, (k1_off14 d0 v56 v79 v84 v89 v94 k1_t3) a + S1x8x128.size a ≤ S4096x8x128.size a) ∧
  (∀ k1_t3 : Fin (k1_t3_loop v56).trips, ∀ (hinb : ∀ a, (k1_off14 d0 v56 v79 v84 v89 v94 k1_t3) a + S1x8x128.size a ≤ S4096x8x128.size a), (Rect.unit (s := S4096x8x128) (k1_off14 d0 v56 v79 v84 v89 v94 k1_t3) S1x8x128.size hinb).WholeWords (EltTy.packing .bf16)) ∧
  (∀ k1_t4 : Fin (k1_t4_loop v56).trips, ∀ a, (k1_off16 d0 v56 v79 v84 v89 v94 k1_t4) a + S1x8x128.size a ≤ S4096x8x128.size a) ∧
  (∀ k1_t4 : Fin (k1_t4_loop v56).trips, ∀ (hinb : ∀ a, (k1_off16 d0 v56 v79 v84 v89 v94 k1_t4) a + S1x8x128.size a ≤ S4096x8x128.size a), (Rect.unit (s := S4096x8x128) (k1_off16 d0 v56 v79 v84 v89 v94 k1_t4) S1x8x128.size hinb).WholeWords (EltTy.packing .bf16))
theorem k1_off10_inb : ∀ (d0 : Dev nD) (v56 : BitVec 32) (v79 : BitVec 32) (v84 : BitVec 32) (v89 : BitVec 32) (v94 : BitVec 32) (k1_hw2 : k1_chk2 d0 v56 v79 v84 v89 v94) (k1_t1 : Fin (k1_t1_loop v56).trips), ∀ a, (k1_off10 d0 v56 v79 v84 v89 v94 k1_t1) a + S32x8x128.size a ≤ S4096x8x128.size a := fun d0 v56 v79 v84 v89 v94 k1_hw2 k1_t1 => k1_hw2.1 k1_t1
theorem k1_off10_wordsbf16 : ∀ (d0 : Dev nD) (v56 : BitVec 32) (v79 : BitVec 32) (v84 : BitVec 32) (v89 : BitVec 32) (v94 : BitVec 32) (k1_hw2 : k1_chk2 d0 v56 v79 v84 v89 v94) (k1_t1 : Fin (k1_t1_loop v56).trips), (Rect.unit (s := S4096x8x128) (k1_off10 d0 v56 v79 v84 v89 v94 k1_t1) S32x8x128.size (k1_off10_inb d0 v56 v79 v84 v89 v94 k1_hw2 k1_t1)).WholeWords (EltTy.packing .bf16) := fun d0 v56 v79 v84 v89 v94 k1_hw2 k1_t1 => k1_hw2.2.1 k1_t1 (k1_off10_inb d0 v56 v79 v84 v89 v94 k1_hw2 k1_t1)
theorem k1_off12_inb : ∀ (d0 : Dev nD) (v56 : BitVec 32) (v79 : BitVec 32) (v84 : BitVec 32) (v89 : BitVec 32) (v94 : BitVec 32) (k1_hw2 : k1_chk2 d0 v56 v79 v84 v89 v94) (k1_t2 : Fin (k1_t2_loop v56).trips), ∀ a, (k1_off12 d0 v56 v79 v84 v89 v94 k1_t2) a + S32x8x128.size a ≤ S4096x8x128.size a := fun d0 v56 v79 v84 v89 v94 k1_hw2 k1_t2 => k1_hw2.2.2.1 k1_t2
theorem k1_off12_wordsbf16 : ∀ (d0 : Dev nD) (v56 : BitVec 32) (v79 : BitVec 32) (v84 : BitVec 32) (v89 : BitVec 32) (v94 : BitVec 32) (k1_hw2 : k1_chk2 d0 v56 v79 v84 v89 v94) (k1_t2 : Fin (k1_t2_loop v56).trips), (Rect.unit (s := S4096x8x128) (k1_off12 d0 v56 v79 v84 v89 v94 k1_t2) S32x8x128.size (k1_off12_inb d0 v56 v79 v84 v89 v94 k1_hw2 k1_t2)).WholeWords (EltTy.packing .bf16) := fun d0 v56 v79 v84 v89 v94 k1_hw2 k1_t2 => k1_hw2.2.2.2.1 k1_t2 (k1_off12_inb d0 v56 v79 v84 v89 v94 k1_hw2 k1_t2)
theorem k1_off14_inb : ∀ (d0 : Dev nD) (v56 : BitVec 32) (v79 : BitVec 32) (v84 : BitVec 32) (v89 : BitVec 32) (v94 : BitVec 32) (k1_hw2 : k1_chk2 d0 v56 v79 v84 v89 v94) (k1_t3 : Fin (k1_t3_loop v56).trips), ∀ a, (k1_off14 d0 v56 v79 v84 v89 v94 k1_t3) a + S1x8x128.size a ≤ S4096x8x128.size a := fun d0 v56 v79 v84 v89 v94 k1_hw2 k1_t3 => k1_hw2.2.2.2.2.1 k1_t3
theorem k1_off14_wordsbf16 : ∀ (d0 : Dev nD) (v56 : BitVec 32) (v79 : BitVec 32) (v84 : BitVec 32) (v89 : BitVec 32) (v94 : BitVec 32) (k1_hw2 : k1_chk2 d0 v56 v79 v84 v89 v94) (k1_t3 : Fin (k1_t3_loop v56).trips), (Rect.unit (s := S4096x8x128) (k1_off14 d0 v56 v79 v84 v89 v94 k1_t3) S1x8x128.size (k1_off14_inb d0 v56 v79 v84 v89 v94 k1_hw2 k1_t3)).WholeWords (EltTy.packing .bf16) := fun d0 v56 v79 v84 v89 v94 k1_hw2 k1_t3 => k1_hw2.2.2.2.2.2.1 k1_t3 (k1_off14_inb d0 v56 v79 v84 v89 v94 k1_hw2 k1_t3)
theorem k1_off16_inb : ∀ (d0 : Dev nD) (v56 : BitVec 32) (v79 : BitVec 32) (v84 : BitVec 32) (v89 : BitVec 32) (v94 : BitVec 32) (k1_hw2 : k1_chk2 d0 v56 v79 v84 v89 v94) (k1_t4 : Fin (k1_t4_loop v56).trips), ∀ a, (k1_off16 d0 v56 v79 v84 v89 v94 k1_t4) a + S1x8x128.size a ≤ S4096x8x128.size a := fun d0 v56 v79 v84 v89 v94 k1_hw2 k1_t4 => k1_hw2.2.2.2.2.2.2.1 k1_t4
theorem k1_off16_wordsbf16 : ∀ (d0 : Dev nD) (v56 : BitVec 32) (v79 : BitVec 32) (v84 : BitVec 32) (v89 : BitVec 32) (v94 : BitVec 32) (k1_hw2 : k1_chk2 d0 v56 v79 v84 v89 v94) (k1_t4 : Fin (k1_t4_loop v56).trips), (Rect.unit (s := S4096x8x128) (k1_off16 d0 v56 v79 v84 v89 v94 k1_t4) S1x8x128.size (k1_off16_inb d0 v56 v79 v84 v89 v94 k1_hw2 k1_t4)).WholeWords (EltTy.packing .bf16) := fun d0 v56 v79 v84 v89 v94 k1_hw2 k1_t4 => k1_hw2.2.2.2.2.2.2.2 k1_t4 (k1_off16_inb d0 v56 v79 v84 v89 v94 k1_hw2 k1_t4)

def k1_dev7 (d0 : Dev nD) : Nat :=
  let c0_i32_367 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_28 : BitVec 32 := 1#32
  let v43 : BitVec 32 := Scalar.addi v2 c1_i32_28
  let c4_i32_29 : BitVec 32 := 4#32
  let c0_i32_30 : BitVec 32 := 0#32
  let v44 : BitVec 1 := Scalar.cmpi .eq c4_i32_29 c0_i32_30
  let c1_i32_31 : BitVec 32 := 1#32
  let v45 : BitVec 32 := Scalar.select v44 c1_i32_31 c4_i32_29
  let v46 : BitVec 32 := Scalar.remsi v43 v45
  let c0_i32_33 : BitVec 32 := 0#32
  let v48 : BitVec 1 := Scalar.cmpi .slt v46 c0_i32_33
  let c0_i32_34 : BitVec 32 := 0#32
  let v49 : BitVec 1 := Scalar.cmpi .slt v45 c0_i32_34
  let v50 : BitVec 1 := Scalar.xori v48 v49
  let c0_i32_32 : BitVec 32 := 0#32
  let v47 : BitVec 1 := Scalar.cmpi .ne v46 c0_i32_32
  let v51 : BitVec 1 := Scalar.andi v50 v47
  let v52 : BitVec 32 := Scalar.addi v46 v45
  let v53 : BitVec 32 := Scalar.select v51 v52 v46
  let c1_i32_366 : BitVec 32 := 1#32
  let v572 : BitVec 32 := Scalar.muli v53 c1_i32_366
  let v573 : BitVec 32 := Scalar.addi c0_i32_367 v572
  v573.toNat
def k1_off18 (d0 : Dev nD) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v144 : Index := Scalar.indexCast v2
  let c0_93 : Index := 0#32
  let c2_i32_86 : BitVec 32 := 2#32
  let v133 : BitVec 32 := Scalar.addi v2 c2_i32_86
  let c4_i32_87 : BitVec 32 := 4#32
  let c0_i32_88 : BitVec 32 := 0#32
  let v134 : BitVec 1 := Scalar.cmpi .eq c4_i32_87 c0_i32_88
  let c1_i32_89 : BitVec 32 := 1#32
  let v135 : BitVec 32 := Scalar.select v134 c1_i32_89 c4_i32_87
  let v136 : BitVec 32 := Scalar.remsi v133 v135
  let c0_i32_91 : BitVec 32 := 0#32
  let v138 : BitVec 1 := Scalar.cmpi .slt v136 c0_i32_91
  let c0_i32_92 : BitVec 32 := 0#32
  let v139 : BitVec 1 := Scalar.cmpi .slt v135 c0_i32_92
  let v140 : BitVec 1 := Scalar.xori v138 v139
  let c0_i32_90 : BitVec 32 := 0#32
  let v137 : BitVec 1 := Scalar.cmpi .ne v136 c0_i32_90
  let v141 : BitVec 1 := Scalar.andi v140 v137
  let v142 : BitVec 32 := Scalar.addi v136 v135
  let v143 : BitVec 32 := Scalar.select v141 v142 v136
  let v145 : Index := Scalar.indexCast v143
  ![v144.toNat, 0, v145.toNat]
def k1_off19 (d0 : Dev nD) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v148 : Index := Scalar.indexCast v2
  let c0_95 : Index := 0#32
  let c0_96 : Index := 0#32
  ![v148.toNat, 0, 0]
def k1_off20 (d0 : Dev nD) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v153 : Index := Scalar.indexCast v2
  let c0_100 : Index := 0#32
  let c1_101 : Index := 1#32
  ![v153.toNat, 0, 1]
def k1_off21 (d0 : Dev nD) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v158 : Index := Scalar.indexCast v2
  let c0_104 : Index := 0#32
  let c2_105 : Index := 2#32
  ![v158.toNat, 0, 2]
def k1_off22 (d0 : Dev nD) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v163 : Index := Scalar.indexCast v2
  let c0_108 : Index := 0#32
  let c3_109 : Index := 3#32
  ![v163.toNat, 0, 3]
def k1_off23 (d0 : Dev nD) : Fin 3 → Nat :=
  let c0_112 : Index := 0#32
  let c0_113 : Index := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_86 : BitVec 32 := 2#32
  let v133 : BitVec 32 := Scalar.addi v2 c2_i32_86
  let c4_i32_87 : BitVec 32 := 4#32
  let c0_i32_88 : BitVec 32 := 0#32
  let v134 : BitVec 1 := Scalar.cmpi .eq c4_i32_87 c0_i32_88
  let c1_i32_89 : BitVec 32 := 1#32
  let v135 : BitVec 32 := Scalar.select v134 c1_i32_89 c4_i32_87
  let v136 : BitVec 32 := Scalar.remsi v133 v135
  let c0_i32_91 : BitVec 32 := 0#32
  let v138 : BitVec 1 := Scalar.cmpi .slt v136 c0_i32_91
  let c0_i32_92 : BitVec 32 := 0#32
  let v139 : BitVec 1 := Scalar.cmpi .slt v135 c0_i32_92
  let v140 : BitVec 1 := Scalar.xori v138 v139
  let c0_i32_90 : BitVec 32 := 0#32
  let v137 : BitVec 1 := Scalar.cmpi .ne v136 c0_i32_90
  let v141 : BitVec 1 := Scalar.andi v140 v137
  let v142 : BitVec 32 := Scalar.addi v136 v135
  let v143 : BitVec 32 := Scalar.select v141 v142 v136
  let v168 : Index := Scalar.indexCast v143
  ![0, 0, v168.toNat]
def k1_off24 (d0 : Dev nD) : Fin 3 → Nat :=
  let c1_117 : Index := 1#32
  let c0_118 : Index := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_86 : BitVec 32 := 2#32
  let v133 : BitVec 32 := Scalar.addi v2 c2_i32_86
  let c4_i32_87 : BitVec 32 := 4#32
  let c0_i32_88 : BitVec 32 := 0#32
  let v134 : BitVec 1 := Scalar.cmpi .eq c4_i32_87 c0_i32_88
  let c1_i32_89 : BitVec 32 := 1#32
  let v135 : BitVec 32 := Scalar.select v134 c1_i32_89 c4_i32_87
  let v136 : BitVec 32 := Scalar.remsi v133 v135
  let c0_i32_91 : BitVec 32 := 0#32
  let v138 : BitVec 1 := Scalar.cmpi .slt v136 c0_i32_91
  let c0_i32_92 : BitVec 32 := 0#32
  let v139 : BitVec 1 := Scalar.cmpi .slt v135 c0_i32_92
  let v140 : BitVec 1 := Scalar.xori v138 v139
  let c0_i32_90 : BitVec 32 := 0#32
  let v137 : BitVec 1 := Scalar.cmpi .ne v136 c0_i32_90
  let v141 : BitVec 1 := Scalar.andi v140 v137
  let v142 : BitVec 32 := Scalar.addi v136 v135
  let v143 : BitVec 32 := Scalar.select v141 v142 v136
  let v173 : Index := Scalar.indexCast v143
  ![1, 0, v173.toNat]
def k1_off25 (d0 : Dev nD) : Fin 3 → Nat :=
  let c2_121 : Index := 2#32
  let c0_122 : Index := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_86 : BitVec 32 := 2#32
  let v133 : BitVec 32 := Scalar.addi v2 c2_i32_86
  let c4_i32_87 : BitVec 32 := 4#32
  let c0_i32_88 : BitVec 32 := 0#32
  let v134 : BitVec 1 := Scalar.cmpi .eq c4_i32_87 c0_i32_88
  let c1_i32_89 : BitVec 32 := 1#32
  let v135 : BitVec 32 := Scalar.select v134 c1_i32_89 c4_i32_87
  let v136 : BitVec 32 := Scalar.remsi v133 v135
  let c0_i32_91 : BitVec 32 := 0#32
  let v138 : BitVec 1 := Scalar.cmpi .slt v136 c0_i32_91
  let c0_i32_92 : BitVec 32 := 0#32
  let v139 : BitVec 1 := Scalar.cmpi .slt v135 c0_i32_92
  let v140 : BitVec 1 := Scalar.xori v138 v139
  let c0_i32_90 : BitVec 32 := 0#32
  let v137 : BitVec 1 := Scalar.cmpi .ne v136 c0_i32_90
  let v141 : BitVec 1 := Scalar.andi v140 v137
  let v142 : BitVec 32 := Scalar.addi v136 v135
  let v143 : BitVec 32 := Scalar.select v141 v142 v136
  let v178 : Index := Scalar.indexCast v143
  ![2, 0, v178.toNat]
def k1_off26 (d0 : Dev nD) : Fin 3 → Nat :=
  let c3_125 : Index := 3#32
  let c0_126 : Index := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_86 : BitVec 32 := 2#32
  let v133 : BitVec 32 := Scalar.addi v2 c2_i32_86
  let c4_i32_87 : BitVec 32 := 4#32
  let c0_i32_88 : BitVec 32 := 0#32
  let v134 : BitVec 1 := Scalar.cmpi .eq c4_i32_87 c0_i32_88
  let c1_i32_89 : BitVec 32 := 1#32
  let v135 : BitVec 32 := Scalar.select v134 c1_i32_89 c4_i32_87
  let v136 : BitVec 32 := Scalar.remsi v133 v135
  let c0_i32_91 : BitVec 32 := 0#32
  let v138 : BitVec 1 := Scalar.cmpi .slt v136 c0_i32_91
  let c0_i32_92 : BitVec 32 := 0#32
  let v139 : BitVec 1 := Scalar.cmpi .slt v135 c0_i32_92
  let v140 : BitVec 1 := Scalar.xori v138 v139
  let c0_i32_90 : BitVec 32 := 0#32
  let v137 : BitVec 1 := Scalar.cmpi .ne v136 c0_i32_90
  let v141 : BitVec 1 := Scalar.andi v140 v137
  let v142 : BitVec 32 := Scalar.addi v136 v135
  let v143 : BitVec 32 := Scalar.select v141 v142 v136
  let v183 : Index := Scalar.indexCast v143
  ![3, 0, v183.toNat]
@[reducible] def k1_t5_loop (v146 : BitVec 32) : Scf.Loop 32 :=
  let c0_i32_136 : BitVec 32 := 0#32
  let c0_i32_129 : BitVec 32 := 0#32
  let v188 : BitVec 1 := Scalar.cmpi .sgt v146 c0_i32_129
  let v189 : BitVec 32 := Scalar.extui v188
  let c0_i32_130 : BitVec 32 := 0#32
  let v190 : BitVec 1 := Scalar.cmpi .slt v146 c0_i32_130
  let v191 : BitVec 32 := Scalar.extui v190
  let v192 : BitVec 32 := Scalar.subi v189 v191
  let c32_i32_128 : BitVec 32 := 32#32
  let c0_i32_131 : BitVec 32 := 0#32
  let v193 : BitVec 1 := Scalar.cmpi .sgt c32_i32_128 c0_i32_131
  let v194 : BitVec 32 := Scalar.extui v193
  let c0_i32_132 : BitVec 32 := 0#32
  let v195 : BitVec 1 := Scalar.cmpi .slt c32_i32_128 c0_i32_132
  let v196 : BitVec 32 := Scalar.extui v195
  let v197 : BitVec 32 := Scalar.subi v194 v196
  let v198 : BitVec 1 := Scalar.cmpi .ne v192 v197
  let v199 : BitVec 32 := Scalar.remsi v146 c32_i32_128
  let c0_i32_133 : BitVec 32 := 0#32
  let v200 : BitVec 1 := Scalar.cmpi .ne v199 c0_i32_133
  let v201 : BitVec 1 := Scalar.andi v198 v200
  let v187 : BitVec 32 := Scalar.divsi v146 c32_i32_128
  let c1_i32_134 : BitVec 32 := 1#32
  let v202 : BitVec 32 := Scalar.subi v187 c1_i32_134
  let v203 : BitVec 32 := Scalar.select v201 v202 v187
  let v206 : BitVec 32 := Scalar.subi v203 c0_i32_136
  let c1_i32_138 : BitVec 32 := 1#32
  let v208 : BitVec 32 := Scalar.divsi v206 c1_i32_138
  let v209 : BitVec 32 := Scalar.muli v208 c1_i32_138
  let v210 : BitVec 32 := Scalar.addi c0_i32_136 v209
  let c1_i32_139 : BitVec 32 := 1#32
  ⟨c0_i32_136, v210, c1_i32_139⟩

def k1_off27 (d0 : Dev nD) (v146 : BitVec 32) (v169 : BitVec 32) (v174 : BitVec 32) (v179 : BitVec 32) (v184 : BitVec 32) (k1_t5 : Fin (k1_t5_loop v146).trips) : Fin 3 → Nat :=
  let c0_i32_115 : BitVec 32 := 0#32
  let c0_i32_111 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v167 : BitVec 1 := Scalar.cmpi .slt c0_i32_111 v2
  let c0_i32_114 : BitVec 32 := 0#32
  let v170 : BitVec 32 := Scalar.select v167 v169 c0_i32_114
  let v171 : BitVec 32 := Scalar.addi c0_i32_115 v170
  let c1_i32_116 : BitVec 32 := 1#32
  let v172 : BitVec 1 := Scalar.cmpi .slt c1_i32_116 v2
  let c0_i32_119 : BitVec 32 := 0#32
  let v175 : BitVec 32 := Scalar.select v172 v174 c0_i32_119
  let v176 : BitVec 32 := Scalar.addi v171 v175
  let c2_i32_120 : BitVec 32 := 2#32
  let v177 : BitVec 1 := Scalar.cmpi .slt c2_i32_120 v2
  let c0_i32_123 : BitVec 32 := 0#32
  let v180 : BitVec 32 := Scalar.select v177 v179 c0_i32_123
  let v181 : BitVec 32 := Scalar.addi v176 v180
  let c3_i32_124 : BitVec 32 := 3#32
  let v182 : BitVec 1 := Scalar.cmpi .slt c3_i32_124 v2
  let c0_i32_127 : BitVec 32 := 0#32
  let v185 : BitVec 32 := Scalar.select v182 v184 c0_i32_127
  let v186 : BitVec 32 := Scalar.addi v181 v185
  let c0_i32_136 : BitVec 32 := 0#32
  let c1_i32_139 : BitVec 32 := 1#32
  let arg9 : BitVec 32 := Scf.iv c0_i32_136 c1_i32_139 k1_t5
  let c32_i32_367 : BitVec 32 := 32#32
  let v570 : BitVec 32 := Scalar.muli arg9 c32_i32_367
  let v571 : BitVec 32 := Scalar.addi v186 v570
  let c0_i32_370 : BitVec 32 := 0#32
  let c0_i32_371 : BitVec 32 := 0#32
  ![v571.toNat, 0, 0]

def k1_off28 (d0 : Dev nD) (v146 : BitVec 32) (v149 : BitVec 32) (v154 : BitVec 32) (v159 : BitVec 32) (v164 : BitVec 32) (k1_t5 : Fin (k1_t5_loop v146).trips) : Fin 3 → Nat :=
  let c0_i32_98 : BitVec 32 := 0#32
  let c0_i32_94 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_86 : BitVec 32 := 2#32
  let v133 : BitVec 32 := Scalar.addi v2 c2_i32_86
  let c4_i32_87 : BitVec 32 := 4#32
  let c0_i32_88 : BitVec 32 := 0#32
  let v134 : BitVec 1 := Scalar.cmpi .eq c4_i32_87 c0_i32_88
  let c1_i32_89 : BitVec 32 := 1#32
  let v135 : BitVec 32 := Scalar.select v134 c1_i32_89 c4_i32_87
  let v136 : BitVec 32 := Scalar.remsi v133 v135
  let c0_i32_91 : BitVec 32 := 0#32
  let v138 : BitVec 1 := Scalar.cmpi .slt v136 c0_i32_91
  let c0_i32_92 : BitVec 32 := 0#32
  let v139 : BitVec 1 := Scalar.cmpi .slt v135 c0_i32_92
  let v140 : BitVec 1 := Scalar.xori v138 v139
  let c0_i32_90 : BitVec 32 := 0#32
  let v137 : BitVec 1 := Scalar.cmpi .ne v136 c0_i32_90
  let v141 : BitVec 1 := Scalar.andi v140 v137
  let v142 : BitVec 32 := Scalar.addi v136 v135
  let v143 : BitVec 32 := Scalar.select v141 v142 v136
  let v147 : BitVec 1 := Scalar.cmpi .slt c0_i32_94 v143
  let c0_i32_97 : BitVec 32 := 0#32
  let v150 : BitVec 32 := Scalar.select v147 v149 c0_i32_97
  let v151 : BitVec 32 := Scalar.addi c0_i32_98 v150
  let c1_i32_99 : BitVec 32 := 1#32
  let v152 : BitVec 1 := Scalar.cmpi .slt c1_i32_99 v143
  let c0_i32_102 : BitVec 32 := 0#32
  let v155 : BitVec 32 := Scalar.select v152 v154 c0_i32_102
  let v156 : BitVec 32 := Scalar.addi v151 v155
  let c2_i32_103 : BitVec 32 := 2#32
  let v157 : BitVec 1 := Scalar.cmpi .slt c2_i32_103 v143
  let c0_i32_106 : BitVec 32 := 0#32
  let v160 : BitVec 32 := Scalar.select v157 v159 c0_i32_106
  let v161 : BitVec 32 := Scalar.addi v156 v160
  let c3_i32_107 : BitVec 32 := 3#32
  let v162 : BitVec 1 := Scalar.cmpi .slt c3_i32_107 v143
  let c0_i32_110 : BitVec 32 := 0#32
  let v165 : BitVec 32 := Scalar.select v162 v164 c0_i32_110
  let v166 : BitVec 32 := Scalar.addi v161 v165
  let c0_i32_136 : BitVec 32 := 0#32
  let c1_i32_139 : BitVec 32 := 1#32
  let arg9 : BitVec 32 := Scf.iv c0_i32_136 c1_i32_139 k1_t5
  let c32_i32_366 : BitVec 32 := 32#32
  let v568 : BitVec 32 := Scalar.muli arg9 c32_i32_366
  let v569 : BitVec 32 := Scalar.addi v166 v568
  let c0_i32_372 : BitVec 32 := 0#32
  let c0_i32_373 : BitVec 32 := 0#32
  ![v569.toNat, 0, 0]

def k1_dev8 (d0 : Dev nD) : Nat :=
  let c0_i32_369 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_86 : BitVec 32 := 2#32
  let v133 : BitVec 32 := Scalar.addi v2 c2_i32_86
  let c4_i32_87 : BitVec 32 := 4#32
  let c0_i32_88 : BitVec 32 := 0#32
  let v134 : BitVec 1 := Scalar.cmpi .eq c4_i32_87 c0_i32_88
  let c1_i32_89 : BitVec 32 := 1#32
  let v135 : BitVec 32 := Scalar.select v134 c1_i32_89 c4_i32_87
  let v136 : BitVec 32 := Scalar.remsi v133 v135
  let c0_i32_91 : BitVec 32 := 0#32
  let v138 : BitVec 1 := Scalar.cmpi .slt v136 c0_i32_91
  let c0_i32_92 : BitVec 32 := 0#32
  let v139 : BitVec 1 := Scalar.cmpi .slt v135 c0_i32_92
  let v140 : BitVec 1 := Scalar.xori v138 v139
  let c0_i32_90 : BitVec 32 := 0#32
  let v137 : BitVec 1 := Scalar.cmpi .ne v136 c0_i32_90
  let v141 : BitVec 1 := Scalar.andi v140 v137
  let v142 : BitVec 32 := Scalar.addi v136 v135
  let v143 : BitVec 32 := Scalar.select v141 v142 v136
  let c1_i32_368 : BitVec 32 := 1#32
  let v572 : BitVec 32 := Scalar.muli v143 c1_i32_368
  let v573 : BitVec 32 := Scalar.addi c0_i32_369 v572
  v573.toNat
@[reducible] def k1_t6_loop (v146 : BitVec 32) : Scf.Loop 32 :=
  let c0_i32_136 : BitVec 32 := 0#32
  let c0_i32_129 : BitVec 32 := 0#32
  let v188 : BitVec 1 := Scalar.cmpi .sgt v146 c0_i32_129
  let v189 : BitVec 32 := Scalar.extui v188
  let c0_i32_130 : BitVec 32 := 0#32
  let v190 : BitVec 1 := Scalar.cmpi .slt v146 c0_i32_130
  let v191 : BitVec 32 := Scalar.extui v190
  let v192 : BitVec 32 := Scalar.subi v189 v191
  let c32_i32_128 : BitVec 32 := 32#32
  let c0_i32_131 : BitVec 32 := 0#32
  let v193 : BitVec 1 := Scalar.cmpi .sgt c32_i32_128 c0_i32_131
  let v194 : BitVec 32 := Scalar.extui v193
  let c0_i32_132 : BitVec 32 := 0#32
  let v195 : BitVec 1 := Scalar.cmpi .slt c32_i32_128 c0_i32_132
  let v196 : BitVec 32 := Scalar.extui v195
  let v197 : BitVec 32 := Scalar.subi v194 v196
  let v198 : BitVec 1 := Scalar.cmpi .ne v192 v197
  let v199 : BitVec 32 := Scalar.remsi v146 c32_i32_128
  let c0_i32_133 : BitVec 32 := 0#32
  let v200 : BitVec 1 := Scalar.cmpi .ne v199 c0_i32_133
  let v201 : BitVec 1 := Scalar.andi v198 v200
  let v187 : BitVec 32 := Scalar.divsi v146 c32_i32_128
  let c1_i32_134 : BitVec 32 := 1#32
  let v202 : BitVec 32 := Scalar.subi v187 c1_i32_134
  let v203 : BitVec 32 := Scalar.select v201 v202 v187
  let v206 : BitVec 32 := Scalar.subi v203 c0_i32_136
  let c1_i32_138 : BitVec 32 := 1#32
  let v208 : BitVec 32 := Scalar.divsi v206 c1_i32_138
  let v209 : BitVec 32 := Scalar.muli v208 c1_i32_138
  let v210 : BitVec 32 := Scalar.addi c0_i32_136 v209
  let v207 : BitVec 32 := Scalar.addi c0_i32_136 v206
  let c1_i32_140 : BitVec 32 := 1#32
  ⟨v210, v207, c1_i32_140⟩
def k1_off29 (d0 : Dev nD) (v146 : BitVec 32) (v169 : BitVec 32) (v174 : BitVec 32) (v179 : BitVec 32) (v184 : BitVec 32) (k1_t6 : Fin (k1_t6_loop v146).trips) : Fin 3 → Nat :=
  let c0_i32_115 : BitVec 32 := 0#32
  let c0_i32_111 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v167 : BitVec 1 := Scalar.cmpi .slt c0_i32_111 v2
  let c0_i32_114 : BitVec 32 := 0#32
  let v170 : BitVec 32 := Scalar.select v167 v169 c0_i32_114
  let v171 : BitVec 32 := Scalar.addi c0_i32_115 v170
  let c1_i32_116 : BitVec 32 := 1#32
  let v172 : BitVec 1 := Scalar.cmpi .slt c1_i32_116 v2
  let c0_i32_119 : BitVec 32 := 0#32
  let v175 : BitVec 32 := Scalar.select v172 v174 c0_i32_119
  let v176 : BitVec 32 := Scalar.addi v171 v175
  let c2_i32_120 : BitVec 32 := 2#32
  let v177 : BitVec 1 := Scalar.cmpi .slt c2_i32_120 v2
  let c0_i32_123 : BitVec 32 := 0#32
  let v180 : BitVec 32 := Scalar.select v177 v179 c0_i32_123
  let v181 : BitVec 32 := Scalar.addi v176 v180
  let c3_i32_124 : BitVec 32 := 3#32
  let v182 : BitVec 1 := Scalar.cmpi .slt c3_i32_124 v2
  let c0_i32_127 : BitVec 32 := 0#32
  let v185 : BitVec 32 := Scalar.select v182 v184 c0_i32_127
  let v186 : BitVec 32 := Scalar.addi v181 v185
  let c0_i32_136 : BitVec 32 := 0#32
  let c0_i32_129 : BitVec 32 := 0#32
  let v188 : BitVec 1 := Scalar.cmpi .sgt v146 c0_i32_129
  let v189 : BitVec 32 := Scalar.extui v188
  let c0_i32_130 : BitVec 32 := 0#32
  let v190 : BitVec 1 := Scalar.cmpi .slt v146 c0_i32_130
  let v191 : BitVec 32 := Scalar.extui v190
  let v192 : BitVec 32 := Scalar.subi v189 v191
  let c32_i32_128 : BitVec 32 := 32#32
  let c0_i32_131 : BitVec 32 := 0#32
  let v193 : BitVec 1 := Scalar.cmpi .sgt c32_i32_128 c0_i32_131
  let v194 : BitVec 32 := Scalar.extui v193
  let c0_i32_132 : BitVec 32 := 0#32
  let v195 : BitVec 1 := Scalar.cmpi .slt c32_i32_128 c0_i32_132
  let v196 : BitVec 32 := Scalar.extui v195
  let v197 : BitVec 32 := Scalar.subi v194 v196
  let v198 : BitVec 1 := Scalar.cmpi .ne v192 v197
  let v199 : BitVec 32 := Scalar.remsi v146 c32_i32_128
  let c0_i32_133 : BitVec 32 := 0#32
  let v200 : BitVec 1 := Scalar.cmpi .ne v199 c0_i32_133
  let v201 : BitVec 1 := Scalar.andi v198 v200
  let v187 : BitVec 32 := Scalar.divsi v146 c32_i32_128
  let c1_i32_134 : BitVec 32 := 1#32
  let v202 : BitVec 32 := Scalar.subi v187 c1_i32_134
  let v203 : BitVec 32 := Scalar.select v201 v202 v187
  let v206 : BitVec 32 := Scalar.subi v203 c0_i32_136
  let c1_i32_138 : BitVec 32 := 1#32
  let v208 : BitVec 32 := Scalar.divsi v206 c1_i32_138
  let v209 : BitVec 32 := Scalar.muli v208 c1_i32_138
  let v210 : BitVec 32 := Scalar.addi c0_i32_136 v209
  let c1_i32_140 : BitVec 32 := 1#32
  let arg9 : BitVec 32 := Scf.iv v210 c1_i32_140 k1_t6
  let c32_i32_367 : BitVec 32 := 32#32
  let v570 : BitVec 32 := Scalar.muli arg9 c32_i32_367
  let v571 : BitVec 32 := Scalar.addi v186 v570
  let c0_i32_370 : BitVec 32 := 0#32
  let c0_i32_371 : BitVec 32 := 0#32
  ![v571.toNat, 0, 0]
def k1_off30 (d0 : Dev nD) (v146 : BitVec 32) (v149 : BitVec 32) (v154 : BitVec 32) (v159 : BitVec 32) (v164 : BitVec 32) (k1_t6 : Fin (k1_t6_loop v146).trips) : Fin 3 → Nat :=
  let c0_i32_98 : BitVec 32 := 0#32
  let c0_i32_94 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_86 : BitVec 32 := 2#32
  let v133 : BitVec 32 := Scalar.addi v2 c2_i32_86
  let c4_i32_87 : BitVec 32 := 4#32
  let c0_i32_88 : BitVec 32 := 0#32
  let v134 : BitVec 1 := Scalar.cmpi .eq c4_i32_87 c0_i32_88
  let c1_i32_89 : BitVec 32 := 1#32
  let v135 : BitVec 32 := Scalar.select v134 c1_i32_89 c4_i32_87
  let v136 : BitVec 32 := Scalar.remsi v133 v135
  let c0_i32_91 : BitVec 32 := 0#32
  let v138 : BitVec 1 := Scalar.cmpi .slt v136 c0_i32_91
  let c0_i32_92 : BitVec 32 := 0#32
  let v139 : BitVec 1 := Scalar.cmpi .slt v135 c0_i32_92
  let v140 : BitVec 1 := Scalar.xori v138 v139
  let c0_i32_90 : BitVec 32 := 0#32
  let v137 : BitVec 1 := Scalar.cmpi .ne v136 c0_i32_90
  let v141 : BitVec 1 := Scalar.andi v140 v137
  let v142 : BitVec 32 := Scalar.addi v136 v135
  let v143 : BitVec 32 := Scalar.select v141 v142 v136
  let v147 : BitVec 1 := Scalar.cmpi .slt c0_i32_94 v143
  let c0_i32_97 : BitVec 32 := 0#32
  let v150 : BitVec 32 := Scalar.select v147 v149 c0_i32_97
  let v151 : BitVec 32 := Scalar.addi c0_i32_98 v150
  let c1_i32_99 : BitVec 32 := 1#32
  let v152 : BitVec 1 := Scalar.cmpi .slt c1_i32_99 v143
  let c0_i32_102 : BitVec 32 := 0#32
  let v155 : BitVec 32 := Scalar.select v152 v154 c0_i32_102
  let v156 : BitVec 32 := Scalar.addi v151 v155
  let c2_i32_103 : BitVec 32 := 2#32
  let v157 : BitVec 1 := Scalar.cmpi .slt c2_i32_103 v143
  let c0_i32_106 : BitVec 32 := 0#32
  let v160 : BitVec 32 := Scalar.select v157 v159 c0_i32_106
  let v161 : BitVec 32 := Scalar.addi v156 v160
  let c3_i32_107 : BitVec 32 := 3#32
  let v162 : BitVec 1 := Scalar.cmpi .slt c3_i32_107 v143
  let c0_i32_110 : BitVec 32 := 0#32
  let v165 : BitVec 32 := Scalar.select v162 v164 c0_i32_110
  let v166 : BitVec 32 := Scalar.addi v161 v165
  let c0_i32_136 : BitVec 32 := 0#32
  let c0_i32_129 : BitVec 32 := 0#32
  let v188 : BitVec 1 := Scalar.cmpi .sgt v146 c0_i32_129
  let v189 : BitVec 32 := Scalar.extui v188
  let c0_i32_130 : BitVec 32 := 0#32
  let v190 : BitVec 1 := Scalar.cmpi .slt v146 c0_i32_130
  let v191 : BitVec 32 := Scalar.extui v190
  let v192 : BitVec 32 := Scalar.subi v189 v191
  let c32_i32_128 : BitVec 32 := 32#32
  let c0_i32_131 : BitVec 32 := 0#32
  let v193 : BitVec 1 := Scalar.cmpi .sgt c32_i32_128 c0_i32_131
  let v194 : BitVec 32 := Scalar.extui v193
  let c0_i32_132 : BitVec 32 := 0#32
  let v195 : BitVec 1 := Scalar.cmpi .slt c32_i32_128 c0_i32_132
  let v196 : BitVec 32 := Scalar.extui v195
  let v197 : BitVec 32 := Scalar.subi v194 v196
  let v198 : BitVec 1 := Scalar.cmpi .ne v192 v197
  let v199 : BitVec 32 := Scalar.remsi v146 c32_i32_128
  let c0_i32_133 : BitVec 32 := 0#32
  let v200 : BitVec 1 := Scalar.cmpi .ne v199 c0_i32_133
  let v201 : BitVec 1 := Scalar.andi v198 v200
  let v187 : BitVec 32 := Scalar.divsi v146 c32_i32_128
  let c1_i32_134 : BitVec 32 := 1#32
  let v202 : BitVec 32 := Scalar.subi v187 c1_i32_134
  let v203 : BitVec 32 := Scalar.select v201 v202 v187
  let v206 : BitVec 32 := Scalar.subi v203 c0_i32_136
  let c1_i32_138 : BitVec 32 := 1#32
  let v208 : BitVec 32 := Scalar.divsi v206 c1_i32_138
  let v209 : BitVec 32 := Scalar.muli v208 c1_i32_138
  let v210 : BitVec 32 := Scalar.addi c0_i32_136 v209
  let c1_i32_140 : BitVec 32 := 1#32
  let arg9 : BitVec 32 := Scf.iv v210 c1_i32_140 k1_t6
  let c32_i32_366 : BitVec 32 := 32#32
  let v568 : BitVec 32 := Scalar.muli arg9 c32_i32_366
  let v569 : BitVec 32 := Scalar.addi v166 v568
  let c0_i32_372 : BitVec 32 := 0#32
  let c0_i32_373 : BitVec 32 := 0#32
  ![v569.toNat, 0, 0]
def k1_dev9 (d0 : Dev nD) : Nat :=
  let c0_i32_369 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_86 : BitVec 32 := 2#32
  let v133 : BitVec 32 := Scalar.addi v2 c2_i32_86
  let c4_i32_87 : BitVec 32 := 4#32
  let c0_i32_88 : BitVec 32 := 0#32
  let v134 : BitVec 1 := Scalar.cmpi .eq c4_i32_87 c0_i32_88
  let c1_i32_89 : BitVec 32 := 1#32
  let v135 : BitVec 32 := Scalar.select v134 c1_i32_89 c4_i32_87
  let v136 : BitVec 32 := Scalar.remsi v133 v135
  let c0_i32_91 : BitVec 32 := 0#32
  let v138 : BitVec 1 := Scalar.cmpi .slt v136 c0_i32_91
  let c0_i32_92 : BitVec 32 := 0#32
  let v139 : BitVec 1 := Scalar.cmpi .slt v135 c0_i32_92
  let v140 : BitVec 1 := Scalar.xori v138 v139
  let c0_i32_90 : BitVec 32 := 0#32
  let v137 : BitVec 1 := Scalar.cmpi .ne v136 c0_i32_90
  let v141 : BitVec 1 := Scalar.andi v140 v137
  let v142 : BitVec 32 := Scalar.addi v136 v135
  let v143 : BitVec 32 := Scalar.select v141 v142 v136
  let c1_i32_368 : BitVec 32 := 1#32
  let v572 : BitVec 32 := Scalar.muli v143 c1_i32_368
  let v573 : BitVec 32 := Scalar.addi c0_i32_369 v572
  v573.toNat
@[reducible] def k1_t7_loop (v146 : BitVec 32) : Scf.Loop 32 :=
  let c0_i32_142 : BitVec 32 := 0#32
  let c0_i32_129 : BitVec 32 := 0#32
  let v188 : BitVec 1 := Scalar.cmpi .sgt v146 c0_i32_129
  let v189 : BitVec 32 := Scalar.extui v188
  let c0_i32_130 : BitVec 32 := 0#32
  let v190 : BitVec 1 := Scalar.cmpi .slt v146 c0_i32_130
  let v191 : BitVec 32 := Scalar.extui v190
  let v192 : BitVec 32 := Scalar.subi v189 v191
  let c32_i32_128 : BitVec 32 := 32#32
  let c0_i32_131 : BitVec 32 := 0#32
  let v193 : BitVec 1 := Scalar.cmpi .sgt c32_i32_128 c0_i32_131
  let v194 : BitVec 32 := Scalar.extui v193
  let c0_i32_132 : BitVec 32 := 0#32
  let v195 : BitVec 1 := Scalar.cmpi .slt c32_i32_128 c0_i32_132
  let v196 : BitVec 32 := Scalar.extui v195
  let v197 : BitVec 32 := Scalar.subi v194 v196
  let v198 : BitVec 1 := Scalar.cmpi .ne v192 v197
  let v199 : BitVec 32 := Scalar.remsi v146 c32_i32_128
  let c0_i32_133 : BitVec 32 := 0#32
  let v200 : BitVec 1 := Scalar.cmpi .ne v199 c0_i32_133
  let v201 : BitVec 1 := Scalar.andi v198 v200
  let v187 : BitVec 32 := Scalar.divsi v146 c32_i32_128
  let c1_i32_134 : BitVec 32 := 1#32
  let v202 : BitVec 32 := Scalar.subi v187 c1_i32_134
  let v203 : BitVec 32 := Scalar.select v201 v202 v187
  let c32_i32_135 : BitVec 32 := 32#32
  let v204 : BitVec 32 := Scalar.muli v203 c32_i32_135
  let v205 : BitVec 32 := Scalar.subi v146 v204
  let v214 : BitVec 32 := Scalar.subi v205 c0_i32_142
  let c1_i32_144 : BitVec 32 := 1#32
  let v216 : BitVec 32 := Scalar.divsi v214 c1_i32_144
  let v217 : BitVec 32 := Scalar.muli v216 c1_i32_144
  let v218 : BitVec 32 := Scalar.addi c0_i32_142 v217
  let c1_i32_145 : BitVec 32 := 1#32
  ⟨c0_i32_142, v218, c1_i32_145⟩
def k1_off31 (d0 : Dev nD) (v146 : BitVec 32) (v169 : BitVec 32) (v174 : BitVec 32) (v179 : BitVec 32) (v184 : BitVec 32) (k1_t7 : Fin (k1_t7_loop v146).trips) : Fin 3 → Nat :=
  let c0_i32_115 : BitVec 32 := 0#32
  let c0_i32_111 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v167 : BitVec 1 := Scalar.cmpi .slt c0_i32_111 v2
  let c0_i32_114 : BitVec 32 := 0#32
  let v170 : BitVec 32 := Scalar.select v167 v169 c0_i32_114
  let v171 : BitVec 32 := Scalar.addi c0_i32_115 v170
  let c1_i32_116 : BitVec 32 := 1#32
  let v172 : BitVec 1 := Scalar.cmpi .slt c1_i32_116 v2
  let c0_i32_119 : BitVec 32 := 0#32
  let v175 : BitVec 32 := Scalar.select v172 v174 c0_i32_119
  let v176 : BitVec 32 := Scalar.addi v171 v175
  let c2_i32_120 : BitVec 32 := 2#32
  let v177 : BitVec 1 := Scalar.cmpi .slt c2_i32_120 v2
  let c0_i32_123 : BitVec 32 := 0#32
  let v180 : BitVec 32 := Scalar.select v177 v179 c0_i32_123
  let v181 : BitVec 32 := Scalar.addi v176 v180
  let c3_i32_124 : BitVec 32 := 3#32
  let v182 : BitVec 1 := Scalar.cmpi .slt c3_i32_124 v2
  let c0_i32_127 : BitVec 32 := 0#32
  let v185 : BitVec 32 := Scalar.select v182 v184 c0_i32_127
  let v186 : BitVec 32 := Scalar.addi v181 v185
  let c0_i32_129 : BitVec 32 := 0#32
  let v188 : BitVec 1 := Scalar.cmpi .sgt v146 c0_i32_129
  let v189 : BitVec 32 := Scalar.extui v188
  let c0_i32_130 : BitVec 32 := 0#32
  let v190 : BitVec 1 := Scalar.cmpi .slt v146 c0_i32_130
  let v191 : BitVec 32 := Scalar.extui v190
  let v192 : BitVec 32 := Scalar.subi v189 v191
  let c32_i32_128 : BitVec 32 := 32#32
  let c0_i32_131 : BitVec 32 := 0#32
  let v193 : BitVec 1 := Scalar.cmpi .sgt c32_i32_128 c0_i32_131
  let v194 : BitVec 32 := Scalar.extui v193
  let c0_i32_132 : BitVec 32 := 0#32
  let v195 : BitVec 1 := Scalar.cmpi .slt c32_i32_128 c0_i32_132
  let v196 : BitVec 32 := Scalar.extui v195
  let v197 : BitVec 32 := Scalar.subi v194 v196
  let v198 : BitVec 1 := Scalar.cmpi .ne v192 v197
  let v199 : BitVec 32 := Scalar.remsi v146 c32_i32_128
  let c0_i32_133 : BitVec 32 := 0#32
  let v200 : BitVec 1 := Scalar.cmpi .ne v199 c0_i32_133
  let v201 : BitVec 1 := Scalar.andi v198 v200
  let v187 : BitVec 32 := Scalar.divsi v146 c32_i32_128
  let c1_i32_134 : BitVec 32 := 1#32
  let v202 : BitVec 32 := Scalar.subi v187 c1_i32_134
  let v203 : BitVec 32 := Scalar.select v201 v202 v187
  let c32_i32_141 : BitVec 32 := 32#32
  let v213 : BitVec 32 := Scalar.muli v203 c32_i32_141
  let v570 : BitVec 32 := Scalar.addi v186 v213
  let c0_i32_142 : BitVec 32 := 0#32
  let c1_i32_145 : BitVec 32 := 1#32
  let arg9 : BitVec 32 := Scf.iv c0_i32_142 c1_i32_145 k1_t7
  let v571 : BitVec 32 := Scalar.addi v570 arg9
  let c0_i32_368 : BitVec 32 := 0#32
  let c0_i32_369 : BitVec 32 := 0#32
  ![v571.toNat, 0, 0]
def k1_off32 (d0 : Dev nD) (v146 : BitVec 32) (v149 : BitVec 32) (v154 : BitVec 32) (v159 : BitVec 32) (v164 : BitVec 32) (k1_t7 : Fin (k1_t7_loop v146).trips) : Fin 3 → Nat :=
  let c0_i32_98 : BitVec 32 := 0#32
  let c0_i32_94 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_86 : BitVec 32 := 2#32
  let v133 : BitVec 32 := Scalar.addi v2 c2_i32_86
  let c4_i32_87 : BitVec 32 := 4#32
  let c0_i32_88 : BitVec 32 := 0#32
  let v134 : BitVec 1 := Scalar.cmpi .eq c4_i32_87 c0_i32_88
  let c1_i32_89 : BitVec 32 := 1#32
  let v135 : BitVec 32 := Scalar.select v134 c1_i32_89 c4_i32_87
  let v136 : BitVec 32 := Scalar.remsi v133 v135
  let c0_i32_91 : BitVec 32 := 0#32
  let v138 : BitVec 1 := Scalar.cmpi .slt v136 c0_i32_91
  let c0_i32_92 : BitVec 32 := 0#32
  let v139 : BitVec 1 := Scalar.cmpi .slt v135 c0_i32_92
  let v140 : BitVec 1 := Scalar.xori v138 v139
  let c0_i32_90 : BitVec 32 := 0#32
  let v137 : BitVec 1 := Scalar.cmpi .ne v136 c0_i32_90
  let v141 : BitVec 1 := Scalar.andi v140 v137
  let v142 : BitVec 32 := Scalar.addi v136 v135
  let v143 : BitVec 32 := Scalar.select v141 v142 v136
  let v147 : BitVec 1 := Scalar.cmpi .slt c0_i32_94 v143
  let c0_i32_97 : BitVec 32 := 0#32
  let v150 : BitVec 32 := Scalar.select v147 v149 c0_i32_97
  let v151 : BitVec 32 := Scalar.addi c0_i32_98 v150
  let c1_i32_99 : BitVec 32 := 1#32
  let v152 : BitVec 1 := Scalar.cmpi .slt c1_i32_99 v143
  let c0_i32_102 : BitVec 32 := 0#32
  let v155 : BitVec 32 := Scalar.select v152 v154 c0_i32_102
  let v156 : BitVec 32 := Scalar.addi v151 v155
  let c2_i32_103 : BitVec 32 := 2#32
  let v157 : BitVec 1 := Scalar.cmpi .slt c2_i32_103 v143
  let c0_i32_106 : BitVec 32 := 0#32
  let v160 : BitVec 32 := Scalar.select v157 v159 c0_i32_106
  let v161 : BitVec 32 := Scalar.addi v156 v160
  let c3_i32_107 : BitVec 32 := 3#32
  let v162 : BitVec 1 := Scalar.cmpi .slt c3_i32_107 v143
  let c0_i32_110 : BitVec 32 := 0#32
  let v165 : BitVec 32 := Scalar.select v162 v164 c0_i32_110
  let v166 : BitVec 32 := Scalar.addi v161 v165
  let c0_i32_129 : BitVec 32 := 0#32
  let v188 : BitVec 1 := Scalar.cmpi .sgt v146 c0_i32_129
  let v189 : BitVec 32 := Scalar.extui v188
  let c0_i32_130 : BitVec 32 := 0#32
  let v190 : BitVec 1 := Scalar.cmpi .slt v146 c0_i32_130
  let v191 : BitVec 32 := Scalar.extui v190
  let v192 : BitVec 32 := Scalar.subi v189 v191
  let c32_i32_128 : BitVec 32 := 32#32
  let c0_i32_131 : BitVec 32 := 0#32
  let v193 : BitVec 1 := Scalar.cmpi .sgt c32_i32_128 c0_i32_131
  let v194 : BitVec 32 := Scalar.extui v193
  let c0_i32_132 : BitVec 32 := 0#32
  let v195 : BitVec 1 := Scalar.cmpi .slt c32_i32_128 c0_i32_132
  let v196 : BitVec 32 := Scalar.extui v195
  let v197 : BitVec 32 := Scalar.subi v194 v196
  let v198 : BitVec 1 := Scalar.cmpi .ne v192 v197
  let v199 : BitVec 32 := Scalar.remsi v146 c32_i32_128
  let c0_i32_133 : BitVec 32 := 0#32
  let v200 : BitVec 1 := Scalar.cmpi .ne v199 c0_i32_133
  let v201 : BitVec 1 := Scalar.andi v198 v200
  let v187 : BitVec 32 := Scalar.divsi v146 c32_i32_128
  let c1_i32_134 : BitVec 32 := 1#32
  let v202 : BitVec 32 := Scalar.subi v187 c1_i32_134
  let v203 : BitVec 32 := Scalar.select v201 v202 v187
  let c32_i32_141 : BitVec 32 := 32#32
  let v213 : BitVec 32 := Scalar.muli v203 c32_i32_141
  let v568 : BitVec 32 := Scalar.addi v166 v213
  let c0_i32_142 : BitVec 32 := 0#32
  let c1_i32_145 : BitVec 32 := 1#32
  let arg9 : BitVec 32 := Scf.iv c0_i32_142 c1_i32_145 k1_t7
  let v569 : BitVec 32 := Scalar.addi v568 arg9
  let c0_i32_370 : BitVec 32 := 0#32
  let c0_i32_371 : BitVec 32 := 0#32
  ![v569.toNat, 0, 0]
def k1_dev10 (d0 : Dev nD) : Nat :=
  let c0_i32_367 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_86 : BitVec 32 := 2#32
  let v133 : BitVec 32 := Scalar.addi v2 c2_i32_86
  let c4_i32_87 : BitVec 32 := 4#32
  let c0_i32_88 : BitVec 32 := 0#32
  let v134 : BitVec 1 := Scalar.cmpi .eq c4_i32_87 c0_i32_88
  let c1_i32_89 : BitVec 32 := 1#32
  let v135 : BitVec 32 := Scalar.select v134 c1_i32_89 c4_i32_87
  let v136 : BitVec 32 := Scalar.remsi v133 v135
  let c0_i32_91 : BitVec 32 := 0#32
  let v138 : BitVec 1 := Scalar.cmpi .slt v136 c0_i32_91
  let c0_i32_92 : BitVec 32 := 0#32
  let v139 : BitVec 1 := Scalar.cmpi .slt v135 c0_i32_92
  let v140 : BitVec 1 := Scalar.xori v138 v139
  let c0_i32_90 : BitVec 32 := 0#32
  let v137 : BitVec 1 := Scalar.cmpi .ne v136 c0_i32_90
  let v141 : BitVec 1 := Scalar.andi v140 v137
  let v142 : BitVec 32 := Scalar.addi v136 v135
  let v143 : BitVec 32 := Scalar.select v141 v142 v136
  let c1_i32_366 : BitVec 32 := 1#32
  let v572 : BitVec 32 := Scalar.muli v143 c1_i32_366
  let v573 : BitVec 32 := Scalar.addi c0_i32_367 v572
  v573.toNat
@[reducible] def k1_t8_loop (v146 : BitVec 32) : Scf.Loop 32 :=
  let c0_i32_142 : BitVec 32 := 0#32
  let c0_i32_129 : BitVec 32 := 0#32
  let v188 : BitVec 1 := Scalar.cmpi .sgt v146 c0_i32_129
  let v189 : BitVec 32 := Scalar.extui v188
  let c0_i32_130 : BitVec 32 := 0#32
  let v190 : BitVec 1 := Scalar.cmpi .slt v146 c0_i32_130
  let v191 : BitVec 32 := Scalar.extui v190
  let v192 : BitVec 32 := Scalar.subi v189 v191
  let c32_i32_128 : BitVec 32 := 32#32
  let c0_i32_131 : BitVec 32 := 0#32
  let v193 : BitVec 1 := Scalar.cmpi .sgt c32_i32_128 c0_i32_131
  let v194 : BitVec 32 := Scalar.extui v193
  let c0_i32_132 : BitVec 32 := 0#32
  let v195 : BitVec 1 := Scalar.cmpi .slt c32_i32_128 c0_i32_132
  let v196 : BitVec 32 := Scalar.extui v195
  let v197 : BitVec 32 := Scalar.subi v194 v196
  let v198 : BitVec 1 := Scalar.cmpi .ne v192 v197
  let v199 : BitVec 32 := Scalar.remsi v146 c32_i32_128
  let c0_i32_133 : BitVec 32 := 0#32
  let v200 : BitVec 1 := Scalar.cmpi .ne v199 c0_i32_133
  let v201 : BitVec 1 := Scalar.andi v198 v200
  let v187 : BitVec 32 := Scalar.divsi v146 c32_i32_128
  let c1_i32_134 : BitVec 32 := 1#32
  let v202 : BitVec 32 := Scalar.subi v187 c1_i32_134
  let v203 : BitVec 32 := Scalar.select v201 v202 v187
  let c32_i32_135 : BitVec 32 := 32#32
  let v204 : BitVec 32 := Scalar.muli v203 c32_i32_135
  let v205 : BitVec 32 := Scalar.subi v146 v204
  let v214 : BitVec 32 := Scalar.subi v205 c0_i32_142
  let c1_i32_144 : BitVec 32 := 1#32
  let v216 : BitVec 32 := Scalar.divsi v214 c1_i32_144
  let v217 : BitVec 32 := Scalar.muli v216 c1_i32_144
  let v218 : BitVec 32 := Scalar.addi c0_i32_142 v217
  let v215 : BitVec 32 := Scalar.addi c0_i32_142 v214
  let c1_i32_146 : BitVec 32 := 1#32
  ⟨v218, v215, c1_i32_146⟩

def k1_chk4 (v146 : BitVec 32) : Prop :=
  ((k1_t5_loop v146).OK) ∧
  ((k1_t6_loop v146).OK) ∧
  ((k1_t7_loop v146).OK) ∧
  ((k1_t8_loop v146).OK)
theorem k1_t5_ok : ∀ (v146 : BitVec 32) (k1_hw4 : k1_chk4 v146), (k1_t5_loop v146).OK := fun v146 k1_hw4 => k1_hw4.1
theorem k1_t6_ok : ∀ (v146 : BitVec 32) (k1_hw4 : k1_chk4 v146), (k1_t6_loop v146).OK := fun v146 k1_hw4 => k1_hw4.2.1
theorem k1_t7_ok : ∀ (v146 : BitVec 32) (k1_hw4 : k1_chk4 v146), (k1_t7_loop v146).OK := fun v146 k1_hw4 => k1_hw4.2.2.1
theorem k1_t8_ok : ∀ (v146 : BitVec 32) (k1_hw4 : k1_chk4 v146), (k1_t8_loop v146).OK := fun v146 k1_hw4 => k1_hw4.2.2.2

def k1_off33 (d0 : Dev nD) (v146 : BitVec 32) (v169 : BitVec 32) (v174 : BitVec 32) (v179 : BitVec 32) (v184 : BitVec 32) (k1_t8 : Fin (k1_t8_loop v146).trips) : Fin 3 → Nat :=
  let c0_i32_115 : BitVec 32 := 0#32
  let c0_i32_111 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v167 : BitVec 1 := Scalar.cmpi .slt c0_i32_111 v2
  let c0_i32_114 : BitVec 32 := 0#32
  let v170 : BitVec 32 := Scalar.select v167 v169 c0_i32_114
  let v171 : BitVec 32 := Scalar.addi c0_i32_115 v170
  let c1_i32_116 : BitVec 32 := 1#32
  let v172 : BitVec 1 := Scalar.cmpi .slt c1_i32_116 v2
  let c0_i32_119 : BitVec 32 := 0#32
  let v175 : BitVec 32 := Scalar.select v172 v174 c0_i32_119
  let v176 : BitVec 32 := Scalar.addi v171 v175
  let c2_i32_120 : BitVec 32 := 2#32
  let v177 : BitVec 1 := Scalar.cmpi .slt c2_i32_120 v2
  let c0_i32_123 : BitVec 32 := 0#32
  let v180 : BitVec 32 := Scalar.select v177 v179 c0_i32_123
  let v181 : BitVec 32 := Scalar.addi v176 v180
  let c3_i32_124 : BitVec 32 := 3#32
  let v182 : BitVec 1 := Scalar.cmpi .slt c3_i32_124 v2
  let c0_i32_127 : BitVec 32 := 0#32
  let v185 : BitVec 32 := Scalar.select v182 v184 c0_i32_127
  let v186 : BitVec 32 := Scalar.addi v181 v185
  let c0_i32_129 : BitVec 32 := 0#32
  let v188 : BitVec 1 := Scalar.cmpi .sgt v146 c0_i32_129
  let v189 : BitVec 32 := Scalar.extui v188
  let c0_i32_130 : BitVec 32 := 0#32
  let v190 : BitVec 1 := Scalar.cmpi .slt v146 c0_i32_130
  let v191 : BitVec 32 := Scalar.extui v190
  let v192 : BitVec 32 := Scalar.subi v189 v191
  let c32_i32_128 : BitVec 32 := 32#32
  let c0_i32_131 : BitVec 32 := 0#32
  let v193 : BitVec 1 := Scalar.cmpi .sgt c32_i32_128 c0_i32_131
  let v194 : BitVec 32 := Scalar.extui v193
  let c0_i32_132 : BitVec 32 := 0#32
  let v195 : BitVec 1 := Scalar.cmpi .slt c32_i32_128 c0_i32_132
  let v196 : BitVec 32 := Scalar.extui v195
  let v197 : BitVec 32 := Scalar.subi v194 v196
  let v198 : BitVec 1 := Scalar.cmpi .ne v192 v197
  let v199 : BitVec 32 := Scalar.remsi v146 c32_i32_128
  let c0_i32_133 : BitVec 32 := 0#32
  let v200 : BitVec 1 := Scalar.cmpi .ne v199 c0_i32_133
  let v201 : BitVec 1 := Scalar.andi v198 v200
  let v187 : BitVec 32 := Scalar.divsi v146 c32_i32_128
  let c1_i32_134 : BitVec 32 := 1#32
  let v202 : BitVec 32 := Scalar.subi v187 c1_i32_134
  let v203 : BitVec 32 := Scalar.select v201 v202 v187
  let c32_i32_141 : BitVec 32 := 32#32
  let v213 : BitVec 32 := Scalar.muli v203 c32_i32_141
  let v570 : BitVec 32 := Scalar.addi v186 v213
  let c0_i32_142 : BitVec 32 := 0#32
  let c32_i32_135 : BitVec 32 := 32#32
  let v204 : BitVec 32 := Scalar.muli v203 c32_i32_135
  let v205 : BitVec 32 := Scalar.subi v146 v204
  let v214 : BitVec 32 := Scalar.subi v205 c0_i32_142
  let c1_i32_144 : BitVec 32 := 1#32
  let v216 : BitVec 32 := Scalar.divsi v214 c1_i32_144
  let v217 : BitVec 32 := Scalar.muli v216 c1_i32_144
  let v218 : BitVec 32 := Scalar.addi c0_i32_142 v217
  let c1_i32_146 : BitVec 32 := 1#32
  let arg9 : BitVec 32 := Scf.iv v218 c1_i32_146 k1_t8
  let v571 : BitVec 32 := Scalar.addi v570 arg9
  let c0_i32_368 : BitVec 32 := 0#32
  let c0_i32_369 : BitVec 32 := 0#32
  ![v571.toNat, 0, 0]
def k1_off34 (d0 : Dev nD) (v146 : BitVec 32) (v149 : BitVec 32) (v154 : BitVec 32) (v159 : BitVec 32) (v164 : BitVec 32) (k1_t8 : Fin (k1_t8_loop v146).trips) : Fin 3 → Nat :=
  let c0_i32_98 : BitVec 32 := 0#32
  let c0_i32_94 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_86 : BitVec 32 := 2#32
  let v133 : BitVec 32 := Scalar.addi v2 c2_i32_86
  let c4_i32_87 : BitVec 32 := 4#32
  let c0_i32_88 : BitVec 32 := 0#32
  let v134 : BitVec 1 := Scalar.cmpi .eq c4_i32_87 c0_i32_88
  let c1_i32_89 : BitVec 32 := 1#32
  let v135 : BitVec 32 := Scalar.select v134 c1_i32_89 c4_i32_87
  let v136 : BitVec 32 := Scalar.remsi v133 v135
  let c0_i32_91 : BitVec 32 := 0#32
  let v138 : BitVec 1 := Scalar.cmpi .slt v136 c0_i32_91
  let c0_i32_92 : BitVec 32 := 0#32
  let v139 : BitVec 1 := Scalar.cmpi .slt v135 c0_i32_92
  let v140 : BitVec 1 := Scalar.xori v138 v139
  let c0_i32_90 : BitVec 32 := 0#32
  let v137 : BitVec 1 := Scalar.cmpi .ne v136 c0_i32_90
  let v141 : BitVec 1 := Scalar.andi v140 v137
  let v142 : BitVec 32 := Scalar.addi v136 v135
  let v143 : BitVec 32 := Scalar.select v141 v142 v136
  let v147 : BitVec 1 := Scalar.cmpi .slt c0_i32_94 v143
  let c0_i32_97 : BitVec 32 := 0#32
  let v150 : BitVec 32 := Scalar.select v147 v149 c0_i32_97
  let v151 : BitVec 32 := Scalar.addi c0_i32_98 v150
  let c1_i32_99 : BitVec 32 := 1#32
  let v152 : BitVec 1 := Scalar.cmpi .slt c1_i32_99 v143
  let c0_i32_102 : BitVec 32 := 0#32
  let v155 : BitVec 32 := Scalar.select v152 v154 c0_i32_102
  let v156 : BitVec 32 := Scalar.addi v151 v155
  let c2_i32_103 : BitVec 32 := 2#32
  let v157 : BitVec 1 := Scalar.cmpi .slt c2_i32_103 v143
  let c0_i32_106 : BitVec 32 := 0#32
  let v160 : BitVec 32 := Scalar.select v157 v159 c0_i32_106
  let v161 : BitVec 32 := Scalar.addi v156 v160
  let c3_i32_107 : BitVec 32 := 3#32
  let v162 : BitVec 1 := Scalar.cmpi .slt c3_i32_107 v143
  let c0_i32_110 : BitVec 32 := 0#32
  let v165 : BitVec 32 := Scalar.select v162 v164 c0_i32_110
  let v166 : BitVec 32 := Scalar.addi v161 v165
  let c0_i32_129 : BitVec 32 := 0#32
  let v188 : BitVec 1 := Scalar.cmpi .sgt v146 c0_i32_129
  let v189 : BitVec 32 := Scalar.extui v188
  let c0_i32_130 : BitVec 32 := 0#32
  let v190 : BitVec 1 := Scalar.cmpi .slt v146 c0_i32_130
  let v191 : BitVec 32 := Scalar.extui v190
  let v192 : BitVec 32 := Scalar.subi v189 v191
  let c32_i32_128 : BitVec 32 := 32#32
  let c0_i32_131 : BitVec 32 := 0#32
  let v193 : BitVec 1 := Scalar.cmpi .sgt c32_i32_128 c0_i32_131
  let v194 : BitVec 32 := Scalar.extui v193
  let c0_i32_132 : BitVec 32 := 0#32
  let v195 : BitVec 1 := Scalar.cmpi .slt c32_i32_128 c0_i32_132
  let v196 : BitVec 32 := Scalar.extui v195
  let v197 : BitVec 32 := Scalar.subi v194 v196
  let v198 : BitVec 1 := Scalar.cmpi .ne v192 v197
  let v199 : BitVec 32 := Scalar.remsi v146 c32_i32_128
  let c0_i32_133 : BitVec 32 := 0#32
  let v200 : BitVec 1 := Scalar.cmpi .ne v199 c0_i32_133
  let v201 : BitVec 1 := Scalar.andi v198 v200
  let v187 : BitVec 32 := Scalar.divsi v146 c32_i32_128
  let c1_i32_134 : BitVec 32 := 1#32
  let v202 : BitVec 32 := Scalar.subi v187 c1_i32_134
  let v203 : BitVec 32 := Scalar.select v201 v202 v187
  let c32_i32_141 : BitVec 32 := 32#32
  let v213 : BitVec 32 := Scalar.muli v203 c32_i32_141
  let v568 : BitVec 32 := Scalar.addi v166 v213
  let c0_i32_142 : BitVec 32 := 0#32
  let c32_i32_135 : BitVec 32 := 32#32
  let v204 : BitVec 32 := Scalar.muli v203 c32_i32_135
  let v205 : BitVec 32 := Scalar.subi v146 v204
  let v214 : BitVec 32 := Scalar.subi v205 c0_i32_142
  let c1_i32_144 : BitVec 32 := 1#32
  let v216 : BitVec 32 := Scalar.divsi v214 c1_i32_144
  let v217 : BitVec 32 := Scalar.muli v216 c1_i32_144
  let v218 : BitVec 32 := Scalar.addi c0_i32_142 v217
  let c1_i32_146 : BitVec 32 := 1#32
  let arg9 : BitVec 32 := Scf.iv v218 c1_i32_146 k1_t8
  let v569 : BitVec 32 := Scalar.addi v568 arg9
  let c0_i32_370 : BitVec 32 := 0#32
  let c0_i32_371 : BitVec 32 := 0#32
  ![v569.toNat, 0, 0]

def k1_chk6 (d0 : Dev nD) (v146 : BitVec 32) (v149 : BitVec 32) (v154 : BitVec 32) (v159 : BitVec 32) (v164 : BitVec 32) : Prop :=
  (∀ k1_t5 : Fin (k1_t5_loop v146).trips, ∀ a, (k1_off28 d0 v146 v149 v154 v159 v164 k1_t5) a + S32x8x128.size a ≤ S4096x8x128.size a) ∧
  (∀ k1_t5 : Fin (k1_t5_loop v146).trips, ∀ (hinb : ∀ a, (k1_off28 d0 v146 v149 v154 v159 v164 k1_t5) a + S32x8x128.size a ≤ S4096x8x128.size a), (Rect.unit (s := S4096x8x128) (k1_off28 d0 v146 v149 v154 v159 v164 k1_t5) S32x8x128.size hinb).WholeWords (EltTy.packing .bf16)) ∧
  (∀ k1_t6 : Fin (k1_t6_loop v146).trips, ∀ a, (k1_off30 d0 v146 v149 v154 v159 v164 k1_t6) a + S32x8x128.size a ≤ S4096x8x128.size a) ∧
  (∀ k1_t6 : Fin (k1_t6_loop v146).trips, ∀ (hinb : ∀ a, (k1_off30 d0 v146 v149 v154 v159 v164 k1_t6) a + S32x8x128.size a ≤ S4096x8x128.size a), (Rect.unit (s := S4096x8x128) (k1_off30 d0 v146 v149 v154 v159 v164 k1_t6) S32x8x128.size hinb).WholeWords (EltTy.packing .bf16)) ∧
  (∀ k1_t7 : Fin (k1_t7_loop v146).trips, ∀ a, (k1_off32 d0 v146 v149 v154 v159 v164 k1_t7) a + S1x8x128.size a ≤ S4096x8x128.size a) ∧
  (∀ k1_t7 : Fin (k1_t7_loop v146).trips, ∀ (hinb : ∀ a, (k1_off32 d0 v146 v149 v154 v159 v164 k1_t7) a + S1x8x128.size a ≤ S4096x8x128.size a), (Rect.unit (s := S4096x8x128) (k1_off32 d0 v146 v149 v154 v159 v164 k1_t7) S1x8x128.size hinb).WholeWords (EltTy.packing .bf16)) ∧
  (∀ k1_t8 : Fin (k1_t8_loop v146).trips, ∀ a, (k1_off34 d0 v146 v149 v154 v159 v164 k1_t8) a + S1x8x128.size a ≤ S4096x8x128.size a) ∧
  (∀ k1_t8 : Fin (k1_t8_loop v146).trips, ∀ (hinb : ∀ a, (k1_off34 d0 v146 v149 v154 v159 v164 k1_t8) a + S1x8x128.size a ≤ S4096x8x128.size a), (Rect.unit (s := S4096x8x128) (k1_off34 d0 v146 v149 v154 v159 v164 k1_t8) S1x8x128.size hinb).WholeWords (EltTy.packing .bf16))
theorem k1_off28_inb : ∀ (d0 : Dev nD) (v146 : BitVec 32) (v149 : BitVec 32) (v154 : BitVec 32) (v159 : BitVec 32) (v164 : BitVec 32) (k1_hw6 : k1_chk6 d0 v146 v149 v154 v159 v164) (k1_t5 : Fin (k1_t5_loop v146).trips), ∀ a, (k1_off28 d0 v146 v149 v154 v159 v164 k1_t5) a + S32x8x128.size a ≤ S4096x8x128.size a := fun d0 v146 v149 v154 v159 v164 k1_hw6 k1_t5 => k1_hw6.1 k1_t5
theorem k1_off28_wordsbf16 : ∀ (d0 : Dev nD) (v146 : BitVec 32) (v149 : BitVec 32) (v154 : BitVec 32) (v159 : BitVec 32) (v164 : BitVec 32) (k1_hw6 : k1_chk6 d0 v146 v149 v154 v159 v164) (k1_t5 : Fin (k1_t5_loop v146).trips), (Rect.unit (s := S4096x8x128) (k1_off28 d0 v146 v149 v154 v159 v164 k1_t5) S32x8x128.size (k1_off28_inb d0 v146 v149 v154 v159 v164 k1_hw6 k1_t5)).WholeWords (EltTy.packing .bf16) := fun d0 v146 v149 v154 v159 v164 k1_hw6 k1_t5 => k1_hw6.2.1 k1_t5 (k1_off28_inb d0 v146 v149 v154 v159 v164 k1_hw6 k1_t5)
theorem k1_off30_inb : ∀ (d0 : Dev nD) (v146 : BitVec 32) (v149 : BitVec 32) (v154 : BitVec 32) (v159 : BitVec 32) (v164 : BitVec 32) (k1_hw6 : k1_chk6 d0 v146 v149 v154 v159 v164) (k1_t6 : Fin (k1_t6_loop v146).trips), ∀ a, (k1_off30 d0 v146 v149 v154 v159 v164 k1_t6) a + S32x8x128.size a ≤ S4096x8x128.size a := fun d0 v146 v149 v154 v159 v164 k1_hw6 k1_t6 => k1_hw6.2.2.1 k1_t6
theorem k1_off30_wordsbf16 : ∀ (d0 : Dev nD) (v146 : BitVec 32) (v149 : BitVec 32) (v154 : BitVec 32) (v159 : BitVec 32) (v164 : BitVec 32) (k1_hw6 : k1_chk6 d0 v146 v149 v154 v159 v164) (k1_t6 : Fin (k1_t6_loop v146).trips), (Rect.unit (s := S4096x8x128) (k1_off30 d0 v146 v149 v154 v159 v164 k1_t6) S32x8x128.size (k1_off30_inb d0 v146 v149 v154 v159 v164 k1_hw6 k1_t6)).WholeWords (EltTy.packing .bf16) := fun d0 v146 v149 v154 v159 v164 k1_hw6 k1_t6 => k1_hw6.2.2.2.1 k1_t6 (k1_off30_inb d0 v146 v149 v154 v159 v164 k1_hw6 k1_t6)
theorem k1_off32_inb : ∀ (d0 : Dev nD) (v146 : BitVec 32) (v149 : BitVec 32) (v154 : BitVec 32) (v159 : BitVec 32) (v164 : BitVec 32) (k1_hw6 : k1_chk6 d0 v146 v149 v154 v159 v164) (k1_t7 : Fin (k1_t7_loop v146).trips), ∀ a, (k1_off32 d0 v146 v149 v154 v159 v164 k1_t7) a + S1x8x128.size a ≤ S4096x8x128.size a := fun d0 v146 v149 v154 v159 v164 k1_hw6 k1_t7 => k1_hw6.2.2.2.2.1 k1_t7
theorem k1_off32_wordsbf16 : ∀ (d0 : Dev nD) (v146 : BitVec 32) (v149 : BitVec 32) (v154 : BitVec 32) (v159 : BitVec 32) (v164 : BitVec 32) (k1_hw6 : k1_chk6 d0 v146 v149 v154 v159 v164) (k1_t7 : Fin (k1_t7_loop v146).trips), (Rect.unit (s := S4096x8x128) (k1_off32 d0 v146 v149 v154 v159 v164 k1_t7) S1x8x128.size (k1_off32_inb d0 v146 v149 v154 v159 v164 k1_hw6 k1_t7)).WholeWords (EltTy.packing .bf16) := fun d0 v146 v149 v154 v159 v164 k1_hw6 k1_t7 => k1_hw6.2.2.2.2.2.1 k1_t7 (k1_off32_inb d0 v146 v149 v154 v159 v164 k1_hw6 k1_t7)
theorem k1_off34_inb : ∀ (d0 : Dev nD) (v146 : BitVec 32) (v149 : BitVec 32) (v154 : BitVec 32) (v159 : BitVec 32) (v164 : BitVec 32) (k1_hw6 : k1_chk6 d0 v146 v149 v154 v159 v164) (k1_t8 : Fin (k1_t8_loop v146).trips), ∀ a, (k1_off34 d0 v146 v149 v154 v159 v164 k1_t8) a + S1x8x128.size a ≤ S4096x8x128.size a := fun d0 v146 v149 v154 v159 v164 k1_hw6 k1_t8 => k1_hw6.2.2.2.2.2.2.1 k1_t8
theorem k1_off34_wordsbf16 : ∀ (d0 : Dev nD) (v146 : BitVec 32) (v149 : BitVec 32) (v154 : BitVec 32) (v159 : BitVec 32) (v164 : BitVec 32) (k1_hw6 : k1_chk6 d0 v146 v149 v154 v159 v164) (k1_t8 : Fin (k1_t8_loop v146).trips), (Rect.unit (s := S4096x8x128) (k1_off34 d0 v146 v149 v154 v159 v164 k1_t8) S1x8x128.size (k1_off34_inb d0 v146 v149 v154 v159 v164 k1_hw6 k1_t8)).WholeWords (EltTy.packing .bf16) := fun d0 v146 v149 v154 v159 v164 k1_hw6 k1_t8 => k1_hw6.2.2.2.2.2.2.2 k1_t8 (k1_off34_inb d0 v146 v149 v154 v159 v164 k1_hw6 k1_t8)

def k1_chk5 (d0 : Dev nD) (v146 : BitVec 32) (v169 : BitVec 32) (v174 : BitVec 32) (v179 : BitVec 32) (v184 : BitVec 32) : Prop :=
  (∀ k1_t5 : Fin (k1_t5_loop v146).trips, ∀ a, (k1_off27 d0 v146 v169 v174 v179 v184 k1_t5) a + S32x8x128.size a ≤ S4096x8x128.size a) ∧
  (∀ k1_t5 : Fin (k1_t5_loop v146).trips, ∀ (hinb : ∀ a, (k1_off27 d0 v146 v169 v174 v179 v184 k1_t5) a + S32x8x128.size a ≤ S4096x8x128.size a), (Rect.unit (s := S4096x8x128) (k1_off27 d0 v146 v169 v174 v179 v184 k1_t5) S32x8x128.size hinb).WholeWords (EltTy.packing .bf16)) ∧
  (∀ k1_t6 : Fin (k1_t6_loop v146).trips, ∀ a, (k1_off29 d0 v146 v169 v174 v179 v184 k1_t6) a + S32x8x128.size a ≤ S4096x8x128.size a) ∧
  (∀ k1_t6 : Fin (k1_t6_loop v146).trips, ∀ (hinb : ∀ a, (k1_off29 d0 v146 v169 v174 v179 v184 k1_t6) a + S32x8x128.size a ≤ S4096x8x128.size a), (Rect.unit (s := S4096x8x128) (k1_off29 d0 v146 v169 v174 v179 v184 k1_t6) S32x8x128.size hinb).WholeWords (EltTy.packing .bf16)) ∧
  (∀ k1_t7 : Fin (k1_t7_loop v146).trips, ∀ a, (k1_off31 d0 v146 v169 v174 v179 v184 k1_t7) a + S1x8x128.size a ≤ S4096x8x128.size a) ∧
  (∀ k1_t7 : Fin (k1_t7_loop v146).trips, ∀ (hinb : ∀ a, (k1_off31 d0 v146 v169 v174 v179 v184 k1_t7) a + S1x8x128.size a ≤ S4096x8x128.size a), (Rect.unit (s := S4096x8x128) (k1_off31 d0 v146 v169 v174 v179 v184 k1_t7) S1x8x128.size hinb).WholeWords (EltTy.packing .bf16)) ∧
  (∀ k1_t8 : Fin (k1_t8_loop v146).trips, ∀ a, (k1_off33 d0 v146 v169 v174 v179 v184 k1_t8) a + S1x8x128.size a ≤ S4096x8x128.size a) ∧
  (∀ k1_t8 : Fin (k1_t8_loop v146).trips, ∀ (hinb : ∀ a, (k1_off33 d0 v146 v169 v174 v179 v184 k1_t8) a + S1x8x128.size a ≤ S4096x8x128.size a), (Rect.unit (s := S4096x8x128) (k1_off33 d0 v146 v169 v174 v179 v184 k1_t8) S1x8x128.size hinb).WholeWords (EltTy.packing .bf16))
theorem k1_off27_inb : ∀ (d0 : Dev nD) (v146 : BitVec 32) (v169 : BitVec 32) (v174 : BitVec 32) (v179 : BitVec 32) (v184 : BitVec 32) (k1_hw5 : k1_chk5 d0 v146 v169 v174 v179 v184) (k1_t5 : Fin (k1_t5_loop v146).trips), ∀ a, (k1_off27 d0 v146 v169 v174 v179 v184 k1_t5) a + S32x8x128.size a ≤ S4096x8x128.size a := fun d0 v146 v169 v174 v179 v184 k1_hw5 k1_t5 => k1_hw5.1 k1_t5
theorem k1_off27_wordsbf16 : ∀ (d0 : Dev nD) (v146 : BitVec 32) (v169 : BitVec 32) (v174 : BitVec 32) (v179 : BitVec 32) (v184 : BitVec 32) (k1_hw5 : k1_chk5 d0 v146 v169 v174 v179 v184) (k1_t5 : Fin (k1_t5_loop v146).trips), (Rect.unit (s := S4096x8x128) (k1_off27 d0 v146 v169 v174 v179 v184 k1_t5) S32x8x128.size (k1_off27_inb d0 v146 v169 v174 v179 v184 k1_hw5 k1_t5)).WholeWords (EltTy.packing .bf16) := fun d0 v146 v169 v174 v179 v184 k1_hw5 k1_t5 => k1_hw5.2.1 k1_t5 (k1_off27_inb d0 v146 v169 v174 v179 v184 k1_hw5 k1_t5)
theorem k1_off29_inb : ∀ (d0 : Dev nD) (v146 : BitVec 32) (v169 : BitVec 32) (v174 : BitVec 32) (v179 : BitVec 32) (v184 : BitVec 32) (k1_hw5 : k1_chk5 d0 v146 v169 v174 v179 v184) (k1_t6 : Fin (k1_t6_loop v146).trips), ∀ a, (k1_off29 d0 v146 v169 v174 v179 v184 k1_t6) a + S32x8x128.size a ≤ S4096x8x128.size a := fun d0 v146 v169 v174 v179 v184 k1_hw5 k1_t6 => k1_hw5.2.2.1 k1_t6
theorem k1_off29_wordsbf16 : ∀ (d0 : Dev nD) (v146 : BitVec 32) (v169 : BitVec 32) (v174 : BitVec 32) (v179 : BitVec 32) (v184 : BitVec 32) (k1_hw5 : k1_chk5 d0 v146 v169 v174 v179 v184) (k1_t6 : Fin (k1_t6_loop v146).trips), (Rect.unit (s := S4096x8x128) (k1_off29 d0 v146 v169 v174 v179 v184 k1_t6) S32x8x128.size (k1_off29_inb d0 v146 v169 v174 v179 v184 k1_hw5 k1_t6)).WholeWords (EltTy.packing .bf16) := fun d0 v146 v169 v174 v179 v184 k1_hw5 k1_t6 => k1_hw5.2.2.2.1 k1_t6 (k1_off29_inb d0 v146 v169 v174 v179 v184 k1_hw5 k1_t6)
theorem k1_off31_inb : ∀ (d0 : Dev nD) (v146 : BitVec 32) (v169 : BitVec 32) (v174 : BitVec 32) (v179 : BitVec 32) (v184 : BitVec 32) (k1_hw5 : k1_chk5 d0 v146 v169 v174 v179 v184) (k1_t7 : Fin (k1_t7_loop v146).trips), ∀ a, (k1_off31 d0 v146 v169 v174 v179 v184 k1_t7) a + S1x8x128.size a ≤ S4096x8x128.size a := fun d0 v146 v169 v174 v179 v184 k1_hw5 k1_t7 => k1_hw5.2.2.2.2.1 k1_t7
theorem k1_off31_wordsbf16 : ∀ (d0 : Dev nD) (v146 : BitVec 32) (v169 : BitVec 32) (v174 : BitVec 32) (v179 : BitVec 32) (v184 : BitVec 32) (k1_hw5 : k1_chk5 d0 v146 v169 v174 v179 v184) (k1_t7 : Fin (k1_t7_loop v146).trips), (Rect.unit (s := S4096x8x128) (k1_off31 d0 v146 v169 v174 v179 v184 k1_t7) S1x8x128.size (k1_off31_inb d0 v146 v169 v174 v179 v184 k1_hw5 k1_t7)).WholeWords (EltTy.packing .bf16) := fun d0 v146 v169 v174 v179 v184 k1_hw5 k1_t7 => k1_hw5.2.2.2.2.2.1 k1_t7 (k1_off31_inb d0 v146 v169 v174 v179 v184 k1_hw5 k1_t7)
theorem k1_off33_inb : ∀ (d0 : Dev nD) (v146 : BitVec 32) (v169 : BitVec 32) (v174 : BitVec 32) (v179 : BitVec 32) (v184 : BitVec 32) (k1_hw5 : k1_chk5 d0 v146 v169 v174 v179 v184) (k1_t8 : Fin (k1_t8_loop v146).trips), ∀ a, (k1_off33 d0 v146 v169 v174 v179 v184 k1_t8) a + S1x8x128.size a ≤ S4096x8x128.size a := fun d0 v146 v169 v174 v179 v184 k1_hw5 k1_t8 => k1_hw5.2.2.2.2.2.2.1 k1_t8
theorem k1_off33_wordsbf16 : ∀ (d0 : Dev nD) (v146 : BitVec 32) (v169 : BitVec 32) (v174 : BitVec 32) (v179 : BitVec 32) (v184 : BitVec 32) (k1_hw5 : k1_chk5 d0 v146 v169 v174 v179 v184) (k1_t8 : Fin (k1_t8_loop v146).trips), (Rect.unit (s := S4096x8x128) (k1_off33 d0 v146 v169 v174 v179 v184 k1_t8) S1x8x128.size (k1_off33_inb d0 v146 v169 v174 v179 v184 k1_hw5 k1_t8)).WholeWords (EltTy.packing .bf16) := fun d0 v146 v169 v174 v179 v184 k1_hw5 k1_t8 => k1_hw5.2.2.2.2.2.2.2 k1_t8 (k1_off33_inb d0 v146 v169 v174 v179 v184 k1_hw5 k1_t8)

def k1_dev11 (d0 : Dev nD) : Nat :=
  let c0_i32_367 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_86 : BitVec 32 := 2#32
  let v133 : BitVec 32 := Scalar.addi v2 c2_i32_86
  let c4_i32_87 : BitVec 32 := 4#32
  let c0_i32_88 : BitVec 32 := 0#32
  let v134 : BitVec 1 := Scalar.cmpi .eq c4_i32_87 c0_i32_88
  let c1_i32_89 : BitVec 32 := 1#32
  let v135 : BitVec 32 := Scalar.select v134 c1_i32_89 c4_i32_87
  let v136 : BitVec 32 := Scalar.remsi v133 v135
  let c0_i32_91 : BitVec 32 := 0#32
  let v138 : BitVec 1 := Scalar.cmpi .slt v136 c0_i32_91
  let c0_i32_92 : BitVec 32 := 0#32
  let v139 : BitVec 1 := Scalar.cmpi .slt v135 c0_i32_92
  let v140 : BitVec 1 := Scalar.xori v138 v139
  let c0_i32_90 : BitVec 32 := 0#32
  let v137 : BitVec 1 := Scalar.cmpi .ne v136 c0_i32_90
  let v141 : BitVec 1 := Scalar.andi v140 v137
  let v142 : BitVec 32 := Scalar.addi v136 v135
  let v143 : BitVec 32 := Scalar.select v141 v142 v136
  let c1_i32_366 : BitVec 32 := 1#32
  let v572 : BitVec 32 := Scalar.muli v143 c1_i32_366
  let v573 : BitVec 32 := Scalar.addi c0_i32_367 v572
  v573.toNat
def k1_off35 (d0 : Dev nD) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v234 : Index := Scalar.indexCast v2
  let c0_154 : Index := 0#32
  let c3_i32_147 : BitVec 32 := 3#32
  let v223 : BitVec 32 := Scalar.addi v2 c3_i32_147
  let c4_i32_148 : BitVec 32 := 4#32
  let c0_i32_149 : BitVec 32 := 0#32
  let v224 : BitVec 1 := Scalar.cmpi .eq c4_i32_148 c0_i32_149
  let c1_i32_150 : BitVec 32 := 1#32
  let v225 : BitVec 32 := Scalar.select v224 c1_i32_150 c4_i32_148
  let v226 : BitVec 32 := Scalar.remsi v223 v225
  let c0_i32_152 : BitVec 32 := 0#32
  let v228 : BitVec 1 := Scalar.cmpi .slt v226 c0_i32_152
  let c0_i32_153 : BitVec 32 := 0#32
  let v229 : BitVec 1 := Scalar.cmpi .slt v225 c0_i32_153
  let v230 : BitVec 1 := Scalar.xori v228 v229
  let c0_i32_151 : BitVec 32 := 0#32
  let v227 : BitVec 1 := Scalar.cmpi .ne v226 c0_i32_151
  let v231 : BitVec 1 := Scalar.andi v230 v227
  let v232 : BitVec 32 := Scalar.addi v226 v225
  let v233 : BitVec 32 := Scalar.select v231 v232 v226
  let v235 : Index := Scalar.indexCast v233
  ![v234.toNat, 0, v235.toNat]
def k1_off36 (d0 : Dev nD) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v238 : Index := Scalar.indexCast v2
  let c0_156 : Index := 0#32
  let c0_157 : Index := 0#32
  ![v238.toNat, 0, 0]
def k1_off37 (d0 : Dev nD) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v243 : Index := Scalar.indexCast v2
  let c0_161 : Index := 0#32
  let c1_162 : Index := 1#32
  ![v243.toNat, 0, 1]
def k1_off38 (d0 : Dev nD) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v248 : Index := Scalar.indexCast v2
  let c0_165 : Index := 0#32
  let c2_166 : Index := 2#32
  ![v248.toNat, 0, 2]
def k1_off39 (d0 : Dev nD) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v253 : Index := Scalar.indexCast v2
  let c0_169 : Index := 0#32
  let c3_170 : Index := 3#32
  ![v253.toNat, 0, 3]
def k1_off40 (d0 : Dev nD) : Fin 3 → Nat :=
  let c0_173 : Index := 0#32
  let c0_174 : Index := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_147 : BitVec 32 := 3#32
  let v223 : BitVec 32 := Scalar.addi v2 c3_i32_147
  let c4_i32_148 : BitVec 32 := 4#32
  let c0_i32_149 : BitVec 32 := 0#32
  let v224 : BitVec 1 := Scalar.cmpi .eq c4_i32_148 c0_i32_149
  let c1_i32_150 : BitVec 32 := 1#32
  let v225 : BitVec 32 := Scalar.select v224 c1_i32_150 c4_i32_148
  let v226 : BitVec 32 := Scalar.remsi v223 v225
  let c0_i32_152 : BitVec 32 := 0#32
  let v228 : BitVec 1 := Scalar.cmpi .slt v226 c0_i32_152
  let c0_i32_153 : BitVec 32 := 0#32
  let v229 : BitVec 1 := Scalar.cmpi .slt v225 c0_i32_153
  let v230 : BitVec 1 := Scalar.xori v228 v229
  let c0_i32_151 : BitVec 32 := 0#32
  let v227 : BitVec 1 := Scalar.cmpi .ne v226 c0_i32_151
  let v231 : BitVec 1 := Scalar.andi v230 v227
  let v232 : BitVec 32 := Scalar.addi v226 v225
  let v233 : BitVec 32 := Scalar.select v231 v232 v226
  let v258 : Index := Scalar.indexCast v233
  ![0, 0, v258.toNat]
def k1_off41 (d0 : Dev nD) : Fin 3 → Nat :=
  let c1_178 : Index := 1#32
  let c0_179 : Index := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_147 : BitVec 32 := 3#32
  let v223 : BitVec 32 := Scalar.addi v2 c3_i32_147
  let c4_i32_148 : BitVec 32 := 4#32
  let c0_i32_149 : BitVec 32 := 0#32
  let v224 : BitVec 1 := Scalar.cmpi .eq c4_i32_148 c0_i32_149
  let c1_i32_150 : BitVec 32 := 1#32
  let v225 : BitVec 32 := Scalar.select v224 c1_i32_150 c4_i32_148
  let v226 : BitVec 32 := Scalar.remsi v223 v225
  let c0_i32_152 : BitVec 32 := 0#32
  let v228 : BitVec 1 := Scalar.cmpi .slt v226 c0_i32_152
  let c0_i32_153 : BitVec 32 := 0#32
  let v229 : BitVec 1 := Scalar.cmpi .slt v225 c0_i32_153
  let v230 : BitVec 1 := Scalar.xori v228 v229
  let c0_i32_151 : BitVec 32 := 0#32
  let v227 : BitVec 1 := Scalar.cmpi .ne v226 c0_i32_151
  let v231 : BitVec 1 := Scalar.andi v230 v227
  let v232 : BitVec 32 := Scalar.addi v226 v225
  let v233 : BitVec 32 := Scalar.select v231 v232 v226
  let v263 : Index := Scalar.indexCast v233
  ![1, 0, v263.toNat]
def k1_off42 (d0 : Dev nD) : Fin 3 → Nat :=
  let c2_182 : Index := 2#32
  let c0_183 : Index := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_147 : BitVec 32 := 3#32
  let v223 : BitVec 32 := Scalar.addi v2 c3_i32_147
  let c4_i32_148 : BitVec 32 := 4#32
  let c0_i32_149 : BitVec 32 := 0#32
  let v224 : BitVec 1 := Scalar.cmpi .eq c4_i32_148 c0_i32_149
  let c1_i32_150 : BitVec 32 := 1#32
  let v225 : BitVec 32 := Scalar.select v224 c1_i32_150 c4_i32_148
  let v226 : BitVec 32 := Scalar.remsi v223 v225
  let c0_i32_152 : BitVec 32 := 0#32
  let v228 : BitVec 1 := Scalar.cmpi .slt v226 c0_i32_152
  let c0_i32_153 : BitVec 32 := 0#32
  let v229 : BitVec 1 := Scalar.cmpi .slt v225 c0_i32_153
  let v230 : BitVec 1 := Scalar.xori v228 v229
  let c0_i32_151 : BitVec 32 := 0#32
  let v227 : BitVec 1 := Scalar.cmpi .ne v226 c0_i32_151
  let v231 : BitVec 1 := Scalar.andi v230 v227
  let v232 : BitVec 32 := Scalar.addi v226 v225
  let v233 : BitVec 32 := Scalar.select v231 v232 v226
  let v268 : Index := Scalar.indexCast v233
  ![2, 0, v268.toNat]
def k1_off43 (d0 : Dev nD) : Fin 3 → Nat :=
  let c3_186 : Index := 3#32
  let c0_187 : Index := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_147 : BitVec 32 := 3#32
  let v223 : BitVec 32 := Scalar.addi v2 c3_i32_147
  let c4_i32_148 : BitVec 32 := 4#32
  let c0_i32_149 : BitVec 32 := 0#32
  let v224 : BitVec 1 := Scalar.cmpi .eq c4_i32_148 c0_i32_149
  let c1_i32_150 : BitVec 32 := 1#32
  let v225 : BitVec 32 := Scalar.select v224 c1_i32_150 c4_i32_148
  let v226 : BitVec 32 := Scalar.remsi v223 v225
  let c0_i32_152 : BitVec 32 := 0#32
  let v228 : BitVec 1 := Scalar.cmpi .slt v226 c0_i32_152
  let c0_i32_153 : BitVec 32 := 0#32
  let v229 : BitVec 1 := Scalar.cmpi .slt v225 c0_i32_153
  let v230 : BitVec 1 := Scalar.xori v228 v229
  let c0_i32_151 : BitVec 32 := 0#32
  let v227 : BitVec 1 := Scalar.cmpi .ne v226 c0_i32_151
  let v231 : BitVec 1 := Scalar.andi v230 v227
  let v232 : BitVec 32 := Scalar.addi v226 v225
  let v233 : BitVec 32 := Scalar.select v231 v232 v226
  let v273 : Index := Scalar.indexCast v233
  ![3, 0, v273.toNat]
@[reducible] def k1_t9_loop (v236 : BitVec 32) : Scf.Loop 32 :=
  let c0_i32_197 : BitVec 32 := 0#32
  let c0_i32_190 : BitVec 32 := 0#32
  let v278 : BitVec 1 := Scalar.cmpi .sgt v236 c0_i32_190
  let v279 : BitVec 32 := Scalar.extui v278
  let c0_i32_191 : BitVec 32 := 0#32
  let v280 : BitVec 1 := Scalar.cmpi .slt v236 c0_i32_191
  let v281 : BitVec 32 := Scalar.extui v280
  let v282 : BitVec 32 := Scalar.subi v279 v281
  let c32_i32_189 : BitVec 32 := 32#32
  let c0_i32_192 : BitVec 32 := 0#32
  let v283 : BitVec 1 := Scalar.cmpi .sgt c32_i32_189 c0_i32_192
  let v284 : BitVec 32 := Scalar.extui v283
  let c0_i32_193 : BitVec 32 := 0#32
  let v285 : BitVec 1 := Scalar.cmpi .slt c32_i32_189 c0_i32_193
  let v286 : BitVec 32 := Scalar.extui v285
  let v287 : BitVec 32 := Scalar.subi v284 v286
  let v288 : BitVec 1 := Scalar.cmpi .ne v282 v287
  let v289 : BitVec 32 := Scalar.remsi v236 c32_i32_189
  let c0_i32_194 : BitVec 32 := 0#32
  let v290 : BitVec 1 := Scalar.cmpi .ne v289 c0_i32_194
  let v291 : BitVec 1 := Scalar.andi v288 v290
  let v277 : BitVec 32 := Scalar.divsi v236 c32_i32_189
  let c1_i32_195 : BitVec 32 := 1#32
  let v292 : BitVec 32 := Scalar.subi v277 c1_i32_195
  let v293 : BitVec 32 := Scalar.select v291 v292 v277
  let v296 : BitVec 32 := Scalar.subi v293 c0_i32_197
  let c1_i32_199 : BitVec 32 := 1#32
  let v298 : BitVec 32 := Scalar.divsi v296 c1_i32_199
  let v299 : BitVec 32 := Scalar.muli v298 c1_i32_199
  let v300 : BitVec 32 := Scalar.addi c0_i32_197 v299
  let c1_i32_200 : BitVec 32 := 1#32
  ⟨c0_i32_197, v300, c1_i32_200⟩

def k1_off44 (d0 : Dev nD) (v236 : BitVec 32) (v259 : BitVec 32) (v264 : BitVec 32) (v269 : BitVec 32) (v274 : BitVec 32) (k1_t9 : Fin (k1_t9_loop v236).trips) : Fin 3 → Nat :=
  let c0_i32_176 : BitVec 32 := 0#32
  let c0_i32_172 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v257 : BitVec 1 := Scalar.cmpi .slt c0_i32_172 v2
  let c0_i32_175 : BitVec 32 := 0#32
  let v260 : BitVec 32 := Scalar.select v257 v259 c0_i32_175
  let v261 : BitVec 32 := Scalar.addi c0_i32_176 v260
  let c1_i32_177 : BitVec 32 := 1#32
  let v262 : BitVec 1 := Scalar.cmpi .slt c1_i32_177 v2
  let c0_i32_180 : BitVec 32 := 0#32
  let v265 : BitVec 32 := Scalar.select v262 v264 c0_i32_180
  let v266 : BitVec 32 := Scalar.addi v261 v265
  let c2_i32_181 : BitVec 32 := 2#32
  let v267 : BitVec 1 := Scalar.cmpi .slt c2_i32_181 v2
  let c0_i32_184 : BitVec 32 := 0#32
  let v270 : BitVec 32 := Scalar.select v267 v269 c0_i32_184
  let v271 : BitVec 32 := Scalar.addi v266 v270
  let c3_i32_185 : BitVec 32 := 3#32
  let v272 : BitVec 1 := Scalar.cmpi .slt c3_i32_185 v2
  let c0_i32_188 : BitVec 32 := 0#32
  let v275 : BitVec 32 := Scalar.select v272 v274 c0_i32_188
  let v276 : BitVec 32 := Scalar.addi v271 v275
  let c0_i32_197 : BitVec 32 := 0#32
  let c1_i32_200 : BitVec 32 := 1#32
  let arg9 : BitVec 32 := Scf.iv c0_i32_197 c1_i32_200 k1_t9
  let c32_i32_367 : BitVec 32 := 32#32
  let v570 : BitVec 32 := Scalar.muli arg9 c32_i32_367
  let v571 : BitVec 32 := Scalar.addi v276 v570
  let c0_i32_370 : BitVec 32 := 0#32
  let c0_i32_371 : BitVec 32 := 0#32
  ![v571.toNat, 0, 0]

def k1_off45 (d0 : Dev nD) (v236 : BitVec 32) (v239 : BitVec 32) (v244 : BitVec 32) (v249 : BitVec 32) (v254 : BitVec 32) (k1_t9 : Fin (k1_t9_loop v236).trips) : Fin 3 → Nat :=
  let c0_i32_159 : BitVec 32 := 0#32
  let c0_i32_155 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_147 : BitVec 32 := 3#32
  let v223 : BitVec 32 := Scalar.addi v2 c3_i32_147
  let c4_i32_148 : BitVec 32 := 4#32
  let c0_i32_149 : BitVec 32 := 0#32
  let v224 : BitVec 1 := Scalar.cmpi .eq c4_i32_148 c0_i32_149
  let c1_i32_150 : BitVec 32 := 1#32
  let v225 : BitVec 32 := Scalar.select v224 c1_i32_150 c4_i32_148
  let v226 : BitVec 32 := Scalar.remsi v223 v225
  let c0_i32_152 : BitVec 32 := 0#32
  let v228 : BitVec 1 := Scalar.cmpi .slt v226 c0_i32_152
  let c0_i32_153 : BitVec 32 := 0#32
  let v229 : BitVec 1 := Scalar.cmpi .slt v225 c0_i32_153
  let v230 : BitVec 1 := Scalar.xori v228 v229
  let c0_i32_151 : BitVec 32 := 0#32
  let v227 : BitVec 1 := Scalar.cmpi .ne v226 c0_i32_151
  let v231 : BitVec 1 := Scalar.andi v230 v227
  let v232 : BitVec 32 := Scalar.addi v226 v225
  let v233 : BitVec 32 := Scalar.select v231 v232 v226
  let v237 : BitVec 1 := Scalar.cmpi .slt c0_i32_155 v233
  let c0_i32_158 : BitVec 32 := 0#32
  let v240 : BitVec 32 := Scalar.select v237 v239 c0_i32_158
  let v241 : BitVec 32 := Scalar.addi c0_i32_159 v240
  let c1_i32_160 : BitVec 32 := 1#32
  let v242 : BitVec 1 := Scalar.cmpi .slt c1_i32_160 v233
  let c0_i32_163 : BitVec 32 := 0#32
  let v245 : BitVec 32 := Scalar.select v242 v244 c0_i32_163
  let v246 : BitVec 32 := Scalar.addi v241 v245
  let c2_i32_164 : BitVec 32 := 2#32
  let v247 : BitVec 1 := Scalar.cmpi .slt c2_i32_164 v233
  let c0_i32_167 : BitVec 32 := 0#32
  let v250 : BitVec 32 := Scalar.select v247 v249 c0_i32_167
  let v251 : BitVec 32 := Scalar.addi v246 v250
  let c3_i32_168 : BitVec 32 := 3#32
  let v252 : BitVec 1 := Scalar.cmpi .slt c3_i32_168 v233
  let c0_i32_171 : BitVec 32 := 0#32
  let v255 : BitVec 32 := Scalar.select v252 v254 c0_i32_171
  let v256 : BitVec 32 := Scalar.addi v251 v255
  let c0_i32_197 : BitVec 32 := 0#32
  let c1_i32_200 : BitVec 32 := 1#32
  let arg9 : BitVec 32 := Scf.iv c0_i32_197 c1_i32_200 k1_t9
  let c32_i32_366 : BitVec 32 := 32#32
  let v568 : BitVec 32 := Scalar.muli arg9 c32_i32_366
  let v569 : BitVec 32 := Scalar.addi v256 v568
  let c0_i32_372 : BitVec 32 := 0#32
  let c0_i32_373 : BitVec 32 := 0#32
  ![v569.toNat, 0, 0]

def k1_dev12 (d0 : Dev nD) : Nat :=
  let c0_i32_369 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_147 : BitVec 32 := 3#32
  let v223 : BitVec 32 := Scalar.addi v2 c3_i32_147
  let c4_i32_148 : BitVec 32 := 4#32
  let c0_i32_149 : BitVec 32 := 0#32
  let v224 : BitVec 1 := Scalar.cmpi .eq c4_i32_148 c0_i32_149
  let c1_i32_150 : BitVec 32 := 1#32
  let v225 : BitVec 32 := Scalar.select v224 c1_i32_150 c4_i32_148
  let v226 : BitVec 32 := Scalar.remsi v223 v225
  let c0_i32_152 : BitVec 32 := 0#32
  let v228 : BitVec 1 := Scalar.cmpi .slt v226 c0_i32_152
  let c0_i32_153 : BitVec 32 := 0#32
  let v229 : BitVec 1 := Scalar.cmpi .slt v225 c0_i32_153
  let v230 : BitVec 1 := Scalar.xori v228 v229
  let c0_i32_151 : BitVec 32 := 0#32
  let v227 : BitVec 1 := Scalar.cmpi .ne v226 c0_i32_151
  let v231 : BitVec 1 := Scalar.andi v230 v227
  let v232 : BitVec 32 := Scalar.addi v226 v225
  let v233 : BitVec 32 := Scalar.select v231 v232 v226
  let c1_i32_368 : BitVec 32 := 1#32
  let v572 : BitVec 32 := Scalar.muli v233 c1_i32_368
  let v573 : BitVec 32 := Scalar.addi c0_i32_369 v572
  v573.toNat
@[reducible] def k1_t10_loop (v236 : BitVec 32) : Scf.Loop 32 :=
  let c0_i32_197 : BitVec 32 := 0#32
  let c0_i32_190 : BitVec 32 := 0#32
  let v278 : BitVec 1 := Scalar.cmpi .sgt v236 c0_i32_190
  let v279 : BitVec 32 := Scalar.extui v278
  let c0_i32_191 : BitVec 32 := 0#32
  let v280 : BitVec 1 := Scalar.cmpi .slt v236 c0_i32_191
  let v281 : BitVec 32 := Scalar.extui v280
  let v282 : BitVec 32 := Scalar.subi v279 v281
  let c32_i32_189 : BitVec 32 := 32#32
  let c0_i32_192 : BitVec 32 := 0#32
  let v283 : BitVec 1 := Scalar.cmpi .sgt c32_i32_189 c0_i32_192
  let v284 : BitVec 32 := Scalar.extui v283
  let c0_i32_193 : BitVec 32 := 0#32
  let v285 : BitVec 1 := Scalar.cmpi .slt c32_i32_189 c0_i32_193
  let v286 : BitVec 32 := Scalar.extui v285
  let v287 : BitVec 32 := Scalar.subi v284 v286
  let v288 : BitVec 1 := Scalar.cmpi .ne v282 v287
  let v289 : BitVec 32 := Scalar.remsi v236 c32_i32_189
  let c0_i32_194 : BitVec 32 := 0#32
  let v290 : BitVec 1 := Scalar.cmpi .ne v289 c0_i32_194
  let v291 : BitVec 1 := Scalar.andi v288 v290
  let v277 : BitVec 32 := Scalar.divsi v236 c32_i32_189
  let c1_i32_195 : BitVec 32 := 1#32
  let v292 : BitVec 32 := Scalar.subi v277 c1_i32_195
  let v293 : BitVec 32 := Scalar.select v291 v292 v277
  let v296 : BitVec 32 := Scalar.subi v293 c0_i32_197
  let c1_i32_199 : BitVec 32 := 1#32
  let v298 : BitVec 32 := Scalar.divsi v296 c1_i32_199
  let v299 : BitVec 32 := Scalar.muli v298 c1_i32_199
  let v300 : BitVec 32 := Scalar.addi c0_i32_197 v299
  let v297 : BitVec 32 := Scalar.addi c0_i32_197 v296
  let c1_i32_201 : BitVec 32 := 1#32
  ⟨v300, v297, c1_i32_201⟩
def k1_off46 (d0 : Dev nD) (v236 : BitVec 32) (v259 : BitVec 32) (v264 : BitVec 32) (v269 : BitVec 32) (v274 : BitVec 32) (k1_t10 : Fin (k1_t10_loop v236).trips) : Fin 3 → Nat :=
  let c0_i32_176 : BitVec 32 := 0#32
  let c0_i32_172 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v257 : BitVec 1 := Scalar.cmpi .slt c0_i32_172 v2
  let c0_i32_175 : BitVec 32 := 0#32
  let v260 : BitVec 32 := Scalar.select v257 v259 c0_i32_175
  let v261 : BitVec 32 := Scalar.addi c0_i32_176 v260
  let c1_i32_177 : BitVec 32 := 1#32
  let v262 : BitVec 1 := Scalar.cmpi .slt c1_i32_177 v2
  let c0_i32_180 : BitVec 32 := 0#32
  let v265 : BitVec 32 := Scalar.select v262 v264 c0_i32_180
  let v266 : BitVec 32 := Scalar.addi v261 v265
  let c2_i32_181 : BitVec 32 := 2#32
  let v267 : BitVec 1 := Scalar.cmpi .slt c2_i32_181 v2
  let c0_i32_184 : BitVec 32 := 0#32
  let v270 : BitVec 32 := Scalar.select v267 v269 c0_i32_184
  let v271 : BitVec 32 := Scalar.addi v266 v270
  let c3_i32_185 : BitVec 32 := 3#32
  let v272 : BitVec 1 := Scalar.cmpi .slt c3_i32_185 v2
  let c0_i32_188 : BitVec 32 := 0#32
  let v275 : BitVec 32 := Scalar.select v272 v274 c0_i32_188
  let v276 : BitVec 32 := Scalar.addi v271 v275
  let c0_i32_197 : BitVec 32 := 0#32
  let c0_i32_190 : BitVec 32 := 0#32
  let v278 : BitVec 1 := Scalar.cmpi .sgt v236 c0_i32_190
  let v279 : BitVec 32 := Scalar.extui v278
  let c0_i32_191 : BitVec 32 := 0#32
  let v280 : BitVec 1 := Scalar.cmpi .slt v236 c0_i32_191
  let v281 : BitVec 32 := Scalar.extui v280
  let v282 : BitVec 32 := Scalar.subi v279 v281
  let c32_i32_189 : BitVec 32 := 32#32
  let c0_i32_192 : BitVec 32 := 0#32
  let v283 : BitVec 1 := Scalar.cmpi .sgt c32_i32_189 c0_i32_192
  let v284 : BitVec 32 := Scalar.extui v283
  let c0_i32_193 : BitVec 32 := 0#32
  let v285 : BitVec 1 := Scalar.cmpi .slt c32_i32_189 c0_i32_193
  let v286 : BitVec 32 := Scalar.extui v285
  let v287 : BitVec 32 := Scalar.subi v284 v286
  let v288 : BitVec 1 := Scalar.cmpi .ne v282 v287
  let v289 : BitVec 32 := Scalar.remsi v236 c32_i32_189
  let c0_i32_194 : BitVec 32 := 0#32
  let v290 : BitVec 1 := Scalar.cmpi .ne v289 c0_i32_194
  let v291 : BitVec 1 := Scalar.andi v288 v290
  let v277 : BitVec 32 := Scalar.divsi v236 c32_i32_189
  let c1_i32_195 : BitVec 32 := 1#32
  let v292 : BitVec 32 := Scalar.subi v277 c1_i32_195
  let v293 : BitVec 32 := Scalar.select v291 v292 v277
  let v296 : BitVec 32 := Scalar.subi v293 c0_i32_197
  let c1_i32_199 : BitVec 32 := 1#32
  let v298 : BitVec 32 := Scalar.divsi v296 c1_i32_199
  let v299 : BitVec 32 := Scalar.muli v298 c1_i32_199
  let v300 : BitVec 32 := Scalar.addi c0_i32_197 v299
  let c1_i32_201 : BitVec 32 := 1#32
  let arg9 : BitVec 32 := Scf.iv v300 c1_i32_201 k1_t10
  let c32_i32_367 : BitVec 32 := 32#32
  let v570 : BitVec 32 := Scalar.muli arg9 c32_i32_367
  let v571 : BitVec 32 := Scalar.addi v276 v570
  let c0_i32_370 : BitVec 32 := 0#32
  let c0_i32_371 : BitVec 32 := 0#32
  ![v571.toNat, 0, 0]
def k1_off47 (d0 : Dev nD) (v236 : BitVec 32) (v239 : BitVec 32) (v244 : BitVec 32) (v249 : BitVec 32) (v254 : BitVec 32) (k1_t10 : Fin (k1_t10_loop v236).trips) : Fin 3 → Nat :=
  let c0_i32_159 : BitVec 32 := 0#32
  let c0_i32_155 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_147 : BitVec 32 := 3#32
  let v223 : BitVec 32 := Scalar.addi v2 c3_i32_147
  let c4_i32_148 : BitVec 32 := 4#32
  let c0_i32_149 : BitVec 32 := 0#32
  let v224 : BitVec 1 := Scalar.cmpi .eq c4_i32_148 c0_i32_149
  let c1_i32_150 : BitVec 32 := 1#32
  let v225 : BitVec 32 := Scalar.select v224 c1_i32_150 c4_i32_148
  let v226 : BitVec 32 := Scalar.remsi v223 v225
  let c0_i32_152 : BitVec 32 := 0#32
  let v228 : BitVec 1 := Scalar.cmpi .slt v226 c0_i32_152
  let c0_i32_153 : BitVec 32 := 0#32
  let v229 : BitVec 1 := Scalar.cmpi .slt v225 c0_i32_153
  let v230 : BitVec 1 := Scalar.xori v228 v229
  let c0_i32_151 : BitVec 32 := 0#32
  let v227 : BitVec 1 := Scalar.cmpi .ne v226 c0_i32_151
  let v231 : BitVec 1 := Scalar.andi v230 v227
  let v232 : BitVec 32 := Scalar.addi v226 v225
  let v233 : BitVec 32 := Scalar.select v231 v232 v226
  let v237 : BitVec 1 := Scalar.cmpi .slt c0_i32_155 v233
  let c0_i32_158 : BitVec 32 := 0#32
  let v240 : BitVec 32 := Scalar.select v237 v239 c0_i32_158
  let v241 : BitVec 32 := Scalar.addi c0_i32_159 v240
  let c1_i32_160 : BitVec 32 := 1#32
  let v242 : BitVec 1 := Scalar.cmpi .slt c1_i32_160 v233
  let c0_i32_163 : BitVec 32 := 0#32
  let v245 : BitVec 32 := Scalar.select v242 v244 c0_i32_163
  let v246 : BitVec 32 := Scalar.addi v241 v245
  let c2_i32_164 : BitVec 32 := 2#32
  let v247 : BitVec 1 := Scalar.cmpi .slt c2_i32_164 v233
  let c0_i32_167 : BitVec 32 := 0#32
  let v250 : BitVec 32 := Scalar.select v247 v249 c0_i32_167
  let v251 : BitVec 32 := Scalar.addi v246 v250
  let c3_i32_168 : BitVec 32 := 3#32
  let v252 : BitVec 1 := Scalar.cmpi .slt c3_i32_168 v233
  let c0_i32_171 : BitVec 32 := 0#32
  let v255 : BitVec 32 := Scalar.select v252 v254 c0_i32_171
  let v256 : BitVec 32 := Scalar.addi v251 v255
  let c0_i32_197 : BitVec 32 := 0#32
  let c0_i32_190 : BitVec 32 := 0#32
  let v278 : BitVec 1 := Scalar.cmpi .sgt v236 c0_i32_190
  let v279 : BitVec 32 := Scalar.extui v278
  let c0_i32_191 : BitVec 32 := 0#32
  let v280 : BitVec 1 := Scalar.cmpi .slt v236 c0_i32_191
  let v281 : BitVec 32 := Scalar.extui v280
  let v282 : BitVec 32 := Scalar.subi v279 v281
  let c32_i32_189 : BitVec 32 := 32#32
  let c0_i32_192 : BitVec 32 := 0#32
  let v283 : BitVec 1 := Scalar.cmpi .sgt c32_i32_189 c0_i32_192
  let v284 : BitVec 32 := Scalar.extui v283
  let c0_i32_193 : BitVec 32 := 0#32
  let v285 : BitVec 1 := Scalar.cmpi .slt c32_i32_189 c0_i32_193
  let v286 : BitVec 32 := Scalar.extui v285
  let v287 : BitVec 32 := Scalar.subi v284 v286
  let v288 : BitVec 1 := Scalar.cmpi .ne v282 v287
  let v289 : BitVec 32 := Scalar.remsi v236 c32_i32_189
  let c0_i32_194 : BitVec 32 := 0#32
  let v290 : BitVec 1 := Scalar.cmpi .ne v289 c0_i32_194
  let v291 : BitVec 1 := Scalar.andi v288 v290
  let v277 : BitVec 32 := Scalar.divsi v236 c32_i32_189
  let c1_i32_195 : BitVec 32 := 1#32
  let v292 : BitVec 32 := Scalar.subi v277 c1_i32_195
  let v293 : BitVec 32 := Scalar.select v291 v292 v277
  let v296 : BitVec 32 := Scalar.subi v293 c0_i32_197
  let c1_i32_199 : BitVec 32 := 1#32
  let v298 : BitVec 32 := Scalar.divsi v296 c1_i32_199
  let v299 : BitVec 32 := Scalar.muli v298 c1_i32_199
  let v300 : BitVec 32 := Scalar.addi c0_i32_197 v299
  let c1_i32_201 : BitVec 32 := 1#32
  let arg9 : BitVec 32 := Scf.iv v300 c1_i32_201 k1_t10
  let c32_i32_366 : BitVec 32 := 32#32
  let v568 : BitVec 32 := Scalar.muli arg9 c32_i32_366
  let v569 : BitVec 32 := Scalar.addi v256 v568
  let c0_i32_372 : BitVec 32 := 0#32
  let c0_i32_373 : BitVec 32 := 0#32
  ![v569.toNat, 0, 0]
def k1_dev13 (d0 : Dev nD) : Nat :=
  let c0_i32_369 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_147 : BitVec 32 := 3#32
  let v223 : BitVec 32 := Scalar.addi v2 c3_i32_147
  let c4_i32_148 : BitVec 32 := 4#32
  let c0_i32_149 : BitVec 32 := 0#32
  let v224 : BitVec 1 := Scalar.cmpi .eq c4_i32_148 c0_i32_149
  let c1_i32_150 : BitVec 32 := 1#32
  let v225 : BitVec 32 := Scalar.select v224 c1_i32_150 c4_i32_148
  let v226 : BitVec 32 := Scalar.remsi v223 v225
  let c0_i32_152 : BitVec 32 := 0#32
  let v228 : BitVec 1 := Scalar.cmpi .slt v226 c0_i32_152
  let c0_i32_153 : BitVec 32 := 0#32
  let v229 : BitVec 1 := Scalar.cmpi .slt v225 c0_i32_153
  let v230 : BitVec 1 := Scalar.xori v228 v229
  let c0_i32_151 : BitVec 32 := 0#32
  let v227 : BitVec 1 := Scalar.cmpi .ne v226 c0_i32_151
  let v231 : BitVec 1 := Scalar.andi v230 v227
  let v232 : BitVec 32 := Scalar.addi v226 v225
  let v233 : BitVec 32 := Scalar.select v231 v232 v226
  let c1_i32_368 : BitVec 32 := 1#32
  let v572 : BitVec 32 := Scalar.muli v233 c1_i32_368
  let v573 : BitVec 32 := Scalar.addi c0_i32_369 v572
  v573.toNat
@[reducible] def k1_t11_loop (v236 : BitVec 32) : Scf.Loop 32 :=
  let c0_i32_203 : BitVec 32 := 0#32
  let c0_i32_190 : BitVec 32 := 0#32
  let v278 : BitVec 1 := Scalar.cmpi .sgt v236 c0_i32_190
  let v279 : BitVec 32 := Scalar.extui v278
  let c0_i32_191 : BitVec 32 := 0#32
  let v280 : BitVec 1 := Scalar.cmpi .slt v236 c0_i32_191
  let v281 : BitVec 32 := Scalar.extui v280
  let v282 : BitVec 32 := Scalar.subi v279 v281
  let c32_i32_189 : BitVec 32 := 32#32
  let c0_i32_192 : BitVec 32 := 0#32
  let v283 : BitVec 1 := Scalar.cmpi .sgt c32_i32_189 c0_i32_192
  let v284 : BitVec 32 := Scalar.extui v283
  let c0_i32_193 : BitVec 32 := 0#32
  let v285 : BitVec 1 := Scalar.cmpi .slt c32_i32_189 c0_i32_193
  let v286 : BitVec 32 := Scalar.extui v285
  let v287 : BitVec 32 := Scalar.subi v284 v286
  let v288 : BitVec 1 := Scalar.cmpi .ne v282 v287
  let v289 : BitVec 32 := Scalar.remsi v236 c32_i32_189
  let c0_i32_194 : BitVec 32 := 0#32
  let v290 : BitVec 1 := Scalar.cmpi .ne v289 c0_i32_194
  let v291 : BitVec 1 := Scalar.andi v288 v290
  let v277 : BitVec 32 := Scalar.divsi v236 c32_i32_189
  let c1_i32_195 : BitVec 32 := 1#32
  let v292 : BitVec 32 := Scalar.subi v277 c1_i32_195
  let v293 : BitVec 32 := Scalar.select v291 v292 v277
  let c32_i32_196 : BitVec 32 := 32#32
  let v294 : BitVec 32 := Scalar.muli v293 c32_i32_196
  let v295 : BitVec 32 := Scalar.subi v236 v294
  let v304 : BitVec 32 := Scalar.subi v295 c0_i32_203
  let c1_i32_205 : BitVec 32 := 1#32
  let v306 : BitVec 32 := Scalar.divsi v304 c1_i32_205
  let v307 : BitVec 32 := Scalar.muli v306 c1_i32_205
  let v308 : BitVec 32 := Scalar.addi c0_i32_203 v307
  let c1_i32_206 : BitVec 32 := 1#32
  ⟨c0_i32_203, v308, c1_i32_206⟩
def k1_off48 (d0 : Dev nD) (v236 : BitVec 32) (v259 : BitVec 32) (v264 : BitVec 32) (v269 : BitVec 32) (v274 : BitVec 32) (k1_t11 : Fin (k1_t11_loop v236).trips) : Fin 3 → Nat :=
  let c0_i32_176 : BitVec 32 := 0#32
  let c0_i32_172 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v257 : BitVec 1 := Scalar.cmpi .slt c0_i32_172 v2
  let c0_i32_175 : BitVec 32 := 0#32
  let v260 : BitVec 32 := Scalar.select v257 v259 c0_i32_175
  let v261 : BitVec 32 := Scalar.addi c0_i32_176 v260
  let c1_i32_177 : BitVec 32 := 1#32
  let v262 : BitVec 1 := Scalar.cmpi .slt c1_i32_177 v2
  let c0_i32_180 : BitVec 32 := 0#32
  let v265 : BitVec 32 := Scalar.select v262 v264 c0_i32_180
  let v266 : BitVec 32 := Scalar.addi v261 v265
  let c2_i32_181 : BitVec 32 := 2#32
  let v267 : BitVec 1 := Scalar.cmpi .slt c2_i32_181 v2
  let c0_i32_184 : BitVec 32 := 0#32
  let v270 : BitVec 32 := Scalar.select v267 v269 c0_i32_184
  let v271 : BitVec 32 := Scalar.addi v266 v270
  let c3_i32_185 : BitVec 32 := 3#32
  let v272 : BitVec 1 := Scalar.cmpi .slt c3_i32_185 v2
  let c0_i32_188 : BitVec 32 := 0#32
  let v275 : BitVec 32 := Scalar.select v272 v274 c0_i32_188
  let v276 : BitVec 32 := Scalar.addi v271 v275
  let c0_i32_190 : BitVec 32 := 0#32
  let v278 : BitVec 1 := Scalar.cmpi .sgt v236 c0_i32_190
  let v279 : BitVec 32 := Scalar.extui v278
  let c0_i32_191 : BitVec 32 := 0#32
  let v280 : BitVec 1 := Scalar.cmpi .slt v236 c0_i32_191
  let v281 : BitVec 32 := Scalar.extui v280
  let v282 : BitVec 32 := Scalar.subi v279 v281
  let c32_i32_189 : BitVec 32 := 32#32
  let c0_i32_192 : BitVec 32 := 0#32
  let v283 : BitVec 1 := Scalar.cmpi .sgt c32_i32_189 c0_i32_192
  let v284 : BitVec 32 := Scalar.extui v283
  let c0_i32_193 : BitVec 32 := 0#32
  let v285 : BitVec 1 := Scalar.cmpi .slt c32_i32_189 c0_i32_193
  let v286 : BitVec 32 := Scalar.extui v285
  let v287 : BitVec 32 := Scalar.subi v284 v286
  let v288 : BitVec 1 := Scalar.cmpi .ne v282 v287
  let v289 : BitVec 32 := Scalar.remsi v236 c32_i32_189
  let c0_i32_194 : BitVec 32 := 0#32
  let v290 : BitVec 1 := Scalar.cmpi .ne v289 c0_i32_194
  let v291 : BitVec 1 := Scalar.andi v288 v290
  let v277 : BitVec 32 := Scalar.divsi v236 c32_i32_189
  let c1_i32_195 : BitVec 32 := 1#32
  let v292 : BitVec 32 := Scalar.subi v277 c1_i32_195
  let v293 : BitVec 32 := Scalar.select v291 v292 v277
  let c32_i32_202 : BitVec 32 := 32#32
  let v303 : BitVec 32 := Scalar.muli v293 c32_i32_202
  let v570 : BitVec 32 := Scalar.addi v276 v303
  let c0_i32_203 : BitVec 32 := 0#32
  let c1_i32_206 : BitVec 32 := 1#32
  let arg9 : BitVec 32 := Scf.iv c0_i32_203 c1_i32_206 k1_t11
  let v571 : BitVec 32 := Scalar.addi v570 arg9
  let c0_i32_368 : BitVec 32 := 0#32
  let c0_i32_369 : BitVec 32 := 0#32
  ![v571.toNat, 0, 0]
def k1_off49 (d0 : Dev nD) (v236 : BitVec 32) (v239 : BitVec 32) (v244 : BitVec 32) (v249 : BitVec 32) (v254 : BitVec 32) (k1_t11 : Fin (k1_t11_loop v236).trips) : Fin 3 → Nat :=
  let c0_i32_159 : BitVec 32 := 0#32
  let c0_i32_155 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_147 : BitVec 32 := 3#32
  let v223 : BitVec 32 := Scalar.addi v2 c3_i32_147
  let c4_i32_148 : BitVec 32 := 4#32
  let c0_i32_149 : BitVec 32 := 0#32
  let v224 : BitVec 1 := Scalar.cmpi .eq c4_i32_148 c0_i32_149
  let c1_i32_150 : BitVec 32 := 1#32
  let v225 : BitVec 32 := Scalar.select v224 c1_i32_150 c4_i32_148
  let v226 : BitVec 32 := Scalar.remsi v223 v225
  let c0_i32_152 : BitVec 32 := 0#32
  let v228 : BitVec 1 := Scalar.cmpi .slt v226 c0_i32_152
  let c0_i32_153 : BitVec 32 := 0#32
  let v229 : BitVec 1 := Scalar.cmpi .slt v225 c0_i32_153
  let v230 : BitVec 1 := Scalar.xori v228 v229
  let c0_i32_151 : BitVec 32 := 0#32
  let v227 : BitVec 1 := Scalar.cmpi .ne v226 c0_i32_151
  let v231 : BitVec 1 := Scalar.andi v230 v227
  let v232 : BitVec 32 := Scalar.addi v226 v225
  let v233 : BitVec 32 := Scalar.select v231 v232 v226
  let v237 : BitVec 1 := Scalar.cmpi .slt c0_i32_155 v233
  let c0_i32_158 : BitVec 32 := 0#32
  let v240 : BitVec 32 := Scalar.select v237 v239 c0_i32_158
  let v241 : BitVec 32 := Scalar.addi c0_i32_159 v240
  let c1_i32_160 : BitVec 32 := 1#32
  let v242 : BitVec 1 := Scalar.cmpi .slt c1_i32_160 v233
  let c0_i32_163 : BitVec 32 := 0#32
  let v245 : BitVec 32 := Scalar.select v242 v244 c0_i32_163
  let v246 : BitVec 32 := Scalar.addi v241 v245
  let c2_i32_164 : BitVec 32 := 2#32
  let v247 : BitVec 1 := Scalar.cmpi .slt c2_i32_164 v233
  let c0_i32_167 : BitVec 32 := 0#32
  let v250 : BitVec 32 := Scalar.select v247 v249 c0_i32_167
  let v251 : BitVec 32 := Scalar.addi v246 v250
  let c3_i32_168 : BitVec 32 := 3#32
  let v252 : BitVec 1 := Scalar.cmpi .slt c3_i32_168 v233
  let c0_i32_171 : BitVec 32 := 0#32
  let v255 : BitVec 32 := Scalar.select v252 v254 c0_i32_171
  let v256 : BitVec 32 := Scalar.addi v251 v255
  let c0_i32_190 : BitVec 32 := 0#32
  let v278 : BitVec 1 := Scalar.cmpi .sgt v236 c0_i32_190
  let v279 : BitVec 32 := Scalar.extui v278
  let c0_i32_191 : BitVec 32 := 0#32
  let v280 : BitVec 1 := Scalar.cmpi .slt v236 c0_i32_191
  let v281 : BitVec 32 := Scalar.extui v280
  let v282 : BitVec 32 := Scalar.subi v279 v281
  let c32_i32_189 : BitVec 32 := 32#32
  let c0_i32_192 : BitVec 32 := 0#32
  let v283 : BitVec 1 := Scalar.cmpi .sgt c32_i32_189 c0_i32_192
  let v284 : BitVec 32 := Scalar.extui v283
  let c0_i32_193 : BitVec 32 := 0#32
  let v285 : BitVec 1 := Scalar.cmpi .slt c32_i32_189 c0_i32_193
  let v286 : BitVec 32 := Scalar.extui v285
  let v287 : BitVec 32 := Scalar.subi v284 v286
  let v288 : BitVec 1 := Scalar.cmpi .ne v282 v287
  let v289 : BitVec 32 := Scalar.remsi v236 c32_i32_189
  let c0_i32_194 : BitVec 32 := 0#32
  let v290 : BitVec 1 := Scalar.cmpi .ne v289 c0_i32_194
  let v291 : BitVec 1 := Scalar.andi v288 v290
  let v277 : BitVec 32 := Scalar.divsi v236 c32_i32_189
  let c1_i32_195 : BitVec 32 := 1#32
  let v292 : BitVec 32 := Scalar.subi v277 c1_i32_195
  let v293 : BitVec 32 := Scalar.select v291 v292 v277
  let c32_i32_202 : BitVec 32 := 32#32
  let v303 : BitVec 32 := Scalar.muli v293 c32_i32_202
  let v568 : BitVec 32 := Scalar.addi v256 v303
  let c0_i32_203 : BitVec 32 := 0#32
  let c1_i32_206 : BitVec 32 := 1#32
  let arg9 : BitVec 32 := Scf.iv c0_i32_203 c1_i32_206 k1_t11
  let v569 : BitVec 32 := Scalar.addi v568 arg9
  let c0_i32_370 : BitVec 32 := 0#32
  let c0_i32_371 : BitVec 32 := 0#32
  ![v569.toNat, 0, 0]
def k1_dev14 (d0 : Dev nD) : Nat :=
  let c0_i32_367 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_147 : BitVec 32 := 3#32
  let v223 : BitVec 32 := Scalar.addi v2 c3_i32_147
  let c4_i32_148 : BitVec 32 := 4#32
  let c0_i32_149 : BitVec 32 := 0#32
  let v224 : BitVec 1 := Scalar.cmpi .eq c4_i32_148 c0_i32_149
  let c1_i32_150 : BitVec 32 := 1#32
  let v225 : BitVec 32 := Scalar.select v224 c1_i32_150 c4_i32_148
  let v226 : BitVec 32 := Scalar.remsi v223 v225
  let c0_i32_152 : BitVec 32 := 0#32
  let v228 : BitVec 1 := Scalar.cmpi .slt v226 c0_i32_152
  let c0_i32_153 : BitVec 32 := 0#32
  let v229 : BitVec 1 := Scalar.cmpi .slt v225 c0_i32_153
  let v230 : BitVec 1 := Scalar.xori v228 v229
  let c0_i32_151 : BitVec 32 := 0#32
  let v227 : BitVec 1 := Scalar.cmpi .ne v226 c0_i32_151
  let v231 : BitVec 1 := Scalar.andi v230 v227
  let v232 : BitVec 32 := Scalar.addi v226 v225
  let v233 : BitVec 32 := Scalar.select v231 v232 v226
  let c1_i32_366 : BitVec 32 := 1#32
  let v572 : BitVec 32 := Scalar.muli v233 c1_i32_366
  let v573 : BitVec 32 := Scalar.addi c0_i32_367 v572
  v573.toNat
@[reducible] def k1_t12_loop (v236 : BitVec 32) : Scf.Loop 32 :=
  let c0_i32_203 : BitVec 32 := 0#32
  let c0_i32_190 : BitVec 32 := 0#32
  let v278 : BitVec 1 := Scalar.cmpi .sgt v236 c0_i32_190
  let v279 : BitVec 32 := Scalar.extui v278
  let c0_i32_191 : BitVec 32 := 0#32
  let v280 : BitVec 1 := Scalar.cmpi .slt v236 c0_i32_191
  let v281 : BitVec 32 := Scalar.extui v280
  let v282 : BitVec 32 := Scalar.subi v279 v281
  let c32_i32_189 : BitVec 32 := 32#32
  let c0_i32_192 : BitVec 32 := 0#32
  let v283 : BitVec 1 := Scalar.cmpi .sgt c32_i32_189 c0_i32_192
  let v284 : BitVec 32 := Scalar.extui v283
  let c0_i32_193 : BitVec 32 := 0#32
  let v285 : BitVec 1 := Scalar.cmpi .slt c32_i32_189 c0_i32_193
  let v286 : BitVec 32 := Scalar.extui v285
  let v287 : BitVec 32 := Scalar.subi v284 v286
  let v288 : BitVec 1 := Scalar.cmpi .ne v282 v287
  let v289 : BitVec 32 := Scalar.remsi v236 c32_i32_189
  let c0_i32_194 : BitVec 32 := 0#32
  let v290 : BitVec 1 := Scalar.cmpi .ne v289 c0_i32_194
  let v291 : BitVec 1 := Scalar.andi v288 v290
  let v277 : BitVec 32 := Scalar.divsi v236 c32_i32_189
  let c1_i32_195 : BitVec 32 := 1#32
  let v292 : BitVec 32 := Scalar.subi v277 c1_i32_195
  let v293 : BitVec 32 := Scalar.select v291 v292 v277
  let c32_i32_196 : BitVec 32 := 32#32
  let v294 : BitVec 32 := Scalar.muli v293 c32_i32_196
  let v295 : BitVec 32 := Scalar.subi v236 v294
  let v304 : BitVec 32 := Scalar.subi v295 c0_i32_203
  let c1_i32_205 : BitVec 32 := 1#32
  let v306 : BitVec 32 := Scalar.divsi v304 c1_i32_205
  let v307 : BitVec 32 := Scalar.muli v306 c1_i32_205
  let v308 : BitVec 32 := Scalar.addi c0_i32_203 v307
  let v305 : BitVec 32 := Scalar.addi c0_i32_203 v304
  let c1_i32_207 : BitVec 32 := 1#32
  ⟨v308, v305, c1_i32_207⟩
def k1_off50 (d0 : Dev nD) (v236 : BitVec 32) (v259 : BitVec 32) (v264 : BitVec 32) (v269 : BitVec 32) (v274 : BitVec 32) (k1_t12 : Fin (k1_t12_loop v236).trips) : Fin 3 → Nat :=
  let c0_i32_176 : BitVec 32 := 0#32
  let c0_i32_172 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v257 : BitVec 1 := Scalar.cmpi .slt c0_i32_172 v2
  let c0_i32_175 : BitVec 32 := 0#32
  let v260 : BitVec 32 := Scalar.select v257 v259 c0_i32_175
  let v261 : BitVec 32 := Scalar.addi c0_i32_176 v260
  let c1_i32_177 : BitVec 32 := 1#32
  let v262 : BitVec 1 := Scalar.cmpi .slt c1_i32_177 v2
  let c0_i32_180 : BitVec 32 := 0#32
  let v265 : BitVec 32 := Scalar.select v262 v264 c0_i32_180
  let v266 : BitVec 32 := Scalar.addi v261 v265
  let c2_i32_181 : BitVec 32 := 2#32
  let v267 : BitVec 1 := Scalar.cmpi .slt c2_i32_181 v2
  let c0_i32_184 : BitVec 32 := 0#32
  let v270 : BitVec 32 := Scalar.select v267 v269 c0_i32_184
  let v271 : BitVec 32 := Scalar.addi v266 v270
  let c3_i32_185 : BitVec 32 := 3#32
  let v272 : BitVec 1 := Scalar.cmpi .slt c3_i32_185 v2
  let c0_i32_188 : BitVec 32 := 0#32
  let v275 : BitVec 32 := Scalar.select v272 v274 c0_i32_188
  let v276 : BitVec 32 := Scalar.addi v271 v275
  let c0_i32_190 : BitVec 32 := 0#32
  let v278 : BitVec 1 := Scalar.cmpi .sgt v236 c0_i32_190
  let v279 : BitVec 32 := Scalar.extui v278
  let c0_i32_191 : BitVec 32 := 0#32
  let v280 : BitVec 1 := Scalar.cmpi .slt v236 c0_i32_191
  let v281 : BitVec 32 := Scalar.extui v280
  let v282 : BitVec 32 := Scalar.subi v279 v281
  let c32_i32_189 : BitVec 32 := 32#32
  let c0_i32_192 : BitVec 32 := 0#32
  let v283 : BitVec 1 := Scalar.cmpi .sgt c32_i32_189 c0_i32_192
  let v284 : BitVec 32 := Scalar.extui v283
  let c0_i32_193 : BitVec 32 := 0#32
  let v285 : BitVec 1 := Scalar.cmpi .slt c32_i32_189 c0_i32_193
  let v286 : BitVec 32 := Scalar.extui v285
  let v287 : BitVec 32 := Scalar.subi v284 v286
  let v288 : BitVec 1 := Scalar.cmpi .ne v282 v287
  let v289 : BitVec 32 := Scalar.remsi v236 c32_i32_189
  let c0_i32_194 : BitVec 32 := 0#32
  let v290 : BitVec 1 := Scalar.cmpi .ne v289 c0_i32_194
  let v291 : BitVec 1 := Scalar.andi v288 v290
  let v277 : BitVec 32 := Scalar.divsi v236 c32_i32_189
  let c1_i32_195 : BitVec 32 := 1#32
  let v292 : BitVec 32 := Scalar.subi v277 c1_i32_195
  let v293 : BitVec 32 := Scalar.select v291 v292 v277
  let c32_i32_202 : BitVec 32 := 32#32
  let v303 : BitVec 32 := Scalar.muli v293 c32_i32_202
  let v570 : BitVec 32 := Scalar.addi v276 v303
  let c0_i32_203 : BitVec 32 := 0#32
  let c32_i32_196 : BitVec 32 := 32#32
  let v294 : BitVec 32 := Scalar.muli v293 c32_i32_196
  let v295 : BitVec 32 := Scalar.subi v236 v294
  let v304 : BitVec 32 := Scalar.subi v295 c0_i32_203
  let c1_i32_205 : BitVec 32 := 1#32
  let v306 : BitVec 32 := Scalar.divsi v304 c1_i32_205
  let v307 : BitVec 32 := Scalar.muli v306 c1_i32_205
  let v308 : BitVec 32 := Scalar.addi c0_i32_203 v307
  let c1_i32_207 : BitVec 32 := 1#32
  let arg9 : BitVec 32 := Scf.iv v308 c1_i32_207 k1_t12
  let v571 : BitVec 32 := Scalar.addi v570 arg9
  let c0_i32_368 : BitVec 32 := 0#32
  let c0_i32_369 : BitVec 32 := 0#32
  ![v571.toNat, 0, 0]
def k1_off51 (d0 : Dev nD) (v236 : BitVec 32) (v239 : BitVec 32) (v244 : BitVec 32) (v249 : BitVec 32) (v254 : BitVec 32) (k1_t12 : Fin (k1_t12_loop v236).trips) : Fin 3 → Nat :=
  let c0_i32_159 : BitVec 32 := 0#32
  let c0_i32_155 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_147 : BitVec 32 := 3#32
  let v223 : BitVec 32 := Scalar.addi v2 c3_i32_147
  let c4_i32_148 : BitVec 32 := 4#32
  let c0_i32_149 : BitVec 32 := 0#32
  let v224 : BitVec 1 := Scalar.cmpi .eq c4_i32_148 c0_i32_149
  let c1_i32_150 : BitVec 32 := 1#32
  let v225 : BitVec 32 := Scalar.select v224 c1_i32_150 c4_i32_148
  let v226 : BitVec 32 := Scalar.remsi v223 v225
  let c0_i32_152 : BitVec 32 := 0#32
  let v228 : BitVec 1 := Scalar.cmpi .slt v226 c0_i32_152
  let c0_i32_153 : BitVec 32 := 0#32
  let v229 : BitVec 1 := Scalar.cmpi .slt v225 c0_i32_153
  let v230 : BitVec 1 := Scalar.xori v228 v229
  let c0_i32_151 : BitVec 32 := 0#32
  let v227 : BitVec 1 := Scalar.cmpi .ne v226 c0_i32_151
  let v231 : BitVec 1 := Scalar.andi v230 v227
  let v232 : BitVec 32 := Scalar.addi v226 v225
  let v233 : BitVec 32 := Scalar.select v231 v232 v226
  let v237 : BitVec 1 := Scalar.cmpi .slt c0_i32_155 v233
  let c0_i32_158 : BitVec 32 := 0#32
  let v240 : BitVec 32 := Scalar.select v237 v239 c0_i32_158
  let v241 : BitVec 32 := Scalar.addi c0_i32_159 v240
  let c1_i32_160 : BitVec 32 := 1#32
  let v242 : BitVec 1 := Scalar.cmpi .slt c1_i32_160 v233
  let c0_i32_163 : BitVec 32 := 0#32
  let v245 : BitVec 32 := Scalar.select v242 v244 c0_i32_163
  let v246 : BitVec 32 := Scalar.addi v241 v245
  let c2_i32_164 : BitVec 32 := 2#32
  let v247 : BitVec 1 := Scalar.cmpi .slt c2_i32_164 v233
  let c0_i32_167 : BitVec 32 := 0#32
  let v250 : BitVec 32 := Scalar.select v247 v249 c0_i32_167
  let v251 : BitVec 32 := Scalar.addi v246 v250
  let c3_i32_168 : BitVec 32 := 3#32
  let v252 : BitVec 1 := Scalar.cmpi .slt c3_i32_168 v233
  let c0_i32_171 : BitVec 32 := 0#32
  let v255 : BitVec 32 := Scalar.select v252 v254 c0_i32_171
  let v256 : BitVec 32 := Scalar.addi v251 v255
  let c0_i32_190 : BitVec 32 := 0#32
  let v278 : BitVec 1 := Scalar.cmpi .sgt v236 c0_i32_190
  let v279 : BitVec 32 := Scalar.extui v278
  let c0_i32_191 : BitVec 32 := 0#32
  let v280 : BitVec 1 := Scalar.cmpi .slt v236 c0_i32_191
  let v281 : BitVec 32 := Scalar.extui v280
  let v282 : BitVec 32 := Scalar.subi v279 v281
  let c32_i32_189 : BitVec 32 := 32#32
  let c0_i32_192 : BitVec 32 := 0#32
  let v283 : BitVec 1 := Scalar.cmpi .sgt c32_i32_189 c0_i32_192
  let v284 : BitVec 32 := Scalar.extui v283
  let c0_i32_193 : BitVec 32 := 0#32
  let v285 : BitVec 1 := Scalar.cmpi .slt c32_i32_189 c0_i32_193
  let v286 : BitVec 32 := Scalar.extui v285
  let v287 : BitVec 32 := Scalar.subi v284 v286
  let v288 : BitVec 1 := Scalar.cmpi .ne v282 v287
  let v289 : BitVec 32 := Scalar.remsi v236 c32_i32_189
  let c0_i32_194 : BitVec 32 := 0#32
  let v290 : BitVec 1 := Scalar.cmpi .ne v289 c0_i32_194
  let v291 : BitVec 1 := Scalar.andi v288 v290
  let v277 : BitVec 32 := Scalar.divsi v236 c32_i32_189
  let c1_i32_195 : BitVec 32 := 1#32
  let v292 : BitVec 32 := Scalar.subi v277 c1_i32_195
  let v293 : BitVec 32 := Scalar.select v291 v292 v277
  let c32_i32_202 : BitVec 32 := 32#32
  let v303 : BitVec 32 := Scalar.muli v293 c32_i32_202
  let v568 : BitVec 32 := Scalar.addi v256 v303
  let c0_i32_203 : BitVec 32 := 0#32
  let c32_i32_196 : BitVec 32 := 32#32
  let v294 : BitVec 32 := Scalar.muli v293 c32_i32_196
  let v295 : BitVec 32 := Scalar.subi v236 v294
  let v304 : BitVec 32 := Scalar.subi v295 c0_i32_203
  let c1_i32_205 : BitVec 32 := 1#32
  let v306 : BitVec 32 := Scalar.divsi v304 c1_i32_205
  let v307 : BitVec 32 := Scalar.muli v306 c1_i32_205
  let v308 : BitVec 32 := Scalar.addi c0_i32_203 v307
  let c1_i32_207 : BitVec 32 := 1#32
  let arg9 : BitVec 32 := Scf.iv v308 c1_i32_207 k1_t12
  let v569 : BitVec 32 := Scalar.addi v568 arg9
  let c0_i32_370 : BitVec 32 := 0#32
  let c0_i32_371 : BitVec 32 := 0#32
  ![v569.toNat, 0, 0]

def k1_chk9 (d0 : Dev nD) (v236 : BitVec 32) (v239 : BitVec 32) (v244 : BitVec 32) (v249 : BitVec 32) (v254 : BitVec 32) : Prop :=
  (∀ k1_t9 : Fin (k1_t9_loop v236).trips, ∀ a, (k1_off45 d0 v236 v239 v244 v249 v254 k1_t9) a + S32x8x128.size a ≤ S4096x8x128.size a) ∧
  (∀ k1_t9 : Fin (k1_t9_loop v236).trips, ∀ (hinb : ∀ a, (k1_off45 d0 v236 v239 v244 v249 v254 k1_t9) a + S32x8x128.size a ≤ S4096x8x128.size a), (Rect.unit (s := S4096x8x128) (k1_off45 d0 v236 v239 v244 v249 v254 k1_t9) S32x8x128.size hinb).WholeWords (EltTy.packing .bf16)) ∧
  (∀ k1_t10 : Fin (k1_t10_loop v236).trips, ∀ a, (k1_off47 d0 v236 v239 v244 v249 v254 k1_t10) a + S32x8x128.size a ≤ S4096x8x128.size a) ∧
  (∀ k1_t10 : Fin (k1_t10_loop v236).trips, ∀ (hinb : ∀ a, (k1_off47 d0 v236 v239 v244 v249 v254 k1_t10) a + S32x8x128.size a ≤ S4096x8x128.size a), (Rect.unit (s := S4096x8x128) (k1_off47 d0 v236 v239 v244 v249 v254 k1_t10) S32x8x128.size hinb).WholeWords (EltTy.packing .bf16)) ∧
  (∀ k1_t11 : Fin (k1_t11_loop v236).trips, ∀ a, (k1_off49 d0 v236 v239 v244 v249 v254 k1_t11) a + S1x8x128.size a ≤ S4096x8x128.size a) ∧
  (∀ k1_t11 : Fin (k1_t11_loop v236).trips, ∀ (hinb : ∀ a, (k1_off49 d0 v236 v239 v244 v249 v254 k1_t11) a + S1x8x128.size a ≤ S4096x8x128.size a), (Rect.unit (s := S4096x8x128) (k1_off49 d0 v236 v239 v244 v249 v254 k1_t11) S1x8x128.size hinb).WholeWords (EltTy.packing .bf16)) ∧
  (∀ k1_t12 : Fin (k1_t12_loop v236).trips, ∀ a, (k1_off51 d0 v236 v239 v244 v249 v254 k1_t12) a + S1x8x128.size a ≤ S4096x8x128.size a) ∧
  (∀ k1_t12 : Fin (k1_t12_loop v236).trips, ∀ (hinb : ∀ a, (k1_off51 d0 v236 v239 v244 v249 v254 k1_t12) a + S1x8x128.size a ≤ S4096x8x128.size a), (Rect.unit (s := S4096x8x128) (k1_off51 d0 v236 v239 v244 v249 v254 k1_t12) S1x8x128.size hinb).WholeWords (EltTy.packing .bf16))
theorem k1_off45_inb : ∀ (d0 : Dev nD) (v236 : BitVec 32) (v239 : BitVec 32) (v244 : BitVec 32) (v249 : BitVec 32) (v254 : BitVec 32) (k1_hw9 : k1_chk9 d0 v236 v239 v244 v249 v254) (k1_t9 : Fin (k1_t9_loop v236).trips), ∀ a, (k1_off45 d0 v236 v239 v244 v249 v254 k1_t9) a + S32x8x128.size a ≤ S4096x8x128.size a := fun d0 v236 v239 v244 v249 v254 k1_hw9 k1_t9 => k1_hw9.1 k1_t9
theorem k1_off45_wordsbf16 : ∀ (d0 : Dev nD) (v236 : BitVec 32) (v239 : BitVec 32) (v244 : BitVec 32) (v249 : BitVec 32) (v254 : BitVec 32) (k1_hw9 : k1_chk9 d0 v236 v239 v244 v249 v254) (k1_t9 : Fin (k1_t9_loop v236).trips), (Rect.unit (s := S4096x8x128) (k1_off45 d0 v236 v239 v244 v249 v254 k1_t9) S32x8x128.size (k1_off45_inb d0 v236 v239 v244 v249 v254 k1_hw9 k1_t9)).WholeWords (EltTy.packing .bf16) := fun d0 v236 v239 v244 v249 v254 k1_hw9 k1_t9 => k1_hw9.2.1 k1_t9 (k1_off45_inb d0 v236 v239 v244 v249 v254 k1_hw9 k1_t9)
theorem k1_off47_inb : ∀ (d0 : Dev nD) (v236 : BitVec 32) (v239 : BitVec 32) (v244 : BitVec 32) (v249 : BitVec 32) (v254 : BitVec 32) (k1_hw9 : k1_chk9 d0 v236 v239 v244 v249 v254) (k1_t10 : Fin (k1_t10_loop v236).trips), ∀ a, (k1_off47 d0 v236 v239 v244 v249 v254 k1_t10) a + S32x8x128.size a ≤ S4096x8x128.size a := fun d0 v236 v239 v244 v249 v254 k1_hw9 k1_t10 => k1_hw9.2.2.1 k1_t10
theorem k1_off47_wordsbf16 : ∀ (d0 : Dev nD) (v236 : BitVec 32) (v239 : BitVec 32) (v244 : BitVec 32) (v249 : BitVec 32) (v254 : BitVec 32) (k1_hw9 : k1_chk9 d0 v236 v239 v244 v249 v254) (k1_t10 : Fin (k1_t10_loop v236).trips), (Rect.unit (s := S4096x8x128) (k1_off47 d0 v236 v239 v244 v249 v254 k1_t10) S32x8x128.size (k1_off47_inb d0 v236 v239 v244 v249 v254 k1_hw9 k1_t10)).WholeWords (EltTy.packing .bf16) := fun d0 v236 v239 v244 v249 v254 k1_hw9 k1_t10 => k1_hw9.2.2.2.1 k1_t10 (k1_off47_inb d0 v236 v239 v244 v249 v254 k1_hw9 k1_t10)
theorem k1_off49_inb : ∀ (d0 : Dev nD) (v236 : BitVec 32) (v239 : BitVec 32) (v244 : BitVec 32) (v249 : BitVec 32) (v254 : BitVec 32) (k1_hw9 : k1_chk9 d0 v236 v239 v244 v249 v254) (k1_t11 : Fin (k1_t11_loop v236).trips), ∀ a, (k1_off49 d0 v236 v239 v244 v249 v254 k1_t11) a + S1x8x128.size a ≤ S4096x8x128.size a := fun d0 v236 v239 v244 v249 v254 k1_hw9 k1_t11 => k1_hw9.2.2.2.2.1 k1_t11
theorem k1_off49_wordsbf16 : ∀ (d0 : Dev nD) (v236 : BitVec 32) (v239 : BitVec 32) (v244 : BitVec 32) (v249 : BitVec 32) (v254 : BitVec 32) (k1_hw9 : k1_chk9 d0 v236 v239 v244 v249 v254) (k1_t11 : Fin (k1_t11_loop v236).trips), (Rect.unit (s := S4096x8x128) (k1_off49 d0 v236 v239 v244 v249 v254 k1_t11) S1x8x128.size (k1_off49_inb d0 v236 v239 v244 v249 v254 k1_hw9 k1_t11)).WholeWords (EltTy.packing .bf16) := fun d0 v236 v239 v244 v249 v254 k1_hw9 k1_t11 => k1_hw9.2.2.2.2.2.1 k1_t11 (k1_off49_inb d0 v236 v239 v244 v249 v254 k1_hw9 k1_t11)
theorem k1_off51_inb : ∀ (d0 : Dev nD) (v236 : BitVec 32) (v239 : BitVec 32) (v244 : BitVec 32) (v249 : BitVec 32) (v254 : BitVec 32) (k1_hw9 : k1_chk9 d0 v236 v239 v244 v249 v254) (k1_t12 : Fin (k1_t12_loop v236).trips), ∀ a, (k1_off51 d0 v236 v239 v244 v249 v254 k1_t12) a + S1x8x128.size a ≤ S4096x8x128.size a := fun d0 v236 v239 v244 v249 v254 k1_hw9 k1_t12 => k1_hw9.2.2.2.2.2.2.1 k1_t12
theorem k1_off51_wordsbf16 : ∀ (d0 : Dev nD) (v236 : BitVec 32) (v239 : BitVec 32) (v244 : BitVec 32) (v249 : BitVec 32) (v254 : BitVec 32) (k1_hw9 : k1_chk9 d0 v236 v239 v244 v249 v254) (k1_t12 : Fin (k1_t12_loop v236).trips), (Rect.unit (s := S4096x8x128) (k1_off51 d0 v236 v239 v244 v249 v254 k1_t12) S1x8x128.size (k1_off51_inb d0 v236 v239 v244 v249 v254 k1_hw9 k1_t12)).WholeWords (EltTy.packing .bf16) := fun d0 v236 v239 v244 v249 v254 k1_hw9 k1_t12 => k1_hw9.2.2.2.2.2.2.2 k1_t12 (k1_off51_inb d0 v236 v239 v244 v249 v254 k1_hw9 k1_t12)

def k1_chk8 (d0 : Dev nD) (v236 : BitVec 32) (v259 : BitVec 32) (v264 : BitVec 32) (v269 : BitVec 32) (v274 : BitVec 32) : Prop :=
  (∀ k1_t9 : Fin (k1_t9_loop v236).trips, ∀ a, (k1_off44 d0 v236 v259 v264 v269 v274 k1_t9) a + S32x8x128.size a ≤ S4096x8x128.size a) ∧
  (∀ k1_t9 : Fin (k1_t9_loop v236).trips, ∀ (hinb : ∀ a, (k1_off44 d0 v236 v259 v264 v269 v274 k1_t9) a + S32x8x128.size a ≤ S4096x8x128.size a), (Rect.unit (s := S4096x8x128) (k1_off44 d0 v236 v259 v264 v269 v274 k1_t9) S32x8x128.size hinb).WholeWords (EltTy.packing .bf16)) ∧
  (∀ k1_t10 : Fin (k1_t10_loop v236).trips, ∀ a, (k1_off46 d0 v236 v259 v264 v269 v274 k1_t10) a + S32x8x128.size a ≤ S4096x8x128.size a) ∧
  (∀ k1_t10 : Fin (k1_t10_loop v236).trips, ∀ (hinb : ∀ a, (k1_off46 d0 v236 v259 v264 v269 v274 k1_t10) a + S32x8x128.size a ≤ S4096x8x128.size a), (Rect.unit (s := S4096x8x128) (k1_off46 d0 v236 v259 v264 v269 v274 k1_t10) S32x8x128.size hinb).WholeWords (EltTy.packing .bf16)) ∧
  (∀ k1_t11 : Fin (k1_t11_loop v236).trips, ∀ a, (k1_off48 d0 v236 v259 v264 v269 v274 k1_t11) a + S1x8x128.size a ≤ S4096x8x128.size a) ∧
  (∀ k1_t11 : Fin (k1_t11_loop v236).trips, ∀ (hinb : ∀ a, (k1_off48 d0 v236 v259 v264 v269 v274 k1_t11) a + S1x8x128.size a ≤ S4096x8x128.size a), (Rect.unit (s := S4096x8x128) (k1_off48 d0 v236 v259 v264 v269 v274 k1_t11) S1x8x128.size hinb).WholeWords (EltTy.packing .bf16)) ∧
  (∀ k1_t12 : Fin (k1_t12_loop v236).trips, ∀ a, (k1_off50 d0 v236 v259 v264 v269 v274 k1_t12) a + S1x8x128.size a ≤ S4096x8x128.size a) ∧
  (∀ k1_t12 : Fin (k1_t12_loop v236).trips, ∀ (hinb : ∀ a, (k1_off50 d0 v236 v259 v264 v269 v274 k1_t12) a + S1x8x128.size a ≤ S4096x8x128.size a), (Rect.unit (s := S4096x8x128) (k1_off50 d0 v236 v259 v264 v269 v274 k1_t12) S1x8x128.size hinb).WholeWords (EltTy.packing .bf16))
theorem k1_off44_inb : ∀ (d0 : Dev nD) (v236 : BitVec 32) (v259 : BitVec 32) (v264 : BitVec 32) (v269 : BitVec 32) (v274 : BitVec 32) (k1_hw8 : k1_chk8 d0 v236 v259 v264 v269 v274) (k1_t9 : Fin (k1_t9_loop v236).trips), ∀ a, (k1_off44 d0 v236 v259 v264 v269 v274 k1_t9) a + S32x8x128.size a ≤ S4096x8x128.size a := fun d0 v236 v259 v264 v269 v274 k1_hw8 k1_t9 => k1_hw8.1 k1_t9
theorem k1_off44_wordsbf16 : ∀ (d0 : Dev nD) (v236 : BitVec 32) (v259 : BitVec 32) (v264 : BitVec 32) (v269 : BitVec 32) (v274 : BitVec 32) (k1_hw8 : k1_chk8 d0 v236 v259 v264 v269 v274) (k1_t9 : Fin (k1_t9_loop v236).trips), (Rect.unit (s := S4096x8x128) (k1_off44 d0 v236 v259 v264 v269 v274 k1_t9) S32x8x128.size (k1_off44_inb d0 v236 v259 v264 v269 v274 k1_hw8 k1_t9)).WholeWords (EltTy.packing .bf16) := fun d0 v236 v259 v264 v269 v274 k1_hw8 k1_t9 => k1_hw8.2.1 k1_t9 (k1_off44_inb d0 v236 v259 v264 v269 v274 k1_hw8 k1_t9)
theorem k1_off46_inb : ∀ (d0 : Dev nD) (v236 : BitVec 32) (v259 : BitVec 32) (v264 : BitVec 32) (v269 : BitVec 32) (v274 : BitVec 32) (k1_hw8 : k1_chk8 d0 v236 v259 v264 v269 v274) (k1_t10 : Fin (k1_t10_loop v236).trips), ∀ a, (k1_off46 d0 v236 v259 v264 v269 v274 k1_t10) a + S32x8x128.size a ≤ S4096x8x128.size a := fun d0 v236 v259 v264 v269 v274 k1_hw8 k1_t10 => k1_hw8.2.2.1 k1_t10
theorem k1_off46_wordsbf16 : ∀ (d0 : Dev nD) (v236 : BitVec 32) (v259 : BitVec 32) (v264 : BitVec 32) (v269 : BitVec 32) (v274 : BitVec 32) (k1_hw8 : k1_chk8 d0 v236 v259 v264 v269 v274) (k1_t10 : Fin (k1_t10_loop v236).trips), (Rect.unit (s := S4096x8x128) (k1_off46 d0 v236 v259 v264 v269 v274 k1_t10) S32x8x128.size (k1_off46_inb d0 v236 v259 v264 v269 v274 k1_hw8 k1_t10)).WholeWords (EltTy.packing .bf16) := fun d0 v236 v259 v264 v269 v274 k1_hw8 k1_t10 => k1_hw8.2.2.2.1 k1_t10 (k1_off46_inb d0 v236 v259 v264 v269 v274 k1_hw8 k1_t10)
theorem k1_off48_inb : ∀ (d0 : Dev nD) (v236 : BitVec 32) (v259 : BitVec 32) (v264 : BitVec 32) (v269 : BitVec 32) (v274 : BitVec 32) (k1_hw8 : k1_chk8 d0 v236 v259 v264 v269 v274) (k1_t11 : Fin (k1_t11_loop v236).trips), ∀ a, (k1_off48 d0 v236 v259 v264 v269 v274 k1_t11) a + S1x8x128.size a ≤ S4096x8x128.size a := fun d0 v236 v259 v264 v269 v274 k1_hw8 k1_t11 => k1_hw8.2.2.2.2.1 k1_t11
theorem k1_off48_wordsbf16 : ∀ (d0 : Dev nD) (v236 : BitVec 32) (v259 : BitVec 32) (v264 : BitVec 32) (v269 : BitVec 32) (v274 : BitVec 32) (k1_hw8 : k1_chk8 d0 v236 v259 v264 v269 v274) (k1_t11 : Fin (k1_t11_loop v236).trips), (Rect.unit (s := S4096x8x128) (k1_off48 d0 v236 v259 v264 v269 v274 k1_t11) S1x8x128.size (k1_off48_inb d0 v236 v259 v264 v269 v274 k1_hw8 k1_t11)).WholeWords (EltTy.packing .bf16) := fun d0 v236 v259 v264 v269 v274 k1_hw8 k1_t11 => k1_hw8.2.2.2.2.2.1 k1_t11 (k1_off48_inb d0 v236 v259 v264 v269 v274 k1_hw8 k1_t11)
theorem k1_off50_inb : ∀ (d0 : Dev nD) (v236 : BitVec 32) (v259 : BitVec 32) (v264 : BitVec 32) (v269 : BitVec 32) (v274 : BitVec 32) (k1_hw8 : k1_chk8 d0 v236 v259 v264 v269 v274) (k1_t12 : Fin (k1_t12_loop v236).trips), ∀ a, (k1_off50 d0 v236 v259 v264 v269 v274 k1_t12) a + S1x8x128.size a ≤ S4096x8x128.size a := fun d0 v236 v259 v264 v269 v274 k1_hw8 k1_t12 => k1_hw8.2.2.2.2.2.2.1 k1_t12
theorem k1_off50_wordsbf16 : ∀ (d0 : Dev nD) (v236 : BitVec 32) (v259 : BitVec 32) (v264 : BitVec 32) (v269 : BitVec 32) (v274 : BitVec 32) (k1_hw8 : k1_chk8 d0 v236 v259 v264 v269 v274) (k1_t12 : Fin (k1_t12_loop v236).trips), (Rect.unit (s := S4096x8x128) (k1_off50 d0 v236 v259 v264 v269 v274 k1_t12) S1x8x128.size (k1_off50_inb d0 v236 v259 v264 v269 v274 k1_hw8 k1_t12)).WholeWords (EltTy.packing .bf16) := fun d0 v236 v259 v264 v269 v274 k1_hw8 k1_t12 => k1_hw8.2.2.2.2.2.2.2 k1_t12 (k1_off50_inb d0 v236 v259 v264 v269 v274 k1_hw8 k1_t12)

def k1_dev15 (d0 : Dev nD) : Nat :=
  let c0_i32_367 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_147 : BitVec 32 := 3#32
  let v223 : BitVec 32 := Scalar.addi v2 c3_i32_147
  let c4_i32_148 : BitVec 32 := 4#32
  let c0_i32_149 : BitVec 32 := 0#32
  let v224 : BitVec 1 := Scalar.cmpi .eq c4_i32_148 c0_i32_149
  let c1_i32_150 : BitVec 32 := 1#32
  let v225 : BitVec 32 := Scalar.select v224 c1_i32_150 c4_i32_148
  let v226 : BitVec 32 := Scalar.remsi v223 v225
  let c0_i32_152 : BitVec 32 := 0#32
  let v228 : BitVec 1 := Scalar.cmpi .slt v226 c0_i32_152
  let c0_i32_153 : BitVec 32 := 0#32
  let v229 : BitVec 1 := Scalar.cmpi .slt v225 c0_i32_153
  let v230 : BitVec 1 := Scalar.xori v228 v229
  let c0_i32_151 : BitVec 32 := 0#32
  let v227 : BitVec 1 := Scalar.cmpi .ne v226 c0_i32_151
  let v231 : BitVec 1 := Scalar.andi v230 v227
  let v232 : BitVec 32 := Scalar.addi v226 v225
  let v233 : BitVec 32 := Scalar.select v231 v232 v226
  let c1_i32_366 : BitVec 32 := 1#32
  let v572 : BitVec 32 := Scalar.muli v233 c1_i32_366
  let v573 : BitVec 32 := Scalar.addi c0_i32_367 v572
  v573.toNat
def k1_off52 (d0 : Dev nD) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v313 : Index := Scalar.indexCast v2
  let c0_208 : Index := 0#32
  let v314 : Index := Scalar.indexCast v2
  ![v313.toNat, 0, v314.toNat]
def k1_off53 (d0 : Dev nD) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v317 : Index := Scalar.indexCast v2
  let c0_210 : Index := 0#32
  let c0_211 : Index := 0#32
  ![v317.toNat, 0, 0]
def k1_off54 (d0 : Dev nD) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v322 : Index := Scalar.indexCast v2
  let c0_215 : Index := 0#32
  let c1_216 : Index := 1#32
  ![v322.toNat, 0, 1]
def k1_off55 (d0 : Dev nD) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v327 : Index := Scalar.indexCast v2
  let c0_219 : Index := 0#32
  let c2_220 : Index := 2#32
  ![v327.toNat, 0, 2]
def k1_off56 (d0 : Dev nD) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v332 : Index := Scalar.indexCast v2
  let c0_223 : Index := 0#32
  let c3_224 : Index := 3#32
  ![v332.toNat, 0, 3]
def k1_off57 (d0 : Dev nD) : Fin 3 → Nat :=
  let c0_227 : Index := 0#32
  let c0_228 : Index := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v337 : Index := Scalar.indexCast v2
  ![0, 0, v337.toNat]
def k1_off58 (d0 : Dev nD) : Fin 3 → Nat :=
  let c1_232 : Index := 1#32
  let c0_233 : Index := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v342 : Index := Scalar.indexCast v2
  ![1, 0, v342.toNat]
def k1_off59 (d0 : Dev nD) : Fin 3 → Nat :=
  let c2_236 : Index := 2#32
  let c0_237 : Index := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v347 : Index := Scalar.indexCast v2
  ![2, 0, v347.toNat]
def k1_off60 (d0 : Dev nD) : Fin 3 → Nat :=
  let c3_240 : Index := 3#32
  let c0_241 : Index := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v352 : Index := Scalar.indexCast v2
  ![3, 0, v352.toNat]
@[reducible] def k1_t13_loop (v315 : BitVec 32) : Scf.Loop 32 :=
  let c0_i32_252 : BitVec 32 := 0#32
  let c0_i32_244 : BitVec 32 := 0#32
  let v357 : BitVec 1 := Scalar.cmpi .sgt v315 c0_i32_244
  let v358 : BitVec 32 := Scalar.extui v357
  let c0_i32_245 : BitVec 32 := 0#32
  let v359 : BitVec 1 := Scalar.cmpi .slt v315 c0_i32_245
  let v360 : BitVec 32 := Scalar.extui v359
  let v361 : BitVec 32 := Scalar.subi v358 v360
  let c32_i32_243 : BitVec 32 := 32#32
  let c0_i32_246 : BitVec 32 := 0#32
  let v362 : BitVec 1 := Scalar.cmpi .sgt c32_i32_243 c0_i32_246
  let v363 : BitVec 32 := Scalar.extui v362
  let c0_i32_247 : BitVec 32 := 0#32
  let v364 : BitVec 1 := Scalar.cmpi .slt c32_i32_243 c0_i32_247
  let v365 : BitVec 32 := Scalar.extui v364
  let v366 : BitVec 32 := Scalar.subi v363 v365
  let v367 : BitVec 1 := Scalar.cmpi .ne v361 v366
  let v368 : BitVec 32 := Scalar.remsi v315 c32_i32_243
  let c0_i32_248 : BitVec 32 := 0#32
  let v369 : BitVec 1 := Scalar.cmpi .ne v368 c0_i32_248
  let v370 : BitVec 1 := Scalar.andi v367 v369
  let v356 : BitVec 32 := Scalar.divsi v315 c32_i32_243
  let c1_i32_249 : BitVec 32 := 1#32
  let v371 : BitVec 32 := Scalar.subi v356 c1_i32_249
  let v372 : BitVec 32 := Scalar.select v370 v371 v356
  let v376 : BitVec 32 := Scalar.subi v372 c0_i32_252
  let c1_i32_254 : BitVec 32 := 1#32
  let v378 : BitVec 32 := Scalar.divsi v376 c1_i32_254
  let v379 : BitVec 32 := Scalar.muli v378 c1_i32_254
  let v380 : BitVec 32 := Scalar.addi c0_i32_252 v379
  let c1_i32_255 : BitVec 32 := 1#32
  ⟨c0_i32_252, v380, c1_i32_255⟩

def k1_off61 (d0 : Dev nD) (v315 : BitVec 32) (v338 : BitVec 32) (v343 : BitVec 32) (v348 : BitVec 32) (v353 : BitVec 32) (k1_t13 : Fin (k1_t13_loop v315).trips) : Fin 3 → Nat :=
  let c0_i32_230 : BitVec 32 := 0#32
  let c0_i32_226 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v336 : BitVec 1 := Scalar.cmpi .slt c0_i32_226 v2
  let c0_i32_229 : BitVec 32 := 0#32
  let v339 : BitVec 32 := Scalar.select v336 v338 c0_i32_229
  let v340 : BitVec 32 := Scalar.addi c0_i32_230 v339
  let c1_i32_231 : BitVec 32 := 1#32
  let v341 : BitVec 1 := Scalar.cmpi .slt c1_i32_231 v2
  let c0_i32_234 : BitVec 32 := 0#32
  let v344 : BitVec 32 := Scalar.select v341 v343 c0_i32_234
  let v345 : BitVec 32 := Scalar.addi v340 v344
  let c2_i32_235 : BitVec 32 := 2#32
  let v346 : BitVec 1 := Scalar.cmpi .slt c2_i32_235 v2
  let c0_i32_238 : BitVec 32 := 0#32
  let v349 : BitVec 32 := Scalar.select v346 v348 c0_i32_238
  let v350 : BitVec 32 := Scalar.addi v345 v349
  let c3_i32_239 : BitVec 32 := 3#32
  let v351 : BitVec 1 := Scalar.cmpi .slt c3_i32_239 v2
  let c0_i32_242 : BitVec 32 := 0#32
  let v354 : BitVec 32 := Scalar.select v351 v353 c0_i32_242
  let v355 : BitVec 32 := Scalar.addi v350 v354
  let c0_i32_252 : BitVec 32 := 0#32
  let c1_i32_255 : BitVec 32 := 1#32
  let arg9 : BitVec 32 := Scf.iv c0_i32_252 c1_i32_255 k1_t13
  let c32_i32_367 : BitVec 32 := 32#32
  let v570 : BitVec 32 := Scalar.muli arg9 c32_i32_367
  let v571 : BitVec 32 := Scalar.addi v355 v570
  let c0_i32_368 : BitVec 32 := 0#32
  let c0_i32_369 : BitVec 32 := 0#32
  ![v571.toNat, 0, 0]

def k1_off62 (d0 : Dev nD) (v315 : BitVec 32) (v318 : BitVec 32) (v323 : BitVec 32) (v328 : BitVec 32) (v333 : BitVec 32) (k1_t13 : Fin (k1_t13_loop v315).trips) : Fin 3 → Nat :=
  let c0_i32_213 : BitVec 32 := 0#32
  let c0_i32_209 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v316 : BitVec 1 := Scalar.cmpi .slt c0_i32_209 v2
  let c0_i32_212 : BitVec 32 := 0#32
  let v319 : BitVec 32 := Scalar.select v316 v318 c0_i32_212
  let v320 : BitVec 32 := Scalar.addi c0_i32_213 v319
  let c1_i32_214 : BitVec 32 := 1#32
  let v321 : BitVec 1 := Scalar.cmpi .slt c1_i32_214 v2
  let c0_i32_217 : BitVec 32 := 0#32
  let v324 : BitVec 32 := Scalar.select v321 v323 c0_i32_217
  let v325 : BitVec 32 := Scalar.addi v320 v324
  let c2_i32_218 : BitVec 32 := 2#32
  let v326 : BitVec 1 := Scalar.cmpi .slt c2_i32_218 v2
  let c0_i32_221 : BitVec 32 := 0#32
  let v329 : BitVec 32 := Scalar.select v326 v328 c0_i32_221
  let v330 : BitVec 32 := Scalar.addi v325 v329
  let c3_i32_222 : BitVec 32 := 3#32
  let v331 : BitVec 1 := Scalar.cmpi .slt c3_i32_222 v2
  let c0_i32_225 : BitVec 32 := 0#32
  let v334 : BitVec 32 := Scalar.select v331 v333 c0_i32_225
  let v335 : BitVec 32 := Scalar.addi v330 v334
  let c0_i32_252 : BitVec 32 := 0#32
  let c1_i32_255 : BitVec 32 := 1#32
  let arg9 : BitVec 32 := Scf.iv c0_i32_252 c1_i32_255 k1_t13
  let c32_i32_366 : BitVec 32 := 32#32
  let v568 : BitVec 32 := Scalar.muli arg9 c32_i32_366
  let v569 : BitVec 32 := Scalar.addi v335 v568
  let c0_i32_370 : BitVec 32 := 0#32
  let c0_i32_371 : BitVec 32 := 0#32
  ![v569.toNat, 0, 0]

@[reducible] def k1_t14_loop (v315 : BitVec 32) : Scf.Loop 32 :=
  let c0_i32_252 : BitVec 32 := 0#32
  let c0_i32_244 : BitVec 32 := 0#32
  let v357 : BitVec 1 := Scalar.cmpi .sgt v315 c0_i32_244
  let v358 : BitVec 32 := Scalar.extui v357
  let c0_i32_245 : BitVec 32 := 0#32
  let v359 : BitVec 1 := Scalar.cmpi .slt v315 c0_i32_245
  let v360 : BitVec 32 := Scalar.extui v359
  let v361 : BitVec 32 := Scalar.subi v358 v360
  let c32_i32_243 : BitVec 32 := 32#32
  let c0_i32_246 : BitVec 32 := 0#32
  let v362 : BitVec 1 := Scalar.cmpi .sgt c32_i32_243 c0_i32_246
  let v363 : BitVec 32 := Scalar.extui v362
  let c0_i32_247 : BitVec 32 := 0#32
  let v364 : BitVec 1 := Scalar.cmpi .slt c32_i32_243 c0_i32_247
  let v365 : BitVec 32 := Scalar.extui v364
  let v366 : BitVec 32 := Scalar.subi v363 v365
  let v367 : BitVec 1 := Scalar.cmpi .ne v361 v366
  let v368 : BitVec 32 := Scalar.remsi v315 c32_i32_243
  let c0_i32_248 : BitVec 32 := 0#32
  let v369 : BitVec 1 := Scalar.cmpi .ne v368 c0_i32_248
  let v370 : BitVec 1 := Scalar.andi v367 v369
  let v356 : BitVec 32 := Scalar.divsi v315 c32_i32_243
  let c1_i32_249 : BitVec 32 := 1#32
  let v371 : BitVec 32 := Scalar.subi v356 c1_i32_249
  let v372 : BitVec 32 := Scalar.select v370 v371 v356
  let v376 : BitVec 32 := Scalar.subi v372 c0_i32_252
  let c1_i32_254 : BitVec 32 := 1#32
  let v378 : BitVec 32 := Scalar.divsi v376 c1_i32_254
  let v379 : BitVec 32 := Scalar.muli v378 c1_i32_254
  let v380 : BitVec 32 := Scalar.addi c0_i32_252 v379
  let v377 : BitVec 32 := Scalar.addi c0_i32_252 v376
  let c1_i32_256 : BitVec 32 := 1#32
  ⟨v380, v377, c1_i32_256⟩
def k1_off63 (d0 : Dev nD) (v315 : BitVec 32) (v338 : BitVec 32) (v343 : BitVec 32) (v348 : BitVec 32) (v353 : BitVec 32) (k1_t14 : Fin (k1_t14_loop v315).trips) : Fin 3 → Nat :=
  let c0_i32_230 : BitVec 32 := 0#32
  let c0_i32_226 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v336 : BitVec 1 := Scalar.cmpi .slt c0_i32_226 v2
  let c0_i32_229 : BitVec 32 := 0#32
  let v339 : BitVec 32 := Scalar.select v336 v338 c0_i32_229
  let v340 : BitVec 32 := Scalar.addi c0_i32_230 v339
  let c1_i32_231 : BitVec 32 := 1#32
  let v341 : BitVec 1 := Scalar.cmpi .slt c1_i32_231 v2
  let c0_i32_234 : BitVec 32 := 0#32
  let v344 : BitVec 32 := Scalar.select v341 v343 c0_i32_234
  let v345 : BitVec 32 := Scalar.addi v340 v344
  let c2_i32_235 : BitVec 32 := 2#32
  let v346 : BitVec 1 := Scalar.cmpi .slt c2_i32_235 v2
  let c0_i32_238 : BitVec 32 := 0#32
  let v349 : BitVec 32 := Scalar.select v346 v348 c0_i32_238
  let v350 : BitVec 32 := Scalar.addi v345 v349
  let c3_i32_239 : BitVec 32 := 3#32
  let v351 : BitVec 1 := Scalar.cmpi .slt c3_i32_239 v2
  let c0_i32_242 : BitVec 32 := 0#32
  let v354 : BitVec 32 := Scalar.select v351 v353 c0_i32_242
  let v355 : BitVec 32 := Scalar.addi v350 v354
  let c0_i32_252 : BitVec 32 := 0#32
  let c0_i32_244 : BitVec 32 := 0#32
  let v357 : BitVec 1 := Scalar.cmpi .sgt v315 c0_i32_244
  let v358 : BitVec 32 := Scalar.extui v357
  let c0_i32_245 : BitVec 32 := 0#32
  let v359 : BitVec 1 := Scalar.cmpi .slt v315 c0_i32_245
  let v360 : BitVec 32 := Scalar.extui v359
  let v361 : BitVec 32 := Scalar.subi v358 v360
  let c32_i32_243 : BitVec 32 := 32#32
  let c0_i32_246 : BitVec 32 := 0#32
  let v362 : BitVec 1 := Scalar.cmpi .sgt c32_i32_243 c0_i32_246
  let v363 : BitVec 32 := Scalar.extui v362
  let c0_i32_247 : BitVec 32 := 0#32
  let v364 : BitVec 1 := Scalar.cmpi .slt c32_i32_243 c0_i32_247
  let v365 : BitVec 32 := Scalar.extui v364
  let v366 : BitVec 32 := Scalar.subi v363 v365
  let v367 : BitVec 1 := Scalar.cmpi .ne v361 v366
  let v368 : BitVec 32 := Scalar.remsi v315 c32_i32_243
  let c0_i32_248 : BitVec 32 := 0#32
  let v369 : BitVec 1 := Scalar.cmpi .ne v368 c0_i32_248
  let v370 : BitVec 1 := Scalar.andi v367 v369
  let v356 : BitVec 32 := Scalar.divsi v315 c32_i32_243
  let c1_i32_249 : BitVec 32 := 1#32
  let v371 : BitVec 32 := Scalar.subi v356 c1_i32_249
  let v372 : BitVec 32 := Scalar.select v370 v371 v356
  let v376 : BitVec 32 := Scalar.subi v372 c0_i32_252
  let c1_i32_254 : BitVec 32 := 1#32
  let v378 : BitVec 32 := Scalar.divsi v376 c1_i32_254
  let v379 : BitVec 32 := Scalar.muli v378 c1_i32_254
  let v380 : BitVec 32 := Scalar.addi c0_i32_252 v379
  let c1_i32_256 : BitVec 32 := 1#32
  let arg9 : BitVec 32 := Scf.iv v380 c1_i32_256 k1_t14
  let c32_i32_367 : BitVec 32 := 32#32
  let v570 : BitVec 32 := Scalar.muli arg9 c32_i32_367
  let v571 : BitVec 32 := Scalar.addi v355 v570
  let c0_i32_368 : BitVec 32 := 0#32
  let c0_i32_369 : BitVec 32 := 0#32
  ![v571.toNat, 0, 0]
def k1_off64 (d0 : Dev nD) (v315 : BitVec 32) (v318 : BitVec 32) (v323 : BitVec 32) (v328 : BitVec 32) (v333 : BitVec 32) (k1_t14 : Fin (k1_t14_loop v315).trips) : Fin 3 → Nat :=
  let c0_i32_213 : BitVec 32 := 0#32
  let c0_i32_209 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v316 : BitVec 1 := Scalar.cmpi .slt c0_i32_209 v2
  let c0_i32_212 : BitVec 32 := 0#32
  let v319 : BitVec 32 := Scalar.select v316 v318 c0_i32_212
  let v320 : BitVec 32 := Scalar.addi c0_i32_213 v319
  let c1_i32_214 : BitVec 32 := 1#32
  let v321 : BitVec 1 := Scalar.cmpi .slt c1_i32_214 v2
  let c0_i32_217 : BitVec 32 := 0#32
  let v324 : BitVec 32 := Scalar.select v321 v323 c0_i32_217
  let v325 : BitVec 32 := Scalar.addi v320 v324
  let c2_i32_218 : BitVec 32 := 2#32
  let v326 : BitVec 1 := Scalar.cmpi .slt c2_i32_218 v2
  let c0_i32_221 : BitVec 32 := 0#32
  let v329 : BitVec 32 := Scalar.select v326 v328 c0_i32_221
  let v330 : BitVec 32 := Scalar.addi v325 v329
  let c3_i32_222 : BitVec 32 := 3#32
  let v331 : BitVec 1 := Scalar.cmpi .slt c3_i32_222 v2
  let c0_i32_225 : BitVec 32 := 0#32
  let v334 : BitVec 32 := Scalar.select v331 v333 c0_i32_225
  let v335 : BitVec 32 := Scalar.addi v330 v334
  let c0_i32_252 : BitVec 32 := 0#32
  let c0_i32_244 : BitVec 32 := 0#32
  let v357 : BitVec 1 := Scalar.cmpi .sgt v315 c0_i32_244
  let v358 : BitVec 32 := Scalar.extui v357
  let c0_i32_245 : BitVec 32 := 0#32
  let v359 : BitVec 1 := Scalar.cmpi .slt v315 c0_i32_245
  let v360 : BitVec 32 := Scalar.extui v359
  let v361 : BitVec 32 := Scalar.subi v358 v360
  let c32_i32_243 : BitVec 32 := 32#32
  let c0_i32_246 : BitVec 32 := 0#32
  let v362 : BitVec 1 := Scalar.cmpi .sgt c32_i32_243 c0_i32_246
  let v363 : BitVec 32 := Scalar.extui v362
  let c0_i32_247 : BitVec 32 := 0#32
  let v364 : BitVec 1 := Scalar.cmpi .slt c32_i32_243 c0_i32_247
  let v365 : BitVec 32 := Scalar.extui v364
  let v366 : BitVec 32 := Scalar.subi v363 v365
  let v367 : BitVec 1 := Scalar.cmpi .ne v361 v366
  let v368 : BitVec 32 := Scalar.remsi v315 c32_i32_243
  let c0_i32_248 : BitVec 32 := 0#32
  let v369 : BitVec 1 := Scalar.cmpi .ne v368 c0_i32_248
  let v370 : BitVec 1 := Scalar.andi v367 v369
  let v356 : BitVec 32 := Scalar.divsi v315 c32_i32_243
  let c1_i32_249 : BitVec 32 := 1#32
  let v371 : BitVec 32 := Scalar.subi v356 c1_i32_249
  let v372 : BitVec 32 := Scalar.select v370 v371 v356
  let v376 : BitVec 32 := Scalar.subi v372 c0_i32_252
  let c1_i32_254 : BitVec 32 := 1#32
  let v378 : BitVec 32 := Scalar.divsi v376 c1_i32_254
  let v379 : BitVec 32 := Scalar.muli v378 c1_i32_254
  let v380 : BitVec 32 := Scalar.addi c0_i32_252 v379
  let c1_i32_256 : BitVec 32 := 1#32
  let arg9 : BitVec 32 := Scf.iv v380 c1_i32_256 k1_t14
  let c32_i32_366 : BitVec 32 := 32#32
  let v568 : BitVec 32 := Scalar.muli arg9 c32_i32_366
  let v569 : BitVec 32 := Scalar.addi v335 v568
  let c0_i32_370 : BitVec 32 := 0#32
  let c0_i32_371 : BitVec 32 := 0#32
  ![v569.toNat, 0, 0]
@[reducible] def k1_t15_loop (v315 : BitVec 32) : Scf.Loop 32 :=
  let c0_i32_257 : BitVec 32 := 0#32
  let c0_i32_244 : BitVec 32 := 0#32
  let v357 : BitVec 1 := Scalar.cmpi .sgt v315 c0_i32_244
  let v358 : BitVec 32 := Scalar.extui v357
  let c0_i32_245 : BitVec 32 := 0#32
  let v359 : BitVec 1 := Scalar.cmpi .slt v315 c0_i32_245
  let v360 : BitVec 32 := Scalar.extui v359
  let v361 : BitVec 32 := Scalar.subi v358 v360
  let c32_i32_243 : BitVec 32 := 32#32
  let c0_i32_246 : BitVec 32 := 0#32
  let v362 : BitVec 1 := Scalar.cmpi .sgt c32_i32_243 c0_i32_246
  let v363 : BitVec 32 := Scalar.extui v362
  let c0_i32_247 : BitVec 32 := 0#32
  let v364 : BitVec 1 := Scalar.cmpi .slt c32_i32_243 c0_i32_247
  let v365 : BitVec 32 := Scalar.extui v364
  let v366 : BitVec 32 := Scalar.subi v363 v365
  let v367 : BitVec 1 := Scalar.cmpi .ne v361 v366
  let v368 : BitVec 32 := Scalar.remsi v315 c32_i32_243
  let c0_i32_248 : BitVec 32 := 0#32
  let v369 : BitVec 1 := Scalar.cmpi .ne v368 c0_i32_248
  let v370 : BitVec 1 := Scalar.andi v367 v369
  let v356 : BitVec 32 := Scalar.divsi v315 c32_i32_243
  let c1_i32_249 : BitVec 32 := 1#32
  let v371 : BitVec 32 := Scalar.subi v356 c1_i32_249
  let v372 : BitVec 32 := Scalar.select v370 v371 v356
  let c32_i32_250 : BitVec 32 := 32#32
  let v373 : BitVec 32 := Scalar.muli v372 c32_i32_250
  let v374 : BitVec 32 := Scalar.subi v315 v373
  let v383 : BitVec 32 := Scalar.subi v374 c0_i32_257
  let c1_i32_259 : BitVec 32 := 1#32
  let v385 : BitVec 32 := Scalar.divsi v383 c1_i32_259
  let v386 : BitVec 32 := Scalar.muli v385 c1_i32_259
  let v387 : BitVec 32 := Scalar.addi c0_i32_257 v386
  let c1_i32_260 : BitVec 32 := 1#32
  ⟨c0_i32_257, v387, c1_i32_260⟩
def k1_off65 (d0 : Dev nD) (v315 : BitVec 32) (v338 : BitVec 32) (v343 : BitVec 32) (v348 : BitVec 32) (v353 : BitVec 32) (k1_t15 : Fin (k1_t15_loop v315).trips) : Fin 3 → Nat :=
  let c0_i32_230 : BitVec 32 := 0#32
  let c0_i32_226 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v336 : BitVec 1 := Scalar.cmpi .slt c0_i32_226 v2
  let c0_i32_229 : BitVec 32 := 0#32
  let v339 : BitVec 32 := Scalar.select v336 v338 c0_i32_229
  let v340 : BitVec 32 := Scalar.addi c0_i32_230 v339
  let c1_i32_231 : BitVec 32 := 1#32
  let v341 : BitVec 1 := Scalar.cmpi .slt c1_i32_231 v2
  let c0_i32_234 : BitVec 32 := 0#32
  let v344 : BitVec 32 := Scalar.select v341 v343 c0_i32_234
  let v345 : BitVec 32 := Scalar.addi v340 v344
  let c2_i32_235 : BitVec 32 := 2#32
  let v346 : BitVec 1 := Scalar.cmpi .slt c2_i32_235 v2
  let c0_i32_238 : BitVec 32 := 0#32
  let v349 : BitVec 32 := Scalar.select v346 v348 c0_i32_238
  let v350 : BitVec 32 := Scalar.addi v345 v349
  let c3_i32_239 : BitVec 32 := 3#32
  let v351 : BitVec 1 := Scalar.cmpi .slt c3_i32_239 v2
  let c0_i32_242 : BitVec 32 := 0#32
  let v354 : BitVec 32 := Scalar.select v351 v353 c0_i32_242
  let v355 : BitVec 32 := Scalar.addi v350 v354
  let c0_i32_244 : BitVec 32 := 0#32
  let v357 : BitVec 1 := Scalar.cmpi .sgt v315 c0_i32_244
  let v358 : BitVec 32 := Scalar.extui v357
  let c0_i32_245 : BitVec 32 := 0#32
  let v359 : BitVec 1 := Scalar.cmpi .slt v315 c0_i32_245
  let v360 : BitVec 32 := Scalar.extui v359
  let v361 : BitVec 32 := Scalar.subi v358 v360
  let c32_i32_243 : BitVec 32 := 32#32
  let c0_i32_246 : BitVec 32 := 0#32
  let v362 : BitVec 1 := Scalar.cmpi .sgt c32_i32_243 c0_i32_246
  let v363 : BitVec 32 := Scalar.extui v362
  let c0_i32_247 : BitVec 32 := 0#32
  let v364 : BitVec 1 := Scalar.cmpi .slt c32_i32_243 c0_i32_247
  let v365 : BitVec 32 := Scalar.extui v364
  let v366 : BitVec 32 := Scalar.subi v363 v365
  let v367 : BitVec 1 := Scalar.cmpi .ne v361 v366
  let v368 : BitVec 32 := Scalar.remsi v315 c32_i32_243
  let c0_i32_248 : BitVec 32 := 0#32
  let v369 : BitVec 1 := Scalar.cmpi .ne v368 c0_i32_248
  let v370 : BitVec 1 := Scalar.andi v367 v369
  let v356 : BitVec 32 := Scalar.divsi v315 c32_i32_243
  let c1_i32_249 : BitVec 32 := 1#32
  let v371 : BitVec 32 := Scalar.subi v356 c1_i32_249
  let v372 : BitVec 32 := Scalar.select v370 v371 v356
  let c32_i32_251 : BitVec 32 := 32#32
  let v375 : BitVec 32 := Scalar.muli v372 c32_i32_251
  let v570 : BitVec 32 := Scalar.addi v355 v375
  let c0_i32_257 : BitVec 32 := 0#32
  let c1_i32_260 : BitVec 32 := 1#32
  let arg9 : BitVec 32 := Scf.iv c0_i32_257 c1_i32_260 k1_t15
  let v571 : BitVec 32 := Scalar.addi v570 arg9
  let c0_i32_366 : BitVec 32 := 0#32
  let c0_i32_367 : BitVec 32 := 0#32
  ![v571.toNat, 0, 0]
def k1_off66 (d0 : Dev nD) (v315 : BitVec 32) (v318 : BitVec 32) (v323 : BitVec 32) (v328 : BitVec 32) (v333 : BitVec 32) (k1_t15 : Fin (k1_t15_loop v315).trips) : Fin 3 → Nat :=
  let c0_i32_213 : BitVec 32 := 0#32
  let c0_i32_209 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v316 : BitVec 1 := Scalar.cmpi .slt c0_i32_209 v2
  let c0_i32_212 : BitVec 32 := 0#32
  let v319 : BitVec 32 := Scalar.select v316 v318 c0_i32_212
  let v320 : BitVec 32 := Scalar.addi c0_i32_213 v319
  let c1_i32_214 : BitVec 32 := 1#32
  let v321 : BitVec 1 := Scalar.cmpi .slt c1_i32_214 v2
  let c0_i32_217 : BitVec 32 := 0#32
  let v324 : BitVec 32 := Scalar.select v321 v323 c0_i32_217
  let v325 : BitVec 32 := Scalar.addi v320 v324
  let c2_i32_218 : BitVec 32 := 2#32
  let v326 : BitVec 1 := Scalar.cmpi .slt c2_i32_218 v2
  let c0_i32_221 : BitVec 32 := 0#32
  let v329 : BitVec 32 := Scalar.select v326 v328 c0_i32_221
  let v330 : BitVec 32 := Scalar.addi v325 v329
  let c3_i32_222 : BitVec 32 := 3#32
  let v331 : BitVec 1 := Scalar.cmpi .slt c3_i32_222 v2
  let c0_i32_225 : BitVec 32 := 0#32
  let v334 : BitVec 32 := Scalar.select v331 v333 c0_i32_225
  let v335 : BitVec 32 := Scalar.addi v330 v334
  let c0_i32_244 : BitVec 32 := 0#32
  let v357 : BitVec 1 := Scalar.cmpi .sgt v315 c0_i32_244
  let v358 : BitVec 32 := Scalar.extui v357
  let c0_i32_245 : BitVec 32 := 0#32
  let v359 : BitVec 1 := Scalar.cmpi .slt v315 c0_i32_245
  let v360 : BitVec 32 := Scalar.extui v359
  let v361 : BitVec 32 := Scalar.subi v358 v360
  let c32_i32_243 : BitVec 32 := 32#32
  let c0_i32_246 : BitVec 32 := 0#32
  let v362 : BitVec 1 := Scalar.cmpi .sgt c32_i32_243 c0_i32_246
  let v363 : BitVec 32 := Scalar.extui v362
  let c0_i32_247 : BitVec 32 := 0#32
  let v364 : BitVec 1 := Scalar.cmpi .slt c32_i32_243 c0_i32_247
  let v365 : BitVec 32 := Scalar.extui v364
  let v366 : BitVec 32 := Scalar.subi v363 v365
  let v367 : BitVec 1 := Scalar.cmpi .ne v361 v366
  let v368 : BitVec 32 := Scalar.remsi v315 c32_i32_243
  let c0_i32_248 : BitVec 32 := 0#32
  let v369 : BitVec 1 := Scalar.cmpi .ne v368 c0_i32_248
  let v370 : BitVec 1 := Scalar.andi v367 v369
  let v356 : BitVec 32 := Scalar.divsi v315 c32_i32_243
  let c1_i32_249 : BitVec 32 := 1#32
  let v371 : BitVec 32 := Scalar.subi v356 c1_i32_249
  let v372 : BitVec 32 := Scalar.select v370 v371 v356
  let c32_i32_251 : BitVec 32 := 32#32
  let v375 : BitVec 32 := Scalar.muli v372 c32_i32_251
  let v568 : BitVec 32 := Scalar.addi v335 v375
  let c0_i32_257 : BitVec 32 := 0#32
  let c1_i32_260 : BitVec 32 := 1#32
  let arg9 : BitVec 32 := Scf.iv c0_i32_257 c1_i32_260 k1_t15
  let v569 : BitVec 32 := Scalar.addi v568 arg9
  let c0_i32_368 : BitVec 32 := 0#32
  let c0_i32_369 : BitVec 32 := 0#32
  ![v569.toNat, 0, 0]
@[reducible] def k1_t16_loop (v315 : BitVec 32) : Scf.Loop 32 :=
  let c0_i32_257 : BitVec 32 := 0#32
  let c0_i32_244 : BitVec 32 := 0#32
  let v357 : BitVec 1 := Scalar.cmpi .sgt v315 c0_i32_244
  let v358 : BitVec 32 := Scalar.extui v357
  let c0_i32_245 : BitVec 32 := 0#32
  let v359 : BitVec 1 := Scalar.cmpi .slt v315 c0_i32_245
  let v360 : BitVec 32 := Scalar.extui v359
  let v361 : BitVec 32 := Scalar.subi v358 v360
  let c32_i32_243 : BitVec 32 := 32#32
  let c0_i32_246 : BitVec 32 := 0#32
  let v362 : BitVec 1 := Scalar.cmpi .sgt c32_i32_243 c0_i32_246
  let v363 : BitVec 32 := Scalar.extui v362
  let c0_i32_247 : BitVec 32 := 0#32
  let v364 : BitVec 1 := Scalar.cmpi .slt c32_i32_243 c0_i32_247
  let v365 : BitVec 32 := Scalar.extui v364
  let v366 : BitVec 32 := Scalar.subi v363 v365
  let v367 : BitVec 1 := Scalar.cmpi .ne v361 v366
  let v368 : BitVec 32 := Scalar.remsi v315 c32_i32_243
  let c0_i32_248 : BitVec 32 := 0#32
  let v369 : BitVec 1 := Scalar.cmpi .ne v368 c0_i32_248
  let v370 : BitVec 1 := Scalar.andi v367 v369
  let v356 : BitVec 32 := Scalar.divsi v315 c32_i32_243
  let c1_i32_249 : BitVec 32 := 1#32
  let v371 : BitVec 32 := Scalar.subi v356 c1_i32_249
  let v372 : BitVec 32 := Scalar.select v370 v371 v356
  let c32_i32_250 : BitVec 32 := 32#32
  let v373 : BitVec 32 := Scalar.muli v372 c32_i32_250
  let v374 : BitVec 32 := Scalar.subi v315 v373
  let v383 : BitVec 32 := Scalar.subi v374 c0_i32_257
  let c1_i32_259 : BitVec 32 := 1#32
  let v385 : BitVec 32 := Scalar.divsi v383 c1_i32_259
  let v386 : BitVec 32 := Scalar.muli v385 c1_i32_259
  let v387 : BitVec 32 := Scalar.addi c0_i32_257 v386
  let v384 : BitVec 32 := Scalar.addi c0_i32_257 v383
  let c1_i32_261 : BitVec 32 := 1#32
  ⟨v387, v384, c1_i32_261⟩
def k1_off67 (d0 : Dev nD) (v315 : BitVec 32) (v338 : BitVec 32) (v343 : BitVec 32) (v348 : BitVec 32) (v353 : BitVec 32) (k1_t16 : Fin (k1_t16_loop v315).trips) : Fin 3 → Nat :=
  let c0_i32_230 : BitVec 32 := 0#32
  let c0_i32_226 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v336 : BitVec 1 := Scalar.cmpi .slt c0_i32_226 v2
  let c0_i32_229 : BitVec 32 := 0#32
  let v339 : BitVec 32 := Scalar.select v336 v338 c0_i32_229
  let v340 : BitVec 32 := Scalar.addi c0_i32_230 v339
  let c1_i32_231 : BitVec 32 := 1#32
  let v341 : BitVec 1 := Scalar.cmpi .slt c1_i32_231 v2
  let c0_i32_234 : BitVec 32 := 0#32
  let v344 : BitVec 32 := Scalar.select v341 v343 c0_i32_234
  let v345 : BitVec 32 := Scalar.addi v340 v344
  let c2_i32_235 : BitVec 32 := 2#32
  let v346 : BitVec 1 := Scalar.cmpi .slt c2_i32_235 v2
  let c0_i32_238 : BitVec 32 := 0#32
  let v349 : BitVec 32 := Scalar.select v346 v348 c0_i32_238
  let v350 : BitVec 32 := Scalar.addi v345 v349
  let c3_i32_239 : BitVec 32 := 3#32
  let v351 : BitVec 1 := Scalar.cmpi .slt c3_i32_239 v2
  let c0_i32_242 : BitVec 32 := 0#32
  let v354 : BitVec 32 := Scalar.select v351 v353 c0_i32_242
  let v355 : BitVec 32 := Scalar.addi v350 v354
  let c0_i32_244 : BitVec 32 := 0#32
  let v357 : BitVec 1 := Scalar.cmpi .sgt v315 c0_i32_244
  let v358 : BitVec 32 := Scalar.extui v357
  let c0_i32_245 : BitVec 32 := 0#32
  let v359 : BitVec 1 := Scalar.cmpi .slt v315 c0_i32_245
  let v360 : BitVec 32 := Scalar.extui v359
  let v361 : BitVec 32 := Scalar.subi v358 v360
  let c32_i32_243 : BitVec 32 := 32#32
  let c0_i32_246 : BitVec 32 := 0#32
  let v362 : BitVec 1 := Scalar.cmpi .sgt c32_i32_243 c0_i32_246
  let v363 : BitVec 32 := Scalar.extui v362
  let c0_i32_247 : BitVec 32 := 0#32
  let v364 : BitVec 1 := Scalar.cmpi .slt c32_i32_243 c0_i32_247
  let v365 : BitVec 32 := Scalar.extui v364
  let v366 : BitVec 32 := Scalar.subi v363 v365
  let v367 : BitVec 1 := Scalar.cmpi .ne v361 v366
  let v368 : BitVec 32 := Scalar.remsi v315 c32_i32_243
  let c0_i32_248 : BitVec 32 := 0#32
  let v369 : BitVec 1 := Scalar.cmpi .ne v368 c0_i32_248
  let v370 : BitVec 1 := Scalar.andi v367 v369
  let v356 : BitVec 32 := Scalar.divsi v315 c32_i32_243
  let c1_i32_249 : BitVec 32 := 1#32
  let v371 : BitVec 32 := Scalar.subi v356 c1_i32_249
  let v372 : BitVec 32 := Scalar.select v370 v371 v356
  let c32_i32_251 : BitVec 32 := 32#32
  let v375 : BitVec 32 := Scalar.muli v372 c32_i32_251
  let v570 : BitVec 32 := Scalar.addi v355 v375
  let c0_i32_257 : BitVec 32 := 0#32
  let c32_i32_250 : BitVec 32 := 32#32
  let v373 : BitVec 32 := Scalar.muli v372 c32_i32_250
  let v374 : BitVec 32 := Scalar.subi v315 v373
  let v383 : BitVec 32 := Scalar.subi v374 c0_i32_257
  let c1_i32_259 : BitVec 32 := 1#32
  let v385 : BitVec 32 := Scalar.divsi v383 c1_i32_259
  let v386 : BitVec 32 := Scalar.muli v385 c1_i32_259
  let v387 : BitVec 32 := Scalar.addi c0_i32_257 v386
  let c1_i32_261 : BitVec 32 := 1#32
  let arg9 : BitVec 32 := Scf.iv v387 c1_i32_261 k1_t16
  let v571 : BitVec 32 := Scalar.addi v570 arg9
  let c0_i32_366 : BitVec 32 := 0#32
  let c0_i32_367 : BitVec 32 := 0#32
  ![v571.toNat, 0, 0]
def k1_off68 (d0 : Dev nD) (v315 : BitVec 32) (v318 : BitVec 32) (v323 : BitVec 32) (v328 : BitVec 32) (v333 : BitVec 32) (k1_t16 : Fin (k1_t16_loop v315).trips) : Fin 3 → Nat :=
  let c0_i32_213 : BitVec 32 := 0#32
  let c0_i32_209 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v316 : BitVec 1 := Scalar.cmpi .slt c0_i32_209 v2
  let c0_i32_212 : BitVec 32 := 0#32
  let v319 : BitVec 32 := Scalar.select v316 v318 c0_i32_212
  let v320 : BitVec 32 := Scalar.addi c0_i32_213 v319
  let c1_i32_214 : BitVec 32 := 1#32
  let v321 : BitVec 1 := Scalar.cmpi .slt c1_i32_214 v2
  let c0_i32_217 : BitVec 32 := 0#32
  let v324 : BitVec 32 := Scalar.select v321 v323 c0_i32_217
  let v325 : BitVec 32 := Scalar.addi v320 v324
  let c2_i32_218 : BitVec 32 := 2#32
  let v326 : BitVec 1 := Scalar.cmpi .slt c2_i32_218 v2
  let c0_i32_221 : BitVec 32 := 0#32
  let v329 : BitVec 32 := Scalar.select v326 v328 c0_i32_221
  let v330 : BitVec 32 := Scalar.addi v325 v329
  let c3_i32_222 : BitVec 32 := 3#32
  let v331 : BitVec 1 := Scalar.cmpi .slt c3_i32_222 v2
  let c0_i32_225 : BitVec 32 := 0#32
  let v334 : BitVec 32 := Scalar.select v331 v333 c0_i32_225
  let v335 : BitVec 32 := Scalar.addi v330 v334
  let c0_i32_244 : BitVec 32 := 0#32
  let v357 : BitVec 1 := Scalar.cmpi .sgt v315 c0_i32_244
  let v358 : BitVec 32 := Scalar.extui v357
  let c0_i32_245 : BitVec 32 := 0#32
  let v359 : BitVec 1 := Scalar.cmpi .slt v315 c0_i32_245
  let v360 : BitVec 32 := Scalar.extui v359
  let v361 : BitVec 32 := Scalar.subi v358 v360
  let c32_i32_243 : BitVec 32 := 32#32
  let c0_i32_246 : BitVec 32 := 0#32
  let v362 : BitVec 1 := Scalar.cmpi .sgt c32_i32_243 c0_i32_246
  let v363 : BitVec 32 := Scalar.extui v362
  let c0_i32_247 : BitVec 32 := 0#32
  let v364 : BitVec 1 := Scalar.cmpi .slt c32_i32_243 c0_i32_247
  let v365 : BitVec 32 := Scalar.extui v364
  let v366 : BitVec 32 := Scalar.subi v363 v365
  let v367 : BitVec 1 := Scalar.cmpi .ne v361 v366
  let v368 : BitVec 32 := Scalar.remsi v315 c32_i32_243
  let c0_i32_248 : BitVec 32 := 0#32
  let v369 : BitVec 1 := Scalar.cmpi .ne v368 c0_i32_248
  let v370 : BitVec 1 := Scalar.andi v367 v369
  let v356 : BitVec 32 := Scalar.divsi v315 c32_i32_243
  let c1_i32_249 : BitVec 32 := 1#32
  let v371 : BitVec 32 := Scalar.subi v356 c1_i32_249
  let v372 : BitVec 32 := Scalar.select v370 v371 v356
  let c32_i32_251 : BitVec 32 := 32#32
  let v375 : BitVec 32 := Scalar.muli v372 c32_i32_251
  let v568 : BitVec 32 := Scalar.addi v335 v375
  let c0_i32_257 : BitVec 32 := 0#32
  let c32_i32_250 : BitVec 32 := 32#32
  let v373 : BitVec 32 := Scalar.muli v372 c32_i32_250
  let v374 : BitVec 32 := Scalar.subi v315 v373
  let v383 : BitVec 32 := Scalar.subi v374 c0_i32_257
  let c1_i32_259 : BitVec 32 := 1#32
  let v385 : BitVec 32 := Scalar.divsi v383 c1_i32_259
  let v386 : BitVec 32 := Scalar.muli v385 c1_i32_259
  let v387 : BitVec 32 := Scalar.addi c0_i32_257 v386
  let c1_i32_261 : BitVec 32 := 1#32
  let arg9 : BitVec 32 := Scf.iv v387 c1_i32_261 k1_t16
  let v569 : BitVec 32 := Scalar.addi v568 arg9
  let c0_i32_368 : BitVec 32 := 0#32
  let c0_i32_369 : BitVec 32 := 0#32
  ![v569.toNat, 0, 0]

def k1_chk12 (d0 : Dev nD) (v315 : BitVec 32) (v318 : BitVec 32) (v323 : BitVec 32) (v328 : BitVec 32) (v333 : BitVec 32) : Prop :=
  (∀ k1_t13 : Fin (k1_t13_loop v315).trips, ∀ a, (k1_off62 d0 v315 v318 v323 v328 v333 k1_t13) a + S32x8x128.size a ≤ S4096x8x128.size a) ∧
  (∀ k1_t13 : Fin (k1_t13_loop v315).trips, ∀ (hinb : ∀ a, (k1_off62 d0 v315 v318 v323 v328 v333 k1_t13) a + S32x8x128.size a ≤ S4096x8x128.size a), (Rect.unit (s := S4096x8x128) (k1_off62 d0 v315 v318 v323 v328 v333 k1_t13) S32x8x128.size hinb).WholeWords (EltTy.packing .bf16)) ∧
  (∀ k1_t14 : Fin (k1_t14_loop v315).trips, ∀ a, (k1_off64 d0 v315 v318 v323 v328 v333 k1_t14) a + S32x8x128.size a ≤ S4096x8x128.size a) ∧
  (∀ k1_t14 : Fin (k1_t14_loop v315).trips, ∀ (hinb : ∀ a, (k1_off64 d0 v315 v318 v323 v328 v333 k1_t14) a + S32x8x128.size a ≤ S4096x8x128.size a), (Rect.unit (s := S4096x8x128) (k1_off64 d0 v315 v318 v323 v328 v333 k1_t14) S32x8x128.size hinb).WholeWords (EltTy.packing .bf16)) ∧
  (∀ k1_t15 : Fin (k1_t15_loop v315).trips, ∀ a, (k1_off66 d0 v315 v318 v323 v328 v333 k1_t15) a + S1x8x128.size a ≤ S4096x8x128.size a) ∧
  (∀ k1_t15 : Fin (k1_t15_loop v315).trips, ∀ (hinb : ∀ a, (k1_off66 d0 v315 v318 v323 v328 v333 k1_t15) a + S1x8x128.size a ≤ S4096x8x128.size a), (Rect.unit (s := S4096x8x128) (k1_off66 d0 v315 v318 v323 v328 v333 k1_t15) S1x8x128.size hinb).WholeWords (EltTy.packing .bf16)) ∧
  (∀ k1_t16 : Fin (k1_t16_loop v315).trips, ∀ a, (k1_off68 d0 v315 v318 v323 v328 v333 k1_t16) a + S1x8x128.size a ≤ S4096x8x128.size a) ∧
  (∀ k1_t16 : Fin (k1_t16_loop v315).trips, ∀ (hinb : ∀ a, (k1_off68 d0 v315 v318 v323 v328 v333 k1_t16) a + S1x8x128.size a ≤ S4096x8x128.size a), (Rect.unit (s := S4096x8x128) (k1_off68 d0 v315 v318 v323 v328 v333 k1_t16) S1x8x128.size hinb).WholeWords (EltTy.packing .bf16))
theorem k1_off62_inb : ∀ (d0 : Dev nD) (v315 : BitVec 32) (v318 : BitVec 32) (v323 : BitVec 32) (v328 : BitVec 32) (v333 : BitVec 32) (k1_hw12 : k1_chk12 d0 v315 v318 v323 v328 v333) (k1_t13 : Fin (k1_t13_loop v315).trips), ∀ a, (k1_off62 d0 v315 v318 v323 v328 v333 k1_t13) a + S32x8x128.size a ≤ S4096x8x128.size a := fun d0 v315 v318 v323 v328 v333 k1_hw12 k1_t13 => k1_hw12.1 k1_t13
theorem k1_off62_wordsbf16 : ∀ (d0 : Dev nD) (v315 : BitVec 32) (v318 : BitVec 32) (v323 : BitVec 32) (v328 : BitVec 32) (v333 : BitVec 32) (k1_hw12 : k1_chk12 d0 v315 v318 v323 v328 v333) (k1_t13 : Fin (k1_t13_loop v315).trips), (Rect.unit (s := S4096x8x128) (k1_off62 d0 v315 v318 v323 v328 v333 k1_t13) S32x8x128.size (k1_off62_inb d0 v315 v318 v323 v328 v333 k1_hw12 k1_t13)).WholeWords (EltTy.packing .bf16) := fun d0 v315 v318 v323 v328 v333 k1_hw12 k1_t13 => k1_hw12.2.1 k1_t13 (k1_off62_inb d0 v315 v318 v323 v328 v333 k1_hw12 k1_t13)
theorem k1_off64_inb : ∀ (d0 : Dev nD) (v315 : BitVec 32) (v318 : BitVec 32) (v323 : BitVec 32) (v328 : BitVec 32) (v333 : BitVec 32) (k1_hw12 : k1_chk12 d0 v315 v318 v323 v328 v333) (k1_t14 : Fin (k1_t14_loop v315).trips), ∀ a, (k1_off64 d0 v315 v318 v323 v328 v333 k1_t14) a + S32x8x128.size a ≤ S4096x8x128.size a := fun d0 v315 v318 v323 v328 v333 k1_hw12 k1_t14 => k1_hw12.2.2.1 k1_t14
theorem k1_off64_wordsbf16 : ∀ (d0 : Dev nD) (v315 : BitVec 32) (v318 : BitVec 32) (v323 : BitVec 32) (v328 : BitVec 32) (v333 : BitVec 32) (k1_hw12 : k1_chk12 d0 v315 v318 v323 v328 v333) (k1_t14 : Fin (k1_t14_loop v315).trips), (Rect.unit (s := S4096x8x128) (k1_off64 d0 v315 v318 v323 v328 v333 k1_t14) S32x8x128.size (k1_off64_inb d0 v315 v318 v323 v328 v333 k1_hw12 k1_t14)).WholeWords (EltTy.packing .bf16) := fun d0 v315 v318 v323 v328 v333 k1_hw12 k1_t14 => k1_hw12.2.2.2.1 k1_t14 (k1_off64_inb d0 v315 v318 v323 v328 v333 k1_hw12 k1_t14)
theorem k1_off66_inb : ∀ (d0 : Dev nD) (v315 : BitVec 32) (v318 : BitVec 32) (v323 : BitVec 32) (v328 : BitVec 32) (v333 : BitVec 32) (k1_hw12 : k1_chk12 d0 v315 v318 v323 v328 v333) (k1_t15 : Fin (k1_t15_loop v315).trips), ∀ a, (k1_off66 d0 v315 v318 v323 v328 v333 k1_t15) a + S1x8x128.size a ≤ S4096x8x128.size a := fun d0 v315 v318 v323 v328 v333 k1_hw12 k1_t15 => k1_hw12.2.2.2.2.1 k1_t15
theorem k1_off66_wordsbf16 : ∀ (d0 : Dev nD) (v315 : BitVec 32) (v318 : BitVec 32) (v323 : BitVec 32) (v328 : BitVec 32) (v333 : BitVec 32) (k1_hw12 : k1_chk12 d0 v315 v318 v323 v328 v333) (k1_t15 : Fin (k1_t15_loop v315).trips), (Rect.unit (s := S4096x8x128) (k1_off66 d0 v315 v318 v323 v328 v333 k1_t15) S1x8x128.size (k1_off66_inb d0 v315 v318 v323 v328 v333 k1_hw12 k1_t15)).WholeWords (EltTy.packing .bf16) := fun d0 v315 v318 v323 v328 v333 k1_hw12 k1_t15 => k1_hw12.2.2.2.2.2.1 k1_t15 (k1_off66_inb d0 v315 v318 v323 v328 v333 k1_hw12 k1_t15)
theorem k1_off68_inb : ∀ (d0 : Dev nD) (v315 : BitVec 32) (v318 : BitVec 32) (v323 : BitVec 32) (v328 : BitVec 32) (v333 : BitVec 32) (k1_hw12 : k1_chk12 d0 v315 v318 v323 v328 v333) (k1_t16 : Fin (k1_t16_loop v315).trips), ∀ a, (k1_off68 d0 v315 v318 v323 v328 v333 k1_t16) a + S1x8x128.size a ≤ S4096x8x128.size a := fun d0 v315 v318 v323 v328 v333 k1_hw12 k1_t16 => k1_hw12.2.2.2.2.2.2.1 k1_t16
theorem k1_off68_wordsbf16 : ∀ (d0 : Dev nD) (v315 : BitVec 32) (v318 : BitVec 32) (v323 : BitVec 32) (v328 : BitVec 32) (v333 : BitVec 32) (k1_hw12 : k1_chk12 d0 v315 v318 v323 v328 v333) (k1_t16 : Fin (k1_t16_loop v315).trips), (Rect.unit (s := S4096x8x128) (k1_off68 d0 v315 v318 v323 v328 v333 k1_t16) S1x8x128.size (k1_off68_inb d0 v315 v318 v323 v328 v333 k1_hw12 k1_t16)).WholeWords (EltTy.packing .bf16) := fun d0 v315 v318 v323 v328 v333 k1_hw12 k1_t16 => k1_hw12.2.2.2.2.2.2.2 k1_t16 (k1_off68_inb d0 v315 v318 v323 v328 v333 k1_hw12 k1_t16)

def k1_chk11 (d0 : Dev nD) (v315 : BitVec 32) (v338 : BitVec 32) (v343 : BitVec 32) (v348 : BitVec 32) (v353 : BitVec 32) : Prop :=
  (∀ k1_t13 : Fin (k1_t13_loop v315).trips, ∀ a, (k1_off61 d0 v315 v338 v343 v348 v353 k1_t13) a + S32x8x128.size a ≤ S4096x8x128.size a) ∧
  (∀ k1_t13 : Fin (k1_t13_loop v315).trips, ∀ (hinb : ∀ a, (k1_off61 d0 v315 v338 v343 v348 v353 k1_t13) a + S32x8x128.size a ≤ S4096x8x128.size a), (Rect.unit (s := S4096x8x128) (k1_off61 d0 v315 v338 v343 v348 v353 k1_t13) S32x8x128.size hinb).WholeWords (EltTy.packing .bf16)) ∧
  (∀ k1_t14 : Fin (k1_t14_loop v315).trips, ∀ a, (k1_off63 d0 v315 v338 v343 v348 v353 k1_t14) a + S32x8x128.size a ≤ S4096x8x128.size a) ∧
  (∀ k1_t14 : Fin (k1_t14_loop v315).trips, ∀ (hinb : ∀ a, (k1_off63 d0 v315 v338 v343 v348 v353 k1_t14) a + S32x8x128.size a ≤ S4096x8x128.size a), (Rect.unit (s := S4096x8x128) (k1_off63 d0 v315 v338 v343 v348 v353 k1_t14) S32x8x128.size hinb).WholeWords (EltTy.packing .bf16)) ∧
  (∀ k1_t15 : Fin (k1_t15_loop v315).trips, ∀ a, (k1_off65 d0 v315 v338 v343 v348 v353 k1_t15) a + S1x8x128.size a ≤ S4096x8x128.size a) ∧
  (∀ k1_t15 : Fin (k1_t15_loop v315).trips, ∀ (hinb : ∀ a, (k1_off65 d0 v315 v338 v343 v348 v353 k1_t15) a + S1x8x128.size a ≤ S4096x8x128.size a), (Rect.unit (s := S4096x8x128) (k1_off65 d0 v315 v338 v343 v348 v353 k1_t15) S1x8x128.size hinb).WholeWords (EltTy.packing .bf16)) ∧
  (∀ k1_t16 : Fin (k1_t16_loop v315).trips, ∀ a, (k1_off67 d0 v315 v338 v343 v348 v353 k1_t16) a + S1x8x128.size a ≤ S4096x8x128.size a) ∧
  (∀ k1_t16 : Fin (k1_t16_loop v315).trips, ∀ (hinb : ∀ a, (k1_off67 d0 v315 v338 v343 v348 v353 k1_t16) a + S1x8x128.size a ≤ S4096x8x128.size a), (Rect.unit (s := S4096x8x128) (k1_off67 d0 v315 v338 v343 v348 v353 k1_t16) S1x8x128.size hinb).WholeWords (EltTy.packing .bf16))
theorem k1_off61_inb : ∀ (d0 : Dev nD) (v315 : BitVec 32) (v338 : BitVec 32) (v343 : BitVec 32) (v348 : BitVec 32) (v353 : BitVec 32) (k1_hw11 : k1_chk11 d0 v315 v338 v343 v348 v353) (k1_t13 : Fin (k1_t13_loop v315).trips), ∀ a, (k1_off61 d0 v315 v338 v343 v348 v353 k1_t13) a + S32x8x128.size a ≤ S4096x8x128.size a := fun d0 v315 v338 v343 v348 v353 k1_hw11 k1_t13 => k1_hw11.1 k1_t13
theorem k1_off61_wordsbf16 : ∀ (d0 : Dev nD) (v315 : BitVec 32) (v338 : BitVec 32) (v343 : BitVec 32) (v348 : BitVec 32) (v353 : BitVec 32) (k1_hw11 : k1_chk11 d0 v315 v338 v343 v348 v353) (k1_t13 : Fin (k1_t13_loop v315).trips), (Rect.unit (s := S4096x8x128) (k1_off61 d0 v315 v338 v343 v348 v353 k1_t13) S32x8x128.size (k1_off61_inb d0 v315 v338 v343 v348 v353 k1_hw11 k1_t13)).WholeWords (EltTy.packing .bf16) := fun d0 v315 v338 v343 v348 v353 k1_hw11 k1_t13 => k1_hw11.2.1 k1_t13 (k1_off61_inb d0 v315 v338 v343 v348 v353 k1_hw11 k1_t13)
theorem k1_off63_inb : ∀ (d0 : Dev nD) (v315 : BitVec 32) (v338 : BitVec 32) (v343 : BitVec 32) (v348 : BitVec 32) (v353 : BitVec 32) (k1_hw11 : k1_chk11 d0 v315 v338 v343 v348 v353) (k1_t14 : Fin (k1_t14_loop v315).trips), ∀ a, (k1_off63 d0 v315 v338 v343 v348 v353 k1_t14) a + S32x8x128.size a ≤ S4096x8x128.size a := fun d0 v315 v338 v343 v348 v353 k1_hw11 k1_t14 => k1_hw11.2.2.1 k1_t14
theorem k1_off63_wordsbf16 : ∀ (d0 : Dev nD) (v315 : BitVec 32) (v338 : BitVec 32) (v343 : BitVec 32) (v348 : BitVec 32) (v353 : BitVec 32) (k1_hw11 : k1_chk11 d0 v315 v338 v343 v348 v353) (k1_t14 : Fin (k1_t14_loop v315).trips), (Rect.unit (s := S4096x8x128) (k1_off63 d0 v315 v338 v343 v348 v353 k1_t14) S32x8x128.size (k1_off63_inb d0 v315 v338 v343 v348 v353 k1_hw11 k1_t14)).WholeWords (EltTy.packing .bf16) := fun d0 v315 v338 v343 v348 v353 k1_hw11 k1_t14 => k1_hw11.2.2.2.1 k1_t14 (k1_off63_inb d0 v315 v338 v343 v348 v353 k1_hw11 k1_t14)
theorem k1_off65_inb : ∀ (d0 : Dev nD) (v315 : BitVec 32) (v338 : BitVec 32) (v343 : BitVec 32) (v348 : BitVec 32) (v353 : BitVec 32) (k1_hw11 : k1_chk11 d0 v315 v338 v343 v348 v353) (k1_t15 : Fin (k1_t15_loop v315).trips), ∀ a, (k1_off65 d0 v315 v338 v343 v348 v353 k1_t15) a + S1x8x128.size a ≤ S4096x8x128.size a := fun d0 v315 v338 v343 v348 v353 k1_hw11 k1_t15 => k1_hw11.2.2.2.2.1 k1_t15
theorem k1_off65_wordsbf16 : ∀ (d0 : Dev nD) (v315 : BitVec 32) (v338 : BitVec 32) (v343 : BitVec 32) (v348 : BitVec 32) (v353 : BitVec 32) (k1_hw11 : k1_chk11 d0 v315 v338 v343 v348 v353) (k1_t15 : Fin (k1_t15_loop v315).trips), (Rect.unit (s := S4096x8x128) (k1_off65 d0 v315 v338 v343 v348 v353 k1_t15) S1x8x128.size (k1_off65_inb d0 v315 v338 v343 v348 v353 k1_hw11 k1_t15)).WholeWords (EltTy.packing .bf16) := fun d0 v315 v338 v343 v348 v353 k1_hw11 k1_t15 => k1_hw11.2.2.2.2.2.1 k1_t15 (k1_off65_inb d0 v315 v338 v343 v348 v353 k1_hw11 k1_t15)
theorem k1_off67_inb : ∀ (d0 : Dev nD) (v315 : BitVec 32) (v338 : BitVec 32) (v343 : BitVec 32) (v348 : BitVec 32) (v353 : BitVec 32) (k1_hw11 : k1_chk11 d0 v315 v338 v343 v348 v353) (k1_t16 : Fin (k1_t16_loop v315).trips), ∀ a, (k1_off67 d0 v315 v338 v343 v348 v353 k1_t16) a + S1x8x128.size a ≤ S4096x8x128.size a := fun d0 v315 v338 v343 v348 v353 k1_hw11 k1_t16 => k1_hw11.2.2.2.2.2.2.1 k1_t16
theorem k1_off67_wordsbf16 : ∀ (d0 : Dev nD) (v315 : BitVec 32) (v338 : BitVec 32) (v343 : BitVec 32) (v348 : BitVec 32) (v353 : BitVec 32) (k1_hw11 : k1_chk11 d0 v315 v338 v343 v348 v353) (k1_t16 : Fin (k1_t16_loop v315).trips), (Rect.unit (s := S4096x8x128) (k1_off67 d0 v315 v338 v343 v348 v353 k1_t16) S1x8x128.size (k1_off67_inb d0 v315 v338 v343 v348 v353 k1_hw11 k1_t16)).WholeWords (EltTy.packing .bf16) := fun d0 v315 v338 v343 v348 v353 k1_hw11 k1_t16 => k1_hw11.2.2.2.2.2.2.2 k1_t16 (k1_off67_inb d0 v315 v338 v343 v348 v353 k1_hw11 k1_t16)

def k1_off69 (d0 : Dev nD) : Fin 3 → Nat :=
  let c0_262 : Index := 0#32
  let c0_263 : Index := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v390 : Index := Scalar.indexCast v2
  ![0, 0, v390.toNat]
def k1_off70 (d0 : Dev nD) : Fin 3 → Nat :=
  let c1_282 : Index := 1#32
  let c0_283 : Index := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v424 : Index := Scalar.indexCast v2
  ![1, 0, v424.toNat]
def k1_off71 (d0 : Dev nD) : Fin 3 → Nat :=
  let c2_300 : Index := 2#32
  let c0_301 : Index := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v458 : Index := Scalar.indexCast v2
  ![2, 0, v458.toNat]
def k1_off72 (d0 : Dev nD) : Fin 3 → Nat :=
  let c3_318 : Index := 3#32
  let c0_319 : Index := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v492 : Index := Scalar.indexCast v2
  ![3, 0, v492.toNat]
@[reducible] def k1_t17_loop (v56 : BitVec 32) (v146 : BitVec 32) (v236 : BitVec 32) : Scf.Loop 32 :=
  let c0_i32_336 : BitVec 32 := 0#32
  let c0_i32_84 : BitVec 32 := 0#32
  let c0_i32_66 : BitVec 32 := 0#32
  let v98 : BitVec 1 := Scalar.cmpi .sgt v56 c0_i32_66
  let v99 : BitVec 32 := Scalar.extui v98
  let c0_i32_67 : BitVec 32 := 0#32
  let v100 : BitVec 1 := Scalar.cmpi .slt v56 c0_i32_67
  let v101 : BitVec 32 := Scalar.extui v100
  let v102 : BitVec 32 := Scalar.subi v99 v101
  let c32_i32 : BitVec 32 := 32#32
  let c0_i32_68 : BitVec 32 := 0#32
  let v103 : BitVec 1 := Scalar.cmpi .sgt c32_i32 c0_i32_68
  let v104 : BitVec 32 := Scalar.extui v103
  let c0_i32_69 : BitVec 32 := 0#32
  let v105 : BitVec 1 := Scalar.cmpi .slt c32_i32 c0_i32_69
  let v106 : BitVec 32 := Scalar.extui v105
  let v107 : BitVec 32 := Scalar.subi v104 v106
  let v108 : BitVec 1 := Scalar.cmpi .ne v102 v107
  let v109 : BitVec 32 := Scalar.remsi v56 c32_i32
  let c0_i32_70 : BitVec 32 := 0#32
  let v110 : BitVec 1 := Scalar.cmpi .ne v109 c0_i32_70
  let v111 : BitVec 1 := Scalar.andi v108 v110
  let v97 : BitVec 32 := Scalar.divsi v56 c32_i32
  let c1_i32_71 : BitVec 32 := 1#32
  let v112 : BitVec 32 := Scalar.subi v97 c1_i32_71
  let v113 : BitVec 32 := Scalar.select v111 v112 v97
  let v131 : BitVec 32 := Scalar.addi c0_i32_84 v113
  let c0_i32_129 : BitVec 32 := 0#32
  let v188 : BitVec 1 := Scalar.cmpi .sgt v146 c0_i32_129
  let v189 : BitVec 32 := Scalar.extui v188
  let c0_i32_130 : BitVec 32 := 0#32
  let v190 : BitVec 1 := Scalar.cmpi .slt v146 c0_i32_130
  let v191 : BitVec 32 := Scalar.extui v190
  let v192 : BitVec 32 := Scalar.subi v189 v191
  let c32_i32_128 : BitVec 32 := 32#32
  let c0_i32_131 : BitVec 32 := 0#32
  let v193 : BitVec 1 := Scalar.cmpi .sgt c32_i32_128 c0_i32_131
  let v194 : BitVec 32 := Scalar.extui v193
  let c0_i32_132 : BitVec 32 := 0#32
  let v195 : BitVec 1 := Scalar.cmpi .slt c32_i32_128 c0_i32_132
  let v196 : BitVec 32 := Scalar.extui v195
  let v197 : BitVec 32 := Scalar.subi v194 v196
  let v198 : BitVec 1 := Scalar.cmpi .ne v192 v197
  let v199 : BitVec 32 := Scalar.remsi v146 c32_i32_128
  let c0_i32_133 : BitVec 32 := 0#32
  let v200 : BitVec 1 := Scalar.cmpi .ne v199 c0_i32_133
  let v201 : BitVec 1 := Scalar.andi v198 v200
  let v187 : BitVec 32 := Scalar.divsi v146 c32_i32_128
  let c1_i32_134 : BitVec 32 := 1#32
  let v202 : BitVec 32 := Scalar.subi v187 c1_i32_134
  let v203 : BitVec 32 := Scalar.select v201 v202 v187
  let v221 : BitVec 32 := Scalar.addi v131 v203
  let c0_i32_190 : BitVec 32 := 0#32
  let v278 : BitVec 1 := Scalar.cmpi .sgt v236 c0_i32_190
  let v279 : BitVec 32 := Scalar.extui v278
  let c0_i32_191 : BitVec 32 := 0#32
  let v280 : BitVec 1 := Scalar.cmpi .slt v236 c0_i32_191
  let v281 : BitVec 32 := Scalar.extui v280
  let v282 : BitVec 32 := Scalar.subi v279 v281
  let c32_i32_189 : BitVec 32 := 32#32
  let c0_i32_192 : BitVec 32 := 0#32
  let v283 : BitVec 1 := Scalar.cmpi .sgt c32_i32_189 c0_i32_192
  let v284 : BitVec 32 := Scalar.extui v283
  let c0_i32_193 : BitVec 32 := 0#32
  let v285 : BitVec 1 := Scalar.cmpi .slt c32_i32_189 c0_i32_193
  let v286 : BitVec 32 := Scalar.extui v285
  let v287 : BitVec 32 := Scalar.subi v284 v286
  let v288 : BitVec 1 := Scalar.cmpi .ne v282 v287
  let v289 : BitVec 32 := Scalar.remsi v236 c32_i32_189
  let c0_i32_194 : BitVec 32 := 0#32
  let v290 : BitVec 1 := Scalar.cmpi .ne v289 c0_i32_194
  let v291 : BitVec 1 := Scalar.andi v288 v290
  let v277 : BitVec 32 := Scalar.divsi v236 c32_i32_189
  let c1_i32_195 : BitVec 32 := 1#32
  let v292 : BitVec 32 := Scalar.subi v277 c1_i32_195
  let v293 : BitVec 32 := Scalar.select v291 v292 v277
  let v311 : BitVec 32 := Scalar.addi v221 v293
  let v526 : BitVec 32 := Scalar.subi v311 c0_i32_336
  let c1_i32_338 : BitVec 32 := 1#32
  let v528 : BitVec 32 := Scalar.divsi v526 c1_i32_338
  let v529 : BitVec 32 := Scalar.muli v528 c1_i32_338
  let v530 : BitVec 32 := Scalar.addi c0_i32_336 v529
  let c1_i32_339 : BitVec 32 := 1#32
  ⟨c0_i32_336, v530, c1_i32_339⟩
@[reducible] def k1_t18_loop (v56 : BitVec 32) (v146 : BitVec 32) (v236 : BitVec 32) : Scf.Loop 32 :=
  let c0_i32_336 : BitVec 32 := 0#32
  let c0_i32_84 : BitVec 32 := 0#32
  let c0_i32_66 : BitVec 32 := 0#32
  let v98 : BitVec 1 := Scalar.cmpi .sgt v56 c0_i32_66
  let v99 : BitVec 32 := Scalar.extui v98
  let c0_i32_67 : BitVec 32 := 0#32
  let v100 : BitVec 1 := Scalar.cmpi .slt v56 c0_i32_67
  let v101 : BitVec 32 := Scalar.extui v100
  let v102 : BitVec 32 := Scalar.subi v99 v101
  let c32_i32 : BitVec 32 := 32#32
  let c0_i32_68 : BitVec 32 := 0#32
  let v103 : BitVec 1 := Scalar.cmpi .sgt c32_i32 c0_i32_68
  let v104 : BitVec 32 := Scalar.extui v103
  let c0_i32_69 : BitVec 32 := 0#32
  let v105 : BitVec 1 := Scalar.cmpi .slt c32_i32 c0_i32_69
  let v106 : BitVec 32 := Scalar.extui v105
  let v107 : BitVec 32 := Scalar.subi v104 v106
  let v108 : BitVec 1 := Scalar.cmpi .ne v102 v107
  let v109 : BitVec 32 := Scalar.remsi v56 c32_i32
  let c0_i32_70 : BitVec 32 := 0#32
  let v110 : BitVec 1 := Scalar.cmpi .ne v109 c0_i32_70
  let v111 : BitVec 1 := Scalar.andi v108 v110
  let v97 : BitVec 32 := Scalar.divsi v56 c32_i32
  let c1_i32_71 : BitVec 32 := 1#32
  let v112 : BitVec 32 := Scalar.subi v97 c1_i32_71
  let v113 : BitVec 32 := Scalar.select v111 v112 v97
  let v131 : BitVec 32 := Scalar.addi c0_i32_84 v113
  let c0_i32_129 : BitVec 32 := 0#32
  let v188 : BitVec 1 := Scalar.cmpi .sgt v146 c0_i32_129
  let v189 : BitVec 32 := Scalar.extui v188
  let c0_i32_130 : BitVec 32 := 0#32
  let v190 : BitVec 1 := Scalar.cmpi .slt v146 c0_i32_130
  let v191 : BitVec 32 := Scalar.extui v190
  let v192 : BitVec 32 := Scalar.subi v189 v191
  let c32_i32_128 : BitVec 32 := 32#32
  let c0_i32_131 : BitVec 32 := 0#32
  let v193 : BitVec 1 := Scalar.cmpi .sgt c32_i32_128 c0_i32_131
  let v194 : BitVec 32 := Scalar.extui v193
  let c0_i32_132 : BitVec 32 := 0#32
  let v195 : BitVec 1 := Scalar.cmpi .slt c32_i32_128 c0_i32_132
  let v196 : BitVec 32 := Scalar.extui v195
  let v197 : BitVec 32 := Scalar.subi v194 v196
  let v198 : BitVec 1 := Scalar.cmpi .ne v192 v197
  let v199 : BitVec 32 := Scalar.remsi v146 c32_i32_128
  let c0_i32_133 : BitVec 32 := 0#32
  let v200 : BitVec 1 := Scalar.cmpi .ne v199 c0_i32_133
  let v201 : BitVec 1 := Scalar.andi v198 v200
  let v187 : BitVec 32 := Scalar.divsi v146 c32_i32_128
  let c1_i32_134 : BitVec 32 := 1#32
  let v202 : BitVec 32 := Scalar.subi v187 c1_i32_134
  let v203 : BitVec 32 := Scalar.select v201 v202 v187
  let v221 : BitVec 32 := Scalar.addi v131 v203
  let c0_i32_190 : BitVec 32 := 0#32
  let v278 : BitVec 1 := Scalar.cmpi .sgt v236 c0_i32_190
  let v279 : BitVec 32 := Scalar.extui v278
  let c0_i32_191 : BitVec 32 := 0#32
  let v280 : BitVec 1 := Scalar.cmpi .slt v236 c0_i32_191
  let v281 : BitVec 32 := Scalar.extui v280
  let v282 : BitVec 32 := Scalar.subi v279 v281
  let c32_i32_189 : BitVec 32 := 32#32
  let c0_i32_192 : BitVec 32 := 0#32
  let v283 : BitVec 1 := Scalar.cmpi .sgt c32_i32_189 c0_i32_192
  let v284 : BitVec 32 := Scalar.extui v283
  let c0_i32_193 : BitVec 32 := 0#32
  let v285 : BitVec 1 := Scalar.cmpi .slt c32_i32_189 c0_i32_193
  let v286 : BitVec 32 := Scalar.extui v285
  let v287 : BitVec 32 := Scalar.subi v284 v286
  let v288 : BitVec 1 := Scalar.cmpi .ne v282 v287
  let v289 : BitVec 32 := Scalar.remsi v236 c32_i32_189
  let c0_i32_194 : BitVec 32 := 0#32
  let v290 : BitVec 1 := Scalar.cmpi .ne v289 c0_i32_194
  let v291 : BitVec 1 := Scalar.andi v288 v290
  let v277 : BitVec 32 := Scalar.divsi v236 c32_i32_189
  let c1_i32_195 : BitVec 32 := 1#32
  let v292 : BitVec 32 := Scalar.subi v277 c1_i32_195
  let v293 : BitVec 32 := Scalar.select v291 v292 v277
  let v311 : BitVec 32 := Scalar.addi v221 v293
  let v526 : BitVec 32 := Scalar.subi v311 c0_i32_336
  let c1_i32_338 : BitVec 32 := 1#32
  let v528 : BitVec 32 := Scalar.divsi v526 c1_i32_338
  let v529 : BitVec 32 := Scalar.muli v528 c1_i32_338
  let v530 : BitVec 32 := Scalar.addi c0_i32_336 v529
  let v527 : BitVec 32 := Scalar.addi c0_i32_336 v526
  let c1_i32_340 : BitVec 32 := 1#32
  ⟨v530, v527, c1_i32_340⟩
@[reducible] def k1_t19_loop (v56 : BitVec 32) (v146 : BitVec 32) (v236 : BitVec 32) : Scf.Loop 32 :=
  let c0_i32_341 : BitVec 32 := 0#32
  let c0_i32_85 : BitVec 32 := 0#32
  let c0_i32_66 : BitVec 32 := 0#32
  let v98 : BitVec 1 := Scalar.cmpi .sgt v56 c0_i32_66
  let v99 : BitVec 32 := Scalar.extui v98
  let c0_i32_67 : BitVec 32 := 0#32
  let v100 : BitVec 1 := Scalar.cmpi .slt v56 c0_i32_67
  let v101 : BitVec 32 := Scalar.extui v100
  let v102 : BitVec 32 := Scalar.subi v99 v101
  let c32_i32 : BitVec 32 := 32#32
  let c0_i32_68 : BitVec 32 := 0#32
  let v103 : BitVec 1 := Scalar.cmpi .sgt c32_i32 c0_i32_68
  let v104 : BitVec 32 := Scalar.extui v103
  let c0_i32_69 : BitVec 32 := 0#32
  let v105 : BitVec 1 := Scalar.cmpi .slt c32_i32 c0_i32_69
  let v106 : BitVec 32 := Scalar.extui v105
  let v107 : BitVec 32 := Scalar.subi v104 v106
  let v108 : BitVec 1 := Scalar.cmpi .ne v102 v107
  let v109 : BitVec 32 := Scalar.remsi v56 c32_i32
  let c0_i32_70 : BitVec 32 := 0#32
  let v110 : BitVec 1 := Scalar.cmpi .ne v109 c0_i32_70
  let v111 : BitVec 1 := Scalar.andi v108 v110
  let v97 : BitVec 32 := Scalar.divsi v56 c32_i32
  let c1_i32_71 : BitVec 32 := 1#32
  let v112 : BitVec 32 := Scalar.subi v97 c1_i32_71
  let v113 : BitVec 32 := Scalar.select v111 v112 v97
  let c32_i32_72 : BitVec 32 := 32#32
  let v114 : BitVec 32 := Scalar.muli v113 c32_i32_72
  let v115 : BitVec 32 := Scalar.subi v56 v114
  let v132 : BitVec 32 := Scalar.addi c0_i32_85 v115
  let c0_i32_129 : BitVec 32 := 0#32
  let v188 : BitVec 1 := Scalar.cmpi .sgt v146 c0_i32_129
  let v189 : BitVec 32 := Scalar.extui v188
  let c0_i32_130 : BitVec 32 := 0#32
  let v190 : BitVec 1 := Scalar.cmpi .slt v146 c0_i32_130
  let v191 : BitVec 32 := Scalar.extui v190
  let v192 : BitVec 32 := Scalar.subi v189 v191
  let c32_i32_128 : BitVec 32 := 32#32
  let c0_i32_131 : BitVec 32 := 0#32
  let v193 : BitVec 1 := Scalar.cmpi .sgt c32_i32_128 c0_i32_131
  let v194 : BitVec 32 := Scalar.extui v193
  let c0_i32_132 : BitVec 32 := 0#32
  let v195 : BitVec 1 := Scalar.cmpi .slt c32_i32_128 c0_i32_132
  let v196 : BitVec 32 := Scalar.extui v195
  let v197 : BitVec 32 := Scalar.subi v194 v196
  let v198 : BitVec 1 := Scalar.cmpi .ne v192 v197
  let v199 : BitVec 32 := Scalar.remsi v146 c32_i32_128
  let c0_i32_133 : BitVec 32 := 0#32
  let v200 : BitVec 1 := Scalar.cmpi .ne v199 c0_i32_133
  let v201 : BitVec 1 := Scalar.andi v198 v200
  let v187 : BitVec 32 := Scalar.divsi v146 c32_i32_128
  let c1_i32_134 : BitVec 32 := 1#32
  let v202 : BitVec 32 := Scalar.subi v187 c1_i32_134
  let v203 : BitVec 32 := Scalar.select v201 v202 v187
  let c32_i32_135 : BitVec 32 := 32#32
  let v204 : BitVec 32 := Scalar.muli v203 c32_i32_135
  let v205 : BitVec 32 := Scalar.subi v146 v204
  let v222 : BitVec 32 := Scalar.addi v132 v205
  let c0_i32_190 : BitVec 32 := 0#32
  let v278 : BitVec 1 := Scalar.cmpi .sgt v236 c0_i32_190
  let v279 : BitVec 32 := Scalar.extui v278
  let c0_i32_191 : BitVec 32 := 0#32
  let v280 : BitVec 1 := Scalar.cmpi .slt v236 c0_i32_191
  let v281 : BitVec 32 := Scalar.extui v280
  let v282 : BitVec 32 := Scalar.subi v279 v281
  let c32_i32_189 : BitVec 32 := 32#32
  let c0_i32_192 : BitVec 32 := 0#32
  let v283 : BitVec 1 := Scalar.cmpi .sgt c32_i32_189 c0_i32_192
  let v284 : BitVec 32 := Scalar.extui v283
  let c0_i32_193 : BitVec 32 := 0#32
  let v285 : BitVec 1 := Scalar.cmpi .slt c32_i32_189 c0_i32_193
  let v286 : BitVec 32 := Scalar.extui v285
  let v287 : BitVec 32 := Scalar.subi v284 v286
  let v288 : BitVec 1 := Scalar.cmpi .ne v282 v287
  let v289 : BitVec 32 := Scalar.remsi v236 c32_i32_189
  let c0_i32_194 : BitVec 32 := 0#32
  let v290 : BitVec 1 := Scalar.cmpi .ne v289 c0_i32_194
  let v291 : BitVec 1 := Scalar.andi v288 v290
  let v277 : BitVec 32 := Scalar.divsi v236 c32_i32_189
  let c1_i32_195 : BitVec 32 := 1#32
  let v292 : BitVec 32 := Scalar.subi v277 c1_i32_195
  let v293 : BitVec 32 := Scalar.select v291 v292 v277
  let c32_i32_196 : BitVec 32 := 32#32
  let v294 : BitVec 32 := Scalar.muli v293 c32_i32_196
  let v295 : BitVec 32 := Scalar.subi v236 v294
  let v312 : BitVec 32 := Scalar.addi v222 v295
  let v533 : BitVec 32 := Scalar.subi v312 c0_i32_341
  let c1_i32_343 : BitVec 32 := 1#32
  let v535 : BitVec 32 := Scalar.divsi v533 c1_i32_343
  let v536 : BitVec 32 := Scalar.muli v535 c1_i32_343
  let v537 : BitVec 32 := Scalar.addi c0_i32_341 v536
  let c1_i32_344 : BitVec 32 := 1#32
  ⟨c0_i32_341, v537, c1_i32_344⟩
@[reducible] def k1_t20_loop (v56 : BitVec 32) (v146 : BitVec 32) (v236 : BitVec 32) : Scf.Loop 32 :=
  let c0_i32_341 : BitVec 32 := 0#32
  let c0_i32_85 : BitVec 32 := 0#32
  let c0_i32_66 : BitVec 32 := 0#32
  let v98 : BitVec 1 := Scalar.cmpi .sgt v56 c0_i32_66
  let v99 : BitVec 32 := Scalar.extui v98
  let c0_i32_67 : BitVec 32 := 0#32
  let v100 : BitVec 1 := Scalar.cmpi .slt v56 c0_i32_67
  let v101 : BitVec 32 := Scalar.extui v100
  let v102 : BitVec 32 := Scalar.subi v99 v101
  let c32_i32 : BitVec 32 := 32#32
  let c0_i32_68 : BitVec 32 := 0#32
  let v103 : BitVec 1 := Scalar.cmpi .sgt c32_i32 c0_i32_68
  let v104 : BitVec 32 := Scalar.extui v103
  let c0_i32_69 : BitVec 32 := 0#32
  let v105 : BitVec 1 := Scalar.cmpi .slt c32_i32 c0_i32_69
  let v106 : BitVec 32 := Scalar.extui v105
  let v107 : BitVec 32 := Scalar.subi v104 v106
  let v108 : BitVec 1 := Scalar.cmpi .ne v102 v107
  let v109 : BitVec 32 := Scalar.remsi v56 c32_i32
  let c0_i32_70 : BitVec 32 := 0#32
  let v110 : BitVec 1 := Scalar.cmpi .ne v109 c0_i32_70
  let v111 : BitVec 1 := Scalar.andi v108 v110
  let v97 : BitVec 32 := Scalar.divsi v56 c32_i32
  let c1_i32_71 : BitVec 32 := 1#32
  let v112 : BitVec 32 := Scalar.subi v97 c1_i32_71
  let v113 : BitVec 32 := Scalar.select v111 v112 v97
  let c32_i32_72 : BitVec 32 := 32#32
  let v114 : BitVec 32 := Scalar.muli v113 c32_i32_72
  let v115 : BitVec 32 := Scalar.subi v56 v114
  let v132 : BitVec 32 := Scalar.addi c0_i32_85 v115
  let c0_i32_129 : BitVec 32 := 0#32
  let v188 : BitVec 1 := Scalar.cmpi .sgt v146 c0_i32_129
  let v189 : BitVec 32 := Scalar.extui v188
  let c0_i32_130 : BitVec 32 := 0#32
  let v190 : BitVec 1 := Scalar.cmpi .slt v146 c0_i32_130
  let v191 : BitVec 32 := Scalar.extui v190
  let v192 : BitVec 32 := Scalar.subi v189 v191
  let c32_i32_128 : BitVec 32 := 32#32
  let c0_i32_131 : BitVec 32 := 0#32
  let v193 : BitVec 1 := Scalar.cmpi .sgt c32_i32_128 c0_i32_131
  let v194 : BitVec 32 := Scalar.extui v193
  let c0_i32_132 : BitVec 32 := 0#32
  let v195 : BitVec 1 := Scalar.cmpi .slt c32_i32_128 c0_i32_132
  let v196 : BitVec 32 := Scalar.extui v195
  let v197 : BitVec 32 := Scalar.subi v194 v196
  let v198 : BitVec 1 := Scalar.cmpi .ne v192 v197
  let v199 : BitVec 32 := Scalar.remsi v146 c32_i32_128
  let c0_i32_133 : BitVec 32 := 0#32
  let v200 : BitVec 1 := Scalar.cmpi .ne v199 c0_i32_133
  let v201 : BitVec 1 := Scalar.andi v198 v200
  let v187 : BitVec 32 := Scalar.divsi v146 c32_i32_128
  let c1_i32_134 : BitVec 32 := 1#32
  let v202 : BitVec 32 := Scalar.subi v187 c1_i32_134
  let v203 : BitVec 32 := Scalar.select v201 v202 v187
  let c32_i32_135 : BitVec 32 := 32#32
  let v204 : BitVec 32 := Scalar.muli v203 c32_i32_135
  let v205 : BitVec 32 := Scalar.subi v146 v204
  let v222 : BitVec 32 := Scalar.addi v132 v205
  let c0_i32_190 : BitVec 32 := 0#32
  let v278 : BitVec 1 := Scalar.cmpi .sgt v236 c0_i32_190
  let v279 : BitVec 32 := Scalar.extui v278
  let c0_i32_191 : BitVec 32 := 0#32
  let v280 : BitVec 1 := Scalar.cmpi .slt v236 c0_i32_191
  let v281 : BitVec 32 := Scalar.extui v280
  let v282 : BitVec 32 := Scalar.subi v279 v281
  let c32_i32_189 : BitVec 32 := 32#32
  let c0_i32_192 : BitVec 32 := 0#32
  let v283 : BitVec 1 := Scalar.cmpi .sgt c32_i32_189 c0_i32_192
  let v284 : BitVec 32 := Scalar.extui v283
  let c0_i32_193 : BitVec 32 := 0#32
  let v285 : BitVec 1 := Scalar.cmpi .slt c32_i32_189 c0_i32_193
  let v286 : BitVec 32 := Scalar.extui v285
  let v287 : BitVec 32 := Scalar.subi v284 v286
  let v288 : BitVec 1 := Scalar.cmpi .ne v282 v287
  let v289 : BitVec 32 := Scalar.remsi v236 c32_i32_189
  let c0_i32_194 : BitVec 32 := 0#32
  let v290 : BitVec 1 := Scalar.cmpi .ne v289 c0_i32_194
  let v291 : BitVec 1 := Scalar.andi v288 v290
  let v277 : BitVec 32 := Scalar.divsi v236 c32_i32_189
  let c1_i32_195 : BitVec 32 := 1#32
  let v292 : BitVec 32 := Scalar.subi v277 c1_i32_195
  let v293 : BitVec 32 := Scalar.select v291 v292 v277
  let c32_i32_196 : BitVec 32 := 32#32
  let v294 : BitVec 32 := Scalar.muli v293 c32_i32_196
  let v295 : BitVec 32 := Scalar.subi v236 v294
  let v312 : BitVec 32 := Scalar.addi v222 v295
  let v533 : BitVec 32 := Scalar.subi v312 c0_i32_341
  let c1_i32_343 : BitVec 32 := 1#32
  let v535 : BitVec 32 := Scalar.divsi v533 c1_i32_343
  let v536 : BitVec 32 := Scalar.muli v535 c1_i32_343
  let v537 : BitVec 32 := Scalar.addi c0_i32_341 v536
  let v534 : BitVec 32 := Scalar.addi c0_i32_341 v533
  let c1_i32_345 : BitVec 32 := 1#32
  ⟨v537, v534, c1_i32_345⟩

def k1_chk7 (v56 : BitVec 32) (v146 : BitVec 32) (v236 : BitVec 32) : Prop :=
  ((k1_t9_loop v236).OK) ∧
  ((k1_t10_loop v236).OK) ∧
  ((k1_t11_loop v236).OK) ∧
  ((k1_t12_loop v236).OK) ∧
  ((k1_t17_loop v56 v146 v236).OK) ∧
  ((k1_t18_loop v56 v146 v236).OK) ∧
  ((k1_t19_loop v56 v146 v236).OK) ∧
  ((k1_t20_loop v56 v146 v236).OK)
theorem k1_t9_ok : ∀ (v56 : BitVec 32) (v146 : BitVec 32) (v236 : BitVec 32) (k1_hw7 : k1_chk7 v56 v146 v236), (k1_t9_loop v236).OK := fun v56 v146 v236 k1_hw7 => k1_hw7.1
theorem k1_t10_ok : ∀ (v56 : BitVec 32) (v146 : BitVec 32) (v236 : BitVec 32) (k1_hw7 : k1_chk7 v56 v146 v236), (k1_t10_loop v236).OK := fun v56 v146 v236 k1_hw7 => k1_hw7.2.1
theorem k1_t11_ok : ∀ (v56 : BitVec 32) (v146 : BitVec 32) (v236 : BitVec 32) (k1_hw7 : k1_chk7 v56 v146 v236), (k1_t11_loop v236).OK := fun v56 v146 v236 k1_hw7 => k1_hw7.2.2.1
theorem k1_t12_ok : ∀ (v56 : BitVec 32) (v146 : BitVec 32) (v236 : BitVec 32) (k1_hw7 : k1_chk7 v56 v146 v236), (k1_t12_loop v236).OK := fun v56 v146 v236 k1_hw7 => k1_hw7.2.2.2.1
theorem k1_t17_ok : ∀ (v56 : BitVec 32) (v146 : BitVec 32) (v236 : BitVec 32) (k1_hw7 : k1_chk7 v56 v146 v236), (k1_t17_loop v56 v146 v236).OK := fun v56 v146 v236 k1_hw7 => k1_hw7.2.2.2.2.1
theorem k1_t18_ok : ∀ (v56 : BitVec 32) (v146 : BitVec 32) (v236 : BitVec 32) (k1_hw7 : k1_chk7 v56 v146 v236), (k1_t18_loop v56 v146 v236).OK := fun v56 v146 v236 k1_hw7 => k1_hw7.2.2.2.2.2.1
theorem k1_t19_ok : ∀ (v56 : BitVec 32) (v146 : BitVec 32) (v236 : BitVec 32) (k1_hw7 : k1_chk7 v56 v146 v236), (k1_t19_loop v56 v146 v236).OK := fun v56 v146 v236 k1_hw7 => k1_hw7.2.2.2.2.2.2.1
theorem k1_t20_ok : ∀ (v56 : BitVec 32) (v146 : BitVec 32) (v236 : BitVec 32) (k1_hw7 : k1_chk7 v56 v146 v236), (k1_t20_loop v56 v146 v236).OK := fun v56 v146 v236 k1_hw7 => k1_hw7.2.2.2.2.2.2.2

@[reducible] def k1_t21_loop (d0 : Dev nD) (v391 : BitVec 32) (v425 : BitVec 32) (v459 : BitVec 32) (v493 : BitVec 32) : Scf.Loop 32 :=
  let c0_i32_346 : BitVec 32 := 0#32
  let c0_i32_273 : BitVec 32 := 0#32
  let c0_i32_264 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v392 : BitVec 1 := Scalar.cmpi .ne c0_i32_264 v2
  let c0_i32_266 : BitVec 32 := 0#32
  let v394 : BitVec 1 := Scalar.cmpi .sgt v391 c0_i32_266
  let v395 : BitVec 32 := Scalar.extui v394
  let c0_i32_267 : BitVec 32 := 0#32
  let v396 : BitVec 1 := Scalar.cmpi .slt v391 c0_i32_267
  let v397 : BitVec 32 := Scalar.extui v396
  let v398 : BitVec 32 := Scalar.subi v395 v397
  let c32_i32_265 : BitVec 32 := 32#32
  let c0_i32_268 : BitVec 32 := 0#32
  let v399 : BitVec 1 := Scalar.cmpi .sgt c32_i32_265 c0_i32_268
  let v400 : BitVec 32 := Scalar.extui v399
  let c0_i32_269 : BitVec 32 := 0#32
  let v401 : BitVec 1 := Scalar.cmpi .slt c32_i32_265 c0_i32_269
  let v402 : BitVec 32 := Scalar.extui v401
  let v403 : BitVec 32 := Scalar.subi v400 v402
  let v404 : BitVec 1 := Scalar.cmpi .ne v398 v403
  let v405 : BitVec 32 := Scalar.remsi v391 c32_i32_265
  let c0_i32_270 : BitVec 32 := 0#32
  let v406 : BitVec 1 := Scalar.cmpi .ne v405 c0_i32_270
  let v407 : BitVec 1 := Scalar.andi v404 v406
  let v393 : BitVec 32 := Scalar.divsi v391 c32_i32_265
  let c1_i32_271 : BitVec 32 := 1#32
  let v408 : BitVec 32 := Scalar.subi v393 c1_i32_271
  let v409 : BitVec 32 := Scalar.select v407 v408 v393
  let c0_i32_272 : BitVec 32 := 0#32
  let v410 : BitVec 32 := Scalar.select v392 v409 c0_i32_272
  let v411 : BitVec 32 := Scalar.addi c0_i32_273 v410
  let c1_i32_284 : BitVec 32 := 1#32
  let v426 : BitVec 1 := Scalar.cmpi .ne c1_i32_284 v2
  let c0_i32_286 : BitVec 32 := 0#32
  let v428 : BitVec 1 := Scalar.cmpi .sgt v425 c0_i32_286
  let v429 : BitVec 32 := Scalar.extui v428
  let c0_i32_287 : BitVec 32 := 0#32
  let v430 : BitVec 1 := Scalar.cmpi .slt v425 c0_i32_287
  let v431 : BitVec 32 := Scalar.extui v430
  let v432 : BitVec 32 := Scalar.subi v429 v431
  let c32_i32_285 : BitVec 32 := 32#32
  let c0_i32_288 : BitVec 32 := 0#32
  let v433 : BitVec 1 := Scalar.cmpi .sgt c32_i32_285 c0_i32_288
  let v434 : BitVec 32 := Scalar.extui v433
  let c0_i32_289 : BitVec 32 := 0#32
  let v435 : BitVec 1 := Scalar.cmpi .slt c32_i32_285 c0_i32_289
  let v436 : BitVec 32 := Scalar.extui v435
  let v437 : BitVec 32 := Scalar.subi v434 v436
  let v438 : BitVec 1 := Scalar.cmpi .ne v432 v437
  let v439 : BitVec 32 := Scalar.remsi v425 c32_i32_285
  let c0_i32_290 : BitVec 32 := 0#32
  let v440 : BitVec 1 := Scalar.cmpi .ne v439 c0_i32_290
  let v441 : BitVec 1 := Scalar.andi v438 v440
  let v427 : BitVec 32 := Scalar.divsi v425 c32_i32_285
  let c1_i32_291 : BitVec 32 := 1#32
  let v442 : BitVec 32 := Scalar.subi v427 c1_i32_291
  let v443 : BitVec 32 := Scalar.select v441 v442 v427
  let c0_i32_292 : BitVec 32 := 0#32
  let v444 : BitVec 32 := Scalar.select v426 v443 c0_i32_292
  let v445 : BitVec 32 := Scalar.addi v411 v444
  let c2_i32_302 : BitVec 32 := 2#32
  let v460 : BitVec 1 := Scalar.cmpi .ne c2_i32_302 v2
  let c0_i32_304 : BitVec 32 := 0#32
  let v462 : BitVec 1 := Scalar.cmpi .sgt v459 c0_i32_304
  let v463 : BitVec 32 := Scalar.extui v462
  let c0_i32_305 : BitVec 32 := 0#32
  let v464 : BitVec 1 := Scalar.cmpi .slt v459 c0_i32_305
  let v465 : BitVec 32 := Scalar.extui v464
  let v466 : BitVec 32 := Scalar.subi v463 v465
  let c32_i32_303 : BitVec 32 := 32#32
  let c0_i32_306 : BitVec 32 := 0#32
  let v467 : BitVec 1 := Scalar.cmpi .sgt c32_i32_303 c0_i32_306
  let v468 : BitVec 32 := Scalar.extui v467
  let c0_i32_307 : BitVec 32 := 0#32
  let v469 : BitVec 1 := Scalar.cmpi .slt c32_i32_303 c0_i32_307
  let v470 : BitVec 32 := Scalar.extui v469
  let v471 : BitVec 32 := Scalar.subi v468 v470
  let v472 : BitVec 1 := Scalar.cmpi .ne v466 v471
  let v473 : BitVec 32 := Scalar.remsi v459 c32_i32_303
  let c0_i32_308 : BitVec 32 := 0#32
  let v474 : BitVec 1 := Scalar.cmpi .ne v473 c0_i32_308
  let v475 : BitVec 1 := Scalar.andi v472 v474
  let v461 : BitVec 32 := Scalar.divsi v459 c32_i32_303
  let c1_i32_309 : BitVec 32 := 1#32
  let v476 : BitVec 32 := Scalar.subi v461 c1_i32_309
  let v477 : BitVec 32 := Scalar.select v475 v476 v461
  let c0_i32_310 : BitVec 32 := 0#32
  let v478 : BitVec 32 := Scalar.select v460 v477 c0_i32_310
  let v479 : BitVec 32 := Scalar.addi v445 v478
  let c3_i32_320 : BitVec 32 := 3#32
  let v494 : BitVec 1 := Scalar.cmpi .ne c3_i32_320 v2
  let c0_i32_322 : BitVec 32 := 0#32
  let v496 : BitVec 1 := Scalar.cmpi .sgt v493 c0_i32_322
  let v497 : BitVec 32 := Scalar.extui v496
  let c0_i32_323 : BitVec 32 := 0#32
  let v498 : BitVec 1 := Scalar.cmpi .slt v493 c0_i32_323
  let v499 : BitVec 32 := Scalar.extui v498
  let v500 : BitVec 32 := Scalar.subi v497 v499
  let c32_i32_321 : BitVec 32 := 32#32
  let c0_i32_324 : BitVec 32 := 0#32
  let v501 : BitVec 1 := Scalar.cmpi .sgt c32_i32_321 c0_i32_324
  let v502 : BitVec 32 := Scalar.extui v501
  let c0_i32_325 : BitVec 32 := 0#32
  let v503 : BitVec 1 := Scalar.cmpi .slt c32_i32_321 c0_i32_325
  let v504 : BitVec 32 := Scalar.extui v503
  let v505 : BitVec 32 := Scalar.subi v502 v504
  let v506 : BitVec 1 := Scalar.cmpi .ne v500 v505
  let v507 : BitVec 32 := Scalar.remsi v493 c32_i32_321
  let c0_i32_326 : BitVec 32 := 0#32
  let v508 : BitVec 1 := Scalar.cmpi .ne v507 c0_i32_326
  let v509 : BitVec 1 := Scalar.andi v506 v508
  let v495 : BitVec 32 := Scalar.divsi v493 c32_i32_321
  let c1_i32_327 : BitVec 32 := 1#32
  let v510 : BitVec 32 := Scalar.subi v495 c1_i32_327
  let v511 : BitVec 32 := Scalar.select v509 v510 v495
  let c0_i32_328 : BitVec 32 := 0#32
  let v512 : BitVec 32 := Scalar.select v494 v511 c0_i32_328
  let v513 : BitVec 32 := Scalar.addi v479 v512
  let v540 : BitVec 32 := Scalar.subi v513 c0_i32_346
  let c1_i32_348 : BitVec 32 := 1#32
  let v542 : BitVec 32 := Scalar.divsi v540 c1_i32_348
  let v543 : BitVec 32 := Scalar.muli v542 c1_i32_348
  let v544 : BitVec 32 := Scalar.addi c0_i32_346 v543
  let c1_i32_349 : BitVec 32 := 1#32
  ⟨c0_i32_346, v544, c1_i32_349⟩

@[reducible] def k1_t22_loop (d0 : Dev nD) (v391 : BitVec 32) (v425 : BitVec 32) (v459 : BitVec 32) (v493 : BitVec 32) : Scf.Loop 32 :=
  let c0_i32_346 : BitVec 32 := 0#32
  let c0_i32_273 : BitVec 32 := 0#32
  let c0_i32_264 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v392 : BitVec 1 := Scalar.cmpi .ne c0_i32_264 v2
  let c0_i32_266 : BitVec 32 := 0#32
  let v394 : BitVec 1 := Scalar.cmpi .sgt v391 c0_i32_266
  let v395 : BitVec 32 := Scalar.extui v394
  let c0_i32_267 : BitVec 32 := 0#32
  let v396 : BitVec 1 := Scalar.cmpi .slt v391 c0_i32_267
  let v397 : BitVec 32 := Scalar.extui v396
  let v398 : BitVec 32 := Scalar.subi v395 v397
  let c32_i32_265 : BitVec 32 := 32#32
  let c0_i32_268 : BitVec 32 := 0#32
  let v399 : BitVec 1 := Scalar.cmpi .sgt c32_i32_265 c0_i32_268
  let v400 : BitVec 32 := Scalar.extui v399
  let c0_i32_269 : BitVec 32 := 0#32
  let v401 : BitVec 1 := Scalar.cmpi .slt c32_i32_265 c0_i32_269
  let v402 : BitVec 32 := Scalar.extui v401
  let v403 : BitVec 32 := Scalar.subi v400 v402
  let v404 : BitVec 1 := Scalar.cmpi .ne v398 v403
  let v405 : BitVec 32 := Scalar.remsi v391 c32_i32_265
  let c0_i32_270 : BitVec 32 := 0#32
  let v406 : BitVec 1 := Scalar.cmpi .ne v405 c0_i32_270
  let v407 : BitVec 1 := Scalar.andi v404 v406
  let v393 : BitVec 32 := Scalar.divsi v391 c32_i32_265
  let c1_i32_271 : BitVec 32 := 1#32
  let v408 : BitVec 32 := Scalar.subi v393 c1_i32_271
  let v409 : BitVec 32 := Scalar.select v407 v408 v393
  let c0_i32_272 : BitVec 32 := 0#32
  let v410 : BitVec 32 := Scalar.select v392 v409 c0_i32_272
  let v411 : BitVec 32 := Scalar.addi c0_i32_273 v410
  let c1_i32_284 : BitVec 32 := 1#32
  let v426 : BitVec 1 := Scalar.cmpi .ne c1_i32_284 v2
  let c0_i32_286 : BitVec 32 := 0#32
  let v428 : BitVec 1 := Scalar.cmpi .sgt v425 c0_i32_286
  let v429 : BitVec 32 := Scalar.extui v428
  let c0_i32_287 : BitVec 32 := 0#32
  let v430 : BitVec 1 := Scalar.cmpi .slt v425 c0_i32_287
  let v431 : BitVec 32 := Scalar.extui v430
  let v432 : BitVec 32 := Scalar.subi v429 v431
  let c32_i32_285 : BitVec 32 := 32#32
  let c0_i32_288 : BitVec 32 := 0#32
  let v433 : BitVec 1 := Scalar.cmpi .sgt c32_i32_285 c0_i32_288
  let v434 : BitVec 32 := Scalar.extui v433
  let c0_i32_289 : BitVec 32 := 0#32
  let v435 : BitVec 1 := Scalar.cmpi .slt c32_i32_285 c0_i32_289
  let v436 : BitVec 32 := Scalar.extui v435
  let v437 : BitVec 32 := Scalar.subi v434 v436
  let v438 : BitVec 1 := Scalar.cmpi .ne v432 v437
  let v439 : BitVec 32 := Scalar.remsi v425 c32_i32_285
  let c0_i32_290 : BitVec 32 := 0#32
  let v440 : BitVec 1 := Scalar.cmpi .ne v439 c0_i32_290
  let v441 : BitVec 1 := Scalar.andi v438 v440
  let v427 : BitVec 32 := Scalar.divsi v425 c32_i32_285
  let c1_i32_291 : BitVec 32 := 1#32
  let v442 : BitVec 32 := Scalar.subi v427 c1_i32_291
  let v443 : BitVec 32 := Scalar.select v441 v442 v427
  let c0_i32_292 : BitVec 32 := 0#32
  let v444 : BitVec 32 := Scalar.select v426 v443 c0_i32_292
  let v445 : BitVec 32 := Scalar.addi v411 v444
  let c2_i32_302 : BitVec 32 := 2#32
  let v460 : BitVec 1 := Scalar.cmpi .ne c2_i32_302 v2
  let c0_i32_304 : BitVec 32 := 0#32
  let v462 : BitVec 1 := Scalar.cmpi .sgt v459 c0_i32_304
  let v463 : BitVec 32 := Scalar.extui v462
  let c0_i32_305 : BitVec 32 := 0#32
  let v464 : BitVec 1 := Scalar.cmpi .slt v459 c0_i32_305
  let v465 : BitVec 32 := Scalar.extui v464
  let v466 : BitVec 32 := Scalar.subi v463 v465
  let c32_i32_303 : BitVec 32 := 32#32
  let c0_i32_306 : BitVec 32 := 0#32
  let v467 : BitVec 1 := Scalar.cmpi .sgt c32_i32_303 c0_i32_306
  let v468 : BitVec 32 := Scalar.extui v467
  let c0_i32_307 : BitVec 32 := 0#32
  let v469 : BitVec 1 := Scalar.cmpi .slt c32_i32_303 c0_i32_307
  let v470 : BitVec 32 := Scalar.extui v469
  let v471 : BitVec 32 := Scalar.subi v468 v470
  let v472 : BitVec 1 := Scalar.cmpi .ne v466 v471
  let v473 : BitVec 32 := Scalar.remsi v459 c32_i32_303
  let c0_i32_308 : BitVec 32 := 0#32
  let v474 : BitVec 1 := Scalar.cmpi .ne v473 c0_i32_308
  let v475 : BitVec 1 := Scalar.andi v472 v474
  let v461 : BitVec 32 := Scalar.divsi v459 c32_i32_303
  let c1_i32_309 : BitVec 32 := 1#32
  let v476 : BitVec 32 := Scalar.subi v461 c1_i32_309
  let v477 : BitVec 32 := Scalar.select v475 v476 v461
  let c0_i32_310 : BitVec 32 := 0#32
  let v478 : BitVec 32 := Scalar.select v460 v477 c0_i32_310
  let v479 : BitVec 32 := Scalar.addi v445 v478
  let c3_i32_320 : BitVec 32 := 3#32
  let v494 : BitVec 1 := Scalar.cmpi .ne c3_i32_320 v2
  let c0_i32_322 : BitVec 32 := 0#32
  let v496 : BitVec 1 := Scalar.cmpi .sgt v493 c0_i32_322
  let v497 : BitVec 32 := Scalar.extui v496
  let c0_i32_323 : BitVec 32 := 0#32
  let v498 : BitVec 1 := Scalar.cmpi .slt v493 c0_i32_323
  let v499 : BitVec 32 := Scalar.extui v498
  let v500 : BitVec 32 := Scalar.subi v497 v499
  let c32_i32_321 : BitVec 32 := 32#32
  let c0_i32_324 : BitVec 32 := 0#32
  let v501 : BitVec 1 := Scalar.cmpi .sgt c32_i32_321 c0_i32_324
  let v502 : BitVec 32 := Scalar.extui v501
  let c0_i32_325 : BitVec 32 := 0#32
  let v503 : BitVec 1 := Scalar.cmpi .slt c32_i32_321 c0_i32_325
  let v504 : BitVec 32 := Scalar.extui v503
  let v505 : BitVec 32 := Scalar.subi v502 v504
  let v506 : BitVec 1 := Scalar.cmpi .ne v500 v505
  let v507 : BitVec 32 := Scalar.remsi v493 c32_i32_321
  let c0_i32_326 : BitVec 32 := 0#32
  let v508 : BitVec 1 := Scalar.cmpi .ne v507 c0_i32_326
  let v509 : BitVec 1 := Scalar.andi v506 v508
  let v495 : BitVec 32 := Scalar.divsi v493 c32_i32_321
  let c1_i32_327 : BitVec 32 := 1#32
  let v510 : BitVec 32 := Scalar.subi v495 c1_i32_327
  let v511 : BitVec 32 := Scalar.select v509 v510 v495
  let c0_i32_328 : BitVec 32 := 0#32
  let v512 : BitVec 32 := Scalar.select v494 v511 c0_i32_328
  let v513 : BitVec 32 := Scalar.addi v479 v512
  let v540 : BitVec 32 := Scalar.subi v513 c0_i32_346
  let c1_i32_348 : BitVec 32 := 1#32
  let v542 : BitVec 32 := Scalar.divsi v540 c1_i32_348
  let v543 : BitVec 32 := Scalar.muli v542 c1_i32_348
  let v544 : BitVec 32 := Scalar.addi c0_i32_346 v543
  let v541 : BitVec 32 := Scalar.addi c0_i32_346 v540
  let c1_i32_350 : BitVec 32 := 1#32
  ⟨v544, v541, c1_i32_350⟩
@[reducible] def k1_t23_loop (d0 : Dev nD) (v391 : BitVec 32) (v425 : BitVec 32) (v459 : BitVec 32) (v493 : BitVec 32) : Scf.Loop 32 :=
  let c0_i32_351 : BitVec 32 := 0#32
  let c0_i32_281 : BitVec 32 := 0#32
  let c0_i32_264 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v392 : BitVec 1 := Scalar.cmpi .ne c0_i32_264 v2
  let c32_i32_274 : BitVec 32 := 32#32
  let c0_i32_275 : BitVec 32 := 0#32
  let v412 : BitVec 1 := Scalar.cmpi .eq c32_i32_274 c0_i32_275
  let c1_i32_276 : BitVec 32 := 1#32
  let v413 : BitVec 32 := Scalar.select v412 c1_i32_276 c32_i32_274
  let v414 : BitVec 32 := Scalar.remsi v391 v413
  let c0_i32_278 : BitVec 32 := 0#32
  let v416 : BitVec 1 := Scalar.cmpi .slt v414 c0_i32_278
  let c0_i32_279 : BitVec 32 := 0#32
  let v417 : BitVec 1 := Scalar.cmpi .slt v413 c0_i32_279
  let v418 : BitVec 1 := Scalar.xori v416 v417
  let c0_i32_277 : BitVec 32 := 0#32
  let v415 : BitVec 1 := Scalar.cmpi .ne v414 c0_i32_277
  let v419 : BitVec 1 := Scalar.andi v418 v415
  let v420 : BitVec 32 := Scalar.addi v414 v413
  let v421 : BitVec 32 := Scalar.select v419 v420 v414
  let c0_i32_280 : BitVec 32 := 0#32
  let v422 : BitVec 32 := Scalar.select v392 v421 c0_i32_280
  let v423 : BitVec 32 := Scalar.addi c0_i32_281 v422
  let c1_i32_284 : BitVec 32 := 1#32
  let v426 : BitVec 1 := Scalar.cmpi .ne c1_i32_284 v2
  let c32_i32_293 : BitVec 32 := 32#32
  let c0_i32_294 : BitVec 32 := 0#32
  let v446 : BitVec 1 := Scalar.cmpi .eq c32_i32_293 c0_i32_294
  let c1_i32_295 : BitVec 32 := 1#32
  let v447 : BitVec 32 := Scalar.select v446 c1_i32_295 c32_i32_293
  let v448 : BitVec 32 := Scalar.remsi v425 v447
  let c0_i32_297 : BitVec 32 := 0#32
  let v450 : BitVec 1 := Scalar.cmpi .slt v448 c0_i32_297
  let c0_i32_298 : BitVec 32 := 0#32
  let v451 : BitVec 1 := Scalar.cmpi .slt v447 c0_i32_298
  let v452 : BitVec 1 := Scalar.xori v450 v451
  let c0_i32_296 : BitVec 32 := 0#32
  let v449 : BitVec 1 := Scalar.cmpi .ne v448 c0_i32_296
  let v453 : BitVec 1 := Scalar.andi v452 v449
  let v454 : BitVec 32 := Scalar.addi v448 v447
  let v455 : BitVec 32 := Scalar.select v453 v454 v448
  let c0_i32_299 : BitVec 32 := 0#32
  let v456 : BitVec 32 := Scalar.select v426 v455 c0_i32_299
  let v457 : BitVec 32 := Scalar.addi v423 v456
  let c2_i32_302 : BitVec 32 := 2#32
  let v460 : BitVec 1 := Scalar.cmpi .ne c2_i32_302 v2
  let c32_i32_311 : BitVec 32 := 32#32
  let c0_i32_312 : BitVec 32 := 0#32
  let v480 : BitVec 1 := Scalar.cmpi .eq c32_i32_311 c0_i32_312
  let c1_i32_313 : BitVec 32 := 1#32
  let v481 : BitVec 32 := Scalar.select v480 c1_i32_313 c32_i32_311
  let v482 : BitVec 32 := Scalar.remsi v459 v481
  let c0_i32_315 : BitVec 32 := 0#32
  let v484 : BitVec 1 := Scalar.cmpi .slt v482 c0_i32_315
  let c0_i32_316 : BitVec 32 := 0#32
  let v485 : BitVec 1 := Scalar.cmpi .slt v481 c0_i32_316
  let v486 : BitVec 1 := Scalar.xori v484 v485
  let c0_i32_314 : BitVec 32 := 0#32
  let v483 : BitVec 1 := Scalar.cmpi .ne v482 c0_i32_314
  let v487 : BitVec 1 := Scalar.andi v486 v483
  let v488 : BitVec 32 := Scalar.addi v482 v481
  let v489 : BitVec 32 := Scalar.select v487 v488 v482
  let c0_i32_317 : BitVec 32 := 0#32
  let v490 : BitVec 32 := Scalar.select v460 v489 c0_i32_317
  let v491 : BitVec 32 := Scalar.addi v457 v490
  let c3_i32_320 : BitVec 32 := 3#32
  let v494 : BitVec 1 := Scalar.cmpi .ne c3_i32_320 v2
  let c32_i32_329 : BitVec 32 := 32#32
  let c0_i32_330 : BitVec 32 := 0#32
  let v514 : BitVec 1 := Scalar.cmpi .eq c32_i32_329 c0_i32_330
  let c1_i32_331 : BitVec 32 := 1#32
  let v515 : BitVec 32 := Scalar.select v514 c1_i32_331 c32_i32_329
  let v516 : BitVec 32 := Scalar.remsi v493 v515
  let c0_i32_333 : BitVec 32 := 0#32
  let v518 : BitVec 1 := Scalar.cmpi .slt v516 c0_i32_333
  let c0_i32_334 : BitVec 32 := 0#32
  let v519 : BitVec 1 := Scalar.cmpi .slt v515 c0_i32_334
  let v520 : BitVec 1 := Scalar.xori v518 v519
  let c0_i32_332 : BitVec 32 := 0#32
  let v517 : BitVec 1 := Scalar.cmpi .ne v516 c0_i32_332
  let v521 : BitVec 1 := Scalar.andi v520 v517
  let v522 : BitVec 32 := Scalar.addi v516 v515
  let v523 : BitVec 32 := Scalar.select v521 v522 v516
  let c0_i32_335 : BitVec 32 := 0#32
  let v524 : BitVec 32 := Scalar.select v494 v523 c0_i32_335
  let v525 : BitVec 32 := Scalar.addi v491 v524
  let v547 : BitVec 32 := Scalar.subi v525 c0_i32_351
  let c1_i32_353 : BitVec 32 := 1#32
  let v549 : BitVec 32 := Scalar.divsi v547 c1_i32_353
  let v550 : BitVec 32 := Scalar.muli v549 c1_i32_353
  let v551 : BitVec 32 := Scalar.addi c0_i32_351 v550
  let c1_i32_354 : BitVec 32 := 1#32
  ⟨c0_i32_351, v551, c1_i32_354⟩
@[reducible] def k1_t24_loop (d0 : Dev nD) (v391 : BitVec 32) (v425 : BitVec 32) (v459 : BitVec 32) (v493 : BitVec 32) : Scf.Loop 32 :=
  let c0_i32_351 : BitVec 32 := 0#32
  let c0_i32_281 : BitVec 32 := 0#32
  let c0_i32_264 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v392 : BitVec 1 := Scalar.cmpi .ne c0_i32_264 v2
  let c32_i32_274 : BitVec 32 := 32#32
  let c0_i32_275 : BitVec 32 := 0#32
  let v412 : BitVec 1 := Scalar.cmpi .eq c32_i32_274 c0_i32_275
  let c1_i32_276 : BitVec 32 := 1#32
  let v413 : BitVec 32 := Scalar.select v412 c1_i32_276 c32_i32_274
  let v414 : BitVec 32 := Scalar.remsi v391 v413
  let c0_i32_278 : BitVec 32 := 0#32
  let v416 : BitVec 1 := Scalar.cmpi .slt v414 c0_i32_278
  let c0_i32_279 : BitVec 32 := 0#32
  let v417 : BitVec 1 := Scalar.cmpi .slt v413 c0_i32_279
  let v418 : BitVec 1 := Scalar.xori v416 v417
  let c0_i32_277 : BitVec 32 := 0#32
  let v415 : BitVec 1 := Scalar.cmpi .ne v414 c0_i32_277
  let v419 : BitVec 1 := Scalar.andi v418 v415
  let v420 : BitVec 32 := Scalar.addi v414 v413
  let v421 : BitVec 32 := Scalar.select v419 v420 v414
  let c0_i32_280 : BitVec 32 := 0#32
  let v422 : BitVec 32 := Scalar.select v392 v421 c0_i32_280
  let v423 : BitVec 32 := Scalar.addi c0_i32_281 v422
  let c1_i32_284 : BitVec 32 := 1#32
  let v426 : BitVec 1 := Scalar.cmpi .ne c1_i32_284 v2
  let c32_i32_293 : BitVec 32 := 32#32
  let c0_i32_294 : BitVec 32 := 0#32
  let v446 : BitVec 1 := Scalar.cmpi .eq c32_i32_293 c0_i32_294
  let c1_i32_295 : BitVec 32 := 1#32
  let v447 : BitVec 32 := Scalar.select v446 c1_i32_295 c32_i32_293
  let v448 : BitVec 32 := Scalar.remsi v425 v447
  let c0_i32_297 : BitVec 32 := 0#32
  let v450 : BitVec 1 := Scalar.cmpi .slt v448 c0_i32_297
  let c0_i32_298 : BitVec 32 := 0#32
  let v451 : BitVec 1 := Scalar.cmpi .slt v447 c0_i32_298
  let v452 : BitVec 1 := Scalar.xori v450 v451
  let c0_i32_296 : BitVec 32 := 0#32
  let v449 : BitVec 1 := Scalar.cmpi .ne v448 c0_i32_296
  let v453 : BitVec 1 := Scalar.andi v452 v449
  let v454 : BitVec 32 := Scalar.addi v448 v447
  let v455 : BitVec 32 := Scalar.select v453 v454 v448
  let c0_i32_299 : BitVec 32 := 0#32
  let v456 : BitVec 32 := Scalar.select v426 v455 c0_i32_299
  let v457 : BitVec 32 := Scalar.addi v423 v456
  let c2_i32_302 : BitVec 32 := 2#32
  let v460 : BitVec 1 := Scalar.cmpi .ne c2_i32_302 v2
  let c32_i32_311 : BitVec 32 := 32#32
  let c0_i32_312 : BitVec 32 := 0#32
  let v480 : BitVec 1 := Scalar.cmpi .eq c32_i32_311 c0_i32_312
  let c1_i32_313 : BitVec 32 := 1#32
  let v481 : BitVec 32 := Scalar.select v480 c1_i32_313 c32_i32_311
  let v482 : BitVec 32 := Scalar.remsi v459 v481
  let c0_i32_315 : BitVec 32 := 0#32
  let v484 : BitVec 1 := Scalar.cmpi .slt v482 c0_i32_315
  let c0_i32_316 : BitVec 32 := 0#32
  let v485 : BitVec 1 := Scalar.cmpi .slt v481 c0_i32_316
  let v486 : BitVec 1 := Scalar.xori v484 v485
  let c0_i32_314 : BitVec 32 := 0#32
  let v483 : BitVec 1 := Scalar.cmpi .ne v482 c0_i32_314
  let v487 : BitVec 1 := Scalar.andi v486 v483
  let v488 : BitVec 32 := Scalar.addi v482 v481
  let v489 : BitVec 32 := Scalar.select v487 v488 v482
  let c0_i32_317 : BitVec 32 := 0#32
  let v490 : BitVec 32 := Scalar.select v460 v489 c0_i32_317
  let v491 : BitVec 32 := Scalar.addi v457 v490
  let c3_i32_320 : BitVec 32 := 3#32
  let v494 : BitVec 1 := Scalar.cmpi .ne c3_i32_320 v2
  let c32_i32_329 : BitVec 32 := 32#32
  let c0_i32_330 : BitVec 32 := 0#32
  let v514 : BitVec 1 := Scalar.cmpi .eq c32_i32_329 c0_i32_330
  let c1_i32_331 : BitVec 32 := 1#32
  let v515 : BitVec 32 := Scalar.select v514 c1_i32_331 c32_i32_329
  let v516 : BitVec 32 := Scalar.remsi v493 v515
  let c0_i32_333 : BitVec 32 := 0#32
  let v518 : BitVec 1 := Scalar.cmpi .slt v516 c0_i32_333
  let c0_i32_334 : BitVec 32 := 0#32
  let v519 : BitVec 1 := Scalar.cmpi .slt v515 c0_i32_334
  let v520 : BitVec 1 := Scalar.xori v518 v519
  let c0_i32_332 : BitVec 32 := 0#32
  let v517 : BitVec 1 := Scalar.cmpi .ne v516 c0_i32_332
  let v521 : BitVec 1 := Scalar.andi v520 v517
  let v522 : BitVec 32 := Scalar.addi v516 v515
  let v523 : BitVec 32 := Scalar.select v521 v522 v516
  let c0_i32_335 : BitVec 32 := 0#32
  let v524 : BitVec 32 := Scalar.select v494 v523 c0_i32_335
  let v525 : BitVec 32 := Scalar.addi v491 v524
  let v547 : BitVec 32 := Scalar.subi v525 c0_i32_351
  let c1_i32_353 : BitVec 32 := 1#32
  let v549 : BitVec 32 := Scalar.divsi v547 c1_i32_353
  let v550 : BitVec 32 := Scalar.muli v549 c1_i32_353
  let v551 : BitVec 32 := Scalar.addi c0_i32_351 v550
  let v548 : BitVec 32 := Scalar.addi c0_i32_351 v547
  let c1_i32_355 : BitVec 32 := 1#32
  ⟨v551, v548, c1_i32_355⟩

def k1_chk13 (d0 : Dev nD) (v391 : BitVec 32) (v425 : BitVec 32) (v459 : BitVec 32) (v493 : BitVec 32) : Prop :=
  ((k1_t21_loop d0 v391 v425 v459 v493).OK) ∧
  ((k1_t22_loop d0 v391 v425 v459 v493).OK) ∧
  ((k1_t23_loop d0 v391 v425 v459 v493).OK) ∧
  ((k1_t24_loop d0 v391 v425 v459 v493).OK)
theorem k1_t21_ok : ∀ (d0 : Dev nD) (v391 : BitVec 32) (v425 : BitVec 32) (v459 : BitVec 32) (v493 : BitVec 32) (k1_hw13 : k1_chk13 d0 v391 v425 v459 v493), (k1_t21_loop d0 v391 v425 v459 v493).OK := fun d0 v391 v425 v459 v493 k1_hw13 => k1_hw13.1
theorem k1_t22_ok : ∀ (d0 : Dev nD) (v391 : BitVec 32) (v425 : BitVec 32) (v459 : BitVec 32) (v493 : BitVec 32) (k1_hw13 : k1_chk13 d0 v391 v425 v459 v493), (k1_t22_loop d0 v391 v425 v459 v493).OK := fun d0 v391 v425 v459 v493 k1_hw13 => k1_hw13.2.1
theorem k1_t23_ok : ∀ (d0 : Dev nD) (v391 : BitVec 32) (v425 : BitVec 32) (v459 : BitVec 32) (v493 : BitVec 32) (k1_hw13 : k1_chk13 d0 v391 v425 v459 v493), (k1_t23_loop d0 v391 v425 v459 v493).OK := fun d0 v391 v425 v459 v493 k1_hw13 => k1_hw13.2.2.1
theorem k1_t24_ok : ∀ (d0 : Dev nD) (v391 : BitVec 32) (v425 : BitVec 32) (v459 : BitVec 32) (v493 : BitVec 32) (k1_hw13 : k1_chk13 d0 v391 v425 v459 v493), (k1_t24_loop d0 v391 v425 v459 v493).OK := fun d0 v391 v425 v459 v493 k1_hw13 => k1_hw13.2.2.2

@[reducible] def k1_t25_loop (v315 : BitVec 32) : Scf.Loop 32 :=
  let c0_i32_356 : BitVec 32 := 0#32
  let c0_i32_244 : BitVec 32 := 0#32
  let v357 : BitVec 1 := Scalar.cmpi .sgt v315 c0_i32_244
  let v358 : BitVec 32 := Scalar.extui v357
  let c0_i32_245 : BitVec 32 := 0#32
  let v359 : BitVec 1 := Scalar.cmpi .slt v315 c0_i32_245
  let v360 : BitVec 32 := Scalar.extui v359
  let v361 : BitVec 32 := Scalar.subi v358 v360
  let c32_i32_243 : BitVec 32 := 32#32
  let c0_i32_246 : BitVec 32 := 0#32
  let v362 : BitVec 1 := Scalar.cmpi .sgt c32_i32_243 c0_i32_246
  let v363 : BitVec 32 := Scalar.extui v362
  let c0_i32_247 : BitVec 32 := 0#32
  let v364 : BitVec 1 := Scalar.cmpi .slt c32_i32_243 c0_i32_247
  let v365 : BitVec 32 := Scalar.extui v364
  let v366 : BitVec 32 := Scalar.subi v363 v365
  let v367 : BitVec 1 := Scalar.cmpi .ne v361 v366
  let v368 : BitVec 32 := Scalar.remsi v315 c32_i32_243
  let c0_i32_248 : BitVec 32 := 0#32
  let v369 : BitVec 1 := Scalar.cmpi .ne v368 c0_i32_248
  let v370 : BitVec 1 := Scalar.andi v367 v369
  let v356 : BitVec 32 := Scalar.divsi v315 c32_i32_243
  let c1_i32_249 : BitVec 32 := 1#32
  let v371 : BitVec 32 := Scalar.subi v356 c1_i32_249
  let v372 : BitVec 32 := Scalar.select v370 v371 v356
  let v554 : BitVec 32 := Scalar.subi v372 c0_i32_356
  let c1_i32_358 : BitVec 32 := 1#32
  let v556 : BitVec 32 := Scalar.divsi v554 c1_i32_358
  let v557 : BitVec 32 := Scalar.muli v556 c1_i32_358
  let v558 : BitVec 32 := Scalar.addi c0_i32_356 v557
  let c1_i32_359 : BitVec 32 := 1#32
  ⟨c0_i32_356, v558, c1_i32_359⟩
@[reducible] def k1_t26_loop (v315 : BitVec 32) : Scf.Loop 32 :=
  let c0_i32_356 : BitVec 32 := 0#32
  let c0_i32_244 : BitVec 32 := 0#32
  let v357 : BitVec 1 := Scalar.cmpi .sgt v315 c0_i32_244
  let v358 : BitVec 32 := Scalar.extui v357
  let c0_i32_245 : BitVec 32 := 0#32
  let v359 : BitVec 1 := Scalar.cmpi .slt v315 c0_i32_245
  let v360 : BitVec 32 := Scalar.extui v359
  let v361 : BitVec 32 := Scalar.subi v358 v360
  let c32_i32_243 : BitVec 32 := 32#32
  let c0_i32_246 : BitVec 32 := 0#32
  let v362 : BitVec 1 := Scalar.cmpi .sgt c32_i32_243 c0_i32_246
  let v363 : BitVec 32 := Scalar.extui v362
  let c0_i32_247 : BitVec 32 := 0#32
  let v364 : BitVec 1 := Scalar.cmpi .slt c32_i32_243 c0_i32_247
  let v365 : BitVec 32 := Scalar.extui v364
  let v366 : BitVec 32 := Scalar.subi v363 v365
  let v367 : BitVec 1 := Scalar.cmpi .ne v361 v366
  let v368 : BitVec 32 := Scalar.remsi v315 c32_i32_243
  let c0_i32_248 : BitVec 32 := 0#32
  let v369 : BitVec 1 := Scalar.cmpi .ne v368 c0_i32_248
  let v370 : BitVec 1 := Scalar.andi v367 v369
  let v356 : BitVec 32 := Scalar.divsi v315 c32_i32_243
  let c1_i32_249 : BitVec 32 := 1#32
  let v371 : BitVec 32 := Scalar.subi v356 c1_i32_249
  let v372 : BitVec 32 := Scalar.select v370 v371 v356
  let v554 : BitVec 32 := Scalar.subi v372 c0_i32_356
  let c1_i32_358 : BitVec 32 := 1#32
  let v556 : BitVec 32 := Scalar.divsi v554 c1_i32_358
  let v557 : BitVec 32 := Scalar.muli v556 c1_i32_358
  let v558 : BitVec 32 := Scalar.addi c0_i32_356 v557
  let v555 : BitVec 32 := Scalar.addi c0_i32_356 v554
  let c1_i32_360 : BitVec 32 := 1#32
  ⟨v558, v555, c1_i32_360⟩
@[reducible] def k1_t27_loop (v315 : BitVec 32) : Scf.Loop 32 :=
  let c0_i32_361 : BitVec 32 := 0#32
  let c0_i32_244 : BitVec 32 := 0#32
  let v357 : BitVec 1 := Scalar.cmpi .sgt v315 c0_i32_244
  let v358 : BitVec 32 := Scalar.extui v357
  let c0_i32_245 : BitVec 32 := 0#32
  let v359 : BitVec 1 := Scalar.cmpi .slt v315 c0_i32_245
  let v360 : BitVec 32 := Scalar.extui v359
  let v361 : BitVec 32 := Scalar.subi v358 v360
  let c32_i32_243 : BitVec 32 := 32#32
  let c0_i32_246 : BitVec 32 := 0#32
  let v362 : BitVec 1 := Scalar.cmpi .sgt c32_i32_243 c0_i32_246
  let v363 : BitVec 32 := Scalar.extui v362
  let c0_i32_247 : BitVec 32 := 0#32
  let v364 : BitVec 1 := Scalar.cmpi .slt c32_i32_243 c0_i32_247
  let v365 : BitVec 32 := Scalar.extui v364
  let v366 : BitVec 32 := Scalar.subi v363 v365
  let v367 : BitVec 1 := Scalar.cmpi .ne v361 v366
  let v368 : BitVec 32 := Scalar.remsi v315 c32_i32_243
  let c0_i32_248 : BitVec 32 := 0#32
  let v369 : BitVec 1 := Scalar.cmpi .ne v368 c0_i32_248
  let v370 : BitVec 1 := Scalar.andi v367 v369
  let v356 : BitVec 32 := Scalar.divsi v315 c32_i32_243
  let c1_i32_249 : BitVec 32 := 1#32
  let v371 : BitVec 32 := Scalar.subi v356 c1_i32_249
  let v372 : BitVec 32 := Scalar.select v370 v371 v356
  let c32_i32_250 : BitVec 32 := 32#32
  let v373 : BitVec 32 := Scalar.muli v372 c32_i32_250
  let v374 : BitVec 32 := Scalar.subi v315 v373
  let v561 : BitVec 32 := Scalar.subi v374 c0_i32_361
  let c1_i32_363 : BitVec 32 := 1#32
  let v563 : BitVec 32 := Scalar.divsi v561 c1_i32_363
  let v564 : BitVec 32 := Scalar.muli v563 c1_i32_363
  let v565 : BitVec 32 := Scalar.addi c0_i32_361 v564
  let c1_i32_364 : BitVec 32 := 1#32
  ⟨c0_i32_361, v565, c1_i32_364⟩
@[reducible] def k1_t28_loop (v315 : BitVec 32) : Scf.Loop 32 :=
  let c0_i32_361 : BitVec 32 := 0#32
  let c0_i32_244 : BitVec 32 := 0#32
  let v357 : BitVec 1 := Scalar.cmpi .sgt v315 c0_i32_244
  let v358 : BitVec 32 := Scalar.extui v357
  let c0_i32_245 : BitVec 32 := 0#32
  let v359 : BitVec 1 := Scalar.cmpi .slt v315 c0_i32_245
  let v360 : BitVec 32 := Scalar.extui v359
  let v361 : BitVec 32 := Scalar.subi v358 v360
  let c32_i32_243 : BitVec 32 := 32#32
  let c0_i32_246 : BitVec 32 := 0#32
  let v362 : BitVec 1 := Scalar.cmpi .sgt c32_i32_243 c0_i32_246
  let v363 : BitVec 32 := Scalar.extui v362
  let c0_i32_247 : BitVec 32 := 0#32
  let v364 : BitVec 1 := Scalar.cmpi .slt c32_i32_243 c0_i32_247
  let v365 : BitVec 32 := Scalar.extui v364
  let v366 : BitVec 32 := Scalar.subi v363 v365
  let v367 : BitVec 1 := Scalar.cmpi .ne v361 v366
  let v368 : BitVec 32 := Scalar.remsi v315 c32_i32_243
  let c0_i32_248 : BitVec 32 := 0#32
  let v369 : BitVec 1 := Scalar.cmpi .ne v368 c0_i32_248
  let v370 : BitVec 1 := Scalar.andi v367 v369
  let v356 : BitVec 32 := Scalar.divsi v315 c32_i32_243
  let c1_i32_249 : BitVec 32 := 1#32
  let v371 : BitVec 32 := Scalar.subi v356 c1_i32_249
  let v372 : BitVec 32 := Scalar.select v370 v371 v356
  let c32_i32_250 : BitVec 32 := 32#32
  let v373 : BitVec 32 := Scalar.muli v372 c32_i32_250
  let v374 : BitVec 32 := Scalar.subi v315 v373
  let v561 : BitVec 32 := Scalar.subi v374 c0_i32_361
  let c1_i32_363 : BitVec 32 := 1#32
  let v563 : BitVec 32 := Scalar.divsi v561 c1_i32_363
  let v564 : BitVec 32 := Scalar.muli v563 c1_i32_363
  let v565 : BitVec 32 := Scalar.addi c0_i32_361 v564
  let v562 : BitVec 32 := Scalar.addi c0_i32_361 v561
  let c1_i32_365 : BitVec 32 := 1#32
  ⟨v565, v562, c1_i32_365⟩

def k1_chk10 (v315 : BitVec 32) : Prop :=
  ((k1_t13_loop v315).OK) ∧
  ((k1_t14_loop v315).OK) ∧
  ((k1_t15_loop v315).OK) ∧
  ((k1_t16_loop v315).OK) ∧
  ((k1_t25_loop v315).OK) ∧
  ((k1_t26_loop v315).OK) ∧
  ((k1_t27_loop v315).OK) ∧
  ((k1_t28_loop v315).OK)
theorem k1_t13_ok : ∀ (v315 : BitVec 32) (k1_hw10 : k1_chk10 v315), (k1_t13_loop v315).OK := fun v315 k1_hw10 => k1_hw10.1
theorem k1_t14_ok : ∀ (v315 : BitVec 32) (k1_hw10 : k1_chk10 v315), (k1_t14_loop v315).OK := fun v315 k1_hw10 => k1_hw10.2.1
theorem k1_t15_ok : ∀ (v315 : BitVec 32) (k1_hw10 : k1_chk10 v315), (k1_t15_loop v315).OK := fun v315 k1_hw10 => k1_hw10.2.2.1
theorem k1_t16_ok : ∀ (v315 : BitVec 32) (k1_hw10 : k1_chk10 v315), (k1_t16_loop v315).OK := fun v315 k1_hw10 => k1_hw10.2.2.2.1
theorem k1_t25_ok : ∀ (v315 : BitVec 32) (k1_hw10 : k1_chk10 v315), (k1_t25_loop v315).OK := fun v315 k1_hw10 => k1_hw10.2.2.2.2.1
theorem k1_t26_ok : ∀ (v315 : BitVec 32) (k1_hw10 : k1_chk10 v315), (k1_t26_loop v315).OK := fun v315 k1_hw10 => k1_hw10.2.2.2.2.2.1
theorem k1_t27_ok : ∀ (v315 : BitVec 32) (k1_hw10 : k1_chk10 v315), (k1_t27_loop v315).OK := fun v315 k1_hw10 => k1_hw10.2.2.2.2.2.2.1
theorem k1_t28_ok : ∀ (v315 : BitVec 32) (k1_hw10 : k1_chk10 v315), (k1_t28_loop v315).OK := fun v315 k1_hw10 => k1_hw10.2.2.2.2.2.2.2

abbrev stage1_0 : Fin 1 → Memref sig .tc .vmem S4096x8x128 .bf16 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))

abbrev stage1_1 : Fin 1 → Memref sig .tc .smem S4x8x128 .i32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))

abbrev stage1_2 : Fin 1 → Memref sig .tc .vmem S4096x8x128 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
-- ==== ReferenceIdeal.lean ====
abbrev S16384x1024 : Shape := ⟨2, ![16384, 1024]⟩
abbrev S16384 : Shape := ⟨1, ![16384]⟩
abbrev S_ : Shape := ⟨0, ![]⟩
abbrev S16384x1 : Shape := ⟨2, ![16384, 1]⟩

abbrev nBuf : Space → Nat
  | .hbm => 14
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S16384, .i32⟩
  | .hbm, ⟨2, _⟩ => ⟨S16384, .i32⟩
  | .hbm, ⟨3, _⟩ => ⟨S16384, .i32⟩
  | .hbm, ⟨4, _⟩ => ⟨S16384, .i32⟩
  | .hbm, ⟨5, _⟩ => ⟨S_, .i32⟩
  | .hbm, ⟨6, _⟩ => ⟨S16384, .i32⟩
  | .hbm, ⟨7, _⟩ => ⟨S16384, .i1⟩
  | .hbm, ⟨8, _⟩ => ⟨S_, .i32⟩
  | .hbm, ⟨9, _⟩ => ⟨S16384, .i32⟩
  | .hbm, ⟨10, _⟩ => ⟨S16384, .i32⟩
  | .hbm, ⟨11, _⟩ => ⟨S16384, .i32⟩
  | .hbm, ⟨12, _⟩ => ⟨S16384x1, .i32⟩
  | .hbm, ⟨13, _⟩ => ⟨S16384x1024, .bf16⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_v1_0 : Ref sig .tc := ⟨.hbm, 3, rfl⟩
abbrev main_v0 : Ref sig .tc := ⟨.hbm, 4, rfl⟩
abbrev main_c : Ref sig .tc := ⟨.hbm, 5, rfl⟩
abbrev main_v1 : Ref sig .tc := ⟨.hbm, 6, rfl⟩
abbrev main_v2 : Ref sig .tc := ⟨.hbm, 7, rfl⟩
abbrev main_c_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩

abbrev nD : Nat := 1
abbrev τ : Topo := Topo.v7x

variable {F : FTy → Type} [FloatOps F]
-- ==== Proof.Words.lean ====
module

public import proofs.«01_k».proof.Proof.Gen.KernelIdeal.Launch
public import proofs.«01_k».proof.Proof.Gen.KernelIdeal.Skeleton

@[expose] public section

namespace Cert.KernelIdeal.Words

open Cert.KernelIdeal Cert.KernelIdeal.Gen
open Idealize.ShloMosaic Idealize.ShloMosaic.TcCoe

/-- The device `d` places after `c` on the mesh. -/
def peer (d : ℕ) (c : Dev nD) : Dev nD := ⟨(c.val + d) % 4, Nat.mod_lt _ (by decide)⟩

theorem k0_devs (c : Dev nD) : k0_dev1 c = (peer 1 c).val ∧ k0_dev2 c = (peer 2 c).val ∧ k0_dev3 c = (peer 3 c).val
    ∧ k0_dev4 c = (peer 1 c).val ∧ k0_dev5 c = (peer 2 c).val ∧ k0_dev6 c = (peer 3 c).val := by
  revert c; decide +kernel

theorem k1_devs (c : Dev nD) : k1_dev1 c = (peer 1 c).val ∧ k1_dev2 c = (peer 2 c).val ∧ k1_dev3 c = (peer 3 c).val
    ∧ k1_dev4 c = (peer 1 c).val ∧ k1_dev8 c = (peer 2 c).val ∧ k1_dev12 c = (peer 3 c).val := by
  revert c; decide +kernel

theorem k0_off (c : Dev nD) : k0_off1 c = ![c.val, 0, 0] := by revert c; decide +kernel

/-- Where the words that the exchange reads lie in the gathered counts. -/
def wordOffs (c : Dev nD) : List (Fin 3 → ℕ) :=
  [k1_off1 c, k1_off2 c, k1_off3 c, k1_off4 c, k1_off5 c, k1_off6 c, k1_off7 c, k1_off8 c, k1_off9 c, k1_off18 c, k1_off19 c, k1_off20 c, k1_off21 c, k1_off22 c, k1_off23 c, k1_off24 c, k1_off25 c, k1_off26 c, k1_off35 c, k1_off36 c, k1_off37 c, k1_off38 c, k1_off39 c, k1_off40 c, k1_off41 c, k1_off42 c, k1_off43 c, k1_off52 c, k1_off53 c, k1_off54 c, k1_off55 c, k1_off56 c, k1_off57 c, k1_off58 c, k1_off59 c, k1_off60 c, k1_off69 c, k1_off70 c, k1_off71 c, k1_off72 c]

/-- They all lie in a row's first line, among its first four words. -/
theorem wordOffs_in (c : Dev nD) : ∀ o ∈ wordOffs c, o 1 = 0 ∧ o 2 < 4 := by revert c; decide +kernel

/-! ## The loops' trips, where every count is 1024 -/

theorem trips_main : (k1_t1_loop 1024#32).trips = 32 ∧ (k1_t5_loop 1024#32).trips = 32 ∧ (k1_t9_loop 1024#32).trips = 32
    ∧ (k1_t13_loop 1024#32).trips = 32 ∧ (k1_t25_loop 1024#32).trips = 32 := by decide +kernel
theorem trips_out : (k1_t17_loop 1024#32 1024#32 1024#32).trips = 96 := by decide +kernel
theorem trips_in (c : Dev nD) : (k1_t21_loop c 1024#32 1024#32 1024#32 1024#32).trips = 96 := by revert c; decide +kernel
theorem trips_none : (k1_t2_loop 1024#32).trips = 0
    ∧ (k1_t3_loop 1024#32).trips = 0
    ∧ (k1_t4_loop 1024#32).trips = 0
    ∧ (k1_t6_loop 1024#32).trips = 0
    ∧ (k1_t7_loop 1024#32).trips = 0
    ∧ (k1_t8_loop 1024#32).trips = 0
    ∧ (k1_t10_loop 1024#32).trips = 0
    ∧ (k1_t11_loop 1024#32).trips = 0
    ∧ (k1_t12_loop 1024#32).trips = 0
    ∧ (k1_t14_loop 1024#32).trips = 0
    ∧ (k1_t15_loop 1024#32).trips = 0
    ∧ (k1_t16_loop 1024#32).trips = 0
    ∧ (k1_t26_loop 1024#32).trips = 0
    ∧ (k1_t27_loop 1024#32).trips = 0
    ∧ (k1_t28_loop 1024#32).trips = 0
    ∧ (k1_t18_loop 1024#32 1024#32 1024#32).trips = 0
    ∧ (k1_t19_loop 1024#32 1024#32 1024#32).trips = 0
    ∧ (k1_t20_loop 1024#32 1024#32 1024#32).trips = 0 := by decide +kernel
theorem trips_none_in (c : Dev nD) : (k1_t22_loop c 1024#32 1024#32 1024#32 1024#32).trips = 0
    ∧ (k1_t23_loop c 1024#32 1024#32 1024#32 1024#32).trips = 0
    ∧ (k1_t24_loop c 1024#32 1024#32 1024#32 1024#32).trips = 0 := by revert c; decide +kernel

/-! ## What the kernel checks of the counts it has read, where every count is 1024 -/

theorem chk1 : k1_chk1 1024#32 := by decide +kernel
theorem chk2 (c : Dev nD) : k1_chk2 c 1024#32 1024#32 1024#32 1024#32 1024#32 := by revert c; decide +kernel
theorem chk3 (c : Dev nD) : k1_chk3 c 1024#32 1024#32 1024#32 1024#32 1024#32 := by revert c; decide +kernel
theorem chk4 : k1_chk4 1024#32 := by decide +kernel
theorem chk5 (c : Dev nD) : k1_chk5 c 1024#32 1024#32 1024#32 1024#32 1024#32 := by revert c; decide +kernel
theorem chk6 (c : Dev nD) : k1_chk6 c 1024#32 1024#32 1024#32 1024#32 1024#32 := by revert c; decide +kernel
theorem chk7 : k1_chk7 1024#32 1024#32 1024#32 := by decide +kernel
theorem chk8 (c : Dev nD) : k1_chk8 c 1024#32 1024#32 1024#32 1024#32 1024#32 := by revert c; decide +kernel
theorem chk9 (c : Dev nD) : k1_chk9 c 1024#32 1024#32 1024#32 1024#32 1024#32 := by revert c; decide +kernel
theorem chk10 : k1_chk10 1024#32 := by decide +kernel
theorem chk11 (c : Dev nD) : k1_chk11 c 1024#32 1024#32 1024#32 1024#32 1024#32 := by revert c; decide +kernel
theorem chk12 (c : Dev nD) : k1_chk12 c 1024#32 1024#32 1024#32 1024#32 1024#32 := by revert c; decide +kernel
theorem chk13 (c : Dev nD) : k1_chk13 c 1024#32 1024#32 1024#32 1024#32 := by revert c; decide +kernel

/-! ## Where the chunks lie -/

theorem off10_eq (c : Dev nD) (k : Fin (k1_t1_loop 1024#32).trips) :
    k1_off10 c 1024#32 1024#32 1024#32 1024#32 1024#32 k = ![1024 * c.val + 32 * k.val, 0, 0] := by
  revert c k; decide +kernel
theorem off11_eq (c : Dev nD) (k : Fin (k1_t1_loop 1024#32).trips) :
    k1_off11 c 1024#32 1024#32 1024#32 1024#32 1024#32 k = ![1024 * (peer 1 c).val + 32 * k.val, 0, 0] := by
  revert c k; decide +kernel
theorem off27_eq (c : Dev nD) (k : Fin (k1_t5_loop 1024#32).trips) :
    k1_off27 c 1024#32 1024#32 1024#32 1024#32 1024#32 k = ![1024 * c.val + 32 * k.val, 0, 0] := by
  revert c k; decide +kernel
theorem off28_eq (c : Dev nD) (k : Fin (k1_t5_loop 1024#32).trips) :
    k1_off28 c 1024#32 1024#32 1024#32 1024#32 1024#32 k = ![1024 * (peer 2 c).val + 32 * k.val, 0, 0] := by
  revert c k; decide +kernel
theorem off44_eq (c : Dev nD) (k : Fin (k1_t9_loop 1024#32).trips) :
    k1_off44 c 1024#32 1024#32 1024#32 1024#32 1024#32 k = ![1024 * c.val + 32 * k.val, 0, 0] := by
  revert c k; decide +kernel
theorem off45_eq (c : Dev nD) (k : Fin (k1_t9_loop 1024#32).trips) :
    k1_off45 c 1024#32 1024#32 1024#32 1024#32 1024#32 k = ![1024 * (peer 3 c).val + 32 * k.val, 0, 0] := by
  revert c k; decide +kernel
theorem off61_eq (c : Dev nD) (k : Fin (k1_t13_loop 1024#32).trips) :
    k1_off61 c 1024#32 1024#32 1024#32 1024#32 1024#32 k = ![1024 * c.val + 32 * k.val, 0, 0] := by
  revert c k; decide +kernel
theorem off62_eq (c : Dev nD) (k : Fin (k1_t13_loop 1024#32).trips) :
    k1_off62 c 1024#32 1024#32 1024#32 1024#32 1024#32 k = ![1024 * c.val + 32 * k.val, 0, 0] := by
  revert c k; decide +kernel

end Cert.KernelIdeal.Words
-- ==== Proof.Sched.lean ====
module

public import proofs.«01_k».proof.Proof.Words
public import Idealize.ShloMosaic.Lib.Pipeline.RegionTalk
public import Idealize.ShloMosaic.Lib.Rounds
public import Idealize.ShloMosaic.Lib.Tactic

@[expose] public section

noncomputable section

namespace Cert.KernelIdeal.Exch

open Cert.KernelIdeal Cert.KernelIdeal.Gen Cert.KernelIdeal.Words
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

/-! ## The resource algebra -/

/-- A duty: the device a payment comes from or goes to, and the number of its chunk. -/
abbrev D : Type := Dev nD × Fin 32

abbrev UU : Type := UR sig nD τ × URounds (GSem nD τ sig) D

local notation "𝕄" => MT nD τ sig Unit (Elt F) ℕ UU ℕ

abbrev EP : Emb (UR sig nD τ) (MT nD τ sig Unit (Elt F) ℕ UU ℕ) := embL
abbrev ER : Emb (URounds (GSem nD τ sig) D) (MT nD τ sig Unit (Elt F) ℕ UU ℕ) := embR

/-! ## The twelve cells of a device -/

/-- The counts call: its barrier (0), the sources of its three remote copies (1, 2, 3), their targets (4, 5, 6),
    its local copy (7). The exchange call: its barrier (8), the sources of its chunks (9), their targets (10), the
    chunks that stay (11). -/
def sem12 (k : Fin 12) : SemLoc sig :=
  match k.val with
  | 0 => .reg (0 : Fin 2) | 1 => .dma (3 : Fin 18) | 2 => .dma (4 : Fin 18) | 3 => .dma (5 : Fin 18)
  | 4 => .dma (6 : Fin 18) | 5 => .dma (7 : Fin 18) | 6 => .dma (8 : Fin 18) | 7 => .dma (2 : Fin 18)
  | 8 => .reg (1 : Fin 2) | 9 => .dma (12 : Fin 18) | 10 => .dma (14 : Fin 18) | _ => .dma (16 : Fin 18)

/-- Which of the twelve a semaphore is. -/
def kindOf : SemLoc sig → Option (Fin 12)
  | .reg i => match (i : Fin 2).val with | 0 => some 0 | _ => some 8
  | .dma i => match (i : Fin 18).val with
    | 2 => some 7 | 3 => some 1 | 4 => some 2 | 5 => some 3 | 6 => some 4 | 7 => some 5 | 8 => some 6
    | 12 => some 9 | 14 => some 10 | 16 => some 11 | _ => none

theorem kind_sem : ∀ k, kindOf (sem12 k) = some k := by decide
theorem sem12_inj : Function.Injective sem12 := fun a b h => Option.some.inj (by rw [← kind_sem a, ← kind_sem b, h])

abbrev cell (k : Fin 12) (c : Dev nD) : GSem nD τ sig := ((c : Thread nD τ), sem12 k)

theorem cell_inj {k k' : Fin 12} {c c' : Dev nD} (h : cell k c = cell k' c') : k = k' ∧ c = c' :=
  ⟨sem12_inj (congrArg Prod.snd h), by have := congrArg (fun g : GSem nD τ sig => g.1.1) h; exact this⟩

/-! ## The parts of the buffers -/

theorem row_inb (s : Dev nD) : ∀ a, (![s.val, 0, 0] : Fin 3 → ℕ) a + S1x8x128.size a ≤ S4x8x128.size a := by
  revert s; decide
theorem chunk_inb (q : Dev nD) (j : Fin 32) :
    ∀ a, (![1024 * q.val + 32 * j.val, 0, 0] : Fin 3 → ℕ) a + S32x8x128.size a ≤ S4096x8x128.size a := by
  revert q j; decide

abbrev rowR (s : Dev nD) : Rect S4x8x128 := Rect.unit (s := S4x8x128) ![s.val, 0, 0] S1x8x128.size (row_inb s)
abbrev chunkR (q : Dev nD) (j : Fin 32) : Rect S4096x8x128 :=
  Rect.unit (s := S4096x8x128) ![1024 * q.val + 32 * j.val, 0, 0] S32x8x128.size (chunk_inb q j)

/-- The row of counts from device `s`, in the counts call's result. -/
abbrev oM0 (s : Dev nD) : Memref sig .tc .vmem S1x8x128 .i32 := (Memref.whole cc0_stg1_0).slice (rowR s) (fun _ => rfl)
/-- Chunk `j` for device `q` of the sorted rows. -/
abbrev xM (q : Dev nD) (j : Fin 32) : Memref sig .tc .vmem S32x8x128 .bf16 :=
  (Memref.whole cc1_stg0_0).slice (chunkR q j) (fun _ => rfl)
/-- Chunk `j` from device `s` of the result. -/
abbrev oM (s : Dev nD) (j : Fin 32) : Memref sig .tc .vmem S32x8x128 .bf16 :=
  (Memref.whole cc1_stg2_0).slice (chunkR s j) (fun _ => rfl)

abbrev CT : Type := (cc0_stg0_0 : Ref sig .tc).ty.Contents (Elt F)
abbrev CMT : Type := (cc0_stg1_0 : Ref sig .tc).ty.Contents (Elt F)
abbrev XT : Type := (cc1_stg0_0 : Ref sig .tc).ty.Contents (Elt F)
abbrev OT : Type := (cc1_stg2_0 : Ref sig .tc).ty.Contents (Elt F)

/-- Device `c`'s row `s` of the gathered counts, at `f`. -/
abbrev row (c s : Dev nD) (f : CMT (F := F)) : sProp 𝕄 :=
  (oM0 s).view.loc (c : Thread nD τ) ↦[(oM0 s).view.set]{fullShare} f
abbrev xch (c q : Dev nD) (j : Fin 32) (f : XT (F := F)) : sProp 𝕄 :=
  (xM q j).view.loc (c : Thread nD τ) ↦[(xM q j).view.set]{fullShare} f
abbrev och (c s : Dev nD) (j : Fin 32) (f : OT (F := F)) : sProp 𝕄 :=
  (oM s j).view.loc (c : Thread nD τ) ↦[(oM s j).view.set]{fullShare} f

/-- The counts a device holds, at share `q`. -/
abbrev cnt (c : Dev nD) (q : PosShare TreeShare) (f : CT (F := F)) : sProp 𝕄 :=
  (Memref.whole cc0_stg0_0).view.loc (c : Thread nD τ) ↦[(Memref.whole cc0_stg0_0 : Memref sig .tc .vmem S1x8x128 .i32).view.set]{q} f

/-- The four shares of the counts: one per copy that reads them. -/
abbrev sh (i : Fin 4) : PosShare TreeShare :=
  match i.val with
  | 0 => fullShare.left | 1 => fullShare.right.left | 2 => fullShare.right.right.left | _ => fullShare.right.right.right

/-! ## What the exchange leaves -/

/-- All devices' counts, a row each. -/
def gathered (Cn : Dev nD → CT (F := F)) : CMT (F := F) := fun i => Cn ⟨(i 0).val, (i 0).isLt⟩ (fun a => match a with
  | 0 => ⟨0, by decide⟩ | 1 => ⟨(i 1).val, (i 1).isLt⟩ | 2 => ⟨(i 2).val, (i 2).isLt⟩)

/-- Device `p`'s result: block `s` of it is block `p` of device `s`'s sorted rows. -/
def landed (X : Dev nD → XT (F := F)) (p : Dev nD) : OT (F := F) := fun i =>
  X ⟨(i 0).val / 1024, Nat.div_lt_of_lt_mul (i 0).isLt⟩ (fun a => match a with
    | 0 => ⟨1024 * p.val + (i 0).val % 1024, by have h1 : p.val < 4 := p.isLt; have h2 := Nat.mod_lt (i 0).val (show 1024 > 0 by decide); show _ < 4096; omega⟩
    | 1 => ⟨(i 1).val, (i 1).isLt⟩ | 2 => ⟨(i 2).val, (i 2).isLt⟩)

/-! ## The schedule -/

abbrev N0 : ℕ := (oM0 0).view.dmaCredit
abbrev N1 : ℕ := (oM 0 0).view.dmaCredit
theorem N0_pos : 0 < N0 := View.dmaCredit_pos _ (by decide)
theorem N1_pos : 0 < N1 := View.dmaCredit_pos _ (by decide)

def bset (p : Dev nD) : Finset D := {(peer 1 p, 0), (peer 2 p, 0), (peer 3 p, 0)}
def rset (p : Dev nD) : Finset D := ({peer 1 p, peer 2 p, peer 3 p} : Finset (Dev nD)) ×ˢ Finset.univ

/-- The duties of a device's cell of a kind: all in one round. -/
def dut (k : Fin 12) (p : Dev nD) : Finset D :=
  match k.val with
  | 0 => bset p
  | 1 => {(peer 1 p, 0)} | 2 => {(peer 2 p, 0)} | 3 => {(peer 3 p, 0)}
  | 4 => {(peer 3 p, 0)} | 5 => {(peer 2 p, 0)} | 6 => {(peer 1 p, 0)}
  | 7 => {(p, 0)}
  | 8 => bset p | 9 => rset p | 10 => rset p | _ => ({p} : Finset (Dev nD)) ×ˢ Finset.univ

def amt (k : Fin 12) : ℕ :=
  match k.val with
  | 0 => 1 | 8 => 1 | 9 => N1 | 10 => N1 | 11 => N1 | _ => N0
theorem amt_pos (k : Fin 12) : 0 < amt k := by
  unfold amt; split <;> first | exact Nat.one_pos | exact N1_pos | exact N0_pos

variable (X : Dev nD → XT (F := F)) (Cn : Dev nD → CT (F := F))

/-- What a payment carries. -/
def pay (k : Fin 12) (c : Dev nD) (d : D) : sProp 𝕄 :=
  match k.val with
  | 0 => iprop((∃ f, row d.1 c f) ∗ reached ER (cell 4 d.1) 0 ∗ reached ER (cell 5 d.1) 0 ∗ reached ER (cell 6 d.1) 0)
  | 1 => cnt c (sh 1) (Cn c) | 2 => cnt c (sh 2) (Cn c) | 3 => cnt c (sh 3) (Cn c)
  | 4 => row c d.1 (gathered Cn) | 5 => row c d.1 (gathered Cn) | 6 => row c d.1 (gathered Cn)
  | 7 => iprop(row c c (gathered Cn) ∗ cnt c (sh 0) (Cn c))
  | 8 => iprop((∃ f, bigSep Finset.univ fun j => och d.1 c j f) ∗ reached ER (cell 10 d.1) 0)
  | 9 => xch c d.1 d.2 (X c)
  | 10 => och c d.1 d.2 (landed X c)
  | _ => iprop(och c c d.2 (landed X c) ∗ xch c c d.2 (X c))

/-- One round on every cell of the twelve; nothing anywhere else. -/
def Rd : Rounds.Schedule (GSem nD τ sig) D 𝕄 where
  duties g r := match kindOf g.2 with
    | some k => if r = 0 ∧ g.1.2 = .tc then dut k g.1.1 else ∅
    | none => ∅
  unitless _ := False
  amount g _ _ := match kindOf g.2 with | some k => amt k | none => 1
  payload g _ d := match kindOf g.2 with | some k => pay X Cn k g.1.1 d | none => iprop(emp)
  amount_pos g _ _ _ := by split <;> first | exact amt_pos _ | exact Nat.one_pos

instance pay_storable (k : Fin 12) (c : Dev nD) (d : D) : BI.Storable (upEmb : UEmb _ 𝕄) (pay X Cn k c d) := by
  unfold pay; split <;> infer_instance

instance Rd_payload_storable (g : GSem nD τ sig) (r : ℕ) (d : D) :
    BI.Storable (upEmb : UEmb _ 𝕄) ((Rd X Cn).payload g r d) := by
  show BI.Storable upEmb (match kindOf g.2 with | some k => pay X Cn k g.1.1 d | none => iprop(emp))
  split <;> infer_instance

theorem duties_cell (k : Fin 12) (c : Dev nD) : (Rd X Cn).duties (cell k c) 0 = dut k c := by
  dsimp only [Rd]; rw [kind_sem]; exact if_pos ⟨rfl, rfl⟩
theorem duties_later (g : GSem nD τ sig) : ∀ r, 1 ≤ r → (Rd X Cn).duties g r = ∅ := fun r hr => by
  dsimp only [Rd]; split
  · exact if_neg (fun h => by omega)
  · rfl
theorem amount_cell (k : Fin 12) (c : Dev nD) (r : ℕ) (d : D) : (Rd X Cn).amount (cell k c) r d = amt k := by
  dsimp only [Rd]; rw [kind_sem]
theorem payload_cell (k : Fin 12) (c : Dev nD) (r : ℕ) (d : D) : (Rd X Cn).payload (cell k c) r d = pay X Cn k c d := by
  dsimp only [Rd]; rw [kind_sem]
theorem expect_cell (k : Fin 12) (c : Dev nD) : (Rd X Cn).expect (cell k c) 0 = (dut k c).card * amt k := by
  unfold Schedule.expect Schedule.amountOf
  rw [duties_cell, Finset.sum_congr rfl (fun d _ => amount_cell X Cn k c 0 d), Finset.sum_const, smul_eq_mul]

theorem dut_card : ∀ (k : Fin 12) (c : Dev nD), (dut k c).card = (![3, 1, 1, 1, 1, 1, 1, 1, 3, 96, 96, 32] : Fin 12 → ℕ) k := by
  decide +kernel

/-! ## What a device owes; the levels -/

/-- Dues, written as a list: kind, device, units. -/
def dues : List (Fin 12 × Dev nD × ℕ) → CellTallies nD τ sig Unit
  | [] => 0
  | x :: l => dues l + tallyAt (cell x.1 x.2.1) () x.2.2

/-- The exchange call's dues of device `c`. -/
abbrev list1 (c : Dev nD) : List (Fin 12 × Dev nD × ℕ) :=
  [(8, peer 1 c, 1), (8, peer 2 c, 1), (8, peer 3 c, 1), (10, peer 1 c, 32 * N1), (10, peer 2 c, 32 * N1), (10, peer 3 c, 32 * N1)]
/-- The counts call's dues of device `c`. -/
abbrev list0 (c : Dev nD) : List (Fin 12 × Dev nD × ℕ) :=
  [(0, peer 1 c, 1), (0, peer 2 c, 1), (0, peer 3 c, 1), (4, peer 1 c, N0), (5, peer 2 c, N0), (6, peer 3 c, N0)]

theorem dues_append (l l' : List (Fin 12 × Dev nD × ℕ)) : dues (l ++ l') = dues l' + dues l := by
  induction l with
  | nil => exact (add_zero _).symm
  | cons x l ih => show dues (l ++ l') + _ = dues l' + (dues l + _); rw [ih, add_assoc]

theorem dues_pos {l : List (Fin 12 × Dev nD × ℕ)} {g : GSem nD τ sig} {u : Unit} (h : 0 < dues l g u) :
    ∃ x ∈ l, g = cell x.1 x.2.1 := by
  induction l with
  | nil => exact absurd h (Nat.lt_irrefl 0)
  | cons x l ih =>
    change 0 < dues l g u + tallyAt (cell x.1 x.2.1) () x.2.2 g u at h
    by_cases h0 : 0 < dues l g u
    · obtain ⟨y, hy, e⟩ := ih h0; exact ⟨y, List.mem_cons_of_mem _ hy, e⟩
    · rw [Nat.eq_zero_of_not_pos h0, Nat.zero_add, tallyAt_apply] at h
      by_cases e : g = cell x.1 x.2.1 ∧ u = ()
      · exact ⟨x, List.mem_cons_self, e.1⟩
      · rw [if_neg e] at h; exact absurd h (Nat.lt_irrefl 0)

def L (g : GSem nD τ sig) : Finset Unit := if g.1.2 = .tc then {()} else ∅
theorem L_of_ne (g : GSem nD τ sig) (h : g.1.2 ≠ .tc) : L g = ∅ := if_neg h
theorem L_tc (c : Dev nD) (sm : SemLoc sig) : L ((c : Thread nD τ), sm) = {()} := if_pos rfl

def lvl : Fin 12 → ℕ := ![1, 0, 0, 0, 2, 2, 2, 0, 3, 0, 4, 0]
def lv (g : GSem nD τ sig) (_ : Unit) : ℕ := match kindOf g.2 with | some k => lvl k | none => 0
theorem lv_cell (k : Fin 12) (c : Dev nD) (u : Unit) : lv (cell k c) u = lvl k := by
  dsimp only [lv]; rw [kind_sem]

/-- A wait on a cell below every cell owed. -/
theorem mayWait (c : Dev nD) (k : Fin 12) (l : List (Fin 12 × Dev nD × ℕ)) (hl : ∀ x ∈ l, lvl k < lvl x.1) :
    (levAts L lv : sProp 𝕄) ⊢ MayWait (c : Thread nD τ) (sem12 k) () (dues l) :=
  MayOwe.of_cut (L := L) (lev := lv) (lvl k) (fun p hp => by rw [Finset.mem_singleton.mp hp, L_tc]; exact Finset.mem_singleton_self _)
    (fun g u hg => by
      obtain ⟨x, -, e⟩ := dues_pos hg
      rw [e, L_tc]; exact Finset.mem_singleton_self _)
    (fun p hp => by rw [Finset.mem_singleton.mp hp]; exact le_of_eq (lv_cell k c ()))
    (fun g u hg => by
      obtain ⟨x, hx, e⟩ := dues_pos hg
      rw [e, lv_cell]; exact hl x hx)

abbrev 𝒱₀ : Variants := Variants.none

end Cert.KernelIdeal.Exch

end
-- ==== Proof.Parts.lean ====
module

public import proofs.«01_k».proof.Proof.Sched
public import Idealize.ShloMosaic.Lib.Pipeline.ValueKit
public import Idealize.ShloMosaic.Lib.SparseCore.ProtocolKit

@[expose] public section

noncomputable section

namespace Cert.KernelIdeal.Exch

open Cert.KernelIdeal Cert.KernelIdeal.Gen Cert.KernelIdeal.Words
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig Unit (Elt F) ℕ UU ℕ

/-! ## The sets of elements -/

theorem mem_chunk (q : Dev nD) (j : Fin 32) (i : S4096x8x128.Idx) :
    i ∈ (chunkR q j).set ↔ (i 0).val / 1024 = q.val ∧ (i 0).val % 1024 / 32 = j.val := by
  rw [Rect.mem_set_unit]
  have hi : (i 0).val < 4096 := (i 0).isLt
  have h1 : (i 1).val < 8 := (i 1).isLt
  have h2 : (i 2).val < 128 := (i 2).isLt
  have hq : q.val < 4 := q.isLt
  have hj := j.isLt
  constructor
  · intro h
    have h0 : 1024 * q.val + 32 * j.val ≤ (i 0).val ∧ (i 0).val < 1024 * q.val + 32 * j.val + 32 := h 0
    omega
  · intro h a
    match a with
    | 0 => show 1024 * q.val + 32 * j.val ≤ (i 0).val ∧ (i 0).val < 1024 * q.val + 32 * j.val + 32; omega
    | 1 => show 0 ≤ (i 1).val ∧ (i 1).val < 0 + 8; omega
    | 2 => show 0 ≤ (i 2).val ∧ (i 2).val < 0 + 128; omega

theorem mem_row (s : Dev nD) (i : S4x8x128.Idx) : i ∈ (rowR s).set ↔ (i 0).val = s.val := by
  rw [Rect.mem_set_unit]
  have hi : (i 0).val < 4 := (i 0).isLt
  have h1 : (i 1).val < 8 := (i 1).isLt
  have h2 : (i 2).val < 128 := (i 2).isLt
  constructor
  · intro h
    have h0 : s.val ≤ (i 0).val ∧ (i 0).val < s.val + 1 := h 0
    omega
  · intro h a
    match a with
    | 0 => show s.val ≤ (i 0).val ∧ (i 0).val < s.val + 1; omega
    | 1 => show 0 ≤ (i 1).val ∧ (i 1).val < 0 + 8; omega
    | 2 => show 0 ≤ (i 2).val ∧ (i 2).val < 0 + 128; omega

theorem xM_set (q : Dev nD) (j : Fin 32) : (xM q j).view.set = (chunkR q j).set := View.set_slice_whole _ _
theorem oM_set (q : Dev nD) (j : Fin 32) : (oM q j).view.set = (chunkR q j).set := View.set_slice_whole _ _
theorem oM0_set (q : Dev nD) : (oM0 q).view.set = (rowR q).set := View.set_slice_whole _ _

theorem chunk_disj (d d' : D) (h : d ≠ d') : Disjoint (chunkR d.1 d.2).set (chunkR d'.1 d'.2).set :=
  Finset.disjoint_left.mpr fun i hi hi' => by
    rw [mem_chunk] at hi hi'
    exact h (Prod.ext (Fin.ext (hi.1.symm.trans hi'.1)) (Fin.ext (hi.2.symm.trans hi'.2)))
theorem chunk_cover : (Finset.univ : Finset D).biUnion (fun d => (chunkR d.1 d.2).set) = Finset.univ :=
  Finset.eq_univ_iff_forall.mpr fun i => Finset.mem_biUnion.mpr
    ⟨(⟨(i 0).val / 1024, Nat.div_lt_of_lt_mul (i 0).isLt⟩, ⟨(i 0).val % 1024 / 32, Nat.div_lt_of_lt_mul (Nat.mod_lt _ (by decide))⟩),
      Finset.mem_univ _, (mem_chunk _ _ _).mpr ⟨rfl, rfl⟩⟩
theorem row_disj (s s' : Dev nD) (h : s ≠ s') : Disjoint (rowR s).set (rowR s').set :=
  Finset.disjoint_left.mpr fun i hi hi' => by
    rw [mem_row] at hi hi'
    exact h (Fin.ext (hi.symm.trans hi'))
theorem row_cover : (Finset.univ : Finset (Dev nD)).biUnion (fun s => (rowR s).set) = Finset.univ :=
  Finset.eq_univ_iff_forall.mpr fun i => Finset.mem_biUnion.mpr
    ⟨⟨(i 0).val, (i 0).isLt⟩, Finset.mem_univ _, (mem_row _ _).mpr rfl⟩

/-! ## Buffers in parts -/

theorem x_disj : ∀ d ∈ (Finset.univ : Finset D), ∀ d' ∈ (Finset.univ : Finset D), d ≠ d' → Disjoint (xM d.1 d.2).view.set (xM d'.1 d'.2).view.set :=
  fun d _ d' _ h => by rw [xM_set, xM_set]; exact chunk_disj d d' h
theorem o_disj : ∀ d ∈ (Finset.univ : Finset D), ∀ d' ∈ (Finset.univ : Finset D), d ≠ d' → Disjoint (oM d.1 d.2).view.set (oM d'.1 d'.2).view.set :=
  fun d _ d' _ h => by rw [oM_set, oM_set]; exact chunk_disj d d' h
theorem r_disj : ∀ d ∈ (Finset.univ : Finset (Dev nD)), ∀ d' ∈ (Finset.univ : Finset (Dev nD)), d ≠ d' → Disjoint (oM0 d).view.set (oM0 d').view.set :=
  fun d _ d' _ h => by rw [oM0_set, oM0_set]; exact row_disj d d' h
theorem x_cover : (Finset.univ : Finset D).biUnion (β := S4096x8x128.Idx) (fun d => (xM d.1 d.2).view.set) = Finset.univ :=
  (Finset.biUnion_congr (β := S4096x8x128.Idx) rfl fun d _ => xM_set d.1 d.2).trans chunk_cover
theorem o_cover : (Finset.univ : Finset D).biUnion (β := S4096x8x128.Idx) (fun d => (oM d.1 d.2).view.set) = Finset.univ :=
  (Finset.biUnion_congr (β := S4096x8x128.Idx) rfl fun d _ => oM_set d.1 d.2).trans chunk_cover
theorem r_cover : (Finset.univ : Finset (Dev nD)).biUnion (β := S4x8x128.Idx) (fun d => (oM0 d).view.set) = Finset.univ :=
  (Finset.biUnion_congr (β := S4x8x128.Idx) rfl fun d _ => oM0_set d).trans row_cover

theorem x_parts (c : Dev nD) (f : XT (F := F)) :
    ((Memref.whole cc1_stg0_0).view.loc (c : Thread nD τ) ↦{fullShare} f : sProp 𝕄)
      = bigSep Finset.univ fun q => bigSep Finset.univ fun j => xch c q j f := by
  have h := pointsTo_biUnion (Ix := Unit) (Name := ℕ) (U := UU) (Lvl := ℕ) (ℓ := (Memref.whole cc1_stg0_0).view.loc (c : Thread nD τ)) (q := fullShare) (f := f)
    (Finset.univ : Finset D) (fun d => (xM d.1 d.2).view.set) x_disj
  exact (congrArg (fun S => ((Memref.whole cc1_stg0_0).view.loc (c : Thread nD τ) ↦[S]{fullShare} f : sProp 𝕄)) x_cover.symm).trans <| h.trans (bigSep_univ_prod (fun d : D => xch c d.1 d.2 f))

theorem o_parts (c : Dev nD) (f : OT (F := F)) :
    ((Memref.whole cc1_stg2_0).view.loc (c : Thread nD τ) ↦{fullShare} f : sProp 𝕄)
      = bigSep Finset.univ fun q => bigSep Finset.univ fun j => och c q j f := by
  have h := pointsTo_biUnion (Ix := Unit) (Name := ℕ) (U := UU) (Lvl := ℕ) (ℓ := (Memref.whole cc1_stg2_0).view.loc (c : Thread nD τ)) (q := fullShare) (f := f)
    (Finset.univ : Finset D) (fun d => (oM d.1 d.2).view.set) o_disj
  exact (congrArg (fun S => ((Memref.whole cc1_stg2_0).view.loc (c : Thread nD τ) ↦[S]{fullShare} f : sProp 𝕄)) o_cover.symm).trans <| h.trans (bigSep_univ_prod (fun d : D => och c d.1 d.2 f))

theorem row_parts (c : Dev nD) (f : CMT (F := F)) :
    ((Memref.whole cc0_stg1_0).view.loc (c : Thread nD τ) ↦{fullShare} f : sProp 𝕄)
      = bigSep Finset.univ fun s => row c s f := by
  have h := pointsTo_biUnion (Ix := Unit) (Name := ℕ) (U := UU) (Lvl := ℕ) (ℓ := (Memref.whole cc0_stg1_0).view.loc (c : Thread nD τ)) (q := fullShare) (f := f)
    (Finset.univ : Finset (Dev nD)) (fun d => (oM0 d).view.set) r_disj
  exact (congrArg (fun S => ((Memref.whole cc0_stg1_0).view.loc (c : Thread nD τ) ↦[S]{fullShare} f : sProp 𝕄)) r_cover.symm).trans h

/-- A device and its three peers are all there are. -/
theorem univ_peers (c : Dev nD) : (Finset.univ : Finset (Dev nD)) = {c, peer 1 c, peer 2 c, peer 3 c} := by
  revert c; decide
theorem peers_ne (c : Dev nD) : c ∉ ({peer 1 c, peer 2 c, peer 3 c} : Finset (Dev nD)) ∧ peer 1 c ∉ ({peer 2 c, peer 3 c} : Finset (Dev nD))
    ∧ peer 2 c ∉ ({peer 3 c} : Finset (Dev nD)) := by
  revert c; decide

theorem bigSep_trio (c : Dev nD) (Φ : Dev nD → sProp 𝕄) :
    bigSep ({peer 1 c, peer 2 c, peer 3 c} : Finset (Dev nD)) Φ = iprop(Φ (peer 1 c) ∗ Φ (peer 2 c) ∗ Φ (peer 3 c)) := by
  obtain ⟨-, h1, h2⟩ := peers_ne c
  rw [bigSep_insert h1, bigSep_insert h2, bigSep_singleton]; rfl
theorem bigSep_peers (c : Dev nD) (Φ : Dev nD → sProp 𝕄) :
    bigSep Finset.univ Φ = iprop(Φ c ∗ Φ (peer 1 c) ∗ Φ (peer 2 c) ∗ Φ (peer 3 c)) := by
  obtain ⟨h0, -, -⟩ := peers_ne c
  rw [univ_peers c, bigSep_insert h0, bigSep_trio]; rfl

theorem bigSep_bset (c : Dev nD) (Φ : D → sProp 𝕄) :
    bigSep (bset c) Φ = iprop(Φ (peer 1 c, 0) ∗ Φ (peer 2 c, 0) ∗ Φ (peer 3 c, 0)) := by
  have h : (peer 1 c, (0 : Fin 32)) ∉ ({(peer 2 c, 0), (peer 3 c, 0)} : Finset D) ∧ (peer 2 c, (0 : Fin 32)) ∉ ({(peer 3 c, 0)} : Finset D) := by
    revert c; decide
  unfold bset
  rw [bigSep_insert h.1, bigSep_insert h.2, bigSep_singleton]; rfl
theorem bigSep_rset (c : Dev nD) (Φ : D → sProp 𝕄) :
    bigSep (rset c) Φ = iprop((bigSep Finset.univ fun j => Φ (peer 1 c, j)) ∗ (bigSep Finset.univ fun j => Φ (peer 2 c, j))
      ∗ (bigSep Finset.univ fun j => Φ (peer 3 c, j))) := by
  unfold rset
  rw [SparseCore.bigSep_product, bigSep_trio]

/-! ## What the copies write -/

theorem row_written (s : Dev nD) (Cn : Dev nD → CT (F := F)) (fd : CMT (F := F)) :
    ∀ i ∈ (oM0 s).view.set, (oM0 s).view.write (Elt F) fd ((Memref.whole cc0_stg0_0 : Memref sig .tc .vmem S1x8x128 .i32).view.read (Elt F) (Cn s)) Finset.univ i
      = gathered Cn i := by
  intro i hi
  obtain ⟨x, -, rfl⟩ := Finset.mem_map.mp hi
  rw [View.write_emb_of_mem _ _ (Finset.mem_univ x)]
  show Cn s x = gathered Cn _
  have h0 : (x 0).val = 0 := Nat.lt_one_iff.mp (x 0).isLt
  have e : (⟨((oM0 s).view.emb x 0).val, ((oM0 s).view.emb x 0).isLt⟩ : Dev nD) = s :=
    Fin.ext (show s.val + 1 * (x 0).val = s.val by omega)
  unfold gathered
  rw [e]
  refine congrArg (Cn s) (funext fun a => ?_)
  match a with
  | 0 => exact Fin.ext h0
  | 1 => exact Fin.ext (show (x 1).val = 0 + 1 * (x 1).val by omega)
  | 2 => exact Fin.ext (show (x 2).val = 0 + 1 * (x 2).val by omega)

theorem chunk_written (s p : Dev nD) (j : Fin 32) (X : Dev nD → XT (F := F)) (fd : OT (F := F)) :
    ∀ i ∈ (oM s j).view.set, (oM s j).view.write (Elt F) fd ((xM p j).view.read (Elt F) (X s)) Finset.univ i = landed X p i := by
  intro i hi
  obtain ⟨x, -, rfl⟩ := Finset.mem_map.mp hi
  rw [View.write_emb_of_mem _ _ (Finset.mem_univ x)]
  show X s ((xM p j).view.emb x) = landed X p _
  have h0 : (x 0).val < 32 := (x 0).isLt
  have hj := j.isLt
  have hs : s.val < 4 := s.isLt
  have e : (⟨((oM s j).view.emb x 0).val / 1024, Nat.div_lt_of_lt_mul ((oM s j).view.emb x 0).isLt⟩ : Dev nD) = s :=
    Fin.ext (show (1024 * s.val + 32 * j.val + 1 * (x 0).val) / 1024 = s.val by omega)
  unfold landed
  rw [e]
  refine congrArg (X s) (funext fun a => ?_)
  match a with
  | 0 => exact Fin.ext (show 1024 * p.val + 32 * j.val + 1 * (x 0).val = 1024 * p.val + (1024 * s.val + 32 * j.val + 1 * (x 0).val) % 1024 by omega)
  | 1 => rfl
  | 2 => rfl

theorem cnt_eq (c : Dev nD) (q : PosShare TreeShare) (f : CT (F := F)) :
    (cnt c q f : sProp 𝕄) = ((Memref.whole cc0_stg0_0).view.loc (c : Thread nD τ) ↦{q} f) := by
  unfold cnt; rw [show (Memref.whole cc0_stg0_0 : Memref sig .tc .vmem S1x8x128 .i32).view.set = Finset.univ from View.set_whole _]

/-- The counts, split among the four copies that read them. -/
theorem cnt_parts (c : Dev nD) (f : CT (F := F)) :
    ((Memref.whole cc0_stg0_0).view.loc (c : Thread nD τ) ↦{fullShare} f : sProp 𝕄)
      = iprop(cnt c (sh 0) f ∗ cnt c (sh 1) f ∗ cnt c (sh 2) f ∗ cnt c (sh 3) f) := by
  rw [← cnt_eq]
  have h (q : PosShare TreeShare) : (cnt c q f : sProp 𝕄) = iprop(cnt c q.left f ∗ cnt c q.right f) :=
    have h := pointsTo_share (Ix := Unit) (Name := ℕ) (U := UU) (Lvl := ℕ) (ℓ := (Memref.whole cc0_stg0_0).view.loc (c : Thread nD τ))
      (I := (Memref.whole cc0_stg0_0 : Memref sig .tc .vmem S1x8x128 .i32).view.set) (f := f) (PosShare.mem_left_op_right q)
    BI.equiv_iff.mp ⟨h.1, h.2⟩
  exact (h _).trans (congrArg (fun P => iprop(cnt c fullShare.left f ∗ P)) ((h _).trans
    (congrArg (fun P => iprop(cnt c fullShare.right.left f ∗ P)) (h _))))

end Cert.KernelIdeal.Exch

end
-- ==== Proof.Steps.lean ====
module

public import proofs.«01_k».proof.Proof.Parts
public import Idealize.ShloMosaic.Lib.Scf

@[expose] public section

noncomputable section

namespace Cert.KernelIdeal.Exch

open Cert.KernelIdeal Cert.KernelIdeal.Gen Cert.KernelIdeal.Words
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.SparseCore.ProtocolKit (finFrom bigSep_finFrom_succ bigSep_finFrom_zero bigSep_finFrom_self)

variable {F : FTy → Type} [FloatOps F]

local notation "𝕄" => MT nD τ sig Unit (Elt F) ℕ UU ℕ

variable (X : Dev nD → XT (F := F)) (Cn : Dev nD → CT (F := F)) (K : GSem nD τ sig → ℕ)

/-! ## The invariants of all cells -/

def allInv : sProp 𝕄 :=
  bigSep Finset.univ fun k => bigSep Finset.univ fun c => cellInv ER (Rd X Cn) (K (cell k c)) (cell k c)

instance allInv_persistent : BI.Persistent (allInv X Cn K) := by unfold allInv; infer_instance

theorem inv_of (k : Fin 12) (c : Dev nD) : allInv X Cn K ⊢ cellInv ER (Rd X Cn) (K (cell k c)) (cell k c) :=
  (bigSep_elim (Finset.mem_univ k)).trans (bigSep_elim (Finset.mem_univ c))

/-- A cell, waited to the end of its round and closed: its counter is back at zero. -/
theorem close (k : Fin 12) (c : Dev nD) :
    iprop(allInv X Cn K ∗ atPos ER (cell k c) 1 ∅ 0) ⊢ (|={Set.univ}=> semVal (cell k c) 0 : sProp 𝕄) :=
  (sep_mono_left (inv_of X Cn K k c)).trans
    (Rounds.cell_close ER (Rd X Cn) (Set.mem_univ _) id (duties_later X Cn (cell k c)))

/-! ## Waits of many payments -/

/-- A cell of payments of `N1` units, after `i` waits: what has been taken out, whatever it is, leaves no more duties open
    than there are units to come. -/
def waited (k : Fin 12) (n : ℕ) (c : Dev nD) (i : ℕ) : sProp 𝕄 :=
  iprop(∃ T : Finset D, ∃ W : Waits sig Unit, ⌜T ⊆ dut k c ∧ i * N1 + (dut k c \ T).card ≤ n * N1⌝
    ∗ atPos ER (cell k c) 0 T (i * N1) ∗ (bigSep T fun d => pay X Cn k c d)
    ∗ cred (tallyAt (cell k c) () ((n - i) * N1)) ∗ owes (c : Thread nD τ) (0 : CellTallies nD τ sig Unit) W)

theorem waited_start (k : Fin 12) (n : ℕ) (c : Dev nD) (hn : (dut k c).card = n) (W : Waits sig Unit) :
    iprop(atPos ER (cell k c) 0 ∅ 0 ∗ cred (tallyAt (cell k c) () (n * N1)) ∗ owes (c : Thread nD τ) (0 : CellTallies nD τ sig Unit) W)
      ⊢ waited X Cn k n c 0 := by
  unfold waited
  iintro ⟨Ha, Hc, HO⟩
  iexists ∅; iexists W
  isplitr
  · ipureintro
    refine ⟨Finset.empty_subset _, ?_⟩
    rw [Finset.sdiff_empty, hn, Nat.zero_mul, Nat.zero_add]
    exact Nat.le_mul_of_pos_right n N1_pos
  isplitl [Ha]; · rw [Nat.zero_mul]; iexact Ha
  isplitr; · rw [bigSep_empty]; iempintro
  isplitl [Hc]; · iexact Hc
  iexact HO

/-- Device `c` runs `p`. -/
abbrev WP {α : Type} (c : Dev nD) (p : Prog (TpuEff nD τ sig (Elt F) Λ₀ .tc) α) (Q : α → sProp 𝕄) : sProp 𝕄 :=
  wp frame (wpE (defs₀ (F := F)) 𝒱₀ (c : Thread nD τ) none) Set.univ p Q

theorem bigSep_cut {I : Type} [DecidableEq I] {s t : Finset I} (h : t ⊆ s) (Φ : I → sProp 𝕄) :
    bigSep s Φ = iprop(bigSep t Φ ∗ bigSep (s \ t) Φ) := bigSep_sdiff_split h

theorem waited_step (k : Fin 12) (n : ℕ) (c : Dev nD) (i : ℕ) (hi : i < n) (hn : (dut k c).card = n) (hamt : amt k = N1) {α : Type}
    {w : TpuEff nD τ sig (Elt F) Λ₀ .tc PUnit}
    (hw : ∀ P : PUnit → sProp 𝕄, wpE (defs₀ (F := F)) 𝒱₀ (c : Thread nD τ) none Set.univ w P = waitSpec (c : Thread nD τ) Set.univ (sem12 k) N1 P)
    {kk : PUnit → Prog (TpuEff nD τ sig (Elt F) Λ₀ .tc) α} {Q : α → sProp 𝕄} :
    iprop(allInv X Cn K ∗ waited X Cn k n c i)
      ⊢ iprop((waited X Cn k n c (i + 1) -∗ WP c (kk ⟨⟩) Q) -∗ WP c (.op w kk) Q) := by
  have he : (Rd X Cn).expect (cell k c) 0 = n * N1 := by rw [expect_cell, hn, hamt]
  unfold waited
  iintro ⟨#HI, %T, %W, %hT, Ha, Hp, Hc, HO⟩ Hk
  ihave #HI' := (inv_of X Cn K k c) $$ HI
  ihave Hc := (Entails.of_eq (show (cred (tallyAt (cell k c) () ((n - i) * N1)) : sProp 𝕄) = cred (tallyAt (cell k c) () (N1 + (n - (i + 1)) * N1)) by
    rw [show n - i = n - (i + 1) + 1 by omega, Nat.add_mul, Nat.one_mul, Nat.add_comm])) $$ Hc
  rw [← tallyAt_add]
  ihave Hc := (cred_add _ _).1 $$ Hc
  icases Hc with ⟨Hc1, Hc⟩
  iapply (Rounds.wp_wait (Γ := .empty) (defs := defs₀ (F := F)) 𝒱₀ ER (Rd X Cn) (c : Thread nD τ) none (κ := K (cell k c)) (w := w) (sm := sem12 k) (k' := N1)
      hw (Set.mem_univ _) (cr := Finsupp.single () N1) (O := 0) (W := W) {(sem12 k, ())} (R := 0) (m := i * N1) (T := T)
      (by simp) (by
        intro x hx
        obtain ⟨u, -, rfl⟩ := Finset.mem_image.mp hx
        exact Finset.mem_singleton_self _)) $$ [Hc1 HO Ha]
  · isplitr; · iexact HI'
    isplitl [Hc1]; · iexact Hc1
    isplitl [HO]; · iexact HO
    isplitr; · rw [MayOwe_zero]; iempintro
    iexact Ha
  iintro %S ⟨%hS, HO, Ha, Hp'⟩
  iapply Hk
  iexists S; iexists _
  rw [duties_cell, he] at hS
  isplitr
  · ipureintro; refine ⟨hS.2.1, ?_⟩
    rw [Nat.add_mul, Nat.one_mul]; exact hS.2.2
  isplitl [Ha]; · rw [Nat.add_mul, Nat.one_mul]; iexact Ha
  isplitl [Hp Hp']
  · rw [bigSep_cut hS.1]
    isplitl [Hp]; · iexact Hp
    iapply (Entails.of_eq (bigSep_congr fun d _ => payload_cell X Cn k c 0 d)); iexact Hp'
  isplitl [Hc]; · iexact Hc
  iexact HO

theorem waited_done (k : Fin 12) (n : ℕ) (c : Dev nD) (hn : (dut k c).card = n) (hamt : amt k = N1) :
    iprop(allInv X Cn K ∗ waited X Cn k n c n)
      ⊢ (|={Set.univ}=> (semVal (cell k c) 0 ∗ (bigSep (dut k c) fun d => pay X Cn k c d)
          ∗ ∃ W, owes (c : Thread nD τ) (0 : CellTallies nD τ sig Unit) W) : sProp 𝕄) := by
  have he : (Rd X Cn).expect (cell k c) 0 = n * N1 := by rw [expect_cell, hn, hamt]
  unfold waited
  iintro ⟨#HI, %T, %W, %hT, Ha, Hp, Hc, HO⟩
  ihave #HI' := (inv_of X Cn K k c) $$ HI
  have hsub : dut k c ⊆ T := by
    refine Finset.sdiff_eq_empty_iff_subset.mp (Finset.card_eq_zero.mp ?_)
    have := hT.2; omega
  obtain rfl : T = dut k c := Finset.Subset.antisymm hT.1 hsub
  imod (Rounds.fupd_skip ER (Rd X Cn) (g := cell k c) (κ := K (cell k c)) (R := 0) (m := n * N1) (T := dut k c) (le_of_eq (duties_cell X Cn k c)) he.symm (Set.mem_univ _)) $$ [Ha] with ⟨Ha, -⟩
  · isplitr; · iexact HI'
    iexact Ha
  imod (close X Cn K k c) $$ [Ha] with Hs
  · isplitr; · iexact HI
    iexact Ha
  imodintro
  isplitl [Hs]; · iexact Hs
  isplitl [Hp]; · iexact Hp
  iexists W; iexact HO

/-! ## Loops of no trips -/

theorem wp_idle {w : Nat} {lb ub st : BitVec w} {hok : Scf.OK lb ub st} {σ α : Type} {init : σ} (c : Dev nD)
    (body : Fin (Scf.trips lb ub st) → σ → Prog (TpuEff nD τ sig (Elt F) Λ₀ .tc) σ) (h0 : Scf.trips lb ub st = 0)
    {kk : σ → Prog (TpuEff nD τ sig (Elt F) Λ₀ .tc) α} {Q : α → sProp 𝕄} (R : sProp 𝕄) (hk : ∀ a, R ⊢ WP c (kk a) Q) :
    R ⊢ WP c (Scf.for lb ub st hok init body >>= kk) Q := by
  have h := Scf.wp_for_bind frame (wpE (defs₀ (F := F)) 𝒱₀ (c : Thread nD τ) none) Set.univ lb ub st hok init body
    (fun _ _ => R) (fun k => absurd k.isLt (by omega)) (kk := kk) (Q := Q)
  iintro HR
  iapply h $$ HR
  iintro %a HR
  iapply (hk a); iexact HR

/-! ## A word of the gathered counts -/

abbrev words (c : Dev nD) (f : (cc1_stg1_0 : Ref sig .tc).ty.Contents (Elt F)) : sProp 𝕄 :=
  (Memref.whole cc1_stg1_0).view.loc (c : Thread nD τ) ↦{fullShare} f

/-- Every word of the gathered counts that the kernel reads is 1024. -/
def Even (f : (cc1_stg1_0 : Ref sig .tc).ty.Contents (Elt F)) : Prop :=
  ∀ i : S4x8x128.Idx, (i 1).val = 0 → (i 2).val < 4 → f i = 1024#32

theorem wp_word (c : Dev nD) {f : (cc1_stg1_0 : Ref sig .tc).ty.Contents (Elt F)} (hf : Even f) {off : Fin 3 → ℕ}
    {inb : ∀ a, off a + S1x1x1.size a ≤ S4x8x128.size a} (h1 : off 1 = 0) (h2 : off 2 < 4)
    {hn : (Rect.unit (s := S4x8x128) off S1x1x1.size inb).shape.numel = 1} {hp : EltTy.i32.packing = 1} {α : Type}
    {kk : Elt F .i32 → Prog (TpuEff nD τ sig (Elt F) Λ₀ .tc) α} {Q : α → sProp 𝕄} (R : sProp 𝕄)
    (hk : iprop(words c f ∗ R) ⊢ WP c (kk 1024#32) Q) :
    iprop(words c f ∗ R) ⊢ WP c (smemLoad (Memref.whole cc1_stg1_0) (Rect.unit (s := S4x8x128) off S1x1x1.size inb) hn hp >>= kk) Q := by
  unfold smemLoad smemLoadElt
  simp only [Prog.bind_op, Prog.bind_ret]
  iintro ⟨Hw, HR⟩
  iapply (wp_load_rect (defs := defs₀ (F := F)) (Γ := .empty) 𝒱₀ (c : Thread nD τ) none Set.univ (m := Memref.whole cc1_stg1_0)
    (r := Rect.unit (s := S4x8x128) off S1x1x1.size inb) (S := Finset.univ) (q := fullShare) (f := f) (Finset.subset_univ _)) $$ Hw
  iintro Hw
  have e : (((Memref.whole cc1_stg1_0).access (Rect.unit (s := S4x8x128) off S1x1x1.size inb)).read (Elt F) f)
      (Shape.Idx.first (hn.symm ▸ Nat.one_pos)) = (1024#32 : Elt F .i32) := by
    refine hf _ ?_ ?_
    · show off 1 + 1 * 0 = 0; omega
    · show off 2 + 1 * 0 < 4; omega
  rw [e]
  iapply hk
  isplitl [Hw]; · iexact Hw
  iexact HR

/-! ## The chunks that go -/

/-- What a chunk's copy takes: its source, the peer's place for it, and the two rights to pay. -/
abbrev goes (c p : Dev nD) (f : OT (F := F)) (j : Fin 32) : sProp 𝕄 :=
  iprop(xch c p j (X c) ∗ och p c j f ∗ dutyTok ER (cell 9 c) 0 (p, j) ∗ dutyTok ER (cell 10 p) 0 (c, j))

/-- The copies to peer `p` that remain before trip `i`, the credit for those made, and what is still owed. -/
def sending (c p : Dev nD) (l : List (Fin 12 × Dev nD × ℕ)) (f : OT (F := F)) (i : ℕ) : sProp 𝕄 :=
  iprop(bigSep (finFrom 32 i) (goes X c p f) ∗ cred (tallyAt (cell 9 c) () (i * N1))
    ∗ ∃ W, owes (c : Thread nD τ) (dues ((10, p, (32 - i) * N1) :: l)) W)

theorem x_slice_eq {off : Fin 3 → ℕ} {inb : ∀ a, off a + S32x8x128.size a ≤ S4096x8x128.size a} (q : Dev nD) (j : Fin 32)
    (h : off = ![1024 * q.val + 32 * j.val, 0, 0]) {hs} :
    (Memref.whole cc1_stg0_0).slice (Rect.unit (s := S4096x8x128) off S32x8x128.size inb) hs = xM q j := by
  subst h; rfl

theorem amount_chunk (s : Dev nD) (j : Fin 32) (k : SemLoc sig) (hk : k = .dma (14 : Fin 18) ∨ k = .dma (16 : Fin 18)) :
    (oM s j).view.amount k = N1 := by
  rcases hk with rfl | rfl <;> rfl

theorem pays9 (c p : Dev nD) (j : Fin 32) : ((xM p j).view.loc (c : Thread nD τ) ↦[(xM p j).view.set]{fullShare} X c : sProp 𝕄)
    ⊢ (Rd X Cn).payload ((c : Thread nD τ), (SemLoc.dma (12 : Fin 18) : SemLoc sig)) 0 (p, j) :=
  Entails.of_eq (payload_cell X Cn 9 c 0 (p, j)).symm

theorem pays10 (c p : Dev nD) (j : Fin 32) (f : OT (F := F)) :
    ((oM c j).view.loc (p : Thread nD τ) ↦[(oM c j).view.set]{fullShare} ((oM c j).view.write (Elt F) f ((xM p j).view.read (Elt F) (X c)) Finset.univ) : sProp 𝕄)
    ⊢ (Rd X Cn).payload ((p : Thread nD τ), (SemLoc.dma (14 : Fin 18) : SemLoc sig)) 0 (c, j) := by
  rw [pointsTo_congr (chunk_written c p j X f)]
  exact Entails.of_eq (payload_cell X Cn 10 p 0 (c, j)).symm

theorem pays11 (c : Dev nD) (j : Fin 32) (f : OT (F := F)) :
    iprop(((oM c j).view.loc (c : Thread nD τ) ↦[(oM c j).view.set]{fullShare} ((oM c j).view.write (Elt F) f ((xM c j).view.read (Elt F) (X c)) Finset.univ))
      ∗ ((xM c j).view.loc (c : Thread nD τ) ↦[(xM c j).view.set]{fullShare} X c))
    ⊢ (Rd X Cn).payload ((c : Thread nD τ), (SemLoc.dma (16 : Fin 18) : SemLoc sig)) 0 (c, j) := by
  rw [pointsTo_congr (chunk_written c c j X f)]
  exact Entails.of_eq (payload_cell X Cn 11 c 0 (c, j)).symm

theorem in9 (c p : Dev nD) (j : Fin 32) (h : ((p, j) : D) ∈ dut 9 c) :
    ((p, j) : D) ∈ (Rd X Cn).duties ((c : Thread nD τ), (SemLoc.dma (12 : Fin 18) : SemLoc sig)) 0 :=
  (duties_cell X Cn 9 c).symm ▸ h
theorem in10 (c p : Dev nD) (j : Fin 32) (h : ((c, j) : D) ∈ dut 10 p) :
    ((c, j) : D) ∈ (Rd X Cn).duties ((p : Thread nD τ), (SemLoc.dma (14 : Fin 18) : SemLoc sig)) 0 :=
  (duties_cell X Cn 10 p).symm ▸ h
theorem in11 (c : Dev nD) (j : Fin 32) (h : ((c, j) : D) ∈ dut 11 c) :
    ((c, j) : D) ∈ (Rd X Cn).duties ((c : Thread nD τ), (SemLoc.dma (16 : Fin 18) : SemLoc sig)) 0 :=
  (duties_cell X Cn 11 c).symm ▸ h
theorem am9 (c : Dev nD) (d : D) : (Rd X Cn).amount ((c : Thread nD τ), (SemLoc.dma (12 : Fin 18) : SemLoc sig)) 0 d = N1 := amount_cell X Cn 9 c 0 d
theorem am10 (c : Dev nD) (d : D) : (Rd X Cn).amount ((c : Thread nD τ), (SemLoc.dma (14 : Fin 18) : SemLoc sig)) 0 d = N1 := amount_cell X Cn 10 c 0 d
theorem am11 (c : Dev nD) (d : D) : (Rd X Cn).amount ((c : Thread nD τ), (SemLoc.dma (16 : Fin 18) : SemLoc sig)) 0 d = N1 := amount_cell X Cn 11 c 0 d

theorem mem_goes (c n : Dev nD) (hp : n ≠ c) (j : Fin 32) : ((n, j) : D) ∈ dut 9 c ∧ ((c, j) : D) ∈ dut 10 n := by
  revert hp; revert n c j; decide +kernel

theorem mem_stays (c : Dev nD) (j : Fin 32) : ((c, j) : D) ∈ dut 11 c := by
  revert c j; decide +kernel

theorem send_step (c p : Dev nD) (hp : p ≠ c) (l : List (Fin 12 × Dev nD × ℕ)) (f : OT (F := F)) (i : ℕ) (hi : i < 32) {α : Type}
    {offs offd : Fin 3 → ℕ} {inbs : ∀ a, offs a + S32x8x128.size a ≤ S4096x8x128.size a}
    {inbd : ∀ a, offd a + S32x8x128.size a ≤ S4096x8x128.size a}
    (hs : offs = ![1024 * p.val + 32 * i, 0, 0]) (hd : offd = ![1024 * c.val + 32 * i, 0, 0])
    (n : Dev nD) (hn : n = p) {es ed h1 h2 h3}
    {kk : PUnit → Prog (TpuEff nD τ sig (Elt F) Λ₀ .tc) α} {Q : α → sProp 𝕄} :
    iprop(allInv X Cn K ∗ reached ER (cell 9 c) 0 ∗ reached ER (cell 10 p) 0 ∗ sending X c p l f i)
      ⊢ iprop((sending X c p l f (i + 1) -∗ WP c (kk ⟨⟩) Q)
        -∗ WP c (.op (.enqueueDma ((Memref.whole cc1_stg0_0).slice (Rect.unit (s := S4096x8x128) offs S32x8x128.size inbs) es)
            (.remote (Dev.tc n) ((Memref.whole cc1_stg2_0).slice (Rect.unit (s := S4096x8x128) offd S32x8x128.size inbd) ed) (.dma (12 : Fin 18)))
            (.dma (14 : Fin 18)) h1 h2 h3) kk) Q) := by
  subst hs hd hn
  unfold sending
  rw [bigSep_finFrom_succ hi]
  iintro ⟨#HI, #Hr1, #Hr2, ⟨⟨Hx, Ho, Ht1, Ht2⟩, Hrest⟩, Hc, %W, HO⟩ Hk
  ihave #HI1 := (inv_of X Cn K 9 c) $$ HI
  ihave #HI2 := (inv_of X Cn K 10 n) $$ HI
  have hmem := mem_goes c n hp ⟨i, hi⟩
  have hO : dues ((10, n, (32 - i) * N1) :: l) = dues ((10, n, (32 - (i + 1)) * N1) :: l) + tallyAt (cell 10 n) () N1 := by
    show dues l + tallyAt (cell 10 n) () ((32 - i) * N1) = dues l + tallyAt (cell 10 n) () ((32 - (i + 1)) * N1) + tallyAt (cell 10 n) () N1
    rw [add_assoc, tallyAt_add, show 32 - i = 32 - (i + 1) + 1 by omega, Nat.add_mul, Nat.one_mul]
  iapply (Rounds.wp_send_pointsTo (Γ := .empty) (defs := defs₀ (F := F)) 𝒱₀ ER (Rd X Cn) (c : Thread nD τ) none (c' := (n : Thread nD τ)) (src := xM n ⟨i, hi⟩) (dst := oM c ⟨i, hi⟩)
      (sS := .dma (12 : Fin 18)) (sem := .dma (14 : Fin 18)) (q := fullShare) (fs := X c) (κ₁ := K (cell 9 c)) (κ₂ := K (cell 10 n))
      (r₁ := 0) (r₂ := 0) (d₁ := (n, ⟨i, hi⟩)) (d₂ := (c, ⟨i, hi⟩)) (fd := f)
      (in9 X Cn c n ⟨i, hi⟩ hmem.1) (in10 X Cn c n ⟨i, hi⟩ hmem.2)
      () () N1 (amount_chunk c ⟨i, hi⟩ _ (.inl rfl)) (am9 X Cn c _) (am10 X Cn n _) (dues ((10, n, (32 - (i + 1)) * N1) :: l)) hO (W := W)
      (pays9 X Cn c n ⟨i, hi⟩) (pays10 X Cn c n ⟨i, hi⟩ f))
    $$ [Hx Ho HO Ht1 Ht2]
  · isplitr; · iexact HI1
    isplitr; · iexact HI2
    isplitl [Hx]; · iexact Hx
    isplitl [Ho]; · iexact Ho
    isplitl [HO]; · iexact HO
    isplitl [Ht1]; · iexact Ht1
    isplitr; · iexact Hr1
    isplitl [Ht2]; · iexact Ht2
    iexact Hr2
  iintro ⟨Hc', HO⟩
  iapply Hk
  isplitl [Hrest]; · iexact Hrest
  isplitl [Hc Hc']
  · rw [Nat.add_mul, Nat.one_mul, ← tallyAt_add]
    iapply (cred_add _ _).2
    isplitl [Hc]; · iexact Hc
    iexact Hc'
  iexists W; iexact HO

/-! ## The chunks that stay -/

abbrev stays (c : Dev nD) (f : OT (F := F)) (j : Fin 32) : sProp 𝕄 :=
  iprop(xch c c j (X c) ∗ och c c j f ∗ dutyTok ER (cell 11 c) 0 (c, j))

def keeping (c : Dev nD) (f : OT (F := F)) (i : ℕ) : sProp 𝕄 :=
  iprop(bigSep (finFrom 32 i) (stays X c f) ∗ cred (tallyAt (cell 11 c) () (i * N1)))

theorem keep_step (c : Dev nD) (f : OT (F := F)) (i : ℕ) (hi : i < 32) {α : Type}
    {offs offd : Fin 3 → ℕ} {inbs : ∀ a, offs a + S32x8x128.size a ≤ S4096x8x128.size a}
    {inbd : ∀ a, offd a + S32x8x128.size a ≤ S4096x8x128.size a}
    (hs : offs = ![1024 * c.val + 32 * i, 0, 0]) (hd : offd = ![1024 * c.val + 32 * i, 0, 0]) {es ed h1 h2 h3}
    {kk : PUnit → Prog (TpuEff nD τ sig (Elt F) Λ₀ .tc) α} {Q : α → sProp 𝕄} :
    iprop(allInv X Cn K ∗ reached ER (cell 11 c) 0 ∗ keeping X c f i)
      ⊢ iprop((keeping X c f (i + 1) -∗ WP c (kk ⟨⟩) Q)
        -∗ WP c (.op (.enqueueDma ((Memref.whole cc1_stg0_0).slice (Rect.unit (s := S4096x8x128) offs S32x8x128.size inbs) es)
            (.here ((Memref.whole cc1_stg2_0).slice (Rect.unit (s := S4096x8x128) offd S32x8x128.size inbd) ed))
            (.dma (16 : Fin 18)) h1 h2 h3) kk) Q) := by
  subst hs hd
  unfold keeping
  rw [bigSep_finFrom_succ hi]
  iintro ⟨#HI, #Hr1, ⟨⟨Hx, Ho, Ht1⟩, Hrest⟩, Hc⟩ Hk
  ihave #HI1 := (inv_of X Cn K 11 c) $$ HI
  have hmem := mem_stays c ⟨i, hi⟩
  iapply (Rounds.wp_copy_pointsTo (Γ := .empty) (defs := defs₀ (F := F)) 𝒱₀ ER (Rd X Cn) (c : Thread nD τ) none (src := xM c ⟨i, hi⟩) (dst := oM c ⟨i, hi⟩)
      (sem := .dma (16 : Fin 18)) (q := fullShare) (fs := X c) (fd := f) (r := 0) (d := (c, ⟨i, hi⟩)) (κ := K (cell 11 c))
      (in11 X Cn c ⟨i, hi⟩ hmem) () N1 (amount_chunk c ⟨i, hi⟩ _ (.inr rfl)) (am11 X Cn c _) (pays11 X Cn c ⟨i, hi⟩ f))
    $$ [Hx Ho Ht1]
  · isplitr; · iexact HI1
    isplitl [Hx]; · iexact Hx
    isplitl [Ho]; · iexact Ho
    isplitl [Ht1]; · iexact Ht1
    iexact Hr1
  iintro Hc'
  iapply Hk
  isplitl [Hrest]; · iexact Hrest
  rw [Nat.add_mul, Nat.one_mul, ← tallyAt_add]
  iapply (cred_add _ _).2
  isplitl [Hc]; · iexact Hc
  iexact Hc'

end Cert.KernelIdeal.Exch

end
-- ==== Proof.Trips.lean ====
module

public import proofs.«01_k».proof.Proof.Steps

@[expose] public section

noncomputable section

namespace Cert.KernelIdeal.Exch

open Cert.KernelIdeal Cert.KernelIdeal.Gen Cert.KernelIdeal.Words
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.SparseCore.ProtocolKit (finFrom bigSep_finFrom_succ bigSep_finFrom_zero bigSep_finFrom_self)

variable {F : FTy → Type} [FloatOps F]

local notation "𝕄" => MT nD τ sig Unit (Elt F) ℕ UU ℕ

variable (X : Dev nD → XT (F := F)) (Cn : Dev nD → CT (F := F)) (K : GSem nD τ sig → ℕ)

/-! ## One whole round, waited at once -/

/-- A wait for everything that a cell will ever be paid: the payments come out and the cell closes at zero. -/
theorem round_step (k : Fin 12) (c : Dev nD) (l : List (Fin 12 × Dev nD × ℕ)) (hl : ∀ x ∈ l, lvl k < lvl x.1) {α : Type} (n : ℕ)
    (hn : n = (dut k c).card * amt k) {w : TpuEff nD τ sig (Elt F) Λ₀ .tc PUnit}
    (hw : ∀ P : PUnit → sProp 𝕄, wpE (defs₀ (F := F)) 𝒱₀ (c : Thread nD τ) none Set.univ w P = waitSpec (c : Thread nD τ) Set.univ (sem12 k) n P)
    {kk : PUnit → Prog (TpuEff nD τ sig (Elt F) Λ₀ .tc) α} {Q : α → sProp 𝕄} :
    iprop(allInv X Cn K ∗ levAts L lv ∗ atPos ER (cell k c) 0 ∅ 0 ∗ cred (tallyAt (cell k c) () n) ∗ ∃ W, owes (c : Thread nD τ) (dues l) W)
      ⊢ iprop(((semVal (cell k c) 0 ∗ (bigSep (dut k c) fun d => pay X Cn k c d) ∗ ∃ W, owes (c : Thread nD τ) (dues l) W) -∗ WP c (kk ⟨⟩) Q)
        -∗ WP c (.op w kk) Q) := by
  iintro ⟨#HI, #Hlev, Ha, Hc, %W, HO⟩ Hk
  ihave #HI' := (inv_of X Cn K k c) $$ HI
  iapply (Rounds.wp_wait_rest_token (Γ := .empty) (defs := defs₀ (F := F)) 𝒱₀ ER (Rd X Cn) (c : Thread nD τ) none (κ := K (cell k c)) (w := w) (sm := sem12 k)
      hw (Set.mem_univ _) () (O := dues l) (W := W) (R := 0) (m := 0) (T := ∅)
      ((Nat.zero_add _).trans (hn.trans (expect_cell X Cn k c).symm))) $$ [Hc HO Ha]
  · isplitr; · iexact HI'
    isplitl [Hc]; · iexact Hc
    isplitl [HO]; · iexact HO
    isplitr; · iapply (mayWait c k l hl); iexact Hlev
    iexact Ha
  iintro ⟨HO, Ha, -, Hp⟩
  imod (close X Cn K k c) $$ [Ha] with Hs
  · isplitr; · iexact HI
    iexact Ha
  iapply Hk
  isplitl [Hs]; · iexact Hs
  isplitl [Hp]
  · ihave Hp := (Entails.of_eq (congrArg (fun S => bigSep (S \ ∅) fun d => (Rd X Cn).payload (cell k c) 0 d) (duties_cell X Cn k c))) $$ Hp
    rw [Finset.sdiff_empty]
    iapply (Entails.of_eq (bigSep_congr fun d _ => payload_cell X Cn k c 0 d)); iexact Hp
  iexists _; iexact HO

/-- A signal to a peer's barrier, of kind `k`. -/
theorem signal_step (k : Fin 12) (c p : Dev nD) (hk : amt k = 1) (hd : ((c, 0) : D) ∈ dut k p) (l : List (Fin 12 × Dev nD × ℕ)) {α : Type}
    (n : Dev nD) (hn : n = p) (s : Sem sig) (hs : sem12 k = .reg s)
    {kk : PUnit → Prog (TpuEff nD τ sig (Elt F) Λ₀ .tc) α} {Q : α → sProp 𝕄} :
    iprop(allInv X Cn K ∗ reached ER (cell k p) 0 ∗ dutyTok ER (cell k p) 0 (c, 0) ∗ pay X Cn k p (c, 0)
        ∗ ∃ W, owes (c : Thread nD τ) (dues ((k, p, 1) :: l)) W)
      ⊢ iprop(((∃ W, owes (c : Thread nD τ) (dues l) W) -∗ WP c (kk ⟨⟩) Q)
        -∗ WP c (semSignalWord n s 1#32 >>= kk) Q) := by
  subst hn
  unfold semSignalWord
  simp only [Prog.bind_op, Prog.bind_ret]
  iintro ⟨#HI, #Hr, Ht, Hp, %W, HO⟩ Hk
  ihave #HI' := (inv_of X Cn K k n) $$ HI
  have hc : ((n : Thread nD τ), (SemLoc.reg s : SemLoc sig)) = cell k n := by unfold cell; rw [hs]
  iapply (Rounds.wp_signal (Γ := .empty) (defs := defs₀ (F := F)) 𝒱₀ ER (Rd X Cn) (c : Thread nD τ) none (dst := (n : Thread nD τ)) (sem := s) (r := 0) (d := (c, 0))
      (κ := K (cell k n)) (k' := 1) (by rw [hc, duties_cell]; exact hd) (by rw [hc, amount_cell, hk]) () (dues l)
      (by rw [hc]) (W := W)) $$ [HO Ht Hp]
  · rw [hc]
    isplitr; · iexact HI'
    isplitl [HO]; · iexact HO
    isplitl [Ht]; · iexact Ht
    isplitl [Hp]; · rw [payload_cell]; iexact Hp
    iexact Hr
  iintro HO
  iapply Hk
  iexists W; iexact HO

theorem wp_check (c : Dev nD) {P : Prop} {d : Decidable P} (h : P) {α : Type} {kk : PLift P → Prog (TpuEff nD τ sig (Elt F) Λ₀ .tc) α}
    {Q : α → sProp 𝕄} (R : sProp 𝕄) (hk : R ⊢ WP c (kk ⟨h⟩) Q) : R ⊢ WP c (Prog.lift (TpuEff.assume P d) >>= kk) Q := by
  unfold Prog.lift
  simp only [Prog.bind_op, Prog.bind_ret]
  exact hk.trans (wp_assume (defs := defs₀ (F := F)) (Γ := .empty) 𝒱₀ (c : Thread nD τ) none Set.univ h)

theorem wp_end (c : Dev nD) {α : Type} (a : α) {Q : α → sProp 𝕄} : Q a ⊢ WP c (.ret a) Q := by
  unfold WP
  rw [wp_ret]
  iintro H; imodintro; iexact H

theorem read_word (c : Dev nD) {f : (cc1_stg1_0 : Ref sig .tc).ty.Contents (Elt F)} (hf : Even f) {off : Fin 3 → ℕ}
    {inb : ∀ a, off a + S1x1x1.size a ≤ S4x8x128.size a} (h : off 1 = 0 ∧ off 2 < 4)
    {hn : (Rect.unit (s := S4x8x128) off S1x1x1.size inb).shape.numel = 1} {hp : EltTy.i32.packing = 1} {α : Type}
    {kk : Elt F .i32 → Prog (TpuEff nD τ sig (Elt F) Λ₀ .tc) α} {Q : α → sProp 𝕄} :
    words c f ⊢ iprop((words c f -∗ WP c (kk 1024#32) Q)
      -∗ WP c (smemLoad (Memref.whole cc1_stg1_0) (Rect.unit (s := S4x8x128) off S1x1x1.size inb) hn hp >>= kk) Q) := by
  iintro Hw Hk
  iapply (wp_word c hf h.1 h.2 iprop(words c f -∗ WP c (kk 1024#32) Q) (by iintro ⟨Hw, Hk⟩; iapply Hk; iexact Hw))
  isplitl [Hw]; · iexact Hw
  iexact Hk

theorem check_step (c : Dev nD) {P : Prop} {d : Decidable P} (h : P) {α : Type} {kk : PLift P → Prog (TpuEff nD τ sig (Elt F) Λ₀ .tc) α}
    {Q : α → sProp 𝕄} : WP c (kk ⟨h⟩) Q ⊢ WP c (Prog.lift (TpuEff.assume P d) >>= kk) Q :=
  wp_check c h _ .rfl

/-! ## The loops -/

theorem skip_loop (c : Dev nD) {α : Type} {lp : Scf.Loop 32} {hok : lp.OK} {init : BitVec 32}
    {body : Fin lp.trips → BitVec 32 → Prog (TpuEff nD τ sig (Elt F) Λ₀ .tc) (BitVec 32)} (h0 : lp.trips = 0)
    {kk : BitVec 32 → Prog (TpuEff nD τ sig (Elt F) Λ₀ .tc) α} {Q : α → sProp 𝕄} :
    iprop(∀ a, WP c (kk a) Q) ⊢ WP c (Scf.Loop.for lp hok init body >>= kk) Q :=
  wp_idle c body h0 _ fun a => by iintro H; iapply H

theorem send_loop (c p : Dev nD) (hp : p ≠ c) (l : List (Fin 12 × Dev nD × ℕ)) (f : OT (F := F)) {α : Type} {lp : Scf.Loop 32} {hok : lp.OK} {init : BitVec 32}
    {body : Fin lp.trips → BitVec 32 → Prog (TpuEff nD τ sig (Elt F) Λ₀ .tc) (BitVec 32)} (h32 : lp.trips = 32)
    (hb : ∀ (k : Fin lp.trips) (acc : BitVec 32) (P : Prog (TpuEff nD τ sig (Elt F) Λ₀ .tc) (BitVec 32) → Prop),
      (∀ (offs offd : Fin 3 → ℕ) (inbs : ∀ a, offs a + S32x8x128.size a ≤ S4096x8x128.size a)
        (inbd : ∀ a, offd a + S32x8x128.size a ≤ S4096x8x128.size a) (n : Dev nD) (es : _) (ed : _) (e0 : _) (h1 : _) (h2 : _) (h3 : _),
        offs = ![1024 * p.val + 32 * k.val, 0, 0] → offd = ![1024 * c.val + 32 * k.val, 0, 0] → n = p →
        P (.op (.enqueueDma ((Memref.whole cc1_stg0_0).slice (Rect.unit (s := S4096x8x128) offs S32x8x128.size inbs) es)
            (.remote (Dev.tc n) ((Memref.whole cc1_stg2_0).slice (Rect.unit (s := S4096x8x128) offd S32x8x128.size inbd) ed) (.dma (12 : Fin 18)) e0)
            (.dma (14 : Fin 18)) h1 h2 h3) (fun _ => .ret 0#32))) → P (body k acc))
    {kk : BitVec 32 → Prog (TpuEff nD τ sig (Elt F) Λ₀ .tc) α} {Q : α → sProp 𝕄} :
    iprop(allInv X Cn K ∗ reached ER (cell 9 c) 0 ∗ reached ER (cell 10 p) 0 ∗ bigSep Finset.univ (goes X c p f)
        ∗ ∃ W, owes (c : Thread nD τ) (dues ((10, p, 32 * N1) :: l)) W)
      ⊢ iprop((∀ acc, (cred (tallyAt (cell 9 c) () (32 * N1)) ∗ ∃ W, owes (c : Thread nD τ) (dues l) W) -∗ WP c (kk acc) Q)
        -∗ WP c (Scf.Loop.for lp hok init body >>= kk) Q) := by
  iintro ⟨#HI, #Hr1, #Hr2, Hg, HO⟩ Hk
  iapply (Scf.wp_for_bind frame (wpE (defs₀ (F := F)) 𝒱₀ (c : Thread nD τ) none) Set.univ lp.lb lp.ub lp.st hok init body
    (fun i _ => iprop(allInv X Cn K ∗ reached ER (cell 9 c) 0 ∗ reached ER (cell 10 p) 0 ∗ sending X c p l f i)) (fun k acc => by
      refine hb k acc (fun p => _ ⊢ WP c p _) fun offs offd inbs inbd n es ed e0 h1 h2 h3 ho hd hn => ?_
      iintro ⟨#HI, #Hr1, #Hr2, HS⟩
      iapply (send_step X Cn K c p hp l f k.val (lt_of_lt_of_eq k.isLt h32) ho hd n hn) $$ [HS]
      · isplitr; · iexact HI
        isplitr; · iexact Hr1
        isplitr; · iexact Hr2
        iexact HS
      iintro HS
      iapply (wp_end c 0#32)
      isplitr; · iexact HI
      isplitr; · iexact Hr1
      isplitr; · iexact Hr2
      iexact HS)) $$ [Hg HO]
  · isplitr; · iexact HI
    isplitr; · iexact Hr1
    isplitr; · iexact Hr2
    unfold sending
    rw [bigSep_finFrom_zero]
    isplitl [Hg]; · iexact Hg
    isplitr; · rw [Nat.zero_mul, tallyAt_zero]; rw [cred_zero]; iempintro
    rw [Nat.sub_zero]; iexact HO
  iintro %acc ⟨-, -, -, HS⟩
  iapply Hk
  ihave HS := (Entails.of_eq (congrArg (sending X c p l f) h32)) $$ HS
  unfold sending
  icases HS with ⟨-, Hc, HO⟩
  isplitl [Hc]; · iexact Hc
  rw [Nat.sub_self, Nat.zero_mul]
  icases HO with ⟨%W, HO⟩
  iexists W
  iapply (Entails.of_eq (congrArg (fun O => (owes (c : Thread nD τ) O W : sProp 𝕄))
    (show dues ((10, p, 0) :: l) = dues l by show dues l + tallyAt _ () 0 = _; rw [tallyAt_zero, add_zero])))
  iexact HO

theorem keep_loop (c : Dev nD) (f : OT (F := F)) {α : Type} {lp : Scf.Loop 32} {hok : lp.OK} {init : BitVec 32}
    {body : Fin lp.trips → BitVec 32 → Prog (TpuEff nD τ sig (Elt F) Λ₀ .tc) (BitVec 32)} (h32 : lp.trips = 32)
    (hb : ∀ (k : Fin lp.trips) (acc : BitVec 32) (P : Prog (TpuEff nD τ sig (Elt F) Λ₀ .tc) (BitVec 32) → Prop),
      (∀ (offs offd : Fin 3 → ℕ) (inbs : ∀ a, offs a + S32x8x128.size a ≤ S4096x8x128.size a)
        (inbd : ∀ a, offd a + S32x8x128.size a ≤ S4096x8x128.size a) (es : _) (ed : _) (h1 : _) (h2 : _) (h3 : _),
        offs = ![1024 * c.val + 32 * k.val, 0, 0] → offd = ![1024 * c.val + 32 * k.val, 0, 0] →
        P (.op (.enqueueDma ((Memref.whole cc1_stg0_0).slice (Rect.unit (s := S4096x8x128) offs S32x8x128.size inbs) es)
            (.here ((Memref.whole cc1_stg2_0).slice (Rect.unit (s := S4096x8x128) offd S32x8x128.size inbd) ed))
            (.dma (16 : Fin 18)) h1 h2 h3) (fun _ => .ret 0#32))) → P (body k acc))
    {kk : BitVec 32 → Prog (TpuEff nD τ sig (Elt F) Λ₀ .tc) α} {Q : α → sProp 𝕄} :
    iprop(allInv X Cn K ∗ reached ER (cell 11 c) 0 ∗ bigSep Finset.univ (stays X c f))
      ⊢ iprop((∀ acc, cred (tallyAt (cell 11 c) () (32 * N1)) -∗ WP c (kk acc) Q)
        -∗ WP c (Scf.Loop.for lp hok init body >>= kk) Q) := by
  iintro ⟨#HI, #Hr1, Hg⟩ Hk
  iapply (Scf.wp_for_bind frame (wpE (defs₀ (F := F)) 𝒱₀ (c : Thread nD τ) none) Set.univ lp.lb lp.ub lp.st hok init body
    (fun i _ => iprop(allInv X Cn K ∗ reached ER (cell 11 c) 0 ∗ keeping X c f i)) (fun k acc => by
      refine hb k acc (fun p => _ ⊢ WP c p _) fun offs offd inbs inbd es ed h1 h2 h3 ho hd => ?_
      iintro ⟨#HI, #Hr1, HS⟩
      iapply (keep_step X Cn K c f k.val (lt_of_lt_of_eq k.isLt h32) ho hd) $$ [HS]
      · isplitr; · iexact HI
        isplitr; · iexact Hr1
        iexact HS
      iintro HS
      iapply (wp_end c 0#32)
      isplitr; · iexact HI
      isplitr; · iexact Hr1
      iexact HS)) $$ [Hg]
  · isplitr; · iexact HI
    isplitr; · iexact Hr1
    unfold keeping
    rw [bigSep_finFrom_zero]
    isplitl [Hg]; · iexact Hg
    rw [Nat.zero_mul, tallyAt_zero]; rw [cred_zero]; iempintro
  iintro %acc ⟨-, -, HS⟩
  iapply Hk
  ihave HS := (Entails.of_eq (congrArg (keeping X c f) h32)) $$ HS
  unfold keeping
  icases HS with ⟨-, Hc⟩
  iexact Hc

theorem wait_loop (k : Fin 12) (n : ℕ) (c : Dev nD) (hn : (dut k c).card = n) (hamt : amt k = N1) {α : Type} {lp : Scf.Loop 32} {hok : lp.OK} {init : BitVec 32}
    {body : Fin lp.trips → BitVec 32 → Prog (TpuEff nD τ sig (Elt F) Λ₀ .tc) (BitVec 32)} (ht : lp.trips = n)
    (hb : ∀ (i : Fin lp.trips) (acc : BitVec 32) (P : Prog (TpuEff nD τ sig (Elt F) Λ₀ .tc) (BitVec 32) → Prop),
      (∀ w : TpuEff nD τ sig (Elt F) Λ₀ .tc PUnit,
        (∀ S : PUnit → sProp 𝕄, wpE (defs₀ (F := F)) 𝒱₀ (c : Thread nD τ) none Set.univ w S = waitSpec (c : Thread nD τ) Set.univ (sem12 k) N1 S) →
        P (.op w (fun _ => .ret 0#32))) → P (body i acc))
    {kk : BitVec 32 → Prog (TpuEff nD τ sig (Elt F) Λ₀ .tc) α} {Q : α → sProp 𝕄} :
    iprop(allInv X Cn K ∗ atPos ER (cell k c) 0 ∅ 0 ∗ cred (tallyAt (cell k c) () (n * N1)) ∗ ∃ W, owes (c : Thread nD τ) (dues []) W)
      ⊢ iprop((∀ acc, (semVal (cell k c) 0 ∗ (bigSep (dut k c) fun d => pay X Cn k c d) ∗ ∃ W, owes (c : Thread nD τ) (dues []) W) -∗ WP c (kk acc) Q)
        -∗ WP c (Scf.Loop.for lp hok init body >>= kk) Q) := by
  iintro ⟨#HI, Ha, Hc, %W, HO⟩ Hk
  iapply (Scf.wp_for_bind frame (wpE (defs₀ (F := F)) 𝒱₀ (c : Thread nD τ) none) Set.univ lp.lb lp.ub lp.st hok init body
    (fun i _ => iprop(allInv X Cn K ∗ waited X Cn k n c i)) (fun i acc => by
      refine hb i acc (fun p => _ ⊢ WP c p _) fun w hw => ?_
      iintro ⟨#HI, HS⟩
      iapply (waited_step X Cn K k n c i.val (lt_of_lt_of_eq i.isLt ht) hn hamt hw) $$ [HS]
      · isplitr; · iexact HI
        iexact HS
      iintro HS
      iapply (wp_end c 0#32)
      isplitr; · iexact HI
      iexact HS)) $$ [Ha Hc HO]
  · isplitr; · iexact HI
    iapply (waited_start X Cn k n c hn W)
    isplitl [Ha]; · iexact Ha
    isplitl [Hc]; · iexact Hc
    iexact HO
  iintro %acc ⟨-, HS⟩
  ihave HS := (Entails.of_eq (congrArg (waited X Cn k n c) ht)) $$ HS
  imod (waited_done X Cn K k n c hn hamt) $$ [HS] with HS
  · isplitr; · iexact HI
    iexact HS
  iapply Hk; iexact HS

end Cert.KernelIdeal.Exch

end
-- ==== Proof.A2A.lean ====
module

public import proofs.«01_k».proof.Proof.Trips

@[expose] public section

noncomputable section

namespace Cert.KernelIdeal.Exch

open Cert.KernelIdeal Cert.KernelIdeal.Gen Cert.KernelIdeal.Words
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.SparseCore.ProtocolKit (finFrom bigSep_finFrom_succ bigSep_finFrom_zero bigSep_finFrom_self)

variable {F : FTy → Type} [FloatOps F]

local notation "𝕄" => MT nD τ sig Unit (Elt F) ℕ UU ℕ

variable (X : Dev nD → XT (F := F)) (Cn : Dev nD → CT (F := F)) (K : GSem nD τ sig → ℕ)

variable {f : (cc1_stg1_0 : Ref sig .tc).ty.Contents (Elt F)} {a0 : (Memref.whole cc1_stg0_0).IsWhole} {a1 : (Memref.whole cc1_stg1_0).IsWhole}
  {a2 : (Memref.whole cc1_stg2_0).IsWhole}

/-! ## The stretches that only read words -/

theorem word_in (c : Dev nD) {o : Fin 3 → ℕ} (ho : o ∈ wordOffs c) : o 1 = 0 ∧ o 2 < 4 := wordOffs_in c o ho

theorem part3 (hf : Even f) (c : Dev nD) (v2 v53 v61 : BitVec 32) (v62 : BitVec 1) {Q : _ → sProp 𝕄} :
    iprop(words c f ∗ (∀ v76 v91 v95, words c f -∗ Q ⟨1024#32, 1024#32, 1024#32, chk3 c, v76, 1024#32, 1024#32, 1024#32, v91, 1024#32, chk2 c, v95⟩))
      ⊢ WP c (k1_part3 (F := F) (Memref.whole cc1_stg0_0) a0 (Memref.whole cc1_stg1_0) a1 (Memref.whole cc1_stg2_0) a2 cc1_scratch0 cc1_scratch1 cc1_scratch2
          cc1_scratch3 cc1_scratch4 cc1_scratch5 c v2 v53 1024#32 1024#32 v61 v62) Q := by
  rw [k1_part3_eq_skeleton]; unfold k1_part3_skel
  have hw {o : Fin 3 → ℕ} (ho : o ∈ wordOffs c) := wordOffs_in c o ho
  refine wp_word c hf (hw (by simp [wordOffs])).1 (hw (by simp [wordOffs])).2 _ ?_
  refine wp_word c hf (hw (by simp [wordOffs])).1 (hw (by simp [wordOffs])).2 _ ?_
  refine wp_word c hf (hw (by simp [wordOffs])).1 (hw (by simp [wordOffs])).2 _ ?_
  refine wp_check c (chk3 c) _ ?_
  refine wp_word c hf (hw (by simp [wordOffs])).1 (hw (by simp [wordOffs])).2 _ ?_
  refine wp_word c hf (hw (by simp [wordOffs])).1 (hw (by simp [wordOffs])).2 _ ?_
  refine wp_word c hf (hw (by simp [wordOffs])).1 (hw (by simp [wordOffs])).2 _ ?_
  refine wp_word c hf (hw (by simp [wordOffs])).1 (hw (by simp [wordOffs])).2 _ ?_
  refine wp_check c (chk2 c) _ ?_
  iintro ⟨Hw, Hk⟩
  iapply (wp_end c); iapply Hk; iexact Hw

theorem part5 (hf : Even f) (c : Dev nD) (v2 v133 : BitVec 32) {Q : _ → sProp 𝕄} :
    iprop(words c f ∗ (∀ v143 v166, words c f -∗ Q ⟨v143, 1024#32, chk4, 1024#32, 1024#32, 1024#32, 1024#32, chk6 c, v166, 0#32⟩))
      ⊢ WP c (k1_part5 (F := F) (Memref.whole cc1_stg0_0) a0 (Memref.whole cc1_stg1_0) a1 (Memref.whole cc1_stg2_0) a2 cc1_scratch0 cc1_scratch1 cc1_scratch2
          cc1_scratch3 cc1_scratch4 cc1_scratch5 c v2 v133) Q := by
  rw [k1_part5_eq_skeleton]; unfold k1_part5_skel
  have hw {o : Fin 3 → ℕ} (ho : o ∈ wordOffs c) := wordOffs_in c o ho
  refine wp_word c hf (hw (by simp [wordOffs])).1 (hw (by simp [wordOffs])).2 _ ?_
  refine wp_check c chk4 _ ?_
  refine wp_word c hf (hw (by simp [wordOffs])).1 (hw (by simp [wordOffs])).2 _ ?_
  refine wp_word c hf (hw (by simp [wordOffs])).1 (hw (by simp [wordOffs])).2 _ ?_
  refine wp_word c hf (hw (by simp [wordOffs])).1 (hw (by simp [wordOffs])).2 _ ?_
  refine wp_word c hf (hw (by simp [wordOffs])).1 (hw (by simp [wordOffs])).2 _ ?_
  refine wp_check c (chk6 c) _ ?_
  iintro ⟨Hw, Hk⟩
  iapply (wp_end c); iapply Hk; iexact Hw

theorem part6 (hf : Even f) (c : Dev nD) (v2 v143 z : BitVec 32) {Q : _ → sProp 𝕄} :
    iprop(words c f ∗ (∀ v186 v187 v201 v202, words c f -∗ Q ⟨1024#32, 1024#32, 1024#32, 1024#32, chk5 c, v186, v187, v201, v202⟩))
      ⊢ WP c (k1_part6 (F := F) (Memref.whole cc1_stg0_0) a0 (Memref.whole cc1_stg1_0) a1 (Memref.whole cc1_stg2_0) a2 cc1_scratch0 cc1_scratch1 cc1_scratch2
          cc1_scratch3 cc1_scratch4 cc1_scratch5 c v2 v143 1024#32 z) Q := by
  rw [k1_part6_eq_skeleton]; unfold k1_part6_skel
  have hw {o : Fin 3 → ℕ} (ho : o ∈ wordOffs c) := wordOffs_in c o ho
  refine wp_word c hf (hw (by simp [wordOffs])).1 (hw (by simp [wordOffs])).2 _ ?_
  refine wp_word c hf (hw (by simp [wordOffs])).1 (hw (by simp [wordOffs])).2 _ ?_
  refine wp_word c hf (hw (by simp [wordOffs])).1 (hw (by simp [wordOffs])).2 _ ?_
  refine wp_word c hf (hw (by simp [wordOffs])).1 (hw (by simp [wordOffs])).2 _ ?_
  refine wp_check c (chk5 c) _ ?_
  iintro ⟨Hw, Hk⟩
  iapply (wp_end c); iapply Hk; iexact Hw

theorem part8 (hf : Even f) (c : Dev nD) (v2 v233 : BitVec 32) (v237 : BitVec 1) {Q : _ → sProp 𝕄} :
    iprop(words c f ∗ (∀ v256 v266 v270, words c f -∗ Q ⟨1024#32, 1024#32, 1024#32, 1024#32, chk9 c, v256, 1024#32, 1024#32, v266, 1024#32, v270⟩))
      ⊢ WP c (k1_part8 (F := F) (Memref.whole cc1_stg0_0) a0 (Memref.whole cc1_stg1_0) a1 (Memref.whole cc1_stg2_0) a2 cc1_scratch0 cc1_scratch1 cc1_scratch2
          cc1_scratch3 cc1_scratch4 cc1_scratch5 c v2 v233 1024#32 v237) Q := by
  rw [k1_part8_eq_skeleton]; unfold k1_part8_skel
  have hw {o : Fin 3 → ℕ} (ho : o ∈ wordOffs c) := wordOffs_in c o ho
  refine wp_word c hf (hw (by simp [wordOffs])).1 (hw (by simp [wordOffs])).2 _ ?_
  refine wp_word c hf (hw (by simp [wordOffs])).1 (hw (by simp [wordOffs])).2 _ ?_
  refine wp_word c hf (hw (by simp [wordOffs])).1 (hw (by simp [wordOffs])).2 _ ?_
  refine wp_word c hf (hw (by simp [wordOffs])).1 (hw (by simp [wordOffs])).2 _ ?_
  refine wp_check c (chk9 c) _ ?_
  refine wp_word c hf (hw (by simp [wordOffs])).1 (hw (by simp [wordOffs])).2 _ ?_
  refine wp_word c hf (hw (by simp [wordOffs])).1 (hw (by simp [wordOffs])).2 _ ?_
  refine wp_word c hf (hw (by simp [wordOffs])).1 (hw (by simp [wordOffs])).2 _ ?_
  iintro ⟨Hw, Hk⟩
  iapply (wp_end c); iapply Hk; iexact Hw

theorem part11 (hf : Even f) (c : Dev nD) (v2 v340 z : BitVec 32) {Q : _ → sProp 𝕄} :
    iprop(words c f ∗ (∀ v355 v372 v374 v375 v376, words c f -∗ Q ⟨1024#32, 1024#32, 1024#32, chk11 c, v355, v372, v374, v375, 0#32, 0#32, v376⟩))
      ⊢ WP c (k1_part11 (F := F) (Memref.whole cc1_stg0_0) a0 (Memref.whole cc1_stg1_0) a1 (Memref.whole cc1_stg2_0) a2 cc1_scratch0 cc1_scratch1 cc1_scratch2
          cc1_scratch3 cc1_scratch4 cc1_scratch5 c v2 1024#32 1024#32 v340 z) Q := by
  rw [k1_part11_eq_skeleton]; unfold k1_part11_skel
  have hw {o : Fin 3 → ℕ} (ho : o ∈ wordOffs c) := wordOffs_in c o ho
  refine wp_word c hf (hw (by simp [wordOffs])).1 (hw (by simp [wordOffs])).2 _ ?_
  refine wp_word c hf (hw (by simp [wordOffs])).1 (hw (by simp [wordOffs])).2 _ ?_
  refine wp_word c hf (hw (by simp [wordOffs])).1 (hw (by simp [wordOffs])).2 _ ?_
  refine wp_check c (chk11 c) _ ?_
  iintro ⟨Hw, Hk⟩
  iapply (wp_end c); iapply Hk; iexact Hw

theorem part13 (hf : Even f) (c : Dev nD) (v2 : BitVec 32) (v392 : BitVec 1) (v411 v413 v414 : BitVec 32) {Q : _ → sProp 𝕄} :
    iprop(words c f ∗ (∀ v423 v426 v445 v447 v448 v449 v452, words c f -∗ Q ⟨v423, 1024#32, v426, v445, v447, v448, v449, v452⟩))
      ⊢ WP c (k1_part13 (F := F) (Memref.whole cc1_stg0_0) a0 (Memref.whole cc1_stg1_0) a1 (Memref.whole cc1_stg2_0) a2 cc1_scratch0 cc1_scratch1 cc1_scratch2
          cc1_scratch3 cc1_scratch4 cc1_scratch5 c v2 v392 v411 v413 v414) Q := by
  rw [k1_part13_eq_skeleton]; unfold k1_part13_skel
  have hw {o : Fin 3 → ℕ} (ho : o ∈ wordOffs c) := wordOffs_in c o ho
  refine wp_word c hf (hw (by simp [wordOffs])).1 (hw (by simp [wordOffs])).2 _ ?_
  iintro ⟨Hw, Hk⟩
  iapply (wp_end c); iapply Hk; iexact Hw

theorem part14 (hf : Even f) (c : Dev nD) (v2 v423 : BitVec 32) (v426 : BitVec 1) (v445 v447 v448 : BitVec 32) (v449 v452 : BitVec 1) {Q : _ → sProp 𝕄} :
    iprop(words c f ∗ (∀ v479 v491, words c f -∗ Q ⟨1024#32, v479, v491⟩))
      ⊢ WP c (k1_part14 (F := F) (Memref.whole cc1_stg0_0) a0 (Memref.whole cc1_stg1_0) a1 (Memref.whole cc1_stg2_0) a2 cc1_scratch0 cc1_scratch1 cc1_scratch2
          cc1_scratch3 cc1_scratch4 cc1_scratch5 c v2 v423 v426 v445 v447 v448 v449 v452) Q := by
  rw [k1_part14_eq_skeleton]; unfold k1_part14_skel
  have hw {o : Fin 3 → ℕ} (ho : o ∈ wordOffs c) := wordOffs_in c o ho
  refine wp_word c hf (hw (by simp [wordOffs])).1 (hw (by simp [wordOffs])).2 _ ?_
  iintro ⟨Hw, Hk⟩
  iapply (wp_end c); iapply Hk; iexact Hw

theorem part15 (hf : Even f) (c : Dev nD) (v2 v311 v479 v491 : BitVec 32) {Q : _ → sProp 𝕄} :
    iprop(words c f ∗ (∀ v513 v525 v530, words c f -∗ Q ⟨1024#32, chk13 c, v513, v525, 0#32, 0#32, v530, 1#32⟩))
      ⊢ WP c (k1_part15 (F := F) (Memref.whole cc1_stg0_0) a0 (Memref.whole cc1_stg1_0) a1 (Memref.whole cc1_stg2_0) a2 cc1_scratch0 cc1_scratch1 cc1_scratch2
          cc1_scratch3 cc1_scratch4 cc1_scratch5 c v2 v311 1024#32 1024#32 1024#32 v479 v491) Q := by
  rw [k1_part15_eq_skeleton]; unfold k1_part15_skel
  have hw {o : Fin 3 → ℕ} (ho : o ∈ wordOffs c) := wordOffs_in c o ho
  refine wp_word c hf (hw (by simp [wordOffs])).1 (hw (by simp [wordOffs])).2 _ ?_
  refine wp_check c (chk13 c) _ ?_
  iintro ⟨Hw, Hk⟩
  iapply (wp_end c); iapply Hk; iexact Hw

end Cert.KernelIdeal.Exch

end
-- ==== Proof.A2B.lean ====
module

public import proofs.«01_k».proof.Proof.A2A

@[expose] public section

noncomputable section

namespace Cert.KernelIdeal.Exch

open Cert.KernelIdeal Cert.KernelIdeal.Gen Cert.KernelIdeal.Words
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.SparseCore.ProtocolKit (finFrom bigSep_finFrom_succ bigSep_finFrom_zero bigSep_finFrom_self)

variable {F : FTy → Type} [FloatOps F]

local notation "𝕄" => MT nD τ sig Unit (Elt F) ℕ UU ℕ

variable (X : Dev nD → XT (F := F)) (Cn : Dev nD → CT (F := F)) (K : GSem nD τ sig → ℕ)

variable {f : (cc1_stg1_0 : Ref sig .tc).ty.Contents (Elt F)} {a0 : (Memref.whole cc1_stg0_0).IsWhole} {a1 : (Memref.whole cc1_stg1_0).IsWhole}
  {a2 : (Memref.whole cc1_stg2_0).IsWhole}

/-- The right to signal peer `p`'s barrier of kind `k`, with what the signal carries. -/
abbrev sig1 (k : Fin 12) (c p : Dev nD) : sProp 𝕄 :=
  iprop(reached ER (cell k p) 0 ∗ dutyTok ER (cell k p) 0 (c, 0) ∗ pay X Cn k p (c, 0))

theorem mem_bar (c : Dev nD) : ((c, 0) : D) ∈ dut 8 (peer 1 c) ∧ ((c, 0) : D) ∈ dut 8 (peer 2 c) ∧ ((c, 0) : D) ∈ dut 8 (peer 3 c)
    ∧ ((c, 0) : D) ∈ dut 0 (peer 1 c) ∧ ((c, 0) : D) ∈ dut 0 (peer 2 c) ∧ ((c, 0) : D) ∈ dut 0 (peer 3 c) := by revert c; decide

theorem peers_off (c : Dev nD) : peer 1 c ≠ c ∧ peer 2 c ≠ c ∧ peer 3 c ≠ c := by revert c; decide

theorem part1 (c : Dev nD) (l : List (Fin 12 × Dev nD × ℕ)) {Q : _ → sProp 𝕄} :
    iprop(allInv X Cn K ∗ sig1 X Cn 8 c (peer 1 c) ∗ sig1 X Cn 8 c (peer 2 c) ∗ (∃ W, owes (c : Thread nD τ) (dues ((8, peer 1 c, 1) :: (8, peer 2 c, 1) :: l)) W)
        ∗ ∀ v2 v30 v31, (∃ W, owes (c : Thread nD τ) (dues l) W) -∗ Q ⟨c, v2, SemArray.scalar (sig.barrier 1 rfl), v30, 4#32, v31⟩)
      ⊢ WP c (k1_part1 (F := F) (Memref.whole cc1_stg0_0) a0 (Memref.whole cc1_stg1_0) a1 (Memref.whole cc1_stg2_0) a2 cc1_scratch0 cc1_scratch1 cc1_scratch2
          cc1_scratch3 cc1_scratch4 cc1_scratch5) Q := by
  rw [k1_part1_eq_skeleton]; unfold k1_part1_skel Prog.lift
  simp only [Prog.bind_op, Prog.bind_ret, wp_deviceId]
  iintro ⟨#HI, ⟨#Hr1, Ht1, Hp1⟩, ⟨#Hr2, Ht2, Hp2⟩, HO, Hk⟩
  iapply (signal_step X Cn K 8 c (peer 1 c) rfl (mem_bar c).1 ((8, peer 2 c, 1) :: l) _ (Fin.ext (k1_devs c).1) (sig.barrier 1 rfl) rfl) $$ [Ht1 Hp1 HO]
  · isplitr; · iexact HI
    isplitr; · iexact Hr1
    isplitl [Ht1]; · iexact Ht1
    isplitl [Hp1]; · iexact Hp1
    iexact HO
  iintro HO
  iapply (signal_step X Cn K 8 c (peer 2 c) rfl (mem_bar c).2.1 l _ (Fin.ext (k1_devs c).2.1) (sig.barrier 1 rfl) rfl) $$ [Ht2 Hp2 HO]
  · isplitr; · iexact HI
    isplitr; · iexact Hr2
    isplitl [Ht2]; · iexact Ht2
    isplitl [Hp2]; · iexact Hp2
    iexact HO
  iintro HO
  iapply (wp_end c); iapply Hk; iexact HO

theorem part2 (hf : Even f) (c : Dev nD) (v2 v30 z : BitVec 32) (v31 : BitVec 1) (l : List (Fin 12 × Dev nD × ℕ)) (hl : ∀ x ∈ l, lvl 8 < lvl x.1) {Q : _ → sProp 𝕄} :
    iprop(words c f ∗ allInv X Cn K ∗ levAts L lv ∗ sig1 X Cn 8 c (peer 3 c) ∗ (∃ W, owes (c : Thread nD τ) (dues ((8, peer 3 c, 1) :: l)) W)
        ∗ atPos ER (cell 8 c) 0 ∅ 0 ∗ cred (tallyAt (cell 8 c) () 3)
        ∗ ∀ v53 v61 v62, (words c f ∗ semVal (cell 8 c) 0 ∗ (bigSep (dut 8 c) fun d => pay X Cn 8 c d) ∗ ∃ W, owes (c : Thread nD τ) (dues l) W)
            -∗ Q ⟨v53, 1024#32, chk1, 1024#32, v61, v62⟩)
      ⊢ WP c (k1_part2 (F := F) (Memref.whole cc1_stg0_0) a0 (Memref.whole cc1_stg1_0) a1 (Memref.whole cc1_stg2_0) a2 cc1_scratch0 cc1_scratch1 cc1_scratch2
          cc1_scratch3 cc1_scratch4 cc1_scratch5 c v2 (SemArray.scalar (sig.barrier 1 rfl)) v30 z v31) Q := by
  rw [k1_part2_eq_skeleton]; unfold k1_part2_skel
  have hw {o : Fin 3 → ℕ} (ho : o ∈ wordOffs c) := wordOffs_in c o ho
  iintro ⟨Hw, #HI, #Hlev, ⟨#Hr, Ht, Hp⟩, HO, Ha, Hc, Hk⟩
  iapply (signal_step X Cn K 8 c (peer 3 c) rfl (mem_bar c).2.2.1 l _ (Fin.ext (k1_devs c).2.2.1) (sig.barrier 1 rfl) rfl) $$ [Ht Hp HO]
  · isplitr; · iexact HI
    isplitr; · iexact Hr
    isplitl [Ht]; · iexact Ht
    isplitl [Hp]; · iexact Hp
    iexact HO
  iintro HO
  unfold semWaitWord
  simp only [Prog.bind_op, Prog.bind_ret]
  iapply (round_step X Cn K 8 c l hl 3 (by rw [dut_card]; rfl) (wpE_semWait_eq (defs := defs₀ (F := F)) 𝒱₀ (c : Thread nD τ) none Set.univ)) $$ [Ha Hc HO]
  · isplitr; · iexact HI
    isplitr; · iexact Hlev
    isplitl [Ha]; · iexact Ha
    isplitl [Hc]; · iexact Hc
    iexact HO
  iintro ⟨Hs, Hp, HO⟩
  iapply (read_word c hf (hw (by simp [wordOffs]))) $$ Hw
  iintro Hw
  iapply (check_step c chk1)
  iapply (read_word c hf (hw (by simp [wordOffs]))) $$ Hw
  iintro Hw
  iapply (wp_end c); iapply Hk
  isplitl [Hw]; · iexact Hw
  isplitl [Hs]; · iexact Hs
  isplitl [Hp]; · iexact Hp
  iexact HO

theorem part4 (c : Dev nD) (v2 v53 v76 v91 v95 : BitVec 32) (f1 : OT (F := F)) (l : List (Fin 12 × Dev nD × ℕ)) {h1 h2 h3} {Q : _ → sProp 𝕄} :
    iprop(allInv X Cn K ∗ reached ER (cell 9 c) 0 ∗ reached ER (cell 10 (peer 1 c)) 0 ∗ bigSep Finset.univ (goes X c (peer 1 c) f1)
        ∗ (∃ W, owes (c : Thread nD τ) (dues ((10, peer 1 c, 32 * N1) :: l)) W)
        ∗ ∀ v131 v132 v133, (cred (tallyAt (cell 9 c) () (32 * N1)) ∗ ∃ W, owes (c : Thread nD τ) (dues l) W) -∗ Q ⟨v131, v132, v133⟩)
      ⊢ WP c (k1_part4 (F := F) (Memref.whole cc1_stg0_0) a0 (Memref.whole cc1_stg1_0) a1 (Memref.whole cc1_stg2_0) a2 cc1_scratch0 cc1_scratch1 cc1_scratch2
          cc1_scratch3 cc1_scratch4 cc1_scratch5 c v2 v53 1024#32 h1 1024#32 1024#32 1024#32 1024#32 h2 v76 1024#32 1024#32 1024#32 v91 1024#32 h3 v95) Q := by
  rw [k1_part4_eq_skeleton]; unfold k1_part4_skel
  iintro ⟨#HI, #Hr1, #Hr2, Hg, HO, Hk⟩
  iapply (send_loop X Cn K c (peer 1 c) (peers_off c).1 l f1 trips_main.1
    (fun k acc P hP => hP _ _ _ _ _ _ _ _ _ _ _ (off11_eq c k) (off10_eq c k) (Fin.ext (k1_devs c).2.2.2.1))) $$ [Hg HO]
  · isplitr; · iexact HI
    isplitr; · iexact Hr1
    isplitr; · iexact Hr2
    isplitl [Hg]; · iexact Hg
    iexact HO
  iintro %acc HR
  iapply (skip_loop c trips_none.1); iintro %_
  iapply (skip_loop c trips_none.2.1); iintro %_
  iapply (skip_loop c trips_none.2.2.1); iintro %_
  iapply (wp_end c); iapply Hk; iexact HR

end Cert.KernelIdeal.Exch

end
-- ==== Proof.A2C.lean ====
module

public import proofs.«01_k».proof.Proof.A2B

@[expose] public section

noncomputable section

namespace Cert.KernelIdeal.Exch

open Cert.KernelIdeal Cert.KernelIdeal.Gen Cert.KernelIdeal.Words
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.SparseCore.ProtocolKit (finFrom bigSep_finFrom_succ bigSep_finFrom_zero bigSep_finFrom_self)

variable {F : FTy → Type} [FloatOps F]

local notation "𝕄" => MT nD τ sig Unit (Elt F) ℕ UU ℕ

variable (X : Dev nD → XT (F := F)) (Cn : Dev nD → CT (F := F)) (K : GSem nD τ sig → ℕ)

variable {f : (cc1_stg1_0 : Ref sig .tc).ty.Contents (Elt F)} {a0 : (Memref.whole cc1_stg0_0).IsWhole} {a1 : (Memref.whole cc1_stg1_0).IsWhole}
  {a2 : (Memref.whole cc1_stg2_0).IsWhole}

theorem part7 (hf : Even f) (c : Dev nD) (v2 v131 v132 v143 v166 v186 v187 v202 : BitVec 32) (v201 : BitVec 1) (f1 : OT (F := F)) (l : List (Fin 12 × Dev nD × ℕ)) {h4 h6 h5} {Q : _ → sProp 𝕄} :
    iprop(words c f ∗ allInv X Cn K ∗ reached ER (cell 9 c) 0 ∗ reached ER (cell 10 (peer 2 c)) 0 ∗ bigSep Finset.univ (goes X c (peer 2 c) f1)
        ∗ (∃ W, owes (c : Thread nD τ) (dues ((10, peer 2 c, 32 * N1) :: l)) W)
        ∗ ∀ v221 v222 v233 v237, (words c f ∗ cred (tallyAt (cell 9 c) () (32 * N1)) ∗ ∃ W, owes (c : Thread nD τ) (dues l) W)
            -∗ Q ⟨v221, v222, v233, 1024#32, chk7, v237⟩)
      ⊢ WP c (k1_part7 (F := F) (Memref.whole cc1_stg0_0) a0 (Memref.whole cc1_stg1_0) a1 (Memref.whole cc1_stg2_0) a2 cc1_scratch0 cc1_scratch1 cc1_scratch2
          cc1_scratch3 cc1_scratch4 cc1_scratch5 c v2 1024#32 v131 v132 v143 1024#32 h4 1024#32 1024#32 1024#32 1024#32 h6 v166 1024#32 1024#32 1024#32 1024#32 h5
          v186 v187 v201 v202) Q := by
  rw [k1_part7_eq_skeleton]; unfold k1_part7_skel
  have hw {o : Fin 3 → ℕ} (ho : o ∈ wordOffs c) := wordOffs_in c o ho
  iintro ⟨Hw, #HI, #Hr1, #Hr2, Hg, HO, Hk⟩
  iapply (send_loop X Cn K c (peer 2 c) (peers_off c).2.1 l f1 trips_main.2.1
    (fun k acc P hP => hP _ _ _ _ _ _ _ _ _ _ _ (off28_eq c k) (off27_eq c k) (Fin.ext (k1_devs c).2.2.2.2.1))) $$ [Hg HO]
  · isplitr; · iexact HI
    isplitr; · iexact Hr1
    isplitr; · iexact Hr2
    isplitl [Hg]; · iexact Hg
    iexact HO
  iintro %acc ⟨Hc, HO⟩
  iapply (skip_loop c trips_none.2.2.2.1); iintro %_
  iapply (skip_loop c trips_none.2.2.2.2.1); iintro %_
  iapply (skip_loop c trips_none.2.2.2.2.2.1); iintro %_
  iapply (read_word c hf (hw (by simp [wordOffs]))) $$ Hw
  iintro Hw
  iapply (check_step c chk7)
  iapply (wp_end c); iapply Hk
  isplitl [Hw]; · iexact Hw
  isplitl [Hc]; · iexact Hc
  iexact HO

theorem part9 (hf : Even f) (c : Dev nD) (v2 v233 v256 v266 v270 : BitVec 32) (f1 : OT (F := F)) (l : List (Fin 12 × Dev nD × ℕ)) {h7 h9} {Q : _ → sProp 𝕄} :
    iprop(words c f ∗ allInv X Cn K ∗ reached ER (cell 9 c) 0 ∗ reached ER (cell 10 (peer 3 c)) 0 ∗ bigSep Finset.univ (goes X c (peer 3 c) f1)
        ∗ (∃ W, owes (c : Thread nD τ) (dues ((10, peer 3 c, 32 * N1) :: l)) W)
        ∗ ∀ v276 v293 v295 v303 v308, (words c f ∗ cred (tallyAt (cell 9 c) () (32 * N1)) ∗ ∃ W, owes (c : Thread nD τ) (dues l) W)
            -∗ Q ⟨1024#32, chk8 c, v276, v293, v295, v303, 0#32, 0#32, v308⟩)
      ⊢ WP c (k1_part9 (F := F) (Memref.whole cc1_stg0_0) a0 (Memref.whole cc1_stg1_0) a1 (Memref.whole cc1_stg2_0) a2 cc1_scratch0 cc1_scratch1 cc1_scratch2
          cc1_scratch3 cc1_scratch4 cc1_scratch5 c v2 1024#32 1024#32 v233 1024#32 h7 1024#32 1024#32 1024#32 1024#32 h9 v256 1024#32 1024#32 v266 1024#32 v270) Q := by
  rw [k1_part9_eq_skeleton]; unfold k1_part9_skel
  have hw {o : Fin 3 → ℕ} (ho : o ∈ wordOffs c) := wordOffs_in c o ho
  iintro ⟨Hw, #HI, #Hr1, #Hr2, Hg, HO, Hk⟩
  iapply (read_word c hf (hw (by simp [wordOffs]))) $$ Hw
  iintro Hw
  iapply (check_step c (chk8 c))
  iapply (send_loop X Cn K c (peer 3 c) (peers_off c).2.2 l f1 trips_main.2.2.1
    (fun k acc P hP => hP _ _ _ _ _ _ _ _ _ _ _ (off45_eq c k) (off44_eq c k) (Fin.ext (k1_devs c).2.2.2.2.2))) $$ [Hg HO]
  · isplitr; · iexact HI
    isplitr; · iexact Hr1
    isplitr; · iexact Hr2
    isplitl [Hg]; · iexact Hg
    iexact HO
  iintro %acc ⟨Hc, HO⟩
  iapply (skip_loop c trips_none.2.2.2.2.2.2.1); iintro %_
  iapply (wp_end c); iapply Hk
  isplitl [Hw]; · iexact Hw
  isplitl [Hc]; · iexact Hc
  iexact HO

theorem part10 (hf : Even f) (c : Dev nD) (v2 v221 v222 v233 v256 v276 v293 v295 v303 z z' v308 : BitVec 32) {h7 h9 h8} {Q : _ → sProp 𝕄} :
    iprop(words c f ∗ ∀ v311 v312 v335 v340, words c f
            -∗ Q ⟨v311, v312, 1024#32, chk10, 1024#32, 1024#32, 1024#32, 1024#32, chk12 c, v335, 1024#32, v340, 1#32⟩)
      ⊢ WP c (k1_part10 (F := F) (Memref.whole cc1_stg0_0) a0 (Memref.whole cc1_stg1_0) a1 (Memref.whole cc1_stg2_0) a2 cc1_scratch0 cc1_scratch1 cc1_scratch2
          cc1_scratch3 cc1_scratch4 cc1_scratch5 c v2 1024#32 1024#32 v221 v222 v233 1024#32 h7 1024#32 1024#32 1024#32 1024#32 h9 v256 1024#32 1024#32 1024#32 1024#32 h8
          v276 v293 v295 v303 z z' v308) Q := by
  rw [k1_part10_eq_skeleton]; unfold k1_part10_skel
  have hw {o : Fin 3 → ℕ} (ho : o ∈ wordOffs c) := wordOffs_in c o ho
  iintro ⟨Hw, Hk⟩
  iapply (skip_loop c trips_none.2.2.2.2.2.2.2.1); iintro %_
  iapply (skip_loop c trips_none.2.2.2.2.2.2.2.2.1); iintro %_
  iapply (read_word c hf (hw (by simp [wordOffs]))) $$ Hw
  iintro Hw
  iapply (check_step c chk10)
  iapply (read_word c hf (hw (by simp [wordOffs]))) $$ Hw
  iintro Hw
  iapply (read_word c hf (hw (by simp [wordOffs]))) $$ Hw
  iintro Hw
  iapply (read_word c hf (hw (by simp [wordOffs]))) $$ Hw
  iintro Hw
  iapply (read_word c hf (hw (by simp [wordOffs]))) $$ Hw
  iintro Hw
  iapply (check_step c (chk12 c))
  iapply (read_word c hf (hw (by simp [wordOffs]))) $$ Hw
  iintro Hw
  iapply (wp_end c); iapply Hk; iexact Hw

theorem part12 (hf : Even f) (c : Dev nD) (v2 v335 v355 v374 v375 z z' v376 : BitVec 32) (f1 : OT (F := F)) {h10 h12 h11} {Q : _ → sProp 𝕄} :
    iprop(words c f ∗ allInv X Cn K ∗ reached ER (cell 11 c) 0 ∗ bigSep Finset.univ (stays X c f1)
        ∗ ∀ v392 v411 v413 v414, (words c f ∗ cred (tallyAt (cell 11 c) () (32 * N1))) -∗ Q ⟨1024#32, v392, v411, v413, v414⟩)
      ⊢ WP c (k1_part12 (F := F) (Memref.whole cc1_stg0_0) a0 (Memref.whole cc1_stg1_0) a1 (Memref.whole cc1_stg2_0) a2 cc1_scratch0 cc1_scratch1 cc1_scratch2
          cc1_scratch3 cc1_scratch4 cc1_scratch5 c v2 1024#32 h10 1024#32 1024#32 1024#32 1024#32 h12 v335 1024#32 1024#32 1024#32 1024#32 h11 v355 v374 v375 z z' v376) Q := by
  rw [k1_part12_eq_skeleton]; unfold k1_part12_skel
  have hw {o : Fin 3 → ℕ} (ho : o ∈ wordOffs c) := wordOffs_in c o ho
  iintro ⟨Hw, #HI, #Hr1, Hg, Hk⟩
  iapply (keep_loop X Cn K c f1 trips_main.2.2.2.1
    (fun k acc P hP => hP _ _ _ _ _ _ _ _ _ (off62_eq c k) (off61_eq c k))) $$ [Hg]
  · isplitr; · iexact HI
    isplitr; · iexact Hr1
    iexact Hg
  iintro %acc Hc
  iapply (skip_loop c trips_none.2.2.2.2.2.2.2.2.2.1); iintro %_
  iapply (skip_loop c trips_none.2.2.2.2.2.2.2.2.2.2.1); iintro %_
  iapply (skip_loop c trips_none.2.2.2.2.2.2.2.2.2.2.2.1); iintro %_
  iapply (read_word c hf (hw (by simp [wordOffs]))) $$ Hw
  iintro Hw
  iapply (wp_end c); iapply Hk
  isplitl [Hw]; · iexact Hw
  iexact Hc

theorem part16 (c : Dev nD) (v2 v312 v372 v374 v513 v525 z z' v530 z'' : BitVec 32) {h7 h10 h13} {Q : _ → sProp 𝕄} :
    iprop(allInv X Cn K ∗ atPos ER (cell 9 c) 0 ∅ 0 ∗ cred (tallyAt (cell 9 c) () (96 * N1)) ∗ atPos ER (cell 10 c) 0 ∅ 0 ∗ cred (tallyAt (cell 10 c) () (96 * N1))
        ∗ atPos ER (cell 11 c) 0 ∅ 0 ∗ cred (tallyAt (cell 11 c) () (32 * N1)) ∗ (∃ W, owes (c : Thread nD τ) (dues []) W)
        ∗ ∀ v565, ((semVal (cell 9 c) 0 ∗ bigSep (dut 9 c) fun d => pay X Cn 9 c d) ∗ (semVal (cell 10 c) 0 ∗ bigSep (dut 10 c) fun d => pay X Cn 10 c d)
            ∗ (semVal (cell 11 c) 0 ∗ bigSep (dut 11 c) fun d => pay X Cn 11 c d) ∗ ∃ W, owes (c : Thread nD τ) (dues []) W) -∗ Q ⟨0#32, 0#32, v565, 1#32⟩)
      ⊢ WP c (k1_part16 (F := F) (Memref.whole cc1_stg0_0) a0 (Memref.whole cc1_stg1_0) a1 (Memref.whole cc1_stg2_0) a2 cc1_scratch0 cc1_scratch1 cc1_scratch2
          cc1_scratch3 cc1_scratch4 cc1_scratch5 c v2 1024#32 1024#32 1024#32 h7 v312 1024#32 h10 v372 v374 1024#32 1024#32 1024#32 1024#32 h13 v513 v525 z z' v530 z'') Q := by
  rw [k1_part16_eq_skeleton]; unfold k1_part16_skel
  iintro ⟨#HI, Ha9, Hc9, Ha10, Hc10, Ha11, Hc11, HO, Hk⟩
  iapply (wait_loop X Cn K 9 96 c (dut_card 9 c) rfl trips_out (fun i acc P hP => by refine hP _ ?_; intro S; exact wpE_waitDma2_eq (defs := defs₀ (F := F)) 𝒱₀ (c : Thread nD τ) none Set.univ S)) $$ [Ha9 Hc9 HO]
  · isplitr; · iexact HI
    isplitl [Ha9]; · iexact Ha9
    isplitl [Hc9]; · iexact Hc9
    iexact HO
  iintro %_ ⟨Hs9, Hp9, HO⟩
  iapply (skip_loop c trips_none.2.2.2.2.2.2.2.2.2.2.2.2.2.2.2.1); iintro %_
  iapply (skip_loop c trips_none.2.2.2.2.2.2.2.2.2.2.2.2.2.2.2.2.1); iintro %_
  iapply (skip_loop c trips_none.2.2.2.2.2.2.2.2.2.2.2.2.2.2.2.2.2); iintro %_
  iapply (wait_loop X Cn K 10 96 c (dut_card 10 c) rfl (trips_in c) (fun i acc P hP => by refine hP _ ?_; intro S; exact wpE_waitDma2_eq (defs := defs₀ (F := F)) 𝒱₀ (c : Thread nD τ) none Set.univ S)) $$ [Ha10 Hc10 HO]
  · isplitr; · iexact HI
    isplitl [Ha10]; · iexact Ha10
    isplitl [Hc10]; · iexact Hc10
    iexact HO
  iintro %_ ⟨Hs10, Hp10, HO⟩
  iapply (skip_loop c (trips_none_in c).1); iintro %_
  iapply (skip_loop c (trips_none_in c).2.1); iintro %_
  iapply (skip_loop c (trips_none_in c).2.2); iintro %_
  iapply (wait_loop X Cn K 11 32 c (dut_card 11 c) rfl trips_main.2.2.2.2 (fun i acc P hP => by refine hP _ ?_; intro S; exact wpE_waitDma2_eq (defs := defs₀ (F := F)) 𝒱₀ (c : Thread nD τ) none Set.univ S)) $$ [Ha11 Hc11 HO]
  · isplitr; · iexact HI
    isplitl [Ha11]; · iexact Ha11
    isplitl [Hc11]; · iexact Hc11
    iexact HO
  iintro %_ ⟨Hs11, Hp11, HO⟩
  iapply (skip_loop c trips_none.2.2.2.2.2.2.2.2.2.2.2.2.1); iintro %_
  iapply (wp_end c); iapply Hk
  isplitl [Hs9 Hp9]; · isplitl [Hs9]; · iexact Hs9
                       iexact Hp9
  isplitl [Hs10 Hp10]; · isplitl [Hs10]; · iexact Hs10
                         iexact Hp10
  isplitl [Hs11 Hp11]; · isplitl [Hs11]; · iexact Hs11
                         iexact Hp11
  iexact HO

end Cert.KernelIdeal.Exch

end
-- ==== Proof.A2D.lean ====
module

public import proofs.«01_k».proof.Proof.A2C

@[expose] public section

noncomputable section

namespace Cert.KernelIdeal.Exch

open Cert.KernelIdeal Cert.KernelIdeal.Gen Cert.KernelIdeal.Words
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.SparseCore.ProtocolKit (finFrom bigSep_finFrom_succ bigSep_finFrom_zero bigSep_finFrom_self)

variable {F : FTy → Type} [FloatOps F]

local notation "𝕄" => MT nD τ sig Unit (Elt F) ℕ UU ℕ

variable (X : Dev nD → XT (F := F)) (Cn : Dev nD → CT (F := F)) (K : GSem nD τ sig → ℕ)

variable {f : (cc1_stg1_0 : Ref sig .tc).ty.Contents (Elt F)} {a0 : (Memref.whole cc1_stg0_0).IsWhole} {a1 : (Memref.whole cc1_stg1_0).IsWhole}
  {a2 : (Memref.whole cc1_stg2_0).IsWhole}

/-! ## The exchange call's body, whole -/

/-- The right to signal peer `p`'s barrier of kind `k`, without what the signal carries. -/
abbrev bars (k : Fin 12) (c p : Dev nD) : sProp 𝕄 := iprop(reached ER (cell k p) 0 ∗ dutyTok ER (cell k p) 0 (c, 0))
/-- The rights to send the chunks to peer `p`. -/
abbrev sends (c p : Dev nD) : sProp 𝕄 :=
  iprop((bigSep Finset.univ fun j => dutyTok ER (cell 9 c) 0 (p, j)) ∗ bigSep Finset.univ fun j => dutyTok ER (cell 10 p) 0 (c, j))

/-- What a device brings to the exchange call, besides the buffers. -/
def ready1 (c : Dev nD) : sProp 𝕄 :=
  iprop((bars 8 c (peer 1 c) ∗ bars 8 c (peer 2 c) ∗ bars 8 c (peer 3 c)) ∗ (sends c (peer 1 c) ∗ sends c (peer 2 c) ∗ sends c (peer 3 c))
    ∗ (bigSep Finset.univ fun j => dutyTok ER (cell 11 c) 0 (c, j)) ∗ (reached ER (cell 9 c) 0 ∗ reached ER (cell 10 c) 0 ∗ reached ER (cell 11 c) 0)
    ∗ (atPos ER (cell 8 c) 0 ∅ 0 ∗ atPos ER (cell 9 c) 0 ∅ 0 ∗ atPos ER (cell 10 c) 0 ∅ 0 ∗ atPos ER (cell 11 c) 0 ∅ 0)
    ∗ cred (tallyAt (cell 8 c) () 3) ∗ cred (tallyAt (cell 10 c) () (96 * N1)))

abbrev xw (c : Dev nD) (f : XT (F := F)) : sProp 𝕄 := (Memref.whole cc1_stg0_0).view.loc (c : Thread nD τ) ↦{fullShare} f
abbrev ow (c : Dev nD) (f : OT (F := F)) : sProp 𝕄 := (Memref.whole cc1_stg2_0).view.loc (c : Thread nD τ) ↦{fullShare} f

theorem wp_then (c : Dev nD) {α β : Type} {p : Prog (TpuEff nD τ sig (Elt F) Λ₀ .tc) α} {kk : α → Prog (TpuEff nD τ sig (Elt F) Λ₀ .tc) β}
    {Q : β → sProp 𝕄} : WP c p (fun a => WP c (kk a) Q) ⊢ WP c (p >>= kk) Q := by
  unfold WP
  rw [wp_bind]

/-- The chunks for peer `p`, where they land and the rights to send them make the copies to make. -/
theorem goes_all (c p : Dev nD) (f : OT (F := F)) :
    iprop((bigSep Finset.univ fun j => xch c p j (X c)) ∗ (bigSep Finset.univ fun j => och p c j f) ∗ sends c p) ⊢ bigSep Finset.univ (goes X c p f) := by
  unfold goes sends
  rw [bigSep_sep', bigSep_sep', bigSep_sep']
theorem stays_all (c : Dev nD) (f : OT (F := F)) :
    iprop((bigSep Finset.univ fun j => xch c c j (X c)) ∗ (bigSep Finset.univ fun j => och c c j f) ∗ (bigSep Finset.univ fun j => dutyTok ER (cell 11 c) 0 (c, j)))
      ⊢ bigSep Finset.univ (stays X c f) := by
  unfold stays
  rw [bigSep_sep', bigSep_sep']

/-- What the barrier hands over. -/
theorem bar_all (c : Dev nD) : (bigSep (dut 8 c) fun d => pay X Cn 8 c d)
    = iprop(((∃ f, bigSep Finset.univ fun j => och (peer 1 c) c j f) ∗ reached ER (cell 10 (peer 1 c)) 0)
      ∗ ((∃ f, bigSep Finset.univ fun j => och (peer 2 c) c j f) ∗ reached ER (cell 10 (peer 2 c)) 0)
      ∗ ((∃ f, bigSep Finset.univ fun j => och (peer 3 c) c j f) ∗ reached ER (cell 10 (peer 3 c)) 0)) :=
  bigSep_bset c _

/-- The chunks sent come back, those that stayed too: the sorted rows are whole. -/
theorem x_back (c : Dev nD) (f : XT (F := F)) (Φ : D → sProp 𝕄) (h : ∀ d, Φ d = xch c d.1 d.2 f) :
    iprop((bigSep Finset.univ fun j => xch c c j f) ∗ bigSep (rset c) Φ) ⊢ xw c f := by
  unfold xw
  rw [x_parts, bigSep_peers c, bigSep_rset]
  simp only [h]
  exact .rfl
theorem o_back (c : Dev nD) (f : OT (F := F)) (Φ : D → sProp 𝕄) (h : ∀ d, Φ d = och c d.1 d.2 f) :
    iprop((bigSep Finset.univ fun j => och c c j f) ∗ bigSep (rset c) Φ) ⊢ ow c f := by
  unfold ow
  rw [o_parts, bigSep_peers c, bigSep_rset]
  simp only [h]
  exact .rfl
theorem x_split (c : Dev nD) (f : XT (F := F)) : xw c f ⊢ iprop((bigSep Finset.univ fun j => xch c c j f)
    ∗ (bigSep Finset.univ fun j => xch c (peer 1 c) j f) ∗ (bigSep Finset.univ fun j => xch c (peer 2 c) j f) ∗ (bigSep Finset.univ fun j => xch c (peer 3 c) j f)) := by
  unfold xw
  rw [x_parts, bigSep_peers c]
theorem o_split (c : Dev nD) (f : OT (F := F)) : ow c f ⊢ iprop((bigSep Finset.univ fun j => och c c j f)
    ∗ (bigSep Finset.univ fun j => och c (peer 1 c) j f) ∗ (bigSep Finset.univ fun j => och c (peer 2 c) j f) ∗ (bigSep Finset.univ fun j => och c (peer 3 c) j f)) := by
  unfold ow
  rw [o_parts, bigSep_peers c]
theorem own_all (c : Dev nD) : (bigSep (dut 11 c) fun d => pay X Cn 11 c d)
    ⊢ iprop((bigSep Finset.univ fun j => och c c j (landed X c)) ∗ bigSep Finset.univ fun j => xch c c j (X c)) := by
  show (bigSep (({c} : Finset (Dev nD)) ×ˢ Finset.univ) fun d : D => iprop(och c c d.2 (landed X c) ∗ xch c c d.2 (X c))) ⊢ _
  rw [SparseCore.bigSep_product, bigSep_singleton, bigSep_sep']

theorem pay8 (c p : Dev nD) : pay X Cn 8 p (c, 0) = iprop((∃ f, bigSep Finset.univ fun j => och c p j f) ∗ reached ER (cell 10 c) 0) := rfl

theorem lvl8 (c : Dev nD) : ∀ x ∈ [((10 : Fin 12), peer 1 c, 32 * N1), (10, peer 2 c, 32 * N1), (10, peer 3 c, 32 * N1)], lvl 8 < lvl x.1 := by
  intro x hx
  simp only [List.mem_cons, List.not_mem_nil, or_false] at hx
  rcases hx with rfl | rfl | rfl <;> exact (by decide : lvl 8 < lvl 10)

theorem cred_trio (c : Dev nD) : iprop(cred (tallyAt (cell 9 c) () (32 * N1)) ∗ cred (tallyAt (cell 9 c) () (32 * N1)) ∗ cred (tallyAt (cell 9 c) () (32 * N1)))
    ⊢ (cred (tallyAt (cell 9 c) () (96 * N1)) : sProp 𝕄) := by
  rw [show 96 * N1 = 32 * N1 + (32 * N1 + 32 * N1) by omega, ← tallyAt_add, ← tallyAt_add]
  exact (sep_mono_right (cred_add _ _).2).trans (cred_add _ _).2

theorem a2a_run (hf : Even f) (c : Dev nD) (g : OT (F := F)) :
    iprop(allInv X Cn K ∗ levAts L lv ∗ ready1 c ∗ xw c (X c) ∗ words c f ∗ ow c g ∗ ∃ W, owes (c : Thread nD τ) (dues (list1 c)) W)
      ⊢ WP c (cc1__a2a_body (F := F) (Memref.whole cc1_stg0_0) a0 (Memref.whole cc1_stg1_0) a1 (Memref.whole cc1_stg2_0) a2 cc1_scratch0 cc1_scratch1 cc1_scratch2
          cc1_scratch3 cc1_scratch4 cc1_scratch5) (fun _ => iprop((semVal (cell 8 c) 0 ∗ semVal (cell 9 c) 0 ∗ semVal (cell 10 c) 0 ∗ semVal (cell 11 c) 0)
            ∗ xw c (X c) ∗ words c f ∗ ow c (landed X c) ∗ ∃ W, owes (c : Thread nD τ) (dues []) W)) := by
  rw [cc1__a2a_body_eq_skeleton]; unfold cc1__a2a_body_skel
  unfold ready1
  iintro ⟨#HI, #Hlev, ⟨⟨⟨#Hb1, Ht1⟩, ⟨#Hb2, Ht2⟩, ⟨#Hb3, Ht3⟩⟩, ⟨Hs1, Hs2, Hs3⟩, Hst, ⟨#Hr9, #Hr10, #Hr11⟩, ⟨Ha8, Ha9, Ha10, Ha11⟩, Hc8, Hc10⟩,
    Hx, Hw, Ho, HO⟩
  ihave Hx := (x_split c (X c)) $$ Hx
  ihave Ho := (o_split c g) $$ Ho
  icases Hx with ⟨Hx0, Hx1, Hx2, Hx3⟩
  icases Ho with ⟨Ho0, Ho1, Ho2, Ho3⟩
  iapply (wp_then c)
  iapply (part1 X Cn K c [(8, peer 3 c, 1), (10, peer 1 c, 32 * N1), (10, peer 2 c, 32 * N1), (10, peer 3 c, 32 * N1)])
  isplitr; · iexact HI
  isplitl [Ht1 Ho1]
  · isplitr; · iexact Hb1
    isplitl [Ht1]; · iexact Ht1
    rw [pay8]
    isplitl [Ho1]; · iexists g; iexact Ho1
    iexact Hr10
  isplitl [Ht2 Ho2]
  · isplitr; · iexact Hb2
    isplitl [Ht2]; · iexact Ht2
    rw [pay8]
    isplitl [Ho2]; · iexists g; iexact Ho2
    iexact Hr10
  isplitl [HO]; · iexact HO
  iintro %v2 %v30 %v31 HO
  iapply (wp_then c)
  iapply (part2 X Cn K hf c v2 v30 _ v31 [(10, peer 1 c, 32 * N1), (10, peer 2 c, 32 * N1), (10, peer 3 c, 32 * N1)] (lvl8 c))
  isplitl [Hw]; · iexact Hw
  isplitr; · iexact HI
  isplitr; · iexact Hlev
  isplitl [Ht3 Ho3]
  · isplitr; · iexact Hb3
    isplitl [Ht3]; · iexact Ht3
    rw [pay8]
    isplitl [Ho3]; · iexists g; iexact Ho3
    iexact Hr10
  isplitl [HO]; · iexact HO
  isplitl [Ha8]; · iexact Ha8
  isplitl [Hc8]; · iexact Hc8
  iintro %v53 %v61 %v62 ⟨Hw, Hz8, Hp, HO⟩
  ihave Hp := (Entails.of_eq (bar_all X Cn c)) $$ Hp
  icases Hp with ⟨⟨⟨%f1, Hy1⟩, #Hq1⟩, ⟨⟨%f2, Hy2⟩, #Hq2⟩, ⟨⟨%f3, Hy3⟩, #Hq3⟩⟩
  iapply (wp_then c)
  iapply (part3 hf c)
  isplitl [Hw]; · iexact Hw
  iintro %v76 %v91 %v95 Hw
  iapply (wp_then c)
  iapply (part4 X Cn K c _ _ _ _ _ f1)
  isplitr; · iexact HI
  isplitr; · iexact Hr9
  isplitr; · iexact Hq1
  isplitl [Hx1 Hy1 Hs1]
  · iapply (goes_all X c (peer 1 c) f1)
    isplitl [Hx1]; · iexact Hx1
    isplitl [Hy1]; · iexact Hy1
    iexact Hs1
  isplitl [HO]; · iexact HO
  iintro %v131 %v132 %v133 ⟨Hk1, HO⟩
  iapply (wp_then c)
  iapply (part5 hf c)
  isplitl [Hw]; · iexact Hw
  iintro %v143 %v166 Hw
  iapply (wp_then c)
  iapply (part6 hf c)
  isplitl [Hw]; · iexact Hw
  iintro %v186 %v187 %v201 %v202 Hw
  iapply (wp_then c)
  iapply (part7 X Cn K hf c _ _ _ _ _ _ _ _ _ f2)
  isplitl [Hw]; · iexact Hw
  isplitr; · iexact HI
  isplitr; · iexact Hr9
  isplitr; · iexact Hq2
  isplitl [Hx2 Hy2 Hs2]
  · iapply (goes_all X c (peer 2 c) f2)
    isplitl [Hx2]; · iexact Hx2
    isplitl [Hy2]; · iexact Hy2
    iexact Hs2
  isplitl [HO]; · iexact HO
  iintro %v221 %v222 %v233 %v237 ⟨Hw, Hk2, HO⟩
  iapply (wp_then c)
  iapply (part8 hf c)
  isplitl [Hw]; · iexact Hw
  iintro %v256 %v266 %v270 Hw
  iapply (wp_then c)
  iapply (part9 X Cn K hf c _ _ _ _ _ f3)
  isplitl [Hw]; · iexact Hw
  isplitr; · iexact HI
  isplitr; · iexact Hr9
  isplitr; · iexact Hq3
  isplitl [Hx3 Hy3 Hs3]
  · iapply (goes_all X c (peer 3 c) f3)
    isplitl [Hx3]; · iexact Hx3
    isplitl [Hy3]; · iexact Hy3
    iexact Hs3
  isplitl [HO]; · iexact HO
  iintro %v276 %v293 %v295 %v303 %v308 ⟨Hw, Hk3, HO⟩
  iapply (wp_then c)
  iapply (part10 hf c)
  isplitl [Hw]; · iexact Hw
  iintro %v311 %v312 %v335 %v340 Hw
  iapply (wp_then c)
  iapply (part11 hf c)
  isplitl [Hw]; · iexact Hw
  iintro %v355 %v372 %v374 %v375 %v376 Hw
  iapply (wp_then c)
  iapply (part12 X Cn K hf c _ _ _ _ _ _ _ _ g)
  isplitl [Hw]; · iexact Hw
  isplitr; · iexact HI
  isplitr; · iexact Hr11
  isplitl [Hx0 Ho0 Hst]
  · iapply (stays_all X c g)
    isplitl [Hx0]; · iexact Hx0
    isplitl [Ho0]; · iexact Ho0
    iexact Hst
  iintro %v392 %v411 %v413 %v414 ⟨Hw, Hc11⟩
  iapply (wp_then c)
  iapply (part13 hf c)
  isplitl [Hw]; · iexact Hw
  iintro %v423 %v426 %v445 %v447 %v448 %v449 %v452 Hw
  iapply (wp_then c)
  iapply (part14 hf c)
  isplitl [Hw]; · iexact Hw
  iintro %v479 %v491 Hw
  iapply (wp_then c)
  iapply (part15 hf c)
  isplitl [Hw]; · iexact Hw
  iintro %v513 %v525 %v530 Hw
  iapply (wp_then c)
  iapply (part16 X Cn K c)
  isplitr; · iexact HI
  isplitl [Ha9]; · iexact Ha9
  isplitl [Hk1 Hk2 Hk3]
  · iapply (cred_trio c)
    isplitl [Hk1]; · iexact Hk1
    isplitl [Hk2]; · iexact Hk2
    iexact Hk3
  isplitl [Ha10]; · iexact Ha10
  isplitl [Hc10]; · iexact Hc10
  isplitl [Ha11]; · iexact Ha11
  isplitl [Hc11]; · iexact Hc11
  isplitl [HO]; · iexact HO
  iintro %v565 ⟨⟨Hz9, Hp9⟩, ⟨Hz10, Hp10⟩, ⟨Hz11, Hp11⟩, HO⟩
  iapply (skip_loop c trips_none.2.2.2.2.2.2.2.2.2.2.2.2.2.1); iintro %_
  iapply (skip_loop c trips_none.2.2.2.2.2.2.2.2.2.2.2.2.2.2.1); iintro %_
  iapply (wp_end c)
  ihave Hp11 := (own_all X Cn c) $$ Hp11
  icases Hp11 with ⟨Hp11, Hx0⟩
  isplitl [Hz8 Hz9 Hz10 Hz11]
  · isplitl [Hz8]; · iexact Hz8
    isplitl [Hz9]; · iexact Hz9
    isplitl [Hz10]; · iexact Hz10
    iexact Hz11
  isplitl [Hx0 Hp9]
  · iapply (x_back c (X c) _ (fun d => rfl))
    isplitl [Hx0]; · iexact Hx0
    iexact Hp9
  isplitl [Hw]; · iexact Hw
  isplitl [Hp11 Hp10]
  · iapply (o_back c (landed X c) _ (fun d => rfl))
    isplitl [Hp11]; · iexact Hp11
    iexact Hp10
  iexact HO

end Cert.KernelIdeal.Exch

end
-- ==== Proof.C0A.lean ====
module

public import proofs.«01_k».proof.Proof.A2D

@[expose] public section

noncomputable section

namespace Cert.KernelIdeal.Exch

open Cert.KernelIdeal Cert.KernelIdeal.Gen Cert.KernelIdeal.Words
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.SparseCore.ProtocolKit (finFrom bigSep_finFrom_succ bigSep_finFrom_zero bigSep_finFrom_self)

variable {F : FTy → Type} [FloatOps F]

local notation "𝕄" => MT nD τ sig Unit (Elt F) ℕ UU ℕ

variable (X : Dev nD → XT (F := F)) (Cn : Dev nD → CT (F := F)) (K : GSem nD τ sig → ℕ)

variable {a0 : (Memref.whole cc0_stg0_0).IsWhole} {a1 : (Memref.whole cc0_stg1_0).IsWhole}

/-! ## The counts call's copies -/

theorem amount_row (s : Dev nD) (i : Fin 18) : (oM0 s).view.amount (.dma i) = N0 := rfl

theorem row_lands (c p : Dev nD) (f : CMT (F := F)) :
    ((oM0 c).view.loc (p : Thread nD τ) ↦[(oM0 c).view.set]{fullShare} ((oM0 c).view.write (Elt F) f ((Memref.whole cc0_stg0_0 : Memref sig .tc .vmem S1x8x128 .i32).view.read (Elt F) (Cn c)) Finset.univ) : sProp 𝕄)
      ⊢ row p c (gathered Cn) :=
  Entails.of_eq (pointsTo_congr (row_written c Cn f))

/-- A copy of a device's counts to a peer: it pays the cell of its source and the cell of its target. -/
theorem send0 (c p : Dev nD) (ks kr : Fin 12) (sS sR : Fin 18) (hs : sem12 ks = .dma sS) (hr : sem12 kr = .dma sR)
    (hm1 : ((p, 0) : D) ∈ dut ks c) (hm2 : ((c, 0) : D) ∈ dut kr p) (ha : amt ks = N0) (ha' : amt kr = N0) (q : PosShare TreeShare)
    (hp1 : cnt c q (Cn c) ⊢ pay X Cn ks c (p, 0)) (hp2 : row p c (gathered Cn) ⊢ pay X Cn kr p (c, 0))
    (l : List (Fin 12 × Dev nD × ℕ)) (f : CMT (F := F)) {α : Type}
    {off : Fin 3 → ℕ} {inb : ∀ a, off a + S1x8x128.size a ≤ S4x8x128.size a} (ho : off = ![c.val, 0, 0])
    (n : Dev nD) (hn : n = p) {ed e0 h1 h2 h3}
    {kk : PUnit → Prog (TpuEff nD τ sig (Elt F) Λ₀ .tc) α} {Q : α → sProp 𝕄} :
    iprop(allInv X Cn K ∗ reached ER (cell ks c) 0 ∗ reached ER (cell kr p) 0 ∗ cnt c q (Cn c) ∗ row p c f
        ∗ dutyTok ER (cell ks c) 0 (p, 0) ∗ dutyTok ER (cell kr p) 0 (c, 0) ∗ ∃ W, owes (c : Thread nD τ) (dues ((kr, p, N0) :: l)) W)
      ⊢ iprop(((cred (tallyAt (cell ks c) () N0) ∗ ∃ W, owes (c : Thread nD τ) (dues l) W) -∗ WP c (kk ⟨⟩) Q)
        -∗ WP c (.op (.enqueueDma (Memref.whole cc0_stg0_0 : Memref sig .tc .vmem S1x8x128 .i32)
            (.remote (Dev.tc n) ((Memref.whole cc0_stg1_0).slice (Rect.unit (s := S4x8x128) off S1x8x128.size inb) ed) (.dma sS) e0)
            (.dma sR) h1 h2 h3) kk) Q) := by
  subst ho hn
  have e1 : ((c : Thread nD τ), (SemLoc.dma sS : SemLoc sig)) = cell ks c := by unfold cell; rw [hs]
  have e2 : ((n : Thread nD τ), (SemLoc.dma sR : SemLoc sig)) = cell kr n := by unfold cell; rw [hr]
  iintro ⟨#HI, #Hr1, #Hr2, Hx, Ho, Ht1, Ht2, %W, HO⟩ Hk
  ihave #HI1 := (inv_of X Cn K ks c) $$ HI
  ihave #HI2 := (inv_of X Cn K kr n) $$ HI
  iapply (Rounds.wp_send_pointsTo (Γ := .empty) (defs := defs₀ (F := F)) 𝒱₀ ER (Rd X Cn) (c : Thread nD τ) none (c' := (n : Thread nD τ))
      (src := (Memref.whole cc0_stg0_0 : Memref sig .tc .vmem S1x8x128 .i32)) (dst := oM0 c)
      (sS := .dma sS) (sem := .dma sR) (q := q) (fs := Cn c) (κ₁ := K (cell ks c)) (κ₂ := K (cell kr n))
      (r₁ := 0) (r₂ := 0) (d₁ := (n, 0)) (d₂ := (c, 0)) (fd := f)
      (by rw [e1, duties_cell]; exact hm1) (by rw [e2, duties_cell]; exact hm2)
      () () N0 (amount_row c sR) (by rw [e1, amount_cell, ha]) (by rw [e2, amount_cell, ha']) (dues l)
      (by rw [e2]) (W := W)
      (by rw [e1, payload_cell]; exact hp1) (by rw [e2, payload_cell]; exact (row_lands Cn c n f).trans hp2))
    $$ [Hx Ho HO Ht1 Ht2]
  · rw [e1, e2]
    isplitr; · iexact HI1
    isplitr; · iexact HI2
    isplitl [Hx]; · iexact Hx
    isplitl [Ho]; · iexact Ho
    isplitl [HO]; · iexact HO
    isplitl [Ht1]; · iexact Ht1
    isplitr; · iexact Hr1
    isplitl [Ht2]; · iexact Ht2
    iexact Hr2
  iintro ⟨Hc', HO⟩
  iapply Hk
  isplitl [Hc']
  · iapply (Entails.of_eq (congrArg (fun g => (cred (tallyAt g () N0) : sProp 𝕄)) e1)); iexact Hc'
  iexists W; iexact HO

theorem mem7 (c : Dev nD) : ((c, 0) : D) ∈ dut 7 c := by revert c; decide

/-- The copy of a device's counts to its own row. -/
theorem copy0 (c : Dev nD) (f : CMT (F := F)) {α : Type}
    {off : Fin 3 → ℕ} {inb : ∀ a, off a + S1x8x128.size a ≤ S4x8x128.size a} (ho : off = ![c.val, 0, 0]) {ed h1 h2 h3}
    {kk : PUnit → Prog (TpuEff nD τ sig (Elt F) Λ₀ .tc) α} {Q : α → sProp 𝕄} :
    iprop(allInv X Cn K ∗ reached ER (cell 7 c) 0 ∗ cnt c (sh 0) (Cn c) ∗ row c c f ∗ dutyTok ER (cell 7 c) 0 (c, 0))
      ⊢ iprop((cred (tallyAt (cell 7 c) () N0) -∗ WP c (kk ⟨⟩) Q)
        -∗ WP c (.op (.enqueueDma (Memref.whole cc0_stg0_0 : Memref sig .tc .vmem S1x8x128 .i32)
            (.here ((Memref.whole cc0_stg1_0).slice (Rect.unit (s := S4x8x128) off S1x8x128.size inb) ed))
            (.dma (2 : Fin 18)) h1 h2 h3) kk) Q) := by
  subst ho
  have e1 : ((c : Thread nD τ), (SemLoc.dma (2 : Fin 18) : SemLoc sig)) = cell 7 c := rfl
  iintro ⟨#HI, #Hr1, Hx, Ho, Ht1⟩ Hk
  ihave #HI1 := (inv_of X Cn K 7 c) $$ HI
  iapply (Rounds.wp_copy_pointsTo (Γ := .empty) (defs := defs₀ (F := F)) 𝒱₀ ER (Rd X Cn) (c : Thread nD τ) none
      (src := (Memref.whole cc0_stg0_0 : Memref sig .tc .vmem S1x8x128 .i32)) (dst := oM0 c)
      (sem := .dma (2 : Fin 18)) (q := sh 0) (fs := Cn c) (fd := f) (r := 0) (d := (c, 0)) (κ := K (cell 7 c))
      (by rw [e1, duties_cell]; exact mem7 c) () N0 (amount_row c 2) (by rw [e1, amount_cell]; rfl)
      (by rw [e1, payload_cell]; exact sep_mono_left (row_lands Cn c c f)))
    $$ [Hx Ho Ht1]
  · isplitr; · iexact HI1
    isplitl [Hx]; · iexact Hx
    isplitl [Ho]; · iexact Ho
    isplitl [Ht1]; · iexact Ht1
    iexact Hr1
  iintro Hc'
  iapply Hk; iexact Hc'

end Cert.KernelIdeal.Exch

end
-- ==== Proof.C0B.lean ====
module

public import proofs.«01_k».proof.Proof.C0A

@[expose] public section

noncomputable section

namespace Cert.KernelIdeal.Exch

open Cert.KernelIdeal Cert.KernelIdeal.Gen Cert.KernelIdeal.Words
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.SparseCore.ProtocolKit (finFrom bigSep_finFrom_succ bigSep_finFrom_zero bigSep_finFrom_self)

variable {F : FTy → Type} [FloatOps F]

local notation "𝕄" => MT nD τ sig Unit (Elt F) ℕ UU ℕ

variable (X : Dev nD → XT (F := F)) (Cn : Dev nD → CT (F := F)) (K : GSem nD τ sig → ℕ)

variable {a0 : (Memref.whole cc0_stg0_0).IsWhole} {a1 : (Memref.whole cc0_stg1_0).IsWhole}

/-! ## The counts call's body, whole -/

/-- What a device brings to the counts call, besides the buffers. -/
def ready0 (c : Dev nD) : sProp 𝕄 :=
  iprop((bars 0 c (peer 1 c) ∗ bars 0 c (peer 2 c) ∗ bars 0 c (peer 3 c))
    ∗ (dutyTok ER (cell 1 c) 0 (peer 1 c, 0) ∗ dutyTok ER (cell 2 c) 0 (peer 2 c, 0) ∗ dutyTok ER (cell 3 c) 0 (peer 3 c, 0))
    ∗ (dutyTok ER (cell 4 (peer 1 c)) 0 (c, 0) ∗ dutyTok ER (cell 5 (peer 2 c)) 0 (c, 0) ∗ dutyTok ER (cell 6 (peer 3 c)) 0 (c, 0))
    ∗ dutyTok ER (cell 7 c) 0 (c, 0)
    ∗ (reached ER (cell 1 c) 0 ∗ reached ER (cell 2 c) 0 ∗ reached ER (cell 3 c) 0 ∗ reached ER (cell 4 c) 0 ∗ reached ER (cell 5 c) 0
      ∗ reached ER (cell 6 c) 0 ∗ reached ER (cell 7 c) 0)
    ∗ (atPos ER (cell 0 c) 0 ∅ 0 ∗ atPos ER (cell 1 c) 0 ∅ 0 ∗ atPos ER (cell 2 c) 0 ∅ 0 ∗ atPos ER (cell 3 c) 0 ∅ 0 ∗ atPos ER (cell 4 c) 0 ∅ 0
      ∗ atPos ER (cell 5 c) 0 ∅ 0 ∗ atPos ER (cell 6 c) 0 ∅ 0 ∗ atPos ER (cell 7 c) 0 ∅ 0)
    ∗ cred (tallyAt (cell 0 c) () 3) ∗ cred (tallyAt (cell 4 c) () N0) ∗ cred (tallyAt (cell 5 c) () N0) ∗ cred (tallyAt (cell 6 c) () N0))

abbrev cw (c : Dev nD) (f : CT (F := F)) : sProp 𝕄 := (Memref.whole cc0_stg0_0).view.loc (c : Thread nD τ) ↦{fullShare} f
abbrev mw (c : Dev nD) (f : CMT (F := F)) : sProp 𝕄 := (Memref.whole cc0_stg1_0).view.loc (c : Thread nD τ) ↦{fullShare} f

theorem c_split (c : Dev nD) (f : CT (F := F)) : cw c f ⊢ iprop(cnt c (sh 0) f ∗ cnt c (sh 1) f ∗ cnt c (sh 2) f ∗ cnt c (sh 3) f) :=
  Entails.of_eq (cnt_parts c f)
theorem c_join (c : Dev nD) (f : CT (F := F)) : iprop(cnt c (sh 0) f ∗ cnt c (sh 1) f ∗ cnt c (sh 2) f ∗ cnt c (sh 3) f) ⊢ cw c f :=
  Entails.of_eq (cnt_parts c f).symm
theorem m_eq (c : Dev nD) (f : CMT (F := F)) : mw c f = iprop(row c c f ∗ row c (peer 1 c) f ∗ row c (peer 2 c) f ∗ row c (peer 3 c) f) :=
  (row_parts c f).trans (bigSep_peers c _)

theorem pay0 (c p : Dev nD) : pay X Cn 0 p (c, 0) = iprop((∃ f, row c p f) ∗ reached ER (cell 4 c) 0 ∗ reached ER (cell 5 c) 0 ∗ reached ER (cell 6 c) 0) := rfl
theorem bar0_all (c : Dev nD) : (bigSep (dut 0 c) fun d => pay X Cn 0 c d)
    = iprop(((∃ f, row (peer 1 c) c f) ∗ reached ER (cell 4 (peer 1 c)) 0 ∗ reached ER (cell 5 (peer 1 c)) 0 ∗ reached ER (cell 6 (peer 1 c)) 0)
      ∗ ((∃ f, row (peer 2 c) c f) ∗ reached ER (cell 4 (peer 2 c)) 0 ∗ reached ER (cell 5 (peer 2 c)) 0 ∗ reached ER (cell 6 (peer 2 c)) 0)
      ∗ ((∃ f, row (peer 3 c) c f) ∗ reached ER (cell 4 (peer 3 c)) 0 ∗ reached ER (cell 5 (peer 3 c)) 0 ∗ reached ER (cell 6 (peer 3 c)) 0)) :=
  bigSep_bset c _

theorem one (k : Fin 12) (c : Dev nD) (d : D) (h : dut k c = {d}) : (bigSep (dut k c) fun d => pay X Cn k c d) ⊢ pay X Cn k c d := by
  rw [h, bigSep_singleton]

theorem mems (c : Dev nD) : ((peer 1 c, 0) : D) ∈ dut 1 c ∧ ((peer 2 c, 0) : D) ∈ dut 2 c ∧ ((peer 3 c, 0) : D) ∈ dut 3 c
    ∧ ((c, 0) : D) ∈ dut 4 (peer 1 c) ∧ ((c, 0) : D) ∈ dut 5 (peer 2 c) ∧ ((c, 0) : D) ∈ dut 6 (peer 3 c) := by revert c; decide

theorem lvl_rest (c : Dev nD) (k : Fin 12) (hk : lvl k < 3) : ∀ x ∈ list1 c, lvl k < lvl x.1 := by
  intro x hx
  simp only [list1, List.mem_cons, List.not_mem_nil, or_false] at hx
  rcases hx with rfl | rfl | rfl | rfl | rfl | rfl
  all_goals first | exact hk.trans_le (by decide : 3 ≤ lvl 8) | exact hk.trans_le (by decide : 3 ≤ lvl 10)
theorem lvl_bar0 (c : Dev nD) : ∀ x ∈ (4, peer 1 c, N0) :: (5, peer 2 c, N0) :: (6, peer 3 c, N0) :: list1 c, lvl 0 < lvl x.1 := by
  intro x hx
  simp only [List.mem_cons] at hx
  rcases hx with rfl | rfl | rfl | h
  · exact (by decide : lvl 0 < lvl 4)
  · exact (by decide : lvl 0 < lvl 5)
  · exact (by decide : lvl 0 < lvl 6)
  · exact lvl_rest c 0 (by decide) x (by simpa [list1] using h)

theorem counts1 (c : Dev nD) (l : List (Fin 12 × Dev nD × ℕ)) {Q : _ → sProp 𝕄} :
    iprop(allInv X Cn K ∗ sig1 X Cn 0 c (peer 1 c) ∗ sig1 X Cn 0 c (peer 2 c) ∗ (∃ W, owes (c : Thread nD τ) (dues ((0, peer 1 c, 1) :: (0, peer 2 c, 1) :: l)) W)
        ∗ ∀ v2 v30 v31, (∃ W, owes (c : Thread nD τ) (dues l) W) -∗ Q ⟨c, v2, SemArray.scalar (sig.barrier 0 rfl), v30, 4#32, v31⟩)
      ⊢ WP c (k0_part1 (F := F) (Memref.whole cc0_stg0_0) a0 (Memref.whole cc0_stg1_0) a1 cc0_scratch0 cc0_scratch1 cc0_scratch2) Q := by
  rw [k0_part1_eq_skeleton]; unfold k0_part1_skel Prog.lift
  simp only [Prog.bind_op, Prog.bind_ret, wp_deviceId]
  iintro ⟨#HI, ⟨#Hr1, Ht1, Hp1⟩, ⟨#Hr2, Ht2, Hp2⟩, HO, Hk⟩
  iapply (signal_step X Cn K 0 c (peer 1 c) rfl (mem_bar c).2.2.2.1 ((0, peer 2 c, 1) :: l) _ (Fin.ext (k0_devs c).1) (sig.barrier 0 rfl) rfl) $$ [Ht1 Hp1 HO]
  · isplitr; · iexact HI
    isplitr; · iexact Hr1
    isplitl [Ht1]; · iexact Ht1
    isplitl [Hp1]; · iexact Hp1
    iexact HO
  iintro HO
  iapply (signal_step X Cn K 0 c (peer 2 c) rfl (mem_bar c).2.2.2.2.1 l _ (Fin.ext (k0_devs c).2.1) (sig.barrier 0 rfl) rfl) $$ [Ht2 Hp2 HO]
  · isplitr; · iexact HI
    isplitr; · iexact Hr2
    isplitl [Ht2]; · iexact Ht2
    isplitl [Hp2]; · iexact Hp2
    iexact HO
  iintro HO
  iapply (wp_end c); iapply Hk; iexact HO

/-- The third signal, the wait for the peers, the copy at home and the copy to the first peer. -/
theorem counts2 (c : Dev nD) (v2 v30 z : BitVec 32) (v31 : BitVec 1) (g : CMT (F := F)) {Q : _ → sProp 𝕄} :
    iprop(allInv X Cn K ∗ levAts L lv ∗ sig1 X Cn 0 c (peer 3 c)
        ∗ (∃ W, owes (c : Thread nD τ) (dues ((0, peer 3 c, 1) :: (4, peer 1 c, N0) :: (5, peer 2 c, N0) :: (6, peer 3 c, N0) :: list1 c)) W)
        ∗ atPos ER (cell 0 c) 0 ∅ 0 ∗ cred (tallyAt (cell 0 c) () 3)
        ∗ (reached ER (cell 7 c) 0 ∗ cnt c (sh 0) (Cn c) ∗ row c c g ∗ dutyTok ER (cell 7 c) 0 (c, 0))
        ∗ (reached ER (cell 1 c) 0 ∗ cnt c (sh 1) (Cn c) ∗ dutyTok ER (cell 1 c) 0 (peer 1 c, 0) ∗ dutyTok ER (cell 4 (peer 1 c)) 0 (c, 0))
        ∗ ∀ v54 v62, (semVal (cell 0 c) 0 ∗ ((∃ f, row (peer 2 c) c f) ∗ reached ER (cell 5 (peer 2 c)) 0) ∗ ((∃ f, row (peer 3 c) c f) ∗ reached ER (cell 6 (peer 3 c)) 0)
              ∗ cred (tallyAt (cell 7 c) () N0) ∗ cred (tallyAt (cell 1 c) () N0)
              ∗ ∃ W, owes (c : Thread nD τ) (dues ((5, peer 2 c, N0) :: (6, peer 3 c, N0) :: list1 c)) W)
            -∗ Q ⟨v54, v62⟩)
      ⊢ WP c (k0_part2 (F := F) (Memref.whole cc0_stg0_0) a0 (Memref.whole cc0_stg1_0) a1 cc0_scratch0 cc0_scratch1 cc0_scratch2
          c v2 (SemArray.scalar (sig.barrier 0 rfl)) v30 z v31) Q := by
  rw [k0_part2_eq_skeleton]; unfold k0_part2_skel Prog.lift
  iintro ⟨#HI, #Hlev, ⟨#Hr, Ht, Hp⟩, HO, Ha, Hc, ⟨#Hr7, Hx0, Hg, Ht7⟩, ⟨#Hr1, Hx1, Ht1, Ht4⟩, Hk⟩
  iapply (signal_step X Cn K 0 c (peer 3 c) rfl (mem_bar c).2.2.2.2.2 _ _ (Fin.ext (k0_devs c).2.2.1) (sig.barrier 0 rfl) rfl) $$ [Ht Hp HO]
  · isplitr; · iexact HI
    isplitr; · iexact Hr
    isplitl [Ht]; · iexact Ht
    isplitl [Hp]; · iexact Hp
    iexact HO
  iintro HO
  unfold semWaitWord
  simp only [Prog.bind_op, Prog.bind_ret]
  iapply (round_step X Cn K 0 c _ (lvl_bar0 c) 3 (by rw [dut_card]; rfl) (wpE_semWait_eq (defs := defs₀ (F := F)) 𝒱₀ (c : Thread nD τ) none Set.univ)) $$ [Ha Hc HO]
  · isplitr; · iexact HI
    isplitr; · iexact Hlev
    isplitl [Ha]; · iexact Ha
    isplitl [Hc]; · iexact Hc
    iexact HO
  iintro ⟨Hs, Hp, HO⟩
  ihave Hp := (Entails.of_eq (bar0_all X Cn c)) $$ Hp
  icases Hp with ⟨⟨⟨%f1, Hy1⟩, #Hq1, -, -⟩, ⟨Hy2, -, #Hq2, -⟩, ⟨Hy3, -, -, #Hq3⟩⟩
  iapply (copy0 X Cn K c g (k0_off c)) $$ [Hx0 Hg Ht7]
  · isplitr; · iexact HI
    isplitr; · iexact Hr7
    isplitl [Hx0]; · iexact Hx0
    isplitl [Hg]; · iexact Hg
    iexact Ht7
  iintro Hc7
  iapply (send0 X Cn K c (peer 1 c) 1 4 (3 : Fin 18) (6 : Fin 18) rfl rfl (mems c).1 (mems c).2.2.2.1 rfl rfl (sh 1) .rfl .rfl _ f1 (k0_off c) _
    (Fin.ext (k0_devs c).2.2.2.1)) $$ [Hx1 Hy1 Ht1 Ht4 HO]
  · isplitr; · iexact HI
    isplitr; · iexact Hr1
    isplitr; · iexact Hq1
    isplitl [Hx1]; · iexact Hx1
    isplitl [Hy1]; · iexact Hy1
    isplitl [Ht1]; · iexact Ht1
    isplitl [Ht4]; · iexact Ht4
    iexact HO
  iintro ⟨Hc1, HO⟩
  iapply (wp_end c); iapply Hk
  isplitl [Hs]; · iexact Hs
  isplitl [Hy2]; · isplitl [Hy2]; · iexact Hy2
                   iexact Hq2
  isplitl [Hy3]; · isplitl [Hy3]; · iexact Hy3
                   iexact Hq3
  isplitl [Hc7]; · iexact Hc7
  isplitl [Hc1]; · iexact Hc1
  iexact HO

/-- The copy to the second peer. -/
theorem counts3 (c : Dev nD) (v2 v62 : BitVec 32) {Q : _ → sProp 𝕄} :
    iprop(allInv X Cn K ∗ ((∃ f, row (peer 2 c) c f) ∗ reached ER (cell 5 (peer 2 c)) 0)
        ∗ (reached ER (cell 2 c) 0 ∗ cnt c (sh 2) (Cn c) ∗ dutyTok ER (cell 2 c) 0 (peer 2 c, 0) ∗ dutyTok ER (cell 5 (peer 2 c)) 0 (c, 0))
        ∗ (∃ W, owes (c : Thread nD τ) (dues ((5, peer 2 c, N0) :: (6, peer 3 c, N0) :: list1 c)) W)
        ∗ ∀ v72 v90, (cred (tallyAt (cell 2 c) () N0) ∗ ∃ W, owes (c : Thread nD τ) (dues ((6, peer 3 c, N0) :: list1 c)) W) -∗ Q ⟨v72, v90⟩)
      ⊢ WP c (k0_part3 (F := F) (Memref.whole cc0_stg0_0) a0 (Memref.whole cc0_stg1_0) a1 cc0_scratch0 cc0_scratch1 cc0_scratch2 c v2 v62) Q := by
  rw [k0_part3_eq_skeleton]; unfold k0_part3_skel Prog.lift
  simp only [Prog.bind_op, Prog.bind_ret]
  iintro ⟨#HI, ⟨⟨%f1, Hy1⟩, #Hq1⟩, ⟨#Hr1, Hx1, Ht1, Ht4⟩, HO, Hk⟩
  iapply (send0 X Cn K c (peer 2 c) 2 5 (4 : Fin 18) (7 : Fin 18) rfl rfl (mems c).2.1 (mems c).2.2.2.2.1 rfl rfl (sh 2) .rfl .rfl _ f1 (k0_off c) _
    (Fin.ext (k0_devs c).2.2.2.2.1)) $$ [Hx1 Hy1 Ht1 Ht4 HO]
  · isplitr; · iexact HI
    isplitr; · iexact Hr1
    isplitr; · iexact Hq1
    isplitl [Hx1]; · iexact Hx1
    isplitl [Hy1]; · iexact Hy1
    isplitl [Ht1]; · iexact Ht1
    isplitl [Ht4]; · iexact Ht4
    iexact HO
  iintro H
  iapply (wp_end c); iapply Hk; iexact H

/-- A wait for the single payment of a cell of the counts call. -/
theorem wait0 (k : Fin 12) (c : Dev nD) (d : D) (hd : dut k c = {d}) (ha : amt k = N0) (hl : lvl k < 3) {P : sProp 𝕄} (hP : pay X Cn k c d = P) {α : Type} {w : TpuEff nD τ sig (Elt F) Λ₀ .tc PUnit}
    (hw : ∀ P : PUnit → sProp 𝕄, wpE (defs₀ (F := F)) 𝒱₀ (c : Thread nD τ) none Set.univ w P = waitSpec (c : Thread nD τ) Set.univ (sem12 k) N0 P)
    {kk : PUnit → Prog (TpuEff nD τ sig (Elt F) Λ₀ .tc) α} {Q : α → sProp 𝕄} :
    iprop(allInv X Cn K ∗ levAts L lv ∗ (atPos ER (cell k c) 0 ∅ 0 ∗ cred (tallyAt (cell k c) () N0)) ∗ ∃ W, owes (c : Thread nD τ) (dues (list1 c)) W)
      ⊢ iprop(((semVal (cell k c) 0 ∗ P ∗ ∃ W, owes (c : Thread nD τ) (dues (list1 c)) W) -∗ WP c (kk ⟨⟩) Q)
        -∗ WP c (.op w kk) Q) := by
  iintro ⟨#HI, #Hlev, ⟨Ha, Hc⟩, HO⟩ Hk
  iapply (round_step X Cn K k c (list1 c) (lvl_rest c k hl) N0 (by rw [hd, Finset.card_singleton, Nat.one_mul, ha]) hw) $$ [Ha Hc HO]
  · isplitr; · iexact HI
    isplitr; · iexact Hlev
    isplitl [Ha]; · iexact Ha
    isplitl [Hc]; · iexact Hc
    iexact HO
  iintro ⟨Hs, Hp, HO⟩
  iapply Hk
  isplitl [Hs]; · iexact Hs
  isplitl [Hp]; · iapply ((one X Cn k c d hd).trans (Entails.of_eq hP)); iexact Hp
  iexact HO

/-- What waits on a cell. -/
abbrev due0 (k : Fin 12) (c : Dev nD) : sProp 𝕄 := iprop(atPos ER (cell k c) 0 ∅ 0 ∗ cred (tallyAt (cell k c) () N0))

/-- The copy to the third peer, and all waits but the last. -/
theorem counts4 (c : Dev nD) (v54 v72 : BitVec 32) {Q : _ → sProp 𝕄} :
    iprop(allInv X Cn K ∗ levAts L lv ∗ ((∃ f, row (peer 3 c) c f) ∗ reached ER (cell 6 (peer 3 c)) 0)
        ∗ (reached ER (cell 3 c) 0 ∗ cnt c (sh 3) (Cn c) ∗ dutyTok ER (cell 3 c) 0 (peer 3 c, 0) ∗ dutyTok ER (cell 6 (peer 3 c)) 0 (c, 0))
        ∗ (∃ W, owes (c : Thread nD τ) (dues ((6, peer 3 c, N0) :: list1 c)) W)
        ∗ due0 7 c ∗ due0 1 c ∗ due0 4 c ∗ due0 2 c ∗ due0 5 c ∗ atPos ER (cell 3 c) 0 ∅ 0
        ∗ ((semVal (cell 7 c) 0 ∗ row c c (gathered Cn) ∗ cnt c (sh 0) (Cn c)) -∗ (semVal (cell 1 c) 0 ∗ cnt c (sh 1) (Cn c))
            -∗ (semVal (cell 4 c) 0 ∗ row c (peer 3 c) (gathered Cn)) -∗ (semVal (cell 2 c) 0 ∗ cnt c (sh 2) (Cn c))
            -∗ (semVal (cell 5 c) 0 ∗ row c (peer 2 c) (gathered Cn)) -∗ (semVal (cell 3 c) 0 ∗ cnt c (sh 3) (Cn c))
            -∗ (∃ W, owes (c : Thread nD τ) (dues (list1 c)) W) -∗ Q 1#32))
      ⊢ WP c (k0_part4 (F := F) (Memref.whole cc0_stg0_0) a0 (Memref.whole cc0_stg1_0) a1 cc0_scratch0 cc0_scratch1 cc0_scratch2 c v54 v72) Q := by
  rw [k0_part4_eq_skeleton]; unfold k0_part4_skel Prog.lift
  simp only [Prog.bind_op, Prog.bind_ret]
  iintro ⟨#HI, #Hlev, ⟨⟨%f1, Hy1⟩, #Hq1⟩, ⟨#Hr1, Hx1, Ht1, Ht4⟩, HO, H7, H1, H4, H2, H5, Ha3, Hk⟩
  iapply (send0 X Cn K c (peer 3 c) 3 6 (5 : Fin 18) (8 : Fin 18) rfl rfl (mems c).2.2.1 (mems c).2.2.2.2.2 rfl rfl (sh 3) .rfl .rfl _ f1 (k0_off c) _
    (Fin.ext (k0_devs c).2.2.2.2.2)) $$ [Hx1 Hy1 Ht1 Ht4 HO]
  · isplitr; · iexact HI
    isplitr; · iexact Hr1
    isplitr; · iexact Hq1
    isplitl [Hx1]; · iexact Hx1
    isplitl [Hy1]; · iexact Hy1
    isplitl [Ht1]; · iexact Ht1
    isplitl [Ht4]; · iexact Ht4
    iexact HO
  iintro ⟨Hc3, HO⟩
  iapply (wait0 X Cn K 7 c (c, 0) rfl rfl (by decide) (P := iprop(row c c (gathered Cn) ∗ cnt c (sh 0) (Cn c))) rfl (by intro S; exact wpE_waitDma2_eq (defs := defs₀ (F := F)) 𝒱₀ (c : Thread nD τ) none Set.univ S)) $$ [H7 HO]
  · isplitr; · iexact HI
    isplitr; · iexact Hlev
    isplitl [H7]; · iexact H7
    iexact HO
  iintro ⟨Hs7, Hp7, HO⟩
  iapply (wait0 X Cn K 1 c (peer 1 c, 0) rfl rfl (by decide) (P := cnt c (sh 1) (Cn c)) rfl (by intro S; exact wpE_waitDma2_eq (defs := defs₀ (F := F)) 𝒱₀ (c : Thread nD τ) none Set.univ S)) $$ [H1 HO]
  · isplitr; · iexact HI
    isplitr; · iexact Hlev
    isplitl [H1]; · iexact H1
    iexact HO
  iintro ⟨Hs1, Hp1, HO⟩
  iapply (wait0 X Cn K 4 c (peer 3 c, 0) rfl rfl (by decide) (P := row c (peer 3 c) (gathered Cn)) rfl (by intro S; exact wpE_waitDma2_eq (defs := defs₀ (F := F)) 𝒱₀ (c : Thread nD τ) none Set.univ S)) $$ [H4 HO]
  · isplitr; · iexact HI
    isplitr; · iexact Hlev
    isplitl [H4]; · iexact H4
    iexact HO
  iintro ⟨Hs4, Hp4, HO⟩
  iapply (wait0 X Cn K 2 c (peer 2 c, 0) rfl rfl (by decide) (P := cnt c (sh 2) (Cn c)) rfl (by intro S; exact wpE_waitDma2_eq (defs := defs₀ (F := F)) 𝒱₀ (c : Thread nD τ) none Set.univ S)) $$ [H2 HO]
  · isplitr; · iexact HI
    isplitr; · iexact Hlev
    isplitl [H2]; · iexact H2
    iexact HO
  iintro ⟨Hs2, Hp2, HO⟩
  iapply (wait0 X Cn K 5 c (peer 2 c, 0) rfl rfl (by decide) (P := row c (peer 2 c) (gathered Cn)) rfl (by intro S; exact wpE_waitDma2_eq (defs := defs₀ (F := F)) 𝒱₀ (c : Thread nD τ) none Set.univ S)) $$ [H5 HO]
  · isplitr; · iexact HI
    isplitr; · iexact Hlev
    isplitl [H5]; · iexact H5
    iexact HO
  iintro ⟨Hs5, Hp5, HO⟩
  iapply (wait0 X Cn K 3 c (peer 3 c, 0) rfl rfl (by decide) (P := cnt c (sh 3) (Cn c)) rfl (by intro S; exact wpE_waitDma2_eq (defs := defs₀ (F := F)) 𝒱₀ (c : Thread nD τ) none Set.univ S)) $$ [Ha3 Hc3 HO]
  · isplitr; · iexact HI
    isplitr; · iexact Hlev
    isplitl [Ha3 Hc3]
    · isplitl [Ha3]; · iexact Ha3
      iexact Hc3
    iexact HO
  iintro ⟨Hs3, Hp3, HO⟩
  iapply (wp_end c)
  iapply Hk $$ [Hs7 Hp7] [Hs1 Hp1] [Hs4 Hp4] [Hs2 Hp2] [Hs5 Hp5] [Hs3 Hp3] HO
  · isplitl [Hs7]; · iexact Hs7
    iexact Hp7
  · isplitl [Hs1]; · iexact Hs1
    iexact Hp1
  · isplitl [Hs4]; · iexact Hs4
    iexact Hp4
  · isplitl [Hs2]; · iexact Hs2
    iexact Hp2
  · isplitl [Hs5]; · iexact Hs5
    iexact Hp5
  · isplitl [Hs3]; · iexact Hs3
    iexact Hp3

theorem counts_run (c : Dev nD) (g : CMT (F := F)) :
    iprop(allInv X Cn K ∗ levAts L lv ∗ ready0 c ∗ cw c (Cn c) ∗ mw c g ∗ ∃ W, owes (c : Thread nD τ) (dues (list0 c ++ list1 c)) W)
      ⊢ WP c (cc0__counts_body (F := F) (Memref.whole cc0_stg0_0) a0 (Memref.whole cc0_stg1_0) a1 cc0_scratch0 cc0_scratch1 cc0_scratch2)
          (fun _ => iprop((semVal (cell 0 c) 0 ∗ semVal (cell 1 c) 0 ∗ semVal (cell 2 c) 0 ∗ semVal (cell 3 c) 0 ∗ semVal (cell 4 c) 0 ∗ semVal (cell 5 c) 0
              ∗ semVal (cell 6 c) 0 ∗ semVal (cell 7 c) 0)
            ∗ cw c (Cn c) ∗ mw c (gathered Cn) ∗ ∃ W, owes (c : Thread nD τ) (dues (list1 c)) W)) := by
  rw [cc0__counts_body_eq_skeleton]; unfold cc0__counts_body_skel Prog.lift
  unfold ready0
  iintro ⟨#HI, #Hlev, ⟨⟨⟨#Hb1, Hu1⟩, ⟨#Hb2, Hu2⟩, ⟨#Hb3, Hu3⟩⟩, ⟨Ht1, Ht2, Ht3⟩, ⟨Ht4, Ht5, Ht6⟩, Ht7, ⟨#Hr1, #Hr2, #Hr3, #Hr4, #Hr5, #Hr6, #Hr7⟩,
    ⟨Ha0, Ha1, Ha2, Ha3, Ha4, Ha5, Ha6, Ha7⟩, Hc0, Hc4, Hc5, Hc6⟩, Hx, Hm, HO⟩
  ihave Hx := (c_split c (Cn c)) $$ Hx
  icases Hx with ⟨Hx0, Hx1, Hx2, Hx3⟩
  ihave Hm := (Entails.of_eq (m_eq c g)) $$ Hm
  icases Hm with ⟨Hm0, Hm1, Hm2, Hm3⟩
  iapply (wp_then c)
  iapply (counts1 X Cn K c ((0, peer 3 c, 1) :: (4, peer 1 c, N0) :: (5, peer 2 c, N0) :: (6, peer 3 c, N0) :: list1 c))
  isplitr; · iexact HI
  isplitl [Hu1 Hm1]
  · isplitr; · iexact Hb1
    isplitl [Hu1]; · iexact Hu1
    rw [pay0]
    isplitl [Hm1]; · iexists g; iexact Hm1
    isplitr; · iexact Hr4
    isplitr; · iexact Hr5
    iexact Hr6
  isplitl [Hu2 Hm2]
  · isplitr; · iexact Hb2
    isplitl [Hu2]; · iexact Hu2
    rw [pay0]
    isplitl [Hm2]; · iexists g; iexact Hm2
    isplitr; · iexact Hr4
    isplitr; · iexact Hr5
    iexact Hr6
  isplitl [HO]; · iexact HO
  iintro %v2 %v30 %v31 HO
  iapply (wp_then c)
  iapply (counts2 X Cn K c v2 v30 _ v31 g)
  isplitr; · iexact HI
  isplitr; · iexact Hlev
  isplitl [Hu3 Hm3]
  · isplitr; · iexact Hb3
    isplitl [Hu3]; · iexact Hu3
    rw [pay0]
    isplitl [Hm3]; · iexists g; iexact Hm3
    isplitr; · iexact Hr4
    isplitr; · iexact Hr5
    iexact Hr6
  isplitl [HO]; · iexact HO
  isplitl [Ha0]; · iexact Ha0
  isplitl [Hc0]; · iexact Hc0
  isplitl [Hx0 Hm0 Ht7]
  · isplitr; · iexact Hr7
    isplitl [Hx0]; · iexact Hx0
    isplitl [Hm0]; · iexact Hm0
    iexact Ht7
  isplitl [Hx1 Ht1 Ht4]
  · isplitr; · iexact Hr1
    isplitl [Hx1]; · iexact Hx1
    isplitl [Ht1]; · iexact Ht1
    iexact Ht4
  iintro %v54 %v62 ⟨Hz0, Hy2, Hy3, Hc7, Hc1, HO⟩
  iapply (wp_then c)
  iapply (counts3 X Cn K c)
  isplitr; · iexact HI
  isplitl [Hy2]; · iexact Hy2
  isplitl [Hx2 Ht2 Ht5]
  · isplitr; · iexact Hr2
    isplitl [Hx2]; · iexact Hx2
    isplitl [Ht2]; · iexact Ht2
    iexact Ht5
  isplitl [HO]; · iexact HO
  iintro %v72 %v90 ⟨Hc2, HO⟩
  iapply (wp_then c)
  iapply (counts4 X Cn K c)
  isplitr; · iexact HI
  isplitr; · iexact Hlev
  isplitl [Hy3]; · iexact Hy3
  isplitl [Hx3 Ht3 Ht6]
  · isplitr; · iexact Hr3
    isplitl [Hx3]; · iexact Hx3
    isplitl [Ht3]; · iexact Ht3
    iexact Ht6
  isplitl [HO]; · iexact HO
  isplitl [Ha7 Hc7]; · isplitl [Ha7]; · iexact Ha7
                       iexact Hc7
  isplitl [Ha1 Hc1]; · isplitl [Ha1]; · iexact Ha1
                       iexact Hc1
  isplitl [Ha4 Hc4]; · isplitl [Ha4]; · iexact Ha4
                       iexact Hc4
  isplitl [Ha2 Hc2]; · isplitl [Ha2]; · iexact Ha2
                       iexact Hc2
  isplitl [Ha5 Hc5]; · isplitl [Ha5]; · iexact Ha5
                       iexact Hc5
  isplitl [Ha3]; · iexact Ha3
  iintro ⟨Hz7, Hm0, Hx0⟩ ⟨Hz1, Hx1⟩ ⟨Hz4, Hm3⟩ ⟨Hz2, Hx2⟩ ⟨Hz5, Hm2⟩ ⟨Hz3, Hx3⟩ HO
  simp only [Prog.bind_op, Prog.bind_ret]
  iapply (wait0 X Cn K 6 c (peer 1 c, 0) rfl rfl (by decide) (P := row c (peer 1 c) (gathered Cn)) rfl (by intro S; exact wpE_waitDma2_eq (defs := defs₀ (F := F)) 𝒱₀ (c : Thread nD τ) none Set.univ S)) $$ [Ha6 Hc6 HO]
  · isplitr; · iexact HI
    isplitr; · iexact Hlev
    isplitl [Ha6 Hc6]
    · isplitl [Ha6]; · iexact Ha6
      iexact Hc6
    iexact HO
  iintro ⟨Hz6, Hm1, HO⟩
  iapply (wp_end c)
  isplitl [Hz0 Hz1 Hz2 Hz3 Hz4 Hz5 Hz6 Hz7]
  · isplitl [Hz0]; · iexact Hz0
    isplitl [Hz1]; · iexact Hz1
    isplitl [Hz2]; · iexact Hz2
    isplitl [Hz3]; · iexact Hz3
    isplitl [Hz4]; · iexact Hz4
    isplitl [Hz5]; · iexact Hz5
    isplitl [Hz6]; · iexact Hz6
    iexact Hz7
  isplitl [Hx0 Hx1 Hx2 Hx3]
  · iapply (c_join c (Cn c))
    isplitl [Hx0]; · iexact Hx0
    isplitl [Hx1]; · iexact Hx1
    isplitl [Hx2]; · iexact Hx2
    iexact Hx3
  isplitl [Hm0 Hm1 Hm2 Hm3]
  · iapply (Entails.of_eq (m_eq c (gathered Cn)).symm)
    isplitl [Hm0]; · iexact Hm0
    isplitl [Hm1]; · iexact Hm1
    isplitl [Hm2]; · iexact Hm2
    iexact Hm3
  iexact HO

end Cert.KernelIdeal.Exch

end
-- ==== Proof.Talk0.lean ====
module

public import proofs.«01_k».proof.Proof.C0B
public import proofs.«01_k».proof.Proof.Gen.KernelIdeal.Regions
public import proofs.«01_k».proof.Proof.Gen.KernelIdeal.Points
public import Idealize.ShloMosaic.Lib.Pipeline.ValueKit.Geometry

@[expose] public section

noncomputable section

namespace Cert.KernelIdeal.Exch

open Cert.KernelIdeal Cert.KernelIdeal.Gen Cert.KernelIdeal.Words
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg BodyObligation cellOf)

variable {F : FTy → Type} [FloatOps F]

local notation "𝕄" => MT nD τ sig Unit (Elt F) ℕ UU ℕ

variable (m : (ℓ : Loc nD τ sig) → Buf (Elt F) ℓ)

/-! ## What the two calls find and leave -/

/-- The counts of each device, as the host operations leave them. -/
def cnts (c : Dev nD) : CT (F := F) := V5 m c main_v32
/-- Each device's sorted rows. -/
def rows (c : Dev nD) : XT (F := F) := V5 m c main_v18

/-- What the two calls leave in their results. -/
def outs : Outs (F := F) := fun _ r c =>
  if h : r = main_v33 then h ▸ (gathered (cnts m) : Buf (Elt F) ((c : Thread nD τ).loc main_v33))
  else if h : r = main_v34 then h ▸ (landed (rows m) c : Buf (Elt F) ((c : Thread nD τ).loc main_v34))
  else V5 m c r

theorem outs_counts (j : ℕ) (c : Dev nD) : outs m j main_v33 c = gathered (cnts m) := by
  unfold outs; rw [dif_pos rfl]
theorem outs_rows (j : ℕ) (c : Dev nD) : outs m j main_v34 c = landed (rows m) c := by
  unfold outs; rw [dif_neg (by decide), dif_pos rfl]

abbrev V6' (c : Dev nD) : Valuation τ sig (Elt F) := V6 m (outs m) c
abbrev V7' (c : Dev nD) : Valuation τ sig (Elt F) := V7 m (outs m) c

theorem V6_counts (c : Dev nD) : V6' m c main_v33 = gathered (cnts m) := by
  simp only [V6', V6, Function.update_self, outs_counts]
theorem V6_rows (c : Dev nD) : V6' m c main_v18 = rows m c := V6_of m (outs m) c main_v18 (by decide)
theorem V7_rows (c : Dev nD) : V7' m c main_v34 = landed (rows m) c := by
  simp only [V7', V7, Function.update_self, outs_rows]

/-! ## The proof data of the two calls -/

/-- The invariants of all cells, under some names. -/
def invs : sProp 𝕄 := iprop(∃ K, allInv (rows m) (cnts m) K)

abbrev anyReg (c : Dev nD) : sProp 𝕄 := iprop(∃ r, prngReg c r)

def enter0 (c : Dev nD) : sProp 𝕄 := iprop(invs m ∗ ready0 c ∗ levAts L lv)
def leave0 (c : Dev nD) : sProp 𝕄 :=
  iprop(semVal (cell 0 c) 0 ∗ semVal (cell 1 c) 0 ∗ semVal (cell 2 c) 0 ∗ semVal (cell 3 c) 0 ∗ semVal (cell 4 c) 0 ∗ semVal (cell 5 c) 0
    ∗ semVal (cell 6 c) 0 ∗ semVal (cell 7 c) 0)
def enter1 (c : Dev nD) : sProp 𝕄 := iprop(invs m ∗ ready1 c ∗ levAts L lv)
def leave1 (c : Dev nD) : sProp 𝕄 :=
  iprop(semVal (cell 8 c) 0 ∗ semVal (cell 9 c) 0 ∗ semVal (cell 10 c) 0 ∗ semVal (cell 11 c) 0)

abbrev rest0 (c : Dev nD) : sProp 𝕄 := Pipeline.scopedRest (Ix := Unit) (Name := ℕ) (U := UU) (Lvl := ℕ) (Val := Elt F) spec0 c
abbrev rest1 (c : Dev nD) : sProp 𝕄 := Pipeline.scopedRest (Ix := Unit) (Name := ℕ) (U := UU) (Lvl := ℕ) (Val := Elt F) spec1 c

def dat0 (c : Dev nD) : Dat τ (Elt F) Unit ℕ UU ℕ cfg0 c where
  A w := V5 m c (Proc.devRef .tc (Pipeline.arrRef spec0 w))
  after w _ := match w with
    | ⟨0, _⟩ => cnts m c
    | ⟨1, _⟩ => gathered (cnts m)
  Φ t := if t.val = 0 then iprop(enter0 m c ∗ rest0 c ∗ anyReg c) else iprop(leave0 c ∗ rest0 c ∗ anyReg c)
  q _ := fullShare
  owed t := if t.val = 0 then dues (list0 c ++ list1 c) else dues (list1 c)

def dat1 (c : Dev nD) : Dat τ (Elt F) Unit ℕ UU ℕ cfg1 c where
  A w := V6' m c (Proc.devRef .tc (Pipeline.arrRef spec1 w))
  after w _ := match w with
    | ⟨0, _⟩ => rows m c
    | ⟨1, _⟩ => gathered (cnts m)
    | ⟨2, _⟩ => landed (rows m) c
  Φ t := if t.val = 0 then iprop(enter1 m c ∗ rest1 c ∗ anyReg c) else iprop(leave1 c ∗ rest1 c ∗ anyReg c)
  q _ := fullShare
  owed t := if t.val = 0 then dues (list1 c) else 0

def pdats : (p : Fin 2) → (c : Dev nD) → Dat τ (Elt F) Unit ℕ UU ℕ (Pipeline.pin (pcfgs (F := F)) adm p) c
  | 0 => dat0 m
  | 1 => dat1 m

theorem owesAt_intro {cfg : Cfg sig Λ₀} {c : Dev nD} (dat : Dat τ (Elt F) Unit ℕ UU ℕ cfg c) (t : Fin (cfg.N + 1))
    (O : CellTallies nD τ sig Unit) (h0 : dat.owed t = O) (hr : dat.recorded t = Set.univ) :
    (iprop(∃ W, owes (c : Thread nD τ) O W) : sProp 𝕄) ⊢ (dat.owesAt () t : sProp 𝕄) := by
  unfold Dat.owesAt Pipeline.owesWithin Dat.bound; rw [h0, hr]
  iintro ⟨%W, HO⟩; iexists W; isplitr; · ipureintro; exact fun _ _ => Or.inl trivial
  iexact HO
theorem owesAt_elim {cfg : Cfg sig Λ₀} {c : Dev nD} (dat : Dat τ (Elt F) Unit ℕ UU ℕ cfg c) (t : Fin (cfg.N + 1))
    (O : CellTallies nD τ sig Unit) (h0 : dat.owed t = O) :
    (dat.owesAt () t : sProp 𝕄) ⊢ iprop(∃ W, owes (c : Thread nD τ) O W) := by
  unfold Dat.owesAt Pipeline.owesWithin; rw [h0]
  iintro ⟨%W, -, HO⟩; iexists W; iexact HO

theorem owns_whole_eq (c : Dev nD) (b : Ref sig .tc) (Y : b.ty.Contents (Elt F)) :
    (owns (Ix := Unit) (Name := ℕ) (U := UU) (Lvl := ℕ) (c : Thread nD τ) (Memref.whole b) fullShare Y : sProp 𝕄)
      = iprop(∃ f : Buf (Elt F) ((c : Thread nD τ).loc b), ⌜f = Y⌝ ∗ (((c : Thread nD τ).loc b) ↦{fullShare} f)) := by
  unfold owns; simp only [Memref.view_whole, View.read_whole, View.set_whole]

theorem read0_0 (f : CT (F := F)) : ((cfg0.win 0).blk t0_0).view.read (Elt F) f = f := by
  funext i
  refine congrArg f (funext fun a => Fin.ext ?_)
  exact Pipeline.Window.rect_emb_val_of_index_zero win0_0 t0_0 a ((by decide +kernel : ∀ a, win0_0.index t0_0 a = 0) a) i
theorem read1_0 (f : XT (F := F)) : ((cfg1.win 0).blk t1_0).view.read (Elt F) f = f := by
  funext i
  refine congrArg f (funext fun a => Fin.ext ?_)
  exact Pipeline.Window.rect_emb_val_of_index_zero win1_0 t1_0 a ((by decide +kernel : ∀ a, win1_0.index t1_0 a = 0) a) i
theorem read1_1 (f : CMT (F := F)) : ((cfg1.win 1).blk t1_0).view.read (Elt F) f = f := by
  funext i
  refine congrArg f (funext fun a => Fin.ext ?_)
  exact Pipeline.Window.rect_emb_val_of_index_zero win1_1 t1_0 a ((by decide +kernel : ∀ a, win1_1.index t1_0 a = 0) a) i
theorem fetched0_0 (c : Dev nD) (dat : Dat τ (Elt F) Unit ℕ UU ℕ cfg0 c) (d) : dat.fetched 0 t0_0 d = dat.A 0 := by
  refine Eq.trans ?_ (read0_0 (dat.A 0)); rfl
theorem fetched1_0 (c : Dev nD) (dat : Dat τ (Elt F) Unit ℕ UU ℕ cfg1 c) (d) : dat.fetched 0 t1_0 d = dat.A 0 := by
  refine Eq.trans ?_ (read1_0 (dat.A 0)); rfl
theorem fetched1_1 (c : Dev nD) (dat : Dat τ (Elt F) Unit ℕ UU ℕ cfg1 c) (d) : dat.fetched 1 t1_0 d = dat.A 1 := by
  refine Eq.trans ?_ (read1_1 (dat.A 1)); rfl

theorem before0 (c : Dev nD) (d) : (dat0 m c).before 0 t0_0 d = cnts m c := by
  unfold Dat.before; rw [if_pos (fetch0_0 t0_0), fetched0_0]; unfold cnts dat0; with_reducible rfl
attribute [local irreducible] cnts rows gathered landed

theorem A1_0 (c : Dev nD) : (dat1 m c).A 0 = V6' m c main_v18 := by unfold dat1; with_reducible rfl
theorem A1_1 (c : Dev nD) : (dat1 m c).A 1 = V6' m c main_v33 := by unfold dat1; with_reducible rfl
theorem before1_0 (c : Dev nD) (d) : (dat1 m c).before 0 t1_0 d = rows m c := by
  unfold Dat.before; rw [if_pos (fetch1_0 t1_0), fetched1_0, A1_0]; exact V6_rows m c
theorem before1_1 (c : Dev nD) (d) : (dat1 m c).before 1 t1_0 d = gathered (cnts m) := by
  unfold Dat.before; rw [if_pos (fetch1_1 t1_0), fetched1_1, A1_1]; exact V6_counts m c

theorem found0_0 (c : Dev nD) (d) : (owns (Ix := Unit) (Name := ℕ) (U := UU) (Lvl := ℕ) (c : Thread nD τ) ((cfg0.win 0).stage (cfg0.slots t0_0 0)) fullShare
    ((dat0 m c).before 0 t0_0 d) : sProp 𝕄) = owns (c : Thread nD τ) (Memref.whole cc0_stg0_0) fullShare (cnts m c) := by rw [before0]
theorem found1_0 (c : Dev nD) (d) : (owns (Ix := Unit) (Name := ℕ) (U := UU) (Lvl := ℕ) (c : Thread nD τ) ((cfg1.win 0).stage (cfg1.slots t1_0 0)) fullShare
    ((dat1 m c).before 0 t1_0 d) : sProp 𝕄) = owns (c : Thread nD τ) (Memref.whole cc1_stg0_0) fullShare (rows m c) := by rw [before1_0]
theorem found1_1 (c : Dev nD) (d) : (owns (Ix := Unit) (Name := ℕ) (U := UU) (Lvl := ℕ) (c : Thread nD τ) ((cfg1.win 1).stage (cfg1.slots t1_0 1)) fullShare
    ((dat1 m c).before 1 t1_0 d) : sProp 𝕄) = owns (c : Thread nD τ) (Memref.whole cc1_stg1_0) fullShare (gathered (cnts m)) := by rw [before1_1]

theorem body0 (c : Dev nD) : BodyObligation (dat0 (F := F) m c) defs₀ 𝒱₀ () Set.univ := fun t => by
  obtain rfl := fin_N0 t
  rw [bigSep_W0, bigSep_W0]
  rw [show (dat0 m c).Φ t0_0.castSucc = iprop(enter0 m c ∗ rest0 c ∗ anyReg c) from rfl,
    show (dat0 m c).Φ t0_0.succ = iprop(leave0 c ∗ rest0 c ∗ anyReg c) from rfl]
  dsimp only
  rw [show (dat0 m c).after 0 t0_0 = cnts m c from rfl, show (dat0 m c).after 1 t0_0 = gathered (cnts m) from rfl]
  iintro ⟨⟨He, Hrest, Hreg⟩, HO, ⟨%d0, H0⟩, ⟨%d1, H1⟩⟩
  ihave H0 := (Entails.of_eq (found0_0 m c d0)) $$ H0
  ihave H0 := (Entails.of_eq (owns_whole_eq c cc0_stg0_0 (cnts m c))) $$ H0
  ihave H1 := (Entails.of_eq (owns_whole_eq c cc0_stg1_0 _)) $$ H1
  icases H0 with ⟨%f0, %hf0, H0⟩
  icases H1 with ⟨%f1, %hf1, H1⟩
  unfold enter0 invs
  icases He with ⟨⟨%K, #HI⟩, Hr, #Hlev⟩
  subst hf0
  ihave HO := (owesAt_elim (dat0 m c) _ (dues (list0 c ++ list1 c)) rfl) $$ HO
  iapply (wp_wand_r)
  isplitl [Hr H0 H1 HO]
  · ihave HH := (counts_run (a0 := hstage0_0 0) (a1 := hstage0_1 0) (rows m) (cnts m) K c f1) $$ [Hr H0 H1 HO]
    · isplitr; · iexact HI
      isplitr; · iexact Hlev
      isplitl [Hr]; · iexact Hr
      isplitl [H0]; · iexact H0
      isplitl [H1]; · iexact H1
      iexact HO
    · unfold WP
      iexact HH
  · iintro %a ⟨Hl, H0, H1, HO⟩
    isplitl [Hl Hrest Hreg]
    · isplitl [Hl]; · unfold leave0; iexact Hl
      isplitl [Hrest]; · iexact Hrest
      iexact Hreg
    isplitl [HO]
    · iapply (owesAt_intro (dat0 m c) _ (dues (list1 c)) rfl rfl) $$ HO
    isplitl [H0]
    · iapply (Entails.of_eq (owns_whole_eq c cc0_stg0_0 (cnts m c)).symm) $$ [H0]
      iexists _; isplitr; · ipureintro; rfl
      iexact H0
    · iapply (Entails.of_eq (owns_whole_eq c cc0_stg1_0 (gathered (cnts m))).symm) $$ [H1]
      iexists _; isplitr; · ipureintro; rfl
      iexact H1

theorem body1 (hE : Even (gathered (cnts m))) (c : Dev nD) : BodyObligation (dat1 (F := F) m c) defs₀ 𝒱₀ () Set.univ := fun t => by
  obtain rfl := fin_N1 t
  rw [bigSep_W1, bigSep_W1]
  rw [show (dat1 m c).Φ t1_0.castSucc = iprop(enter1 m c ∗ rest1 c ∗ anyReg c) from rfl,
    show (dat1 m c).Φ t1_0.succ = iprop(leave1 c ∗ rest1 c ∗ anyReg c) from rfl]
  dsimp only
  rw [show (dat1 m c).after 0 t1_0 = rows m c from rfl, show (dat1 m c).after 1 t1_0 = gathered (cnts m) from rfl,
    show (dat1 m c).after 2 t1_0 = landed (rows m) c from rfl]
  iintro ⟨⟨He, Hrest, Hreg⟩, HO, ⟨%d0, H0⟩, ⟨%d1, H1⟩, ⟨%d2, H2⟩⟩
  ihave H0 := (Entails.of_eq (found1_0 m c d0)) $$ H0
  ihave H1 := (Entails.of_eq (found1_1 m c d1)) $$ H1
  ihave H0 := (Entails.of_eq (owns_whole_eq c cc1_stg0_0 (rows m c))) $$ H0
  ihave H1 := (Entails.of_eq (owns_whole_eq c cc1_stg1_0 (gathered (cnts m)))) $$ H1
  ihave H2 := (Entails.of_eq (owns_whole_eq c cc1_stg2_0 _)) $$ H2
  icases H0 with ⟨%f0, %hf0, H0⟩
  icases H1 with ⟨%f1, %hf1, H1⟩
  icases H2 with ⟨%f2, %hf2, H2⟩
  unfold enter1 invs
  icases He with ⟨⟨%K, #HI⟩, Hr, #Hlev⟩
  subst hf0 hf1
  ihave HO := (owesAt_elim (dat1 m c) _ (dues (list1 c)) rfl) $$ HO
  iapply (wp_wand_r)
  isplitl [Hr H0 H1 H2 HO]
  · ihave HH := (a2a_run (a0 := hstage1_0 0) (a1 := hstage1_1 0) (a2 := hstage1_2 0) (rows m) (cnts m) K hE c f2) $$ [Hr H0 H1 H2 HO]
    · isplitr; · iexact HI
      isplitr; · iexact Hlev
      isplitl [Hr]; · iexact Hr
      isplitl [H0]; · iexact H0
      isplitl [H1]; · iexact H1
      isplitl [H2]; · iexact H2
      iexact HO
    · unfold WP
      iexact HH
  · iintro %a ⟨Hl, H0, H1, H2, HO⟩
    isplitl [Hl Hrest Hreg]
    · isplitl [Hl]; · unfold leave1; iexact Hl
      isplitl [Hrest]; · iexact Hrest
      iexact Hreg
    isplitl [HO]
    · iapply (owesAt_intro (dat1 m c) _ (dues []) rfl rfl) $$ HO
    isplitl [H0]
    · iapply (Entails.of_eq (owns_whole_eq c cc1_stg0_0 (rows m c)).symm) $$ [H0]
      iexists _; isplitr; · ipureintro; rfl
      iexact H0
    isplitl [H1]
    · iapply (Entails.of_eq (owns_whole_eq c cc1_stg1_0 (gathered (cnts m))).symm) $$ [H1]
      iexists _; isplitr; · ipureintro; rfl
      iexact H1
    · iapply (Entails.of_eq (owns_whole_eq c cc1_stg2_0 (landed (rows m) c)).symm) $$ [H2]
      iexists _; isplitr; · ipureintro; rfl
      iexact H2

end Cert.KernelIdeal.Exch

end
-- ==== Proof.Values.lean ====
module

public import proofs.«01_k».proof.Proof.Talk0
public import Idealize.ShloMosaic.Lib.StableHlo.Run
public import Idealize.ShloMosaic.Lib.StableHlo.RunRead

@[expose] public section

noncomputable section

/-! What the host's operations leave: one equation per stretch of them, over any contents before it. -/

namespace Cert.KernelIdeal.Exch

open Cert.KernelIdeal Cert.KernelIdeal.Gen
open Idealize.ShloMosaic Idealize.ShloMosaic.TcCoe Idealize.ShloMosaic.StableHlo Idealize.SL.Sem

variable {F : FTy → Type} [FloatOps F]

/-- A number everywhere. -/
abbrev every (w : BitVec 32) : IVec S4096 32 := broadcastInDim S4096 ![] bcast_S_S4096 (constantI S_ 32 w)

/-- The keys the host sorts. -/
def keys (D : IVec S4096 32) : IVec S4096 32 := addi (muli D (every 4096#32)) (iotaInDim S4096 32 0)

/-- The remainder the host takes of a sorted key. -/
def remainder (x : IVec S4096 32) (a : IVec S_ 32) : IVec S4096 32 :=
  let d : IVec S_ 32 := select (cmpi .eq a (constantI S_ 32 0#32)) (constantI S_ 32 1#32) a
  let y : IVec S4096 32 := Host.remsi x (broadcastInDim S4096 ![] bcast_S_S4096 d)
  select (andi (cmpi .ne (cmpi .slt y (every 0#32)) (broadcastInDim S4096 ![] bcast_S_S4096 (cmpi .slt d (constantI S_ 32 0#32))))
    (cmpi .ne y (every 0#32))) (addi y (broadcastInDim S4096 ![] bcast_S_S4096 d)) y

/-- The places the gather reads. -/
def places (x : IVec S4096 32) : IVec S4096x1 32 :=
  broadcastInDim S4096x1 ![0] bcast_S4096_S4096x1_0 (select (cmpi .slt x (every 0#32)) (addi x (every 4096#32)) x)

/-- How often each destination occurs. -/
def tally (D : IVec S4096 32) : IVec S4 32 :=
  Host.reduce IntOp.addi
    (extui 32 (cmpi .eq (broadcastInDim S4096x4 ![0, 1] bcast_S4096x1_S4096x4_0_1 (broadcastInDim S4096x1 ![0] bcast_S4096_S4096x1_0 D))
      (broadcastInDim S4096x4 ![0, 1] bcast_S1x4_S4096x4_0_1 (broadcastInDim S1x4 ![1] bcast_S4_S1x4_1 (iotaInDim S4 32 0)))) natLt_1_32)
    (constantI S_ 32 0#32) reducesTo_S4096x4_S4_d0 h_S_

abbrev zero1 : IVec S1 32 := broadcastInDim S1 ![] bcast_S_S1 (constantI S_ 32 0#32)

/-- The counts laid into the first words of a row. -/
def laid (v : IVec S4 32) : IVec S1x8x128 32 :=
  Host.scatter scatter_S1x8x128_S3_S4_0_01_012_0 (fun _ b => b) (broadcastInDim S1x8x128 ![] bcast_S_S1x8x128 (constantI S_ 32 0#32))
    (concatenate S3 0 [⟨S1, zero1⟩, ⟨S1, zero1⟩, ⟨S1, zero1⟩] concatenates_S1_S1_S1_S3_d0) v

variable (V : Valuation τ sig (Elt F))

theorem after0 (c : Dev nD) : after (hostOps0 c) V (main_v8 : DevRef τ sig) = keys (V (main_arg1 : DevRef τ sig)) := by
  after_results
  rfl

theorem after1 : after hostOps0_1 V (main_v9 : DevRef τ sig) = Host.sort S4096 0 comparator_i32_d0 (V (main_v8 : DevRef τ sig)) := by
  after_results
  rfl

theorem after2 : after hostOps0_2 V (main_c_2 : DevRef τ sig) = constantI S_ 32 4096#32 := by
  after_results

theorem after3 : after hostOps0_3 V (main_v10 : DevRef τ sig) = remainder (V (main_v9 : DevRef τ sig)) (V (main_c_2 : DevRef τ sig)) := by
  after_reads_simp
  simp -implicitDefEqProofs only [StableHlo.TRef.toBuf, StableHlo.TRef.ofBuf, cast_cast, cast_eq]
  rfl

theorem after4_rows : after hostOps0_4 V (main_v18 : DevRef τ sig)
    = shapeCast S4096x8x128 (Host.gather gather_S4096x1024_S4096x1_S4096x1024_1_0_n_n_0_1_11024 (V (main_arg0 : DevRef τ sig))
        (places (V (main_v10 : DevRef τ sig)))) shapeCasts_S4096x1024_S4096x8x128 := by
  after_results
  rfl

theorem after4_counts : after hostOps0_4 V (main_v32 : DevRef τ sig) = laid (tally (V (main_arg1 : DevRef τ sig))) := by
  after_results
  rfl

theorem after8 : after hostOps2 V (main_v35 : DevRef τ sig)
    = shapeCast S4096x1024 (V (main_v34 : DevRef τ sig)) shapeCasts_S4096x8x128_S4096x1024 := by
  after_results
  rfl

end Cert.KernelIdeal.Exch
-- ==== Proof.Order.lean ====
module

public import Idealize.ShloMosaic.Lib.SortFacts
public import Idealize.ShloMosaic.Lib.SortPrefix

@[expose] public section

/-! The order of rows: what a stable sort by a key is, and how the stable sort of four blocks, in each of which every
    destination occurs equally often, is put together from the sorts of the blocks. Plain mathematics, no program. -/

namespace Cert.Rows

open Idealize.ShloMosaic

/-- By key, and among equals by position. -/
def Before {n : ℕ} (key : Fin n → ℕ) (a b : Fin n) : Prop := key a < key b ∨ (key a = key b ∧ a < b)

/-- The same as a test. -/
def beforeB {n : ℕ} (key : Fin n → ℕ) (a b : Fin n) : Bool :=
  decide (key a < key b) || (decide (key a = key b) && decide (a < b))

theorem beforeB_iff {n : ℕ} (key : Fin n → ℕ) (a b : Fin n) : beforeB key a b = true ↔ Before key a b := by
  unfold beforeB Before; simp

theorem before_total {n : ℕ} (key : Fin n → ℕ) : StrictTotalBefore (beforeB key) :=
  StrictTotalBefore.of_key_then_position (fun a b => decide (a < b)) key (fun a => by simp)
    (fun a b c h h' => by simp only [decide_eq_true_eq] at *; omega) (fun a b => by simp only [decide_eq_true_eq]; omega)

/-- A stable sort by the key alone of a list in order of position is the sort by key and position. -/
theorem stableSort_key {n : ℕ} (B : Fin n → Fin n → Bool) (key : Fin n → ℕ) (hB : ∀ a b, B a b = true ↔ key a < key b) (l : List (Fin n))
    (hl : l.Pairwise (· < ·)) : stableSort B l = stableSort (beforeB key) l := by
  induction l with
  | nil => rfl
  | cons a l ih =>
    rw [List.pairwise_cons] at hl
    unfold stableSort
    rw [ih hl.2]
    refine insertBefore_congr B (beforeB key) a _ fun b hb => ?_
    have hab : a < b := hl.1 b ((perm_stableSort _ l).mem_iff.mp hb)
    rw [Bool.eq_iff_iff, hB, beforeB_iff]
    unfold Before
    constructor
    · exact Or.inl
    · rintro (h | ⟨_, h⟩)
      · exact h
      · exact absurd h (not_lt.mpr hab.le)

theorem sortedFrom_key {n : ℕ} (B : Fin n → Fin n → Bool) (key : Fin n → ℕ) (hB : ∀ a b, B a b = true ↔ key a < key b) :
    sortedFrom B = sortedFrom (beforeB key) := by
  funext k
  unfold sortedFrom sortPositions
  rw [List.get_of_eq (stableSort_key B key hB (List.finRange n) (List.pairwise_lt_finRange n))]
  rfl

/-- The sort's positions are in order. -/
theorem sorted_before {n : ℕ} (key : Fin n → ℕ) (i j : Fin n) (hij : i < j) :
    Before key (sortedFrom (beforeB key) i) (sortedFrom (beforeB key) j) := by
  have hT := before_total key
  have h := sortedFrom_noInversion (beforeB key) (beforeB key) hT.asymm (fun _ _ h => h) hT.negTrans i j hij
  have hne : sortedFrom (beforeB key) i ≠ sortedFrom (beforeB key) j := fun e => hij.ne (sortedFrom_injective _ e)
  rcases hT.total _ _ hne with h' | h'
  · exact (beforeB_iff key _ _).mp h'
  · rw [h'] at h; exact absurd h (by decide)

/-- Positions in order are the sort's. -/
theorem sorted_unique {n : ℕ} (key : Fin n → ℕ) (t : Fin n → Fin n) (ht : ∀ i j, i < j → Before key (t i) (t j)) (i : Fin n) :
    sortedFrom (beforeB key) i = t i := by
  have hT := before_total key
  have hinj : Function.Injective t := by
    have hlt : ∀ i j, i < j → t i ≠ t j := fun i j h e => by
      have := ht i j h; rw [e] at this; unfold Before at this
      rcases this with h | ⟨_, h⟩ <;> exact absurd h (lt_irrefl _)
    intro i j e
    rcases lt_trichotomy i j with h | h | h
    · exact absurd e (hlt i j h)
    · exact h
    · exact absurd e.symm (hlt j i h)
  have hsur : Function.Surjective t := Finite.surjective_of_injective hinj
  exact hT.sortedFrom_eq_of_prefix le_rfl t hinj (fun i j h => hT.asymm _ _ ((beforeB_iff key _ _).mpr (ht i j h)))
    (fun i p hp => by obtain ⟨j, hj⟩ := hsur p; exact absurd hj (hp j)) i

/-! ## One block -/

section Block

variable (d : Fin 4096 → ℕ) (hd : ∀ b < 4, (Finset.univ.filter fun j => d j = b).card = 1024)
include hd

theorem card_below (b : ℕ) (hb : b ≤ 4) : (Finset.univ.filter fun j => d j < b).card = 1024 * b := by
  induction b with
  | zero => simp
  | succ b ih =>
    have e : (Finset.univ.filter fun j => d j < b + 1) = (Finset.univ.filter fun j => d j < b) ∪ (Finset.univ.filter fun j => d j = b) := by
      ext j; simp only [Finset.mem_filter, Finset.mem_univ, true_and, Finset.mem_union]; omega
    rw [e, Finset.card_union_of_disjoint, ih (by omega), hd b (by omega)]
    · omega
    · rw [Finset.disjoint_filter]; intro j _ h h'; omega

theorem below_four (j : Fin 4096) : d j < 4 := by
  have h := card_below d hd 4 le_rfl
  have e : (Finset.univ.filter fun j => d j < 4) = Finset.univ := by
    rw [← Finset.card_eq_iff_eq_univ, h]; simp
  have := Finset.mem_univ j
  rw [← e] at this
  exact (Finset.mem_filter.mp this).2

/-- In the sorted block every destination has its thousand and twenty-four places. -/
theorem sorted_value (s : Fin 4096 → Fin 4096) (hs : ∀ i j, i < j → Before d (s i) (s j)) (k : Fin 4096) : d (s k) = k.val / 1024 := by
  have e : s = sortedFrom (beforeB d) := (funext (sorted_unique d s hs)).symm
  have hbij : Function.Bijective s := e ▸ ⟨sortedFrom_injective _, sortedFrom_surjective _⟩
  have mono : ∀ i j, i ≤ j → d (s i) ≤ d (s j) := fun i j h => by
    rcases h.eq_or_lt with rfl | h
    · exact le_rfl
    · rcases hs i j h with h | ⟨h, _⟩
      · exact h.le
      · exact h.le
  have hc : ∀ b ≤ 4, (Finset.univ.filter fun k => d (s k) < b).card = 1024 * b := fun b hb => by
    rw [← card_below d hd b hb]
    exact Finset.card_bijective s hbij fun k => by simp
  have low : ∀ b ≤ 4, d (s k) < b → k.val < 1024 * b := fun b hb h => by
    rw [← hc b hb]
    have : Finset.Iic k ⊆ Finset.univ.filter fun k => d (s k) < b := fun j hj =>
      Finset.mem_filter.mpr ⟨Finset.mem_univ _, lt_of_le_of_lt (mono j k (Finset.mem_Iic.mp hj)) h⟩
    have := Finset.card_le_card this
    rw [Fin.card_Iic] at this
    omega
  have high : ∀ b ≤ 4, ¬ d (s k) < b → 1024 * b ≤ k.val := fun b hb h => by
    rw [← hc b hb]
    have : (Finset.univ.filter fun k => d (s k) < b) ⊆ Finset.Iio k := fun j hj => by
      rw [Finset.mem_Iio]
      by_contra hjk
      exact h (lt_of_le_of_lt (mono k j (not_lt.mp hjk)) (Finset.mem_filter.mp hj).2)
    have := Finset.card_le_card this
    rwa [Fin.card_Iio] at this
  have h4 := below_four d hd (s k)
  have h1 := low (d (s k) + 1) (by omega) (by omega)
  have h2 := high (d (s k)) (by omega) (by omega)
  omega

end Block

/-! ## The whole -/

/-- Row `j` of block `q`. -/
def at4 (q : Fin 4) (j : Fin 4096) : Fin 16384 := ⟨4096 * q.val + j.val, by omega⟩

/-- Where row `i` of the result comes from, the sorts of the blocks given: of destination `i / 4096`, block `(i % 4096) / 1024`. -/
def source (s : Fin 4 → Fin 4096 → Fin 4096) (i : Fin 16384) : Fin 16384 :=
  at4 ⟨i.val % 4096 / 1024, by omega⟩ (s ⟨i.val % 4096 / 1024, by omega⟩ ⟨1024 * (i.val / 4096) + i.val % 1024, by omega⟩)

theorem sorted_whole (D : Fin 16384 → ℕ) (hd : ∀ q : Fin 4, ∀ b < 4, (Finset.univ.filter fun j => D (at4 q j) = b).card = 1024)
    (s : Fin 4 → Fin 4096 → Fin 4096) (hs : ∀ q i j, i < j → Before (fun j => D (at4 q j)) (s q i) (s q j)) (i : Fin 16384) :
    sortedFrom (beforeB D) i = source s i := by
  refine sorted_unique D (source s) (fun i i' h => ?_) i
  have hv : ∀ i : Fin 16384, D (source s i) = i.val / 4096 := fun i => by
    unfold source
    have := sorted_value _ (hd ⟨i.val % 4096 / 1024, by omega⟩) _ (hs ⟨i.val % 4096 / 1024, by omega⟩) ⟨1024 * (i.val / 4096) + i.val % 1024, by omega⟩
    refine this.trans ?_
    show (1024 * (i.val / 4096) + i.val % 1024) / 1024 = i.val / 4096
    omega
  have hlt : i.val < i'.val := h
  unfold Before
  rw [hv, hv]
  by_cases hp : i.val / 4096 = i'.val / 4096
  · refine Or.inr ⟨hp, ?_⟩
    have hb : ∀ (i : Fin 16384) (q : Fin 4), q.val = i.val % 4096 / 1024 →
        source s i = at4 q (s q ⟨1024 * (i.val / 4096) + i.val % 1024, by omega⟩) := fun i q hq => by
      rcases q with ⟨v, hv'⟩
      change v = _ at hq
      subst hq
      rfl
    have hs1 := hb i ⟨i.val % 4096 / 1024, by omega⟩ rfl
    by_cases hq : i.val % 4096 / 1024 = i'.val % 4096 / 1024
    · have hs2 := hb i' ⟨i.val % 4096 / 1024, by omega⟩ hq
      generalize (⟨i.val % 4096 / 1024, by omega⟩ : Fin 4) = q at hs1 hs2
      have key := hs q ⟨1024 * (i.val / 4096) + i.val % 1024, by omega⟩ ⟨1024 * (i'.val / 4096) + i'.val % 1024, by omega⟩
        (show 1024 * (i.val / 4096) + i.val % 1024 < 1024 * (i'.val / 4096) + i'.val % 1024 by omega)
      unfold Before at key
      simp only [← hs1, ← hs2, hv] at key
      rw [hs1, hs2]
      rcases key with hk | ⟨_, hk⟩
      · omega
      · exact Nat.add_lt_add_left hk _
    · have hs2 := hb i' ⟨i'.val % 4096 / 1024, by omega⟩ rfl
      rw [hs1, hs2]
      show 4096 * (i.val % 4096 / 1024) + (s _ _).val < 4096 * (i'.val % 4096 / 1024) + (s _ _).val
      have l1 := (s ⟨i.val % 4096 / 1024, by omega⟩ ⟨1024 * (i.val / 4096) + i.val % 1024, by omega⟩).isLt
      omega
  · left; omega

end Cert.Rows
-- ==== Proof.Counts.lean ====
module

public import proofs.«01_k».proof.Proof.Values
public import proofs.«01_k».proof.Proof.Order
public import proofs.«01_k».proof.Defs
public import proofs.«01_k».proof.Proof.Gen.Pre_uniform_Kernel
public import Idealize.ShloMosaic.Lib.IndicatorCount
public import Idealize.ShloMosaic.Lib.Routing.Ops
public import Idealize.ShloMosaic.Lib.Routing.OpsSet
public import Idealize.ShloMosaic.Lib.Routing.OpsPair

@[expose] public section

noncomputable section

/-! What the precondition says of the destinations, and that the counts the kernel reads are a thousand and twenty-four each. -/

namespace Cert.KernelIdeal.Exch

open Cert.KernelIdeal Cert.KernelIdeal.Gen
open Idealize.ShloMosaic hiding ix1 ix2 ix3 eq_ix1 eq_ix2 eq_ix3
open Idealize.ShloMosaic.TcCoe Idealize.ShloMosaic.StableHlo Idealize.SL.Sem
open Idealize.ShloMosaic.ValueIdx Idealize.ShloMosaic.Routing

variable {F : FTy → Type} [FloatOps F]

theorem reduces4 : (⟨2, ![4096, 4]⟩ : Shape).Reduces [0] ⟨1, ![4]⟩ := by decide

theorem lift4 (b : Fin 4) (k : Fin 4096) : reduces4.lift (ix1 b) k = ix2 k b := by
  funext c
  refine Fin.ext ?_
  match c with
  | ⟨0, _⟩ => rfl
  | ⟨1, _⟩ => rfl

/-- The tally of a destination is the number of rows bound for it. -/
theorem tally_apply (D : IVec S4096 32) (b : Fin 4) :
    tally D (ix1 b) = BitVec.ofNat 32 (Finset.univ.filter fun k : Fin 4096 => D (ix1 k) = BitVec.ofNat 32 b.val).card := by
  unfold tally
  rw [Host.reduce_eq_fold_single IntOp.addi _ _ _ reduces4 _ (ix1 b)]
  refine (congrArg (fun f => Finset.univ.fold IntOp.addi (0#32) f) (funext fun k => ?_)).trans
    ((IndicatorCount.fold_addi_setWidth_eq_card (fun k : Fin 4096 => IntOp.cmpi .eq (D (ix1 k)) (BitVec.ofNat 32 b.val)) Finset.univ).trans ?_)
  · show (IntOp.cmpi .eq _ _ : BitVec 1).setWidth 32 = _
    refine congrArg (fun z : BitVec 1 => z.setWidth 32) (congrArg₂ (IntOp.cmpi .eq) ?_ ?_)
    · exact (congrArg _ (lift4 b k)).trans (bcRows _ _ D k b)
    · exact (congrArg _ (lift4 b k)).trans ((bcCols (n := 4096) (m := 4) _ _ (iotaInDim S4 32 0) k b).trans rfl)
  · refine congrArg (BitVec.ofNat 32) (congrArg Finset.card (Finset.filter_congr fun k _ => ?_))
    rw [WordCmp.cmpi_eq_eq, WordCmp.ofBool_decide_eq_one_iff]

/-- Every destination occurs equally often. -/
def Spread (D : IVec S4096 32) : Prop := tally D = fun _ => 1024#32

theorem spread_of (x : FVec F S4096x1024 .bf16) (D : IVec S4096 32) (h : Cert.Pre_uniform_Kernel.fn x D = fun _ => 1#1) : Spread D := by
  funext j
  have e : IntOp.cmpi .eq (tally D j) 1024#32 = 1#1 := congrFun h j
  rw [WordCmp.cmpi_eq_eq, WordCmp.ofBool_decide_eq_one_iff] at e
  exact e

/-- The destinations as numbers. -/
def num (D : IVec S4096 32) (k : Fin 4096) : ℕ := (D (ix1 k)).toNat

theorem num_card (D : IVec S4096 32) (h : Spread D) (b : ℕ) (hb : b < 4) : (Finset.univ.filter fun k => num D k = b).card = 1024 := by
  have e := congrFun h (ix1 (⟨b, hb⟩ : Fin 4))
  rw [tally_apply] at e
  have hc : (Finset.univ.filter fun k : Fin 4096 => D (ix1 k) = BitVec.ofNat 32 b).card ≤ 4096 := (Finset.card_le_univ _).trans (by simp)
  have e' := congrArg BitVec.toNat e
  change (BitVec.ofNat 32 (Finset.univ.filter fun k : Fin 4096 => D (ix1 k) = BitVec.ofNat 32 b).card).toNat = 1024 at e'
  rw [BitVec.toNat_ofNat, Nat.mod_eq_of_lt (by omega)] at e'
  rw [← e']
  refine congrArg Finset.card (Finset.filter_congr fun k _ => ?_)
  unfold num
  constructor
  · intro q; rw [← q]; simp
  · intro q; rw [q, BitVec.toNat_ofNat, Nat.mod_eq_of_lt (by omega)]

theorem zeros3 : concatenate S3 0 [⟨S1, zero1⟩, ⟨S1, zero1⟩, ⟨S1, zero1⟩] concatenates_S1_S1_S1_S3_d0 = fun _ => 0#32 := by
  funext j
  rw [eq_ix1 j]
  generalize (j 0) = r
  fin_cases r <;> rfl

theorem lands (l : Fin 4) (i : S1x8x128.Idx) (h1 : (i 1).val = 0) (h2 : (i 2).val = l.val) :
    scatter_S1x8x128_S3_S4_0_01_012_0.resultIdx? (ix1 l) (fun _ => 0#32 : IVec S3 32) = some i := by
  rw [resultIdx?_eq_some]
  intro a
  have h0 : (i 0).val = 0 := by have := (i 0).isLt; change _ < 1 at this; omega
  match a with
  | ⟨0, _⟩ =>
    show _ = ((i 0).val : Int)
    rw [h0]; fin_cases l <;> rfl
  | ⟨1, _⟩ =>
    show _ = ((i 1).val : Int)
    rw [h1]; fin_cases l <;> rfl
  | ⟨2, _⟩ =>
    show _ = ((i 2).val : Int)
    rw [h2]; fin_cases l <;> rfl

theorem laid_even (v : IVec S4 32) (hv : v = fun _ => 1024#32) (i : S1x8x128.Idx) (h1 : (i 1).val = 0) (h2 : (i 2).val < 4) : laid v i = 1024#32 := by
  unfold laid
  rw [zeros3]
  exact scatter_set_hit _ _ _ _ i _ (fun k _ => by rw [hv]) (ix1 (⟨(i 2).val, h2⟩ : Fin 4)) (lands _ i h1 rfl)

variable (m : (ℓ : Loc nD τ sig) → Buf (Elt F) ℓ)

/-- The destinations and the rows of one device. -/
abbrev dest (c : Dev nD) : IVec S4096 32 := m ((c.tc : Thread nD τ).loc main_arg1)
abbrev src (c : Dev nD) : FVec F S4096x1024 .bf16 := m ((c.tc : Thread nD τ).loc main_arg0)

theorem V4_arg0 (c : Dev nD) : V4 m c (main_arg0 : DevRef τ sig) = src m c :=
  (V4_of m c main_arg0 (by decide)).trans ((V3_of m c main_arg0 (by decide)).trans ((V2_of m c main_arg0 (by decide)).trans (V1_of m c main_arg0 (by decide))))

theorem V4_arg1 (c : Dev nD) : V4 m c (main_arg1 : DevRef τ sig) = dest m c :=
  (V4_of m c main_arg1 (by decide)).trans ((V3_of m c main_arg1 (by decide)).trans ((V2_of m c main_arg1 (by decide)).trans (V1_of m c main_arg1 (by decide))))

theorem V4_v10 (c : Dev nD) : V4 m c (main_v10 : DevRef τ sig)
    = remainder (Host.sort S4096 0 comparator_i32_d0 (keys (dest m c))) (constantI S_ 32 4096#32) := by
  refine (after3 (V3 m c)).trans ?_
  have e1 : V3 m c (main_v9 : DevRef τ sig) = Host.sort S4096 0 comparator_i32_d0 (keys (dest m c)) :=
    (V3_of m c main_v9 (by decide)).trans ((after1 (V1 m c)).trans (congrArg (Host.sort S4096 0 comparator_i32_d0) (after0 (V0 m c) c)))
  exact congrArg₂ remainder e1 (after2 (V2 m c))

theorem cnts_eq (c : Dev nD) : cnts m c = laid (tally (dest m c)) :=
  (after4_counts (V4 m c)).trans (congrArg (fun D => laid (tally D)) (V4_arg1 m c))

theorem rows_eq (c : Dev nD) : rows m c = shapeCast S4096x8x128 (Host.gather gather_S4096x1024_S4096x1_S4096x1024_1_0_n_n_0_1_11024 (src m c)
    (places (remainder (Host.sort S4096 0 comparator_i32_d0 (keys (dest m c))) (constantI S_ 32 4096#32)))) shapeCasts_S4096x1024_S4096x8x128 := by
  refine (after4_rows (V4 m c)).trans ?_
  exact congrArg₂ (fun x y => shapeCast S4096x8x128 (Host.gather gather_S4096x1024_S4096x1_S4096x1024_1_0_n_n_0_1_11024 x (places y))
    shapeCasts_S4096x1024_S4096x8x128) (V4_arg0 m c) (V4_v10 m c)

/-- The counts the kernel reads are all a thousand and twenty-four. -/
theorem even_of (h : ∀ c, Spread (dest m c)) : Even (gathered (cnts m)) := fun i h1 h2 => by
  exact (congrFun (cnts_eq m (i 0)) _).trans (laid_even _ (h (i 0)) _ h1 h2)

end Cert.KernelIdeal.Exch
-- ==== Proof.Rows.lean ====
module

public import proofs.«01_k».proof.Proof.Counts
public import Idealize.ShloMosaic.Lib.SortFacts
public import Idealize.ShloMosaic.Lib.Routing.Words

@[expose] public section

noncomputable section

/-! The rows the kernel sends, read at an index: row `k` of a device's sorted rows is the row its stable order names. -/

namespace Cert.KernelIdeal.Exch

open Cert.KernelIdeal Cert.KernelIdeal.Gen Cert.Rows
open Idealize.ShloMosaic hiding ix1 ix2 ix3 eq_ix1 eq_ix2 eq_ix3
open Idealize.ShloMosaic.TcCoe Idealize.ShloMosaic.StableHlo Idealize.SL.Sem
open Idealize.ShloMosaic.ValueIdx Idealize.ShloMosaic.Routing

variable {F : FTy → Type} [FloatOps F]

/-- The stable order of the destinations. -/
def sorted (D : IVec S4096 32) : Fin 4096 → Fin 4096 := sortedFrom (beforeB (num D))

theorem ofFin_ix1 {n : ℕ} (k : Fin n) : (Shape.Idx.ofFin k : (⟨1, ![n]⟩ : Shape).Idx) = ix1 k := by
  funext c
  refine Fin.ext ?_
  match c with
  | ⟨0, _⟩ => rfl

section
variable (D : IVec S4096 32) (hD : Spread D)

include hD in
theorem num_lt (k : Fin 4096) : num D k < 4 := below_four (num D) (num_card D hD) k

theorem keys_apply (k : Fin 4096) : keys D (ix1 k) = BitVec.ofNat 32 (num D k * 4096 + k.val) := by
  show D (ix1 k) * 4096#32 + BitVec.ofNat 32 k.val = _
  rw [BitVec.ofNat_add, BitVec.ofNat_mul]
  unfold num
  rw [BitVec.ofNat_toNat, BitVec.setWidth_eq]

include hD in
theorem keys_order : sortedFrom (fun k k' => comparator_i32_d0 (keys D (Shape.Idx.ofFin k)) (keys D (Shape.Idx.ofFin k')) == 1#1) = sorted D := by
  rw [sortedFrom_key _ (fun k => num D k * 4096 + k.val)]
  · funext i
    refine sorted_unique _ (sorted D) (fun a b h => ?_) i
    have hb := sorted_before (num D) a b h
    have h1 := (sorted D a).isLt
    have h2 := (sorted D b).isLt
    unfold Before at hb ⊢
    change num D (sorted D a) < num D (sorted D b) ∨ (num D (sorted D a) = num D (sorted D b) ∧ (sorted D a).val < (sorted D b).val) at hb
    left
    show num D (sorted D a) * 4096 + (sorted D a).val < num D (sorted D b) * 4096 + (sorted D b).val
    omega
  · intro a b
    have ha := num_lt D hD a
    have hb := num_lt D hD b
    rw [ofFin_ix1, ofFin_ix1, keys_apply, keys_apply]
    unfold comparator_i32_d0
    rw [beq_iff_eq]
    show IntOp.cmpi .slt _ _ = _ ↔ _
    rw [WordCmp.cmpi_slt_ofNat (by omega) (by omega), WordCmp.ofBool_decide_eq_one_iff]

include hD in
theorem sort_apply (k : Fin 4096) : Host.sort S4096 0 comparator_i32_d0 (keys D) (ix1 k)
    = BitVec.ofNat 32 (num D (sorted D k) * 4096 + (sorted D k).val) := by
  refine (Host.sort_rank1 comparator_i32_d0 (keys D) (ix1 k)).trans ?_
  rw [keys_order D hD, ofFin_ix1, keys_apply]

theorem remainder_apply (x : IVec S4096 32) (k : Fin 4096) (a : ℕ) (ha : a < 2 ^ 31) (hx : x (ix1 k) = BitVec.ofNat 32 a) :
    remainder x (constantI S_ 32 4096#32) (ix1 k) = BitVec.ofNat 32 (a % 4096) := by
  have hy : IntOp.remsi .host (x (ix1 k)) 4096#32 = BitVec.ofNat 32 (a % 4096) := by
    rw [hx]; exact remsi_word .host ha (by omega) (by omega)
  show Scalar.select (IntOp.andi (IntOp.cmpi .ne (IntOp.cmpi .slt (IntOp.remsi .host (x (ix1 k)) 4096#32) 0#32) (IntOp.cmpi .slt 4096#32 0#32))
    (IntOp.cmpi .ne (IntOp.remsi .host (x (ix1 k)) 4096#32) 0#32)) (IntOp.remsi .host (x (ix1 k)) 4096#32 + 4096#32) (IntOp.remsi .host (x (ix1 k)) 4096#32) = _
  rw [hy]
  have e : IntOp.cmpi .slt (BitVec.ofNat 32 (a % 4096)) 0#32 = 0#1 := by
    rw [show (0#32) = BitVec.ofNat 32 0 from rfl, WordCmp.cmpi_slt_ofNat (by omega) (by omega)]
    simp
  rw [e]
  have e2 : ∀ z : BitVec 1, IntOp.andi (IntOp.cmpi .ne 0#1 (IntOp.cmpi .slt 4096#32 0#32)) z = 0#1 := by decide
  rw [e2]
  rfl

theorem places_apply (x : IVec S4096 32) (k : Fin 4096) (a : ℕ) (ha : a < 2 ^ 31) (hx : x (ix1 k) = BitVec.ofNat 32 a) :
    places x (ix2 k 0) = BitVec.ofNat 32 a := by
  unfold places
  refine (bcCol (n := 4096) _ _ k).trans ?_
  show Scalar.select (IntOp.cmpi .slt (x (ix1 k)) 0#32) (x (ix1 k) + 4096#32) (x (ix1 k)) = _
  rw [hx]
  exact wrap_of_lt _ _ (by rw [BitVec.toNat_ofNat, Nat.mod_eq_of_lt (by omega)]; omega)

include hD in
theorem sent_places (k : Fin 4096) : places (remainder (Host.sort S4096 0 comparator_i32_d0 (keys D)) (constantI S_ 32 4096#32)) (ix2 k 0)
    = BitVec.ofNat 32 (sorted D k).val := by
  have h1 := num_lt D hD (sorted D k)
  have h2 := (sorted D k).isLt
  refine places_apply _ k _ (by omega) ?_
  rw [remainder_apply _ k _ (by omega) (sort_apply D hD k)]
  exact congrArg (BitVec.ofNat 32) (by omega)

end

variable (m : (ℓ : Loc nD τ sig) → Buf (Elt F) ℓ)

theorem rows_apply (c : Dev nD) (h : Spread (dest m c)) (k : Fin 4096) (i1 : Fin 8) (i2 : Fin 128) :
    rows m c (ix3 k i1 i2) = src m c (ix2 (sorted (dest m c) k) (⟨i1.val * 128 + i2.val, by omega⟩ : Fin 1024)) := by
  refine (congrFun (rows_eq m c) _).trans ?_
  refine (shapeCast_apply _ _ (ix3 k i1 i2) (ix2 k (⟨i1.val * 128 + i2.val, by omega⟩ : Fin 1024)) ?_).trans ?_
  · rw [Shape.rowMajor_val_two, Shape.rowMajor_val_three]
    show k.val * 1024 + (i1.val * 128 + i2.val) = (k.val * 8 + i1.val) * 128 + i2.val
    omega
  · exact gather_row _ rfl rfl rfl rfl rfl (src m c) _ k _ (sorted (dest m c) k) (sent_places (dest m c) h k) (by omega)

/-- The device a row of a result came from, and the row it was among that device's sorted rows. -/
abbrev from_ (r : Fin 4096) : Dev nD := (⟨r.val / 1024, by show _ < 4; omega⟩ : Fin 4)
abbrev at_ (c : Dev nD) (r : Fin 4096) : Fin 4096 := ⟨1024 * c.val + r.val % 1024, by have h : c.val < 4 := c.isLt; omega⟩

theorem landed_apply (X : Dev nD → XT (F := F)) (c : Dev nD) (r : Fin 4096) (a : Fin 8) (b : Fin 128) :
    landed X c (ix3 r a b) = X (from_ r) (ix3 (at_ c r) a b) := by
  refine congrArg (X (from_ r)) (funext fun k => Fin.ext ?_)
  match k with
  | ⟨0, _⟩ => rfl
  | ⟨1, _⟩ => rfl
  | ⟨2, _⟩ => rfl

/-- The kernel's result at an index: block `p` of it came from device `p`. -/
theorem result_apply (h : ∀ c, Spread (dest m c)) (c : Dev nD) (r : Fin 4096) (y : Fin 1024) :
    V8 m (outs m) c (main_v35 : DevRef τ sig) (ix2 r y) = src m (from_ r) (ix2 (sorted (dest m (from_ r)) (at_ c r)) y) := by
  refine (congrFun (after8 (V7' m c)) (ix2 r y)).trans ?_
  refine (congrArg (fun X => shapeCast S4096x1024 X shapeCasts_S4096x8x128_S4096x1024 (ix2 r y)) (V7_rows m c)).trans ?_
  refine (shapeCast_apply _ _ (ix2 r y) (ix3 r (⟨y.val / 128, by omega⟩ : Fin 8) (⟨y.val % 128, by omega⟩ : Fin 128)) ?_).trans ?_
  · rw [Shape.rowMajor_val_two, Shape.rowMajor_val_three]
    show (r.val * 8 + y.val / 128) * 128 + y.val % 128 = r.val * 1024 + y.val
    omega
  · refine (landed_apply (rows m) c r _ _).trans ((rows_apply m (from_ r) (h _) (at_ c r) _ _).trans ?_)
    refine congrArg (fun z => src m (from_ r) (ix2 (sorted (dest m (from_ r)) (at_ c r)) z)) (Fin.ext ?_)
    show y.val / 128 * 128 + y.val % 128 = y.val
    omega

end Cert.KernelIdeal.Exch
-- ==== Proof.Ref.lean ====
module

public import proofs.«01_k».proof.Defs
public import proofs.«01_k».proof.Proof.Gen.ReferenceIdeal
public import proofs.«01_k».proof.Proof.Gen.Pre_uniform_ReferenceIdeal
public import Idealize.ShloMosaic.Lib.StableHlo.RunHlo
public import Idealize.ShloMosaic.Lib.Claim

@[expose] public section

noncomputable section

/-! The reference's run: its result from its arguments, and its frames. -/

namespace Cert.ReferenceIdeal.Sorted

open Cert.ReferenceIdeal Cert.ReferenceIdeal.Gen
open Idealize.ShloMosaic Idealize.ShloMosaic.TcCoe Idealize.ShloMosaic.StableHlo Idealize.SL.Sem

variable {F : FTy → Type} [FloatOps F]

/-- A number everywhere. -/
abbrev every (w : BitVec 32) : IVec S16384 32 := broadcastInDim S16384 ![] bcast_S_S16384 (constantI S_ 32 w)

/-- The order of the rows. -/
def order (D : IVec S16384 32) : IVec S16384 32 := (Host.sort2 S16384 0 comparator_i32_i32_d0 D (iotaInDim S16384 32 0)).2

/-- The places the gather reads. -/
def places (x : IVec S16384 32) : IVec S16384x1 32 :=
  broadcastInDim S16384x1 ![0] bcast_S16384_S16384x1_0 (select (cmpi .slt x (every 0#32)) (addi x (every 16384#32)) x)

/-- The reference's result. -/
def result (X : FVec F S16384x1024 .bf16) (D : IVec S16384 32) : FVec F S16384x1024 .bf16 :=
  Host.gather gather_S16384x1024_S16384x1_S16384x1024_1_0_n_n_0_1_11024 X (places (order D))

theorem frame : Cert.quiescent_ReferenceIdeal := by
  intro m g hpre
  hlo_run
  · exact fun _ => ⟨trivial, trivial⟩
  · -- the reference has no semaphore
    funext x
    rcases x with ⟨_, ⟨s⟩ | ⟨s⟩⟩
    · exact Fin.elim0 s
    · exact Fin.elim0 s

theorem frame_uniform : Cert.quiescent_ReferenceIdeal_pre_uniform_ReferenceIdeal := fun m g _ => frame m g trivial

theorem run (m : (ℓ : Loc nD τ sig) → Buf (Elt Ideal) ℓ) (g : Dev nD → PrngReg) :
    θ_run (defs (F := Ideal)) (onTc (τ := τ) (main (F := Ideal))) ⟨m, fun _ => 0, g⟩ (fun r =>
          r.2.mem (((0 : Dev nD).tc : Thread nD τ).loc main_v7) = result (F := Ideal) (m (((0 : Dev nD).tc : Thread nD τ).loc main_arg0)) (m (((0 : Dev nD).tc : Thread nD τ).loc main_arg1))
          ∧ r.2.mem (((0 : Dev nD).tc : Thread nD τ).loc main_arg0) = m (((0 : Dev nD).tc : Thread nD τ).loc main_arg0)
          ∧ r.2.mem (((0 : Dev nD).tc : Thread nD τ).loc main_arg1) = m (((0 : Dev nD).tc : Thread nD τ).loc main_arg1)) := by
  hlo_run
  simp -implicitDefEqProofs only [StableHlo.TRef.toBuf, StableHlo.TRef.ofBuf, cast_cast, cast_eq]
  rfl

end Cert.ReferenceIdeal.Sorted
-- ==== Proof.RefRows.lean ====
module

public import proofs.«01_k».proof.Proof.Ref
public import proofs.«01_k».proof.Proof.Order
public import Idealize.ShloMosaic.Lib.SortFacts
public import Idealize.ShloMosaic.Lib.Routing.Words
public import Idealize.ShloMosaic.Lib.Routing.Ops
public import Idealize.ShloMosaic.Lib.Routing.OpsPair

@[expose] public section

noncomputable section

/-! The reference's result read at an index: row `i` of it is the row the stable order of the whole names. -/

namespace Cert.ReferenceIdeal.Sorted

open Cert.ReferenceIdeal Cert.ReferenceIdeal.Gen Cert.Rows
open Idealize.ShloMosaic
open Idealize.ShloMosaic.TcCoe Idealize.ShloMosaic.StableHlo Idealize.SL.Sem
open Idealize.ShloMosaic.ValueIdx Idealize.ShloMosaic.Routing

variable {F : FTy → Type} [FloatOps F]

/-- The destinations as numbers. -/
def num (D : IVec S16384 32) (k : Fin 16384) : ℕ := (D (ix1 k)).toNat

theorem ofFin_ix1 {n : ℕ} (k : Fin n) : (Shape.Idx.ofFin k : (⟨1, ![n]⟩ : Shape).Idx) = ix1 k := by
  funext c
  refine Fin.ext ?_
  match c with
  | ⟨0, _⟩ => rfl

/-- The second of a pair of arrays sorted together, along their only axis. -/
theorem sort2_snd {n : ℕ} {α β : Type} (cmp : α × β → α × β → BitVec 1) (x : (⟨1, ![n]⟩ : Shape).Idx → α) (y : (⟨1, ![n]⟩ : Shape).Idx → β) (i : Fin n) :
    (Host.sort2 ⟨1, ![n]⟩ 0 cmp x y).2 (ix1 i) = y (ix1 (sortedFrom (fun k k' => cmp (x (ix1 k), y (ix1 k)) (x (ix1 k'), y (ix1 k')) == 1#1) i)) := by
  unfold Host.sort2
  rw [dif_pos (show 0 < (⟨1, ![n]⟩ : Shape).rank from Nat.one_pos)]
  have e : ∀ (j : (⟨1, ![n]⟩ : Shape).Idx) (k : Fin n), j.along (0 : Fin 1) k = ix1 k := fun j k => (Shape.Idx.along_rank1 j k).trans (ofFin_ix1 k)
  refine (congrArg y (e _ _)).trans ?_
  refine congrArg (fun B => y (ix1 (sortedFrom B i))) (funext fun k => funext fun k' => ?_)
  exact congrArg₂ (fun a b => cmp (x a, y a) (x b, y b) == 1#1) (e _ _) (e _ _)

theorem order_apply (D : IVec S16384 32) (hD : ∀ k, num D k < 4) (i : Fin 16384) :
    order D (ix1 i) = BitVec.ofNat 32 (sortedFrom (beforeB (num D)) i).val := by
  unfold order
  refine (sort2_snd comparator_i32_i32_d0 D (iotaInDim S16384 32 0) i).trans ?_
  rw [sortedFrom_key _ (num D)]
  · rfl
  · intro a b
    have ha := hD a
    have hb := hD b
    rw [beq_iff_eq]
    show IntOp.cmpi .slt (D (ix1 a)) (D (ix1 b)) = 1#1 ↔ (D (ix1 a)).toNat < (D (ix1 b)).toNat
    unfold num at ha hb
    rw [WordCmp.cmpi_slt_of_lt (by omega) (by omega), WordCmp.ofBool_decide_eq_one_iff]

theorem places_apply (x : IVec S16384 32) (k : Fin 16384) (a : ℕ) (ha : a < 2 ^ 31) (hx : x (ix1 k) = BitVec.ofNat 32 a) :
    places x (ix2 k 0) = BitVec.ofNat 32 a := by
  unfold places
  refine (bcCol (n := 16384) _ _ k).trans ?_
  show Scalar.select (IntOp.cmpi .slt (x (ix1 k)) 0#32) (x (ix1 k) + 16384#32) (x (ix1 k)) = _
  rw [hx]
  exact wrap_of_lt _ _ (by rw [BitVec.toNat_ofNat, Nat.mod_eq_of_lt (by omega)]; omega)

theorem result_apply (X : FVec F S16384x1024 .bf16) (D : IVec S16384 32) (hD : ∀ k, num D k < 4) (i : Fin 16384) (y : Fin 1024) :
    result X D (ix2 i y) = X (ix2 (sortedFrom (beforeB (num D)) i) y) := by
  have h2 := (sortedFrom (beforeB (num D)) i).isLt
  exact gather_row _ rfl rfl rfl rfl rfl X _ i y _ (places_apply (order D) i _ (by omega) (order_apply D hD i)) (by omega)

end Cert.ReferenceIdeal.Sorted
-- ==== Proof.Talk1.lean ====
module

public import proofs.«01_k».proof.Proof.Talk0
public import Idealize.ShloMosaic.Lib.Pipeline.RegionTalk

@[expose] public section

noncomputable section

namespace Cert.KernelIdeal.Exch

open Cert.KernelIdeal Cert.KernelIdeal.Gen Cert.KernelIdeal.Words
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg BodyObligation cellOf)

variable {F : FTy → Type} [FloatOps F]

local notation "𝕄" => MT nD τ sig Unit (Elt F) ℕ UU ℕ

variable (m : (ℓ : Loc nD τ sig) → Buf (Elt F) ℓ)

attribute [local irreducible] cnts rows gathered landed

/-! ## What a device carries to the two calls -/

/-- For the counts call: as `ready0`, with the call's own semaphores not opened yet. -/
def start0 (c : Dev nD) : sProp 𝕄 :=
  iprop((bars 0 c (peer 1 c) ∗ bars 0 c (peer 2 c) ∗ bars 0 c (peer 3 c))
    ∗ (dutyTok ER (cell 1 c) 0 (peer 1 c, 0) ∗ dutyTok ER (cell 2 c) 0 (peer 2 c, 0) ∗ dutyTok ER (cell 3 c) 0 (peer 3 c, 0))
    ∗ (dutyTok ER (cell 4 (peer 1 c)) 0 (c, 0) ∗ dutyTok ER (cell 5 (peer 2 c)) 0 (c, 0) ∗ dutyTok ER (cell 6 (peer 3 c)) 0 (c, 0))
    ∗ dutyTok ER (cell 7 c) 0 (c, 0)
    ∗ (openTok ER (cell 1 c) ∗ openTok ER (cell 2 c) ∗ openTok ER (cell 3 c) ∗ openTok ER (cell 4 c) ∗ openTok ER (cell 5 c)
      ∗ openTok ER (cell 6 c) ∗ openTok ER (cell 7 c))
    ∗ atPos ER (cell 0 c) 0 ∅ 0
    ∗ cred (tallyAt (cell 0 c) () 3) ∗ cred (tallyAt (cell 4 c) () N0) ∗ cred (tallyAt (cell 5 c) () N0) ∗ cred (tallyAt (cell 6 c) () N0))

/-- For the exchange call: as `ready1`, likewise. -/
def start1 (c : Dev nD) : sProp 𝕄 :=
  iprop((bars 8 c (peer 1 c) ∗ bars 8 c (peer 2 c) ∗ bars 8 c (peer 3 c)) ∗ (sends c (peer 1 c) ∗ sends c (peer 2 c) ∗ sends c (peer 3 c))
    ∗ (bigSep Finset.univ fun j => dutyTok ER (cell 11 c) 0 (c, j)) ∗ (openTok ER (cell 9 c) ∗ openTok ER (cell 10 c) ∗ openTok ER (cell 11 c))
    ∗ atPos ER (cell 8 c) 0 ∅ 0
    ∗ cred (tallyAt (cell 8 c) () 3) ∗ cred (tallyAt (cell 10 c) () (96 * N1)))

def Tk0 (c : Dev nD) : sProp 𝕄 := iprop(invs m ∗ start0 c)
def Tk1 (c : Dev nD) : sProp 𝕄 := iprop(invs m ∗ start1 c)

/-! ## Opening the calls' own semaphores -/

/-- The counts call's own semaphores: its sends, its receives, its local copy. -/
abbrev osem0 : Fin 7 → SemLoc sig := fun i => sem12 ⟨i.val + 1, by omega⟩
/-- The exchange call's own: the sends, the receives, the local copies. -/
abbrev osem1 : Fin 3 → SemLoc sig := fun i => sem12 ⟨i.val + 9, by omega⟩

theorem own0 (c : Dev nD) : (Pipeline.ownSems0 (Ix := Unit) (Name := ℕ) (U := UU) (Lvl := ℕ) (Val := Elt F) (τ := τ) osem0 c : sProp 𝕄)
    = iprop(semVal (cell 1 c) 0 ∗ semVal (cell 2 c) 0 ∗ semVal (cell 3 c) 0 ∗ semVal (cell 4 c) 0 ∗ semVal (cell 5 c) 0
      ∗ semVal (cell 6 c) 0 ∗ semVal (cell 7 c) 0) :=
  Pipeline.ownSems0_eq_of_list c osem0 [0, 1, 2, 3, 4, 5, 6] (by decide) (by decide)
theorem own1 (c : Dev nD) : (Pipeline.ownSems0 (Ix := Unit) (Name := ℕ) (U := UU) (Lvl := ℕ) (Val := Elt F) (τ := τ) osem1 c : sProp 𝕄)
    = iprop(semVal (cell 9 c) 0 ∗ semVal (cell 10 c) 0 ∗ semVal (cell 11 c) 0) :=
  Pipeline.ownSems0_eq_of_list c osem1 [0, 1, 2] (by decide) (by decide)

theorem openCell (X : Dev nD → XT (F := F)) (Cn : Dev nD → CT (F := F)) (K : GSem nD τ sig → ℕ) (k : Fin 12) (c : Dev nD) :
    iprop(allInv X Cn K ∗ openTok ER (cell k c) ∗ semVal (cell k c) 0)
      ⊢ (|={Set.univ}=> (atPos ER (cell k c) 0 ∅ 0 ∗ reached ER (cell k c) 0) : sProp 𝕄) :=
  (sep_mono_left (inv_of X Cn K k c)).trans (Rounds.cell_open ER (Rd X Cn) (Set.mem_univ _))

theorem hopen0 (c : Dev nD) : iprop(Tk0 m c ∗ Pipeline.ownSems0 osem0 c ∗ levAts L lv) ⊢ (|={Set.univ}=> enter0 m c : sProp 𝕄) := by
  rw [own0]
  unfold Tk0 enter0 invs start0 ready0
  iintro ⟨⟨⟨%K, #HI⟩, Hb, Ht, Ht', Ht7, ⟨Ho1, Ho2, Ho3, Ho4, Ho5, Ho6, Ho7⟩, Ha0, Hc⟩, ⟨Hs1, Hs2, Hs3, Hs4, Hs5, Hs6, Hs7⟩, #Hlev⟩
  imod (openCell (rows m) (cnts m) K 1 c) $$ [Ho1 Hs1] with ⟨Ha1, #Hr1⟩
  · isplitr; · iexact HI
    isplitl [Ho1] <;> iassumption
  imod (openCell (rows m) (cnts m) K 2 c) $$ [Ho2 Hs2] with ⟨Ha2, #Hr2⟩
  · isplitr; · iexact HI
    isplitl [Ho2] <;> iassumption
  imod (openCell (rows m) (cnts m) K 3 c) $$ [Ho3 Hs3] with ⟨Ha3, #Hr3⟩
  · isplitr; · iexact HI
    isplitl [Ho3] <;> iassumption
  imod (openCell (rows m) (cnts m) K 4 c) $$ [Ho4 Hs4] with ⟨Ha4, #Hr4⟩
  · isplitr; · iexact HI
    isplitl [Ho4] <;> iassumption
  imod (openCell (rows m) (cnts m) K 5 c) $$ [Ho5 Hs5] with ⟨Ha5, #Hr5⟩
  · isplitr; · iexact HI
    isplitl [Ho5] <;> iassumption
  imod (openCell (rows m) (cnts m) K 6 c) $$ [Ho6 Hs6] with ⟨Ha6, #Hr6⟩
  · isplitr; · iexact HI
    isplitl [Ho6] <;> iassumption
  imod (openCell (rows m) (cnts m) K 7 c) $$ [Ho7 Hs7] with ⟨Ha7, #Hr7⟩
  · isplitr; · iexact HI
    isplitl [Ho7] <;> iassumption
  imodintro
  isplitr; · iexists K; iexact HI
  isplitl [Hb Ht Ht' Ht7 Hc Ha0 Ha1 Ha2 Ha3 Ha4 Ha5 Ha6 Ha7]
  · isplitl [Hb]; · iexact Hb
    isplitl [Ht]; · iexact Ht
    isplitl [Ht']; · iexact Ht'
    isplitl [Ht7]; · iexact Ht7
    isplitr
    · isplitr; · iexact Hr1
      isplitr; · iexact Hr2
      isplitr; · iexact Hr3
      isplitr; · iexact Hr4
      isplitr; · iexact Hr5
      isplitr; · iexact Hr6
      iexact Hr7
    isplitl [Ha0 Ha1 Ha2 Ha3 Ha4 Ha5 Ha6 Ha7]
    · isplitl [Ha0]; · iexact Ha0
      isplitl [Ha1]; · iexact Ha1
      isplitl [Ha2]; · iexact Ha2
      isplitl [Ha3]; · iexact Ha3
      isplitl [Ha4]; · iexact Ha4
      isplitl [Ha5]; · iexact Ha5
      isplitl [Ha6]; · iexact Ha6
      iexact Ha7
    iexact Hc
  iexact Hlev

theorem hopen1 (c : Dev nD) : iprop(Tk1 m c ∗ Pipeline.ownSems0 osem1 c ∗ levAts L lv) ⊢ (|={Set.univ}=> enter1 m c : sProp 𝕄) := by
  rw [own1]
  unfold Tk1 enter1 invs start1 ready1
  iintro ⟨⟨⟨%K, #HI⟩, Hb, Ht, Ht', ⟨Ho1, Ho2, Ho3⟩, Ha0, Hc⟩, ⟨Hs1, Hs2, Hs3⟩, #Hlev⟩
  imod (openCell (rows m) (cnts m) K 9 c) $$ [Ho1 Hs1] with ⟨Ha1, #Hr1⟩
  · isplitr; · iexact HI
    isplitl [Ho1] <;> iassumption
  imod (openCell (rows m) (cnts m) K 10 c) $$ [Ho2 Hs2] with ⟨Ha2, #Hr2⟩
  · isplitr; · iexact HI
    isplitl [Ho2] <;> iassumption
  imod (openCell (rows m) (cnts m) K 11 c) $$ [Ho3 Hs3] with ⟨Ha3, #Hr3⟩
  · isplitr; · iexact HI
    isplitl [Ho3] <;> iassumption
  imodintro
  isplitr; · iexists K; iexact HI
  isplitl [Hb Ht Ht' Hc Ha0 Ha1 Ha2 Ha3]
  · isplitl [Hb]; · iexact Hb
    isplitl [Ht]; · iexact Ht
    isplitl [Ht']; · iexact Ht'
    isplitr
    · isplitr; · iexact Hr1
      isplitr; · iexact Hr2
      iexact Hr3
    isplitl [Ha0 Ha1 Ha2 Ha3]
    · isplitl [Ha0]; · iexact Ha0
      isplitl [Ha1]; · iexact Ha1
      isplitl [Ha2]; · iexact Ha2
      iexact Ha3
    iexact Hc
  iexact Hlev

/-! ## The body's invariant at the ends -/

theorem held_empty (c : Dev nD) (W : Valuation τ sig (Elt F)) : (StableHlo.held (c.tc : Thread nD τ) ∅ W : sProp 𝕄) = BI.emp := by
  unfold StableHlo.held; exact BI.bigSep_empty

theorem hin0 (c : Dev nD) : iprop(rest0 c ∗ (∃ r, prngReg c r) ∗ StableHlo.held (c.tc : Thread nD τ) ∅ (V5 m c) ∗ enter0 m c)
    ⊢ (dat0 m c).Φ 0 := by
  rw [show (dat0 m c).Φ 0 = iprop(enter0 m c ∗ rest0 c ∗ anyReg c) from rfl, held_empty]
  iintro ⟨Hs, Hp, -, HX⟩
  isplitl [HX]; · iexact HX
  isplitl [Hs]; · iexact Hs
  iexact Hp
theorem hin1 (c : Dev nD) : iprop(rest1 c ∗ (∃ r, prngReg c r) ∗ StableHlo.held (c.tc : Thread nD τ) ∅ (V6' m c) ∗ enter1 m c)
    ⊢ (dat1 m c).Φ 0 := by
  rw [show (dat1 m c).Φ 0 = iprop(enter1 m c ∗ rest1 c ∗ anyReg c) from rfl, held_empty]
  iintro ⟨Hs, Hp, -, HX⟩
  isplitl [HX]; · iexact HX
  isplitl [Hs]; · iexact Hs
  iexact Hp
theorem hout0 (c : Dev nD) : (dat0 m c).Φ (Fin.last cfg0.N)
    ⊢ iprop(rest0 c ∗ (∃ r, prngReg c r) ∗ StableHlo.held (c.tc : Thread nD τ) ∅ (V6' m c) ∗ Pipeline.ownSems0 osem0 c ∗ semVal (cell 0 c) 0) := by
  rw [show (dat0 m c).Φ (Fin.last cfg0.N) = iprop(leave0 c ∗ rest0 c ∗ anyReg c) from rfl, held_empty, own0]
  unfold leave0
  iintro ⟨⟨H0, Hl⟩, Hs, Hp⟩
  isplitl [Hs]; · iexact Hs
  isplitl [Hp]; · iexact Hp
  isplitr; · iempintro
  isplitl [Hl]; · iexact Hl
  iexact H0
theorem hout1 (c : Dev nD) : (dat1 m c).Φ (Fin.last cfg1.N)
    ⊢ iprop(rest1 c ∗ (∃ r, prngReg c r) ∗ StableHlo.held (c.tc : Thread nD τ) ∅ (V7' m c) ∗ Pipeline.ownSems0 osem1 c ∗ semVal (cell 8 c) 0) := by
  rw [show (dat1 m c).Φ (Fin.last cfg1.N) = iprop(leave1 c ∗ rest1 c ∗ anyReg c) from rfl, held_empty, own1]
  unfold leave1
  iintro ⟨⟨H0, Hl⟩, Hs, Hp⟩
  isplitl [Hs]; · iexact Hs
  isplitl [Hp]; · iexact Hp
  isplitr; · iempintro
  isplitl [Hl]; · iexact Hl
  iexact H0

/-! ## The arrays at the ends -/

theorem A0_0 (c : Dev nD) : (dat0 m c).A 0 = V5 m c main_v32 := by unfold dat0; with_reducible rfl
theorem end0_0 (c : Dev nD) : (dat0 m c).arrAt 0 cfg0.N = V6' m c main_v32 := by
  rw [(dat0 m c).arrAt_in 0 rfl, A0_0]; exact (V6_of m (outs m) c main_v32 (by decide)).symm
theorem end0_1 (c : Dev nD) : (dat0 m c).arrAt 1 cfg0.N = V6' m c main_v33 :=
  ((dat0 m c).arrAt_eq_of_after_last 1 t0_0 (by decide +kernel) (gathered (cnts m)) (fun j => rfl)).trans (V6_counts m c).symm
theorem end1_0 (c : Dev nD) : (dat1 m c).arrAt 0 cfg1.N = V7' m c main_v18 := by
  rw [(dat1 m c).arrAt_in 0 rfl, A1_0]; exact (V7_of m (outs m) c main_v18 (by decide)).symm
theorem end1_1 (c : Dev nD) : (dat1 m c).arrAt 1 cfg1.N = V7' m c main_v33 := by
  rw [(dat1 m c).arrAt_in 1 rfl, A1_1]; exact (V7_of m (outs m) c main_v33 (by decide)).symm
theorem end1_2 (c : Dev nD) : (dat1 m c).arrAt 2 cfg1.N = V7' m c main_v34 :=
  ((dat1 m c).arrAt_eq_of_after_last 2 t1_0 (by decide +kernel) (landed (rows m) c) (fun j => rfl)).trans (V7_rows m c).symm

/-! ## The levels -/

theorem lists_pos (c : Dev nD) : (∀ x ∈ list0 c, 0 < lvl x.1) ∧ ∀ x ∈ list1 c, 0 < lvl x.1 := by
  constructor <;> intro x hx
  · exact (by decide : ∀ k ∈ ([0, 0, 0, 4, 5, 6] : List (Fin 12)), 0 < lvl k) _ (List.mem_map_of_mem (f := Prod.fst) hx)
  · exact (by decide : ∀ k ∈ ([8, 8, 8, 10, 10, 10] : List (Fin 12)), 0 < lvl k) _ (List.mem_map_of_mem (f := Prod.fst) hx)

theorem cut_dues (l : List (Fin 12 × Dev nD × ℕ)) (hl : ∀ x ∈ l, 0 < lvl x.1) (g : GSem nD τ sig) (i : Unit) (h : 0 < dues l g i) :
    i ∈ L g ∧ 0 < lv g i := by
  obtain ⟨x, hx, rfl⟩ := dues_pos h
  exact ⟨by rw [L_tc]; exact Finset.mem_singleton_self _, by rw [lv_cell]; exact hl x hx⟩

theorem cut0 (c : Dev nD) (t : Fin (cfg0.N + 1)) (g : GSem nD τ sig) (i : Unit) (h : 0 < (dat0 m c).owed t g i) : i ∈ L g ∧ 0 < lv g i := by
  rw [show (dat0 m c).owed t = if t.val = 0 then dues (list0 c ++ list1 c) else dues (list1 c) from rfl] at h
  split at h
  · exact cut_dues _ (fun x hx => (List.mem_append.mp hx).elim ((lists_pos c).1 x) ((lists_pos c).2 x)) g i h
  · exact cut_dues _ (lists_pos c).2 g i h
theorem cut1 (c : Dev nD) (t : Fin (cfg1.N + 1)) (g : GSem nD τ sig) (i : Unit) (h : 0 < (dat1 m c).owed t g i) : i ∈ L g ∧ 0 < lv g i := by
  rw [show (dat1 m c).owed t = if t.val = 0 then dues (list1 c) else 0 from rfl] at h
  split at h
  · exact cut_dues _ (lists_pos c).2 g i h
  · exact absurd h (Nat.lt_irrefl 0)

/-! ## The two calls as segments -/

local notation "ℝ𝕊" => Pipeline.RegionSeg (pcfgs (F := F)) adm (pdats m) () defs₀ 𝒱₀ L lv

theorem kit0 : Pipeline.PLaunchFacts (nD := nD) (τ := τ) (pcfgs (F := F)) 0 where
  cellOf_inj a := by rw [Subsingleton.elim a adm]; exact cellOf_inj
  win := winFacts0
  pre := Pipeline.PreFacts.none _
  block_pos := block_pos0
  arr_whole := arr_whole0
  stage_whole := stage_whole0
theorem kit1 : Pipeline.PLaunchFacts (nD := nD) (τ := τ) (pcfgs (F := F)) 1 where
  cellOf_inj a := by rw [Subsingleton.elim a adm]; exact cellOf_inj
  win := winFacts1
  pre := Pipeline.PreFacts.none _
  block_pos := block_pos1
  arr_whole := arr_whole1
  stage_whole := stage_whole1

/-- The buffers that are not staged by a call. -/
abbrev Sr0 : Finset (DevRef τ sig) := Pipeline.ucRefs τ sig \ Pipeline.arrRefs spec0
abbrev Sr1 : Finset (DevRef τ sig) := Pipeline.ucRefs τ sig \ Pipeline.arrRefs spec1

theorem not_arr0 (b : DevRef τ sig) (hb : b ∈ Sr0 \ ∅) : b ≠ Proc.devRef .tc main_v33 := by
  rintro rfl; revert hb; decide
theorem not_arr1 (b : DevRef τ sig) (hb : b ∈ Sr1 \ ∅) : b ≠ Proc.devRef .tc main_v34 := by
  rintro rfl; revert hb; decide

theorem hW0 (c : Dev nD) (w : Fin 2) : (dat0 m c).arrAt w 0 = V5 m c (Proc.devRef .tc (Pipeline.arrRef spec0 w)) := rfl
theorem hW0' (c : Dev nD) (w : Fin 2) : (dat0 m c).arrAt w cfg0.N = V6' m c (Proc.devRef .tc (Pipeline.arrRef spec0 w)) :=
  match w with | 0 => end0_0 m c | 1 => end0_1 m c
theorem hW1 (c : Dev nD) (w : Fin 3) : (dat1 m c).arrAt w 0 = V6' m c (Proc.devRef .tc (Pipeline.arrRef spec1 w)) := rfl
theorem hW1' (c : Dev nD) (w : Fin 3) : (dat1 m c).arrAt w cfg1.N = V7' m c (Proc.devRef .tc (Pipeline.arrRef spec1 w)) :=
  match w with | 0 => end1_0 m c | 1 => end1_1 m c | 2 => end1_2 m c

set_option backward.isDefEq.respectTransparency.types false in
def reg0 : ℝ𝕊 0 :=
  Pipeline.RegionSeg.ofTalk (pcfgs (F := F)) adm (pdats m) () defs₀ 𝒱₀ L lv 0 osem0 (by decide : Pipeline.OwnSemFacts spec0 osem0)
    ∅ Sr0 (Finset.empty_subset _) kit0 rfl (fun c => (body0 m c).loose)
    (fun c => dues (list1 c)) (fun c => dues (list0 c)) (fun c => dues_append (list0 c) (list1 c)) (fun _ => rfl) (fun _ => rfl)
    (fun _ w => match w with | 0 => rfl | 1 => rfl)
    (V5 m) (V6' m) (fun c b hb => Function.update_of_ne (not_arr0 b hb) _ _)
    (Tk0 m) (fun c => semVal (cell 0 c) 0) (enter0 m) (fun c => semVal (cell 0 c) 0) (hopen0 m) (hin0 m) (hout0 m)
    (fun c => by iintro H; imodintro; iexact H)
    (fun _ => 0)
    ⟨fun c w s => by rw [L_tc]; exact Finset.mem_singleton_self _,
      fun c w s => le_of_eq ((by decide : ∀ (w : Fin 2) (s : Fin (spec0 w).nbuf), lv (((0 : Dev nD) : Thread nD τ), .dma ((spec0 w).sem s)) () = 0) w s),
      fun c t g i h => cut0 m c t g i h⟩
    (fun c => Tk1 m c)
    (fun c w => hW0 m c w) (fun c w => hW0' m c w)

set_option backward.isDefEq.respectTransparency.types false in
def reg1 (hE : Even (gathered (cnts m))) : ℝ𝕊 1 :=
  Pipeline.RegionSeg.ofTalk (pcfgs (F := F)) adm (pdats m) () defs₀ 𝒱₀ L lv 1 osem1 (by decide : Pipeline.OwnSemFacts spec1 osem1)
    ∅ Sr1 (Finset.empty_subset _) kit1 rfl (fun c => (body1 m hE c).loose)
    (fun _ => 0) (fun c => dues (list1 c)) (fun c => (zero_add _).symm) (fun _ => rfl) (fun _ => rfl)
    (fun _ w => match w with | 0 => rfl | 1 => rfl | 2 => rfl)
    (V6' m) (V7' m) (fun c b hb => Function.update_of_ne (not_arr1 b hb) _ _)
    (Tk1 m) (fun c => semVal (cell 8 c) 0) (enter1 m) (fun c => semVal (cell 8 c) 0) (hopen1 m) (hin1 m) (hout1 m)
    (fun c => by iintro H; imodintro; iexact H)
    (fun _ => 0)
    ⟨fun c w s => by rw [L_tc]; exact Finset.mem_singleton_self _,
      fun c w s => le_of_eq ((by decide : ∀ (w : Fin 3) (s : Fin (spec1 w).nbuf), lv (((0 : Dev nD) : Thread nD τ), .dma ((spec1 w).sem s)) () = 0) w s),
      fun c t g i h => cut1 m c t g i h⟩
    (fun c => semVal (cell 0 c) 0)
    (fun c w => hW1 m c w) (fun c w => hW1' m c w)

end Cert.KernelIdeal.Exch

end
-- ==== Proof.Deal.lean ====
module

public import proofs.«01_k».proof.Proof.Talk1
public import Idealize.ShloMosaic.Harness.Basic

@[expose] public section

noncomputable section

namespace Cert.KernelIdeal.Exch

open Cert.KernelIdeal Cert.KernelIdeal.Gen Cert.KernelIdeal.Words
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg BodyObligation cellOf)
open Idealize.ShloMosaic.Smoke (bigSep_pair bigSep_unpair)

variable {F : FTy → Type} [FloatOps F]

local notation "𝕄" => MT nD τ sig Unit (Elt F) ℕ UU ℕ

variable (m : (ℓ : Loc nD τ sig) → Buf (Elt F) ℓ) (ρ : Dev nD → PrngReg)

attribute [local irreducible] cnts rows gathered landed

/-! ## The cells at launch: the two barriers with their counters, the rest dormant -/

abbrev bkind : Fin 2 → Fin 12 := ![0, 8]
abbrev skind : Fin 10 → Fin 12 := ![1, 2, 3, 4, 5, 6, 7, 9, 10, 11]

def barEmb : Dev nD × Fin 2 ↪ GSem nD τ sig :=
  ⟨fun x => cell (bkind x.2) x.1, fun x y h => Prod.ext (cell_inj h).2 ((by decide : Function.Injective bkind) (cell_inj h).1)⟩
def sdEmb : Dev nD × Fin 10 ↪ GSem nD τ sig :=
  ⟨fun x => cell (skind x.2) x.1, fun x y h => Prod.ext (cell_inj h).2 ((by decide : Function.Injective skind) (cell_inj h).1)⟩

abbrev barCells : Finset (GSem nD τ sig) := Finset.univ.map barEmb
abbrev sdCells : Finset (GSem nD τ sig) := Finset.univ.map sdEmb

theorem cells_disjoint : Disjoint barCells sdCells := by
  rw [Finset.disjoint_left]
  intro g h h'
  obtain ⟨x, -, rfl⟩ := Finset.mem_map.mp h
  obtain ⟨y, -, e⟩ := Finset.mem_map.mp h'
  exact (by decide : ∀ i j, skind j ≠ bkind i) x.2 y.2 (cell_inj e).1

theorem cell_mem (k : Fin 12) (c : Dev nD) : cell k c ∈ (barCells ∪ sdCells : Finset (GSem nD τ sig)) := by
  rcases (by decide : ∀ k : Fin 12, (∃ i, bkind i = k) ∨ ∃ j, skind j = k) k with ⟨i, rfl⟩ | ⟨j, rfl⟩
  · exact Finset.mem_union_left _ (Finset.mem_map_of_mem barEmb (Finset.mem_univ (c, i)))
  · exact Finset.mem_union_right _ (Finset.mem_map_of_mem sdEmb (Finset.mem_univ (c, j)))

/-- Every duty of every cell. -/
abbrev dutySet : Finset (Σ _ : Fin 12 × Dev nD, D) := Finset.univ.sigma fun a => dut a.1 a.2
def dutyEmb : (Σ _ : Fin 12 × Dev nD, D) ↪ GSem nD τ sig × ℕ × D :=
  ⟨fun x => (cell x.1.1 x.1.2, 0, x.2), fun x y h => by
    obtain ⟨⟨k, c⟩, d⟩ := x; obtain ⟨⟨k', c'⟩, d'⟩ := y
    have h1 := cell_inj (congrArg (fun t : GSem nD τ sig × ℕ × D => t.1) h)
    have h2 : d = d' := congrArg (fun t : GSem nD τ sig × ℕ × D => t.2.2) h
    obtain ⟨e1, e2⟩ := h1
    dsimp only at e1 e2
    subst e1 e2 h2; rfl⟩
def talkToks : Finset (GSem nD τ sig × ℕ × D) := dutySet.map dutyEmb

def u₀ : UU := (initOf (Pipeline.cells (Pipeline.pin (pcfgs (F := F)) adm) cellOf_inj) (Pipeline.launchToks (Pipeline.pin (pcfgs (F := F)) adm) cellOf_inj),
  launchOf barCells sdCells talkToks)

/-! ## The tokens, dealt to those who pay with them -/

abbrev tok (k : Fin 12) (c : Dev nD) (d : D) : sProp 𝕄 := dutyTok ER (cell k c) 0 d

theorem toks_eq : bigSep talkToks (fun x => (dutyTok ER x.1 x.2.1 x.2.2 : sProp 𝕄))
    = bigSep Finset.univ fun k : Fin 12 => bigSep Finset.univ fun c : Dev nD => bigSep (dut k c) fun d => tok k c d := by
  unfold talkToks; rw [BI.bigSep_map, Pipeline.bigSep_sigma, bigSep_univ_prod]; rfl

theorem peer_peer (c : Dev nD) : peer 3 (peer 1 c) = c ∧ peer 2 (peer 2 c) = c ∧ peer 1 (peer 3 c) = c := by revert c; decide

def around1 : Dev nD ≃ Dev nD := ⟨peer 1, peer 3, fun c => (peer_peer c).1, fun c => (peer_peer c).2.2⟩
def around2 : Dev nD ≃ Dev nD := ⟨peer 2, peer 2, fun c => (peer_peer c).2.1, fun c => (peer_peer c).2.1⟩

theorem move1 (Ψ : Dev nD → Dev nD → sProp 𝕄) : (bigSep Finset.univ fun c => Ψ c (peer 1 c)) = bigSep Finset.univ fun c => Ψ (peer 3 c) c := by
  rw [bigSep_univ_equiv around1.symm]
  exact bigSep_congr fun c _ => by show Ψ (peer 3 c) (peer 1 (peer 3 c)) = _; rw [(peer_peer c).2.2]
theorem move2 (Ψ : Dev nD → Dev nD → sProp 𝕄) : (bigSep Finset.univ fun c => Ψ c (peer 2 c)) = bigSep Finset.univ fun c => Ψ (peer 2 c) c := by
  rw [bigSep_univ_equiv around2]
  exact bigSep_congr fun c _ => by show Ψ (peer 2 c) (peer 2 (peer 2 c)) = _; rw [(peer_peer c).2.1]
theorem move3 (Ψ : Dev nD → Dev nD → sProp 𝕄) : (bigSep Finset.univ fun c => Ψ c (peer 3 c)) = bigSep Finset.univ fun c => Ψ (peer 1 c) c := by
  rw [bigSep_univ_equiv around1]
  exact bigSep_congr fun c _ => by show Ψ (peer 1 c) (peer 3 (peer 1 c)) = _; rw [(peer_peer c).1]

theorem bars_dealt (k : Fin 12) (hk : ∀ c, dut k c = bset c) : (bigSep Finset.univ fun c : Dev nD => bigSep (dut k c) fun d => (tok k c d : sProp 𝕄))
    ⊢ bigSep Finset.univ fun c => iprop(tok k (peer 1 c) (c, 0) ∗ tok k (peer 2 c) (c, 0) ∗ tok k (peer 3 c) (c, 0)) := by
  rw [bigSep_congr (s := Finset.univ) fun c _ => (congrArg (fun s => bigSep s fun d => (tok k c d : sProp 𝕄)) (hk c)).trans (bigSep_bset c _)]
  rw [bigSep_sep', bigSep_sep', bigSep_sep', bigSep_sep', move1 fun c p => tok k c (p, 0), move2 fun c p => tok k c (p, 0), move3 fun c p => tok k c (p, 0)]
  iintro ⟨H3, H2, H1⟩
  isplitl [H1]; · iexact H1
  isplitl [H2]; · iexact H2
  iexact H3

theorem rcv_dealt : (bigSep Finset.univ fun c : Dev nD => bigSep (dut 10 c) fun d => (tok 10 c d : sProp 𝕄))
    ⊢ bigSep Finset.univ fun c => iprop((bigSep Finset.univ fun j => tok 10 (peer 1 c) (c, j)) ∗ (bigSep Finset.univ fun j => tok 10 (peer 2 c) (c, j))
      ∗ (bigSep Finset.univ fun j => tok 10 (peer 3 c) (c, j))) := by
  rw [bigSep_congr (s := Finset.univ) fun c _ => (show (bigSep (dut 10 c) fun d => (tok 10 c d : sProp 𝕄)) = _ from bigSep_rset c _)]
  rw [bigSep_sep', bigSep_sep', bigSep_sep', bigSep_sep', move1 fun c p => bigSep Finset.univ fun j => tok 10 c (p, j),
    move2 fun c p => bigSep Finset.univ fun j => tok 10 c (p, j), move3 fun c p => bigSep Finset.univ fun j => tok 10 c (p, j)]
  iintro ⟨H3, H2, H1⟩
  isplitl [H1]; · iexact H1
  isplitl [H2]; · iexact H2
  iexact H3

theorem own_dealt (k : Fin 12) (f : Dev nD → D) (hk : ∀ c, dut k c = {f c}) : (bigSep Finset.univ fun c : Dev nD => bigSep (dut k c) fun d => (tok k c d : sProp 𝕄))
    = bigSep Finset.univ fun c => tok k c (f c) :=
  bigSep_congr fun c _ => by rw [hk c, bigSep_singleton]

/-- The tokens device `c` pays with. -/
def mine0 (c : Dev nD) : sProp 𝕄 :=
  iprop((tok 0 (peer 1 c) (c, 0) ∗ tok 0 (peer 2 c) (c, 0) ∗ tok 0 (peer 3 c) (c, 0))
    ∗ (tok 1 c (peer 1 c, 0) ∗ tok 2 c (peer 2 c, 0) ∗ tok 3 c (peer 3 c, 0))
    ∗ (tok 4 (peer 1 c) (c, 0) ∗ tok 5 (peer 2 c) (c, 0) ∗ tok 6 (peer 3 c) (c, 0)) ∗ tok 7 c (c, 0))
def mine1 (c : Dev nD) : sProp 𝕄 :=
  iprop((tok 8 (peer 1 c) (c, 0) ∗ tok 8 (peer 2 c) (c, 0) ∗ tok 8 (peer 3 c) (c, 0))
    ∗ ((bigSep Finset.univ fun j => tok 9 c (peer 1 c, j)) ∗ (bigSep Finset.univ fun j => tok 9 c (peer 2 c, j)) ∗ (bigSep Finset.univ fun j => tok 9 c (peer 3 c, j)))
    ∗ ((bigSep Finset.univ fun j => tok 10 (peer 1 c) (c, j)) ∗ (bigSep Finset.univ fun j => tok 10 (peer 2 c) (c, j))
      ∗ (bigSep Finset.univ fun j => tok 10 (peer 3 c) (c, j)))
    ∗ (bigSep Finset.univ fun j => tok 11 c (c, j)))

theorem toks_dealt : bigSep talkToks (fun x => (dutyTok ER x.1 x.2.1 x.2.2 : sProp 𝕄)) ⊢ bigSep Finset.univ fun c => iprop(mine0 c ∗ mine1 c) := by
  rw [toks_eq, bigSep_univ_eq_bigSepL [0, 1, 2, 3, 4, 5, 6, 7, 8, 9, 10, 11] (by decide) (by decide)]
  show iprop((bigSep Finset.univ fun c : Dev nD => bigSep (dut 0 c) fun d => tok 0 c d) ∗ (bigSep Finset.univ fun c : Dev nD => bigSep (dut 1 c) fun d => tok 1 c d)
    ∗ (bigSep Finset.univ fun c : Dev nD => bigSep (dut 2 c) fun d => tok 2 c d) ∗ (bigSep Finset.univ fun c : Dev nD => bigSep (dut 3 c) fun d => tok 3 c d)
    ∗ (bigSep Finset.univ fun c : Dev nD => bigSep (dut 4 c) fun d => tok 4 c d) ∗ (bigSep Finset.univ fun c : Dev nD => bigSep (dut 5 c) fun d => tok 5 c d)
    ∗ (bigSep Finset.univ fun c : Dev nD => bigSep (dut 6 c) fun d => tok 6 c d) ∗ (bigSep Finset.univ fun c : Dev nD => bigSep (dut 7 c) fun d => tok 7 c d)
    ∗ (bigSep Finset.univ fun c : Dev nD => bigSep (dut 8 c) fun d => tok 8 c d) ∗ (bigSep Finset.univ fun c : Dev nD => bigSep (dut 9 c) fun d => tok 9 c d)
    ∗ (bigSep Finset.univ fun c : Dev nD => bigSep (dut 10 c) fun d => tok 10 c d) ∗ (bigSep Finset.univ fun c : Dev nD => bigSep (dut 11 c) fun d => tok 11 c d)) ⊢ _
  rw [own_dealt 1 (fun c => (peer 1 c, 0)) (fun _ => rfl), own_dealt 2 (fun c => (peer 2 c, 0)) (fun _ => rfl), own_dealt 3 (fun c => (peer 3 c, 0)) (fun _ => rfl),
    own_dealt 4 (fun c => (peer 3 c, 0)) (fun _ => rfl), own_dealt 5 (fun c => (peer 2 c, 0)) (fun _ => rfl), own_dealt 6 (fun c => (peer 1 c, 0)) (fun _ => rfl),
    own_dealt 7 (fun c => (c, 0)) (fun _ => rfl), move3 fun c p => tok 4 c (p, 0), move2 fun c p => tok 5 c (p, 0), move1 fun c p => tok 6 c (p, 0),
    bigSep_congr (s := Finset.univ) fun c _ => (show (bigSep (dut 9 c) fun d => (tok 9 c d : sProp 𝕄)) = _ from bigSep_rset c _),
    bigSep_congr (s := Finset.univ) fun c _ => (show (bigSep (dut 11 c) fun d => (tok 11 c d : sProp 𝕄)) = bigSep Finset.univ fun j => tok 11 c (c, j) from by
      rw [show dut 11 c = ({c} : Finset (Dev nD)) ×ˢ Finset.univ from rfl, SparseCore.bigSep_product, bigSep_singleton])]
  iintro ⟨H0, H1, H2, H3, H4, H5, H6, H7, H8, H9, H10, H11⟩
  ihave H0 := (bars_dealt 0 (fun _ => rfl)) $$ H0
  ihave H8 := (bars_dealt 8 (fun _ => rfl)) $$ H8
  ihave H10 := rcv_dealt $$ H10
  unfold mine0 mine1
  iapply bigSep_pair
  isplitl [H0 H1 H2 H3 H4 H5 H6 H7]
  · iapply bigSep_pair; isplitl [H0]; · iexact H0
    iapply bigSep_pair; isplitl [H1 H2 H3]
    · iapply bigSep_pair; isplitl [H1]; · iexact H1
      iapply bigSep_pair; isplitl [H2]; · iexact H2
      iexact H3
    iapply bigSep_pair; isplitl [H4 H5 H6]
    · iapply bigSep_pair; isplitl [H4]; · iexact H4
      iapply bigSep_pair; isplitl [H5]; · iexact H5
      iexact H6
    iexact H7
  · iapply bigSep_pair; isplitl [H8]; · iexact H8
    iapply bigSep_pair; isplitl [H9]; · iexact H9
    iapply bigSep_pair; isplitl [H10]; · iexact H10
    iexact H11

/-! ## The launch credit -/

abbrev O₀ (c : Dev nD) : CellTallies nD τ sig Unit := dues (list0 c ++ list1 c)

theorem dues_at (l : List (Fin 12 × Dev nD × ℕ)) (k : Fin 12) (c : Dev nD) :
    dues l (cell k c) () = (l.map fun x => if x.1 = k ∧ x.2.1 = c then x.2.2 else 0).sum := by
  induction l with
  | nil => rfl
  | cons x l ih =>
    show dues l (cell k c) () + tallyAt (cell x.1 x.2.1) () x.2.2 (cell k c) () = _
    rw [ih, tallyAt_apply, List.map_cons, List.sum_cons, Nat.add_comm]
    congr 1
    by_cases h : x.1 = k ∧ x.2.1 = c
    · rw [if_pos h, if_pos ⟨by rw [h.1, h.2], rfl⟩]
    · rw [if_neg h, if_neg (fun e => h ⟨(cell_inj e.1).1.symm, (cell_inj e.1).2.symm⟩)]

theorem sum_peer (n : ℕ) (c : Dev nD) : (∑ d : Dev nD, if peer 1 d = c then n else 0) = n ∧ (∑ d : Dev nD, if peer 2 d = c then n else 0) = n
    ∧ (∑ d : Dev nD, if peer 3 d = c then n else 0) = n := by
  obtain ⟨h1, h2, h3⟩ := (show (∀ c d : Dev nD, peer 1 d = c ↔ d = peer 3 c) ∧ (∀ c d : Dev nD, peer 2 d = c ↔ d = peer 2 c) ∧ (∀ c d : Dev nD, peer 3 d = c ↔ d = peer 1 c) from by decide)
  simp only [h1 c, h2 c, h3 c, Finset.sum_ite_eq', Finset.mem_univ, if_true]
  exact ⟨trivial, trivial, trivial⟩

/-- What is owed in all to a cell. -/
def total (k : Fin 12) : ℕ := match k.val with | 0 => 3 | 4 => N0 | 5 => N0 | 6 => N0 | 8 => 3 | 10 => 96 * N1 | _ => 0

theorem sum_owed (k : Fin 12) (c : Dev nD) : (∑ d : Dev nD, O₀ d (cell k c) ()) = total k := by
  have key : ∀ d, O₀ d (cell k c) () =
      (if peer 1 d = c then (if k = 0 then 1 else 0) + (if k = 4 then N0 else 0) + (if k = 8 then 1 else 0) + (if k = 10 then 32 * N1 else 0) else 0)
      + (if peer 2 d = c then (if k = 0 then 1 else 0) + (if k = 5 then N0 else 0) + (if k = 8 then 1 else 0) + (if k = 10 then 32 * N1 else 0) else 0)
      + (if peer 3 d = c then (if k = 0 then 1 else 0) + (if k = 6 then N0 else 0) + (if k = 8 then 1 else 0) + (if k = 10 then 32 * N1 else 0) else 0) := by
    intro d
    rw [dues_at]
    simp only [list0, list1, List.cons_append, List.nil_append, List.map_cons, List.map_nil, List.sum_cons, List.sum_nil]
    by_cases e1 : peer 1 d = c <;> by_cases e2 : peer 2 d = c <;> by_cases e3 : peer 3 d = c <;>
      simp only [e1, e2, e3, and_true, and_false, if_true, if_false, eq_comm (a := k)] <;> omega
  rw [Finset.sum_congr rfl fun d _ => key d, Finset.sum_add_distrib, Finset.sum_add_distrib, (sum_peer _ c).1, (sum_peer _ c).2.1, (sum_peer _ c).2.2]
  obtain ⟨k, hk⟩ := k
  interval_cases k <;> simp [total, Fin.ext_iff] <;> omega

theorem launch_at (k : Fin 12) (c : Dev nD) :
    tallyOn (cell k c) (launchCredit (Pipeline.owing O₀) 0 (cell k c)) = (tallyAt (cell k c) () (total k) : CellTallies nD τ sig Unit) := by
  unfold tallyAt; refine congrArg _ (Finsupp.ext fun u => ?_); cases u
  rw [Pipeline.launchCredit_owing, Finsupp.single_eq_same, sum_owed]

theorem creds (c : Dev nD) : (Pipeline.launchCred O₀ c : sProp 𝕄)
    ⊢ iprop((cred (tallyAt (cell 0 c) () 3) ∗ cred (tallyAt (cell 4 c) () N0) ∗ cred (tallyAt (cell 5 c) () N0) ∗ cred (tallyAt (cell 6 c) () N0))
      ∗ cred (tallyAt (cell 8 c) () 3) ∗ cred (tallyAt (cell 10 c) () (96 * N1))) := by
  unfold Pipeline.launchCred
  refine (bigSep_subset (t := Finset.univ.map ⟨sem12, sem12_inj⟩) (Finset.subset_univ _)).trans ?_
  rw [BI.bigSep_map]
  refine (Entails.of_eq (bigSep_congr (s := Finset.univ) fun k _ => (congrArg cred (launch_at k c) :
    (cred (tallyOn (cell k c) (launchCredit (Pipeline.owing O₀) 0 (cell k c))) : sProp 𝕄) = cred (tallyAt (cell k c) () (total k))))).trans ?_
  rw [bigSep_univ_eq_bigSepL [0, 1, 2, 3, 4, 5, 6, 7, 8, 9, 10, 11] (by decide) (by decide)]
  show iprop(cred (tallyAt (cell 0 c) () (total 0)) ∗ cred (tallyAt (cell 1 c) () (total 1)) ∗ cred (tallyAt (cell 2 c) () (total 2))
    ∗ cred (tallyAt (cell 3 c) () (total 3)) ∗ cred (tallyAt (cell 4 c) () (total 4)) ∗ cred (tallyAt (cell 5 c) () (total 5))
    ∗ cred (tallyAt (cell 6 c) () (total 6)) ∗ cred (tallyAt (cell 7 c) () (total 7)) ∗ cred (tallyAt (cell 8 c) () (total 8))
    ∗ cred (tallyAt (cell 9 c) () (total 9)) ∗ cred (tallyAt (cell 10 c) () (total 10)) ∗ cred (tallyAt (cell 11 c) () (total 11))) ⊢ _
  iintro ⟨H0, -, -, -, H4, H5, H6, -, H8, -, H10, -⟩
  isplitl [H0 H4 H5 H6]
  · isplitl [H0]; · iexact H0
    isplitl [H4]; · iexact H4
    isplitl [H5]; · iexact H5
    iexact H6
  isplitl [H8]; · iexact H8
  iexact H10

/-! ## The launch -/

theorem unscopedSems0_eq (c : Dev nD) : (unscopedSems0 c : sProp 𝕄) = iprop(semVal (cell 0 c) 0 ∗ semVal (cell 8 c) 0) := by
  unfold unscopedSems0
  rw [show (Finset.univ.filter fun sm : SemLoc sig => ¬ sm.isScoped .tc) = {sem12 0, sem12 8} from by decide,
    BI.bigSep_insert (by decide), BI.bigSep_singleton]
  rfl

/-- A resource dealt whole to one device. -/
def parked (c₀ : Dev nD) (X : sProp 𝕄) (c : Dev nD) : sProp 𝕄 := if c = c₀ then X else iprop(emp)
theorem bigSep_parked (c₀ : Dev nD) (X : sProp 𝕄) : bigSep Finset.univ (parked c₀ X) = X := by
  have h : bigSep (Finset.univ.erase c₀) (parked c₀ X) = bigSep (Finset.univ.erase c₀) fun _ => (BI.emp : sProp 𝕄) :=
    bigSep_congr fun c hc => by unfold parked; rw [if_neg (Finset.ne_of_mem_erase hc)]; rfl
  rw [bigSep_univ_at _ c₀, h, BI.bigSep_emp_const, show parked c₀ X c₀ = X from if_pos rfl]
  exact BI.equiv_iff.mp sep_emp

abbrev G : Dev nD → sProp 𝕄 := parked 0 (BI.own (ER (launchOf barCells sdCells talkToks)))

/-- Before the calls: what both need of the exchange's state, and all that is owed. -/
abbrev E0 (c : Dev nD) : sProp 𝕄 := iprop(anyReg c ∗ Tk0 m c ∗ Tk1 m c ∗ ∃ W, owes (c : Thread nD τ) (O₀ c) W)

/-- The persistent records: every cell's invariant, and the barriers' first rounds. -/
def records (κ : GSem nD τ sig → ℕ) : sProp 𝕄 :=
  iprop((bigSep (barCells ∪ sdCells) fun g => cellInv ER (Rd (rows m) (cnts m)) (κ g) g) ∗ bigSep barCells fun g => reached ER g 0)
instance records_persistent (κ : GSem nD τ sig → ℕ) : BI.Persistent (records m κ) := by unfold records; infer_instance

theorem records_invs (κ : GSem nD τ sig → ℕ) : records m κ ⊢ (invs m : sProp 𝕄) := by
  unfold records invs allInv
  iintro ⟨H, -⟩
  iexists κ
  iapply (show (bigSep (barCells ∪ sdCells) fun g => (cellInv ER (Rd (rows m) (cnts m)) (κ g) g : sProp 𝕄)) ⊢ _ from
    (bigSep_of_persistent Finset.univ _).trans (bigSep_mono fun k _ => (bigSep_of_persistent Finset.univ _).trans
      (bigSep_mono fun c _ => bigSep_elim (cell_mem k c)))) $$ H

theorem records_reached (κ : GSem nD τ sig → ℕ) (i : Fin 2) (c : Dev nD) : records m κ ⊢ (reached ER (cell (bkind i) c) 0 : sProp 𝕄) := by
  unfold records
  iintro ⟨-, H⟩
  iapply (show (bigSep barCells fun g => (reached ER g 0 : sProp 𝕄)) ⊢ reached ER (cell (bkind i) c) 0 from
    bigSep_elim (Φ := fun g => (reached ER g 0 : sProp 𝕄)) (Finset.mem_map_of_mem barEmb (Finset.mem_univ (c, i)))) $$ H

/-- Device `c`'s own counters' records and its tokens. -/
def dealt (c : Dev nD) : sProp 𝕄 :=
  iprop((atPos ER (cell 0 c) 0 ∅ 0 ∗ atPos ER (cell 8 c) 0 ∅ 0)
    ∗ (openTok ER (cell 1 c) ∗ openTok ER (cell 2 c) ∗ openTok ER (cell 3 c) ∗ openTok ER (cell 4 c) ∗ openTok ER (cell 5 c)
      ∗ openTok ER (cell 6 c) ∗ openTok ER (cell 7 c) ∗ openTok ER (cell 9 c) ∗ openTok ER (cell 10 c) ∗ openTok ER (cell 11 c))
    ∗ (mine0 c ∗ mine1 c))

def bundle (c : Dev nD) : sProp 𝕄 :=
  iprop(Pipeline.launchCred O₀ c ∗ owes (c : Thread nD τ) (O₀ c) ∅ ∗ prngReg c (ρ c))

theorem E0_intro (κ : GSem nD τ sig → ℕ) (c : Dev nD) : iprop(records m κ ∗ (dealt c ∗ bundle ρ c)) ⊢ E0 m c := by
  unfold dealt bundle mine0 mine1 E0 Tk0 Tk1 start0 start1 bars sends
  iintro ⟨#HR, ⟨⟨Ha0, Ha8⟩, ⟨Ho1, Ho2, Ho3, Ho4, Ho5, Ho6, Ho7, Ho9, Ho10, Ho11⟩,
    ⟨⟨⟨T01, T02, T03⟩, Tsnd, Trcv, Tloc⟩, ⟨⟨T81, T82, T83⟩, ⟨S1, S2, S3⟩, ⟨R1, R2, R3⟩, L1⟩⟩⟩, HC, HO, Hp⟩
  ihave HC' := (creds (F := F) c) $$ HC
  icases HC' with ⟨⟨C0, C4, C5, C6⟩, C8, C10⟩
  ihave #HI := (records_invs m κ) $$ HR
  isplitl [Hp]; · iexists (ρ c); iexact Hp
  isplitl [T01 T02 T03 Tsnd Trcv Tloc Ho1 Ho2 Ho3 Ho4 Ho5 Ho6 Ho7 Ha0 C0 C4 C5 C6]
  · isplitr; · iexact HI
    isplitl [T01 T02 T03]
    · isplitl [T01]
      · isplitr; · iapply (records_reached m κ 0 (peer 1 c)) $$ HR
        iexact T01
      isplitl [T02]
      · isplitr; · iapply (records_reached m κ 0 (peer 2 c)) $$ HR
        iexact T02
      isplitr; · iapply (records_reached m κ 0 (peer 3 c)) $$ HR
      iexact T03
    isplitl [Tsnd]; · iexact Tsnd
    isplitl [Trcv]; · iexact Trcv
    isplitl [Tloc]; · iexact Tloc
    isplitl [Ho1 Ho2 Ho3 Ho4 Ho5 Ho6 Ho7]
    · isplitl [Ho1]; · iexact Ho1
      isplitl [Ho2]; · iexact Ho2
      isplitl [Ho3]; · iexact Ho3
      isplitl [Ho4]; · iexact Ho4
      isplitl [Ho5]; · iexact Ho5
      isplitl [Ho6]; · iexact Ho6
      iexact Ho7
    isplitl [Ha0]; · iexact Ha0
    isplitl [C0]; · iexact C0
    isplitl [C4]; · iexact C4
    isplitl [C5]; · iexact C5
    iexact C6
  isplitr [HO]
  · isplitr; · iexact HI
    isplitl [T81 T82 T83]
    · isplitl [T81]
      · isplitr; · iapply (records_reached m κ 1 (peer 1 c)) $$ HR
        iexact T81
      isplitl [T82]
      · isplitr; · iapply (records_reached m κ 1 (peer 2 c)) $$ HR
        iexact T82
      isplitr; · iapply (records_reached m κ 1 (peer 3 c)) $$ HR
      iexact T83
    isplitl [S1 S2 S3 R1 R2 R3]
    · isplitl [S1 R1]; · isplitl [S1]; · iexact S1
                         iexact R1
      isplitl [S2 R2]; · isplitl [S2]; · iexact S2
                         iexact R2
      isplitl [S3]; · iexact S3
      iexact R3
    isplitl [L1]; · iexact L1
    isplitl [Ho9 Ho10 Ho11]
    · isplitl [Ho9]; · iexact Ho9
      isplitl [Ho10]; · iexact Ho10
      iexact Ho11
    isplitl [Ha8]; · iexact Ha8
    isplitl [C8]; · iexact C8
    iexact C10
  iexists ∅; iexact HO

/-- The launch deals every device its part, every counter at zero. -/
theorem deal :
    iprop((bigSep Finset.univ fun c : Dev nD => iprop(unscopedSems0 c ∗ owes (c : Thread nD τ) (O₀ c) ∅ ∗ Pipeline.launchCred O₀ c ∗ prngReg c (ρ c) ∗ G c)) ∗ levAts L lv)
      ⊢ (|={Set.univ}=> bigSep Finset.univ (E0 m) : sProp 𝕄) := by
  have hcore (c : Dev nD) : iprop(unscopedSems0 c ∗ owes (c : Thread nD τ) (O₀ c) ∅ ∗ Pipeline.launchCred O₀ c ∗ prngReg c (ρ c) ∗ G c)
      ⊢ (iprop(bundle ρ c ∗ (unscopedSems0 c ∗ G c)) : sProp 𝕄) := by
    unfold bundle
    iintro ⟨Hus, HO, Hcr, Hp, HG⟩
    isplitl [HO Hcr Hp]
    · isplitl [Hcr]; · iexact Hcr
      isplitl [HO]; · iexact HO
      iexact Hp
    isplitl [Hus] <;> iassumption
  have hv : bigSep Finset.univ (fun c : Dev nD => (unscopedSems0 c : sProp 𝕄)) ⊢ bigSep barCells (fun g => (semVal g 0 : sProp 𝕄)) :=
    Entails.of_eq (by
      rw [bigSep_map, bigSep_univ_prod]
      exact bigSep_congr fun c _ => (unscopedSems0_eq c).trans (BI.bigSep_fin_two (fun k : Fin 2 => (semVal (cell (bkind k) c) 0 : sProp 𝕄))).symm)
  have hat : bigSep barCells (fun g => (atPos ER g 0 ∅ 0 : sProp 𝕄))
      ⊢ bigSep Finset.univ (fun c : Dev nD => iprop(atPos ER (cell 0 c) 0 ∅ 0 ∗ atPos ER (cell 8 c) 0 ∅ 0)) :=
    Entails.of_eq (by
      rw [bigSep_map, bigSep_univ_prod]
      exact bigSep_congr fun c _ => BI.bigSep_fin_two (fun k : Fin 2 => (atPos ER (cell (bkind k) c) 0 ∅ 0 : sProp 𝕄)))
  have hopen : bigSep sdCells (fun g => (openTok ER g : sProp 𝕄))
      ⊢ bigSep Finset.univ (fun c : Dev nD => iprop(openTok ER (cell 1 c) ∗ openTok ER (cell 2 c) ∗ openTok ER (cell 3 c) ∗ openTok ER (cell 4 c) ∗ openTok ER (cell 5 c)
      ∗ openTok ER (cell 6 c) ∗ openTok ER (cell 7 c) ∗ openTok ER (cell 9 c) ∗ openTok ER (cell 10 c) ∗ openTok ER (cell 11 c))) :=
    Entails.of_eq (by
      rw [bigSep_map, bigSep_univ_prod]
      exact bigSep_congr fun c _ => bigSep_univ_eq_bigSepL [0, 1, 2, 3, 4, 5, 6, 7, 8, 9] (by decide) (by decide) (fun k : Fin 10 => (openTok ER (cell (skind k) c) : sProp 𝕄)))
  iintro ⟨H, -⟩
  ihave H' := (show (bigSep Finset.univ fun c : Dev nD => iprop(unscopedSems0 c ∗ owes (c : Thread nD τ) (O₀ c) ∅ ∗ Pipeline.launchCred O₀ c ∗ prngReg c (ρ c) ∗ G c))
      ⊢ (bigSep Finset.univ fun c : Dev nD => iprop(bundle ρ c ∗ (unscopedSems0 c ∗ G c)) : sProp 𝕄) from bigSep_mono fun c _ => hcore c) $$ H
  ihave H2 := bigSep_unpair $$ H'; icases H2 with ⟨HB, H3⟩
  ihave H4 := bigSep_unpair $$ H3; icases H4 with ⟨Hv, HG⟩
  ihave Hu := (show bigSep Finset.univ (G (F := F)) ⊢ BI.own (ER (launchOf barCells sdCells talkToks)) from
    Entails.of_eq (bigSep_parked (F := F) 0 (BI.own (ER (launchOf barCells sdCells talkToks))))) $$ HG
  imod (Rounds.fund_launch ER (Rd (rows m) (cnts m)) cells_disjoint (fun g _ h => h) talkToks) $$ [Hv Hu] with ⟨%κ, -, #Hinv, #Hr, Hat, Hopen, Htok⟩
  · isplitl [Hv]
    · iapply hv $$ Hv
    · iexact Hu
  imodintro
  iapply (bigSep_with_persistent (R := records m κ) (Φ := fun c => iprop(dealt c ∗ bundle ρ c)) fun c _ => E0_intro m ρ κ c)
  isplitr
  · unfold records
    isplitr; · iexact Hinv
    iexact Hr
  iapply bigSep_pair
  isplitr [HB]
  · unfold dealt
    iapply bigSep_pair; isplitl [Hat]; · iapply hat $$ Hat
    iapply bigSep_pair; isplitl [Hopen]; · iapply hopen $$ Hopen
    iapply (toks_dealt (F := F)) $$ Htok
  · iexact HB

end Cert.KernelIdeal.Exch

end
-- ==== Proof.Run.lean ====
module

public import proofs.«01_k».proof.Proof.Deal

@[expose] public section

noncomputable section

namespace Cert.KernelIdeal.Exch

open Cert.KernelIdeal Cert.KernelIdeal.Gen Cert.KernelIdeal.Words
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Smoke (bigSep_pair)
open Idealize.ShloMosaic.Pipeline (Dat Cfg BodyObligation cellOf Seg RegionSeg)

variable {F : FTy → Type} [FloatOps F]

local notation "𝕄" => MT nD τ sig Unit (Elt F) ℕ UU ℕ

variable (m : (ℓ : Loc nD τ sig) → Buf (Elt F) ℓ) (ρ : Dev nD → PrngReg)

attribute [local irreducible] cnts rows gathered landed

/-! ## The calls, between the host's stretches -/

/-- Between the calls, and after them. -/
abbrev E1 (c : Dev nD) : sProp 𝕄 :=
  iprop(anyReg c ∗ semVal (cell 0 c) 0 ∗ Tk1 m c ∗ ∃ W, owes (c : Thread nD τ) (dues (list1 c)) W)
abbrev E2 (c : Dev nD) : sProp 𝕄 :=
  iprop((semVal (cell 0 c) 0 ∗ semVal (cell 8 c) 0) ∗ ∃ W, owes (c : Thread nD τ) (0 : CellTallies nD τ sig Unit) W)

abbrev E : Fin 3 → Dev nD → sProp 𝕄 := fun i c => match i with | 0 => E0 m c | 1 => E1 m c | 2 => E2 c

theorem sub0 : Pipeline.arrRefs spec0 ⊆ Pipeline.ucRefs τ sig := Pipeline.arrRefs_sub_ucRefs spec0 (by decide)
theorem sub1 : Pipeline.arrRefs spec1 ⊆ Pipeline.ucRefs τ sig := Pipeline.arrRefs_sub_ucRefs spec1 (by decide)

theorem pre0 (c : Dev nD) : iprop(StableHlo.held (c : Thread nD τ) (Pipeline.ucRefs τ sig) (V5 m c) ∗ E0 m c) ⊢ (reg0 m).pre c := by
  show _ ⊢ iprop(StableHlo.held (c : Thread nD τ) (Pipeline.arrRefs spec0) (V5 m c) ∗ (∃ r, prngReg c r) ∗ (StableHlo.held (c : Thread nD τ) Sr0 (V5 m c) ∗ Tk1 m c)
    ∗ Tk0 m c ∗ ∃ W, owes (c : Thread nD τ) (dues (list1 c) + dues (list0 c)) W)
  rw [StableHlo.held_sub_split (c : Thread nD τ) sub0 (V5 m c), ← dues_append (list0 c) (list1 c)]
  iintro ⟨⟨Ha, Hr⟩, Hp, H0, H1, HO⟩
  isplitl [Ha]; · iexact Ha
  isplitl [Hp]; · iexact Hp
  isplitl [Hr H1]
  · isplitl [Hr]; · iexact Hr
    iexact H1
  isplitl [H0]; · iexact H0
  iexact HO

theorem post0 (c : Dev nD) : (reg0 m).post c ⊢ iprop(StableHlo.held (c : Thread nD τ) (Pipeline.ucRefs τ sig) (V6 m (outs m) c) ∗ E1 m c) := by
  show iprop(StableHlo.held (c : Thread nD τ) (Pipeline.arrRefs spec0) (V6' m c) ∗ (∃ r, prngReg c r) ∗ (StableHlo.held (c : Thread nD τ) Sr0 (V6' m c) ∗ Tk1 m c)
    ∗ semVal (cell 0 c) 0 ∗ ∃ W, owes (c : Thread nD τ) (dues (list1 c)) W) ⊢ iprop(StableHlo.held (c : Thread nD τ) (Pipeline.ucRefs τ sig) (V6' m c) ∗ E1 m c)
  rw [StableHlo.held_sub_split (c : Thread nD τ) sub0 (V6' m c)]
  iintro ⟨Ha, Hp, ⟨Hr, H1⟩, Hb, HO⟩
  isplitl [Ha Hr]
  · isplitl [Ha]; · iexact Ha
    iexact Hr
  isplitl [Hp]; · iexact Hp
  isplitl [Hb]; · iexact Hb
  isplitl [H1]; · iexact H1
  iexact HO

theorem pre1 (hE : Even (gathered (cnts m))) (c : Dev nD) : iprop(StableHlo.held (c : Thread nD τ) (Pipeline.ucRefs τ sig) (V6 m (outs m) c) ∗ E1 m c) ⊢ (reg1 m hE).pre c := by
  show iprop(StableHlo.held (c : Thread nD τ) (Pipeline.ucRefs τ sig) (V6' m c) ∗ E1 m c) ⊢ iprop(StableHlo.held (c : Thread nD τ) (Pipeline.arrRefs spec1) (V6' m c) ∗ (∃ r, prngReg c r) ∗ (StableHlo.held (c : Thread nD τ) Sr1 (V6' m c) ∗ semVal (cell 0 c) 0)
    ∗ Tk1 m c ∗ ∃ W, owes (c : Thread nD τ) (0 + dues (list1 c)) W)
  rw [StableHlo.held_sub_split (c : Thread nD τ) sub1 (V6' m c), zero_add]
  iintro ⟨⟨Ha, Hr⟩, Hp, Hb, H1, HO⟩
  isplitl [Ha]; · iexact Ha
  isplitl [Hp]; · iexact Hp
  isplitl [Hr Hb]
  · isplitl [Hr]; · iexact Hr
    iexact Hb
  isplitl [H1]; · iexact H1
  iexact HO

theorem post1 (hE : Even (gathered (cnts m))) (c : Dev nD) : (reg1 m hE).post c ⊢ iprop(StableHlo.held (c : Thread nD τ) (Pipeline.ucRefs τ sig) (V7 m (outs m) c) ∗ E2 c) := by
  show iprop(StableHlo.held (c : Thread nD τ) (Pipeline.arrRefs spec1) (V7' m c) ∗ (∃ r, prngReg c r) ∗ (StableHlo.held (c : Thread nD τ) Sr1 (V7' m c) ∗ semVal (cell 0 c) 0)
    ∗ semVal (cell 8 c) 0 ∗ ∃ W, owes (c : Thread nD τ) (0 : CellTallies nD τ sig Unit) W) ⊢ iprop(StableHlo.held (c : Thread nD τ) (Pipeline.ucRefs τ sig) (V7' m c) ∗ E2 c)
  rw [StableHlo.held_sub_split (c : Thread nD τ) sub1 (V7' m c)]
  iintro ⟨Ha, -, ⟨Hr, H0⟩, H8, HO⟩
  isplitl [Ha Hr]
  · isplitl [Ha]; · iexact Ha
    iexact Hr
  isplitl [H0 H8]
  · isplitl [H0]; · iexact H0
    iexact H8
  iexact HO

/-! ## The run -/

theorem unscoped_eq : ∀ sm : SemLoc sig, sm.isScoped .tc = false → sm = sem12 0 ∨ sm = sem12 8 := by decide

/-- What a device's memory and its two unscoped counters are at the end. -/
def AtEnd (c : Dev nD) (s : MemSt nD τ sig (Elt F)) : Prop :=
  (s.mem ((c.tc : Thread nD τ).loc main_arg0) = m ((c.tc : Thread nD τ).loc main_arg0)
    ∧ s.mem ((c.tc : Thread nD τ).loc main_arg1) = m ((c.tc : Thread nD τ).loc main_arg1)
    ∧ s.mem ((c.tc : Thread nD τ).loc main_v35) = V8 m (outs m) c main_v35) ∧ s.sem (cell 0 c) = 0 ∧ s.sem (cell 8 c) = 0

abbrev Tₙ (c : Dev nD) : sProp 𝕄 :=
  iprop(StableHlo.held (c : Thread nD τ) (Pipeline.ucRefs τ sig) (V8 m (outs m) c) ∗ (semVal (cell 0 c) 0 ∗ semVal (cell 8 c) 0))

theorem readEnd (c : Dev nD) (s' : Phys nD τ sig (Elt F)) :
    iprop(Tₙ m c ∗ SI s') ⊢ (|={Set.univ}=> iprop(⌜AtEnd m c s'.mem⌝ ∗ SI s') : sProp 𝕄) := by
  unfold Tₙ StableHlo.held
  iintro ⟨⟨Hh, Hb0, Hb8⟩, HSI⟩
  icombine HSI Hb0 gives %hb0
  icombine HSI Hb8 gives %hb8
  ihave Hr := (pointsTo_read_all (Pipeline.ucRefs τ sig) (fun b => ((c : Thread nD τ).1, b)) (V8 m (outs m) c) s') $$ [Hh HSI]
  · isplitl [Hh] <;> iassumption
  icases Hr with ⟨%h, HSI⟩
  imodintro
  isplitr
  · ipureintro
    exact ⟨⟨(h (Proc.devRef .tc main_arg0) (Finset.mem_filter.mpr ⟨StableHlo.devRef_mem_tcRefs main_arg0, by decide⟩)).trans (V8_main_arg0 m (outs m) c),
      (h (Proc.devRef .tc main_arg1) (Finset.mem_filter.mpr ⟨StableHlo.devRef_mem_tcRefs main_arg1, by decide⟩)).trans (V8_main_arg1 m (outs m) c),
      h (Proc.devRef .tc main_v35) (Finset.mem_filter.mpr ⟨StableHlo.devRef_mem_tcRefs main_v35, by decide⟩)⟩,
      by simpa using hb0, by simpa using hb8⟩
  · iexact HSI

theorem launch :
    iprop((bigSep Finset.univ fun c : Dev nD => iprop(unscopedBufs c (fun b => m ((c.tc : Thread nD τ).loc b)) ∗ unscopedSems0 c
          ∗ owes (c.tc : Thread nD τ) (O₀ c) ∅ ∗ Pipeline.launchCred O₀ c ∗ prngReg c (ρ c) ∗ G c)) ∗ levAts L lv)
      ⊢ (|={Set.univ}=> bigSep Finset.univ fun c : Dev nD => iprop(StableHlo.held (c : Thread nD τ) (Pipeline.ucRefs τ sig) (V0 m c) ∗ E m 0 c) : sProp 𝕄) := by
  have hsplit : (bigSep Finset.univ fun c : Dev nD => iprop(unscopedBufs c (fun b => m ((c.tc : Thread nD τ).loc b)) ∗ unscopedSems0 c
        ∗ owes (c.tc : Thread nD τ) (O₀ c) ∅ ∗ Pipeline.launchCred O₀ c ∗ prngReg c (ρ c) ∗ G c))
      ⊢ (iprop((bigSep Finset.univ fun c : Dev nD => StableHlo.held (c : Thread nD τ) (Pipeline.ucRefs τ sig) (V0 m c))
          ∗ bigSep Finset.univ fun c : Dev nD => iprop(unscopedSems0 c ∗ owes (c : Thread nD τ) (O₀ c) ∅ ∗ Pipeline.launchCred O₀ c ∗ prngReg c (ρ c) ∗ G c))
          : sProp 𝕄) := by
    rw [← bigSep_sep']
    exact bigSep_mono fun c _ => by rw [← Pipeline.unscopedBufs_held (Ix := Unit) (Name := ℕ) (U := UU) (Lvl := ℕ) c (V0 m c)]; exact BI.Entails.refl _
  iintro ⟨H, Hla⟩
  ihave H' := hsplit $$ H
  icases H' with ⟨Hh, Hr⟩
  imod (deal m ρ) $$ [Hr Hla] with HE
  · isplitl [Hr]; · iexact Hr
    iexact Hla
  imodintro
  iapply (bigSep_pair (Φ := fun c : Dev nD => StableHlo.held (c : Thread nD τ) (Pipeline.ucRefs τ sig) (V0 m c)) (Ψ := E m 0))
  isplitl [Hh]; · iexact Hh
  iexact HE

set_option backward.isDefEq.respectTransparency.types false in
/-- From any memory with the counters at zero, when every device's counts are even, every fair run of the program ends, with
    every device as `AtEnd` says and every counter of the machine at zero. -/
theorem run_main (hE : Even (gathered (cnts m))) :
    θ_run defs (onTc (τ := τ) (main (F := F))) ⟨m, fun _ => 0, ρ⟩ (fun r => (∀ c : Dev nD, AtEnd m c r.2) ∧ r.2.sem = fun _ => 0) := by
  refine Pipeline.θ_run_regions_kit_dev_sems (pcfgs (F := F)) adm (pdats m) () cellOf_inj EP defs₀ 𝒱₀ L lv m ρ main
    (segs m (outs m) 𝒱₀ L lv (E m) () (pdats m) (reg0 m) (reg1 m hE))
    (fun c Q => by
      rewrite [main_chain c, Seg.run_eq_chain,
        show (segs m (outs m) 𝒱₀ L lv (E m) () (pdats m) (reg0 m) (reg1 m hE) c).map Seg.prog = [
          StableHlo.seq (hostOps0 c),
          StableHlo.seq hostOps0_1,
          StableHlo.seq hostOps0_2,
          StableHlo.seq hostOps0_3,
          StableHlo.seq hostOps0_4,
          Prog.lift (.customCall (Pipeline.entry 0) ()),
          Prog.lift (.customCall (Pipeline.entry 1) ()),
          StableHlo.seq hostOps2 ] from rfl]
      dsimp (config := { failIfUnchanged := false }) only
      exact .rfl)
    (fun c => by simp only [segs, Seg.pipes_host, Seg.pipes_region, Seg.pipes_nil]; decide) O₀ L_of_ne G (u₀ (F := F)) ?_
    (T₀ := fun c => iprop(StableHlo.held (c : Thread nD τ) (Pipeline.ucRefs τ sig) (V0 m c) ∗ E m 0 c))
    (Tₙ := Tₙ m)
    (hch := fun c => ⟨.rfl, .rfl, .rfl, .rfl, .rfl, pre0 m c, (post0 m c).trans (pre1 m hE c), post1 m hE c, ?_⟩)
    (hinit := launch m ρ) (QY := AtEnd m) (hfin := readEnd m)
    (hQ := fun s h hs => ⟨h, sem_eq_zero hs fun c sm hsm => ?_⟩)
  · unfold u₀
    iintro Hu
    ihave H := (ownU_pair _ _) $$ Hu
    icases H with ⟨HP, HX⟩
    imodintro
    isplitl [HP]; · iexact HP
    rw [bigSep_parked]; iexact HX
  · show iprop(StableHlo.held (c : Thread nD τ) (Pipeline.ucRefs τ sig) (V8 m (outs m) c) ∗ E2 c)
      ⊢ iprop(Tₙ m c ∗ ∃ W, owes (c.tc : Thread nD τ) (0 : CellTallies nD τ sig Unit) W)
    iintro ⟨Hh, Hb, HO⟩
    isplitr [HO]
    · isplitl [Hh]; · iexact Hh
      iexact Hb
    iexact HO
  · rcases unscoped_eq sm hsm with rfl | rfl
    · exact (h c).2.1
    · exact (h c).2.2

end Cert.KernelIdeal.Exch

end
-- ==== Proof.Same.lean ====
module

public import proofs.«01_k».proof.Proof.Gen.Kernel
public import proofs.«01_k».proof.Proof.Gen.KernelIdeal

@[expose] public section

noncomputable section

/-! The kernel as printed for the machine's numbers and as printed for the real ones is one text: the two programs are equal. -/

namespace Cert.KernelIdeal.Exch

open Idealize.ShloMosaic Idealize.SL.Sem

variable {F : FTy → Type} [FloatOps F]

set_option maxHeartbeats 4000000 in
theorem bodies_same : Cert.Kernel.defs₀ (F := F) = Cert.KernelIdeal.defs₀ (F := F) := by
  funext p l a
  cases p with
  | tc =>
    match l, a with
    | 0, (t, s) => rfl
    | 1, (t, s) => rfl
  | scScalar _ => rfl
  | scVector _ _ => rfl

set_option maxHeartbeats 4000000 in
theorem defs_same : Cert.Kernel.defs (F := F) = Cert.KernelIdeal.defs (F := F) :=
  congrArg (Pipeline.defs (Cert.KernelIdeal.pcfgs (F := F))) (bodies_same (F := F))

set_option maxHeartbeats 4000000 in
theorem main_same : Cert.Kernel.main (F := F) = Cert.KernelIdeal.main (F := F) := rfl

end Cert.KernelIdeal.Exch
-- ==== Proof.Frames.lean ====
module

public import proofs.«01_k».proof.Proof.Run
public import proofs.«01_k».proof.Proof.Counts
public import proofs.«01_k».proof.Proof.Same

@[expose] public section

noncomputable section

/-! The kernel's frames: at the machine's numbers and at the real ones, the one run read twice. -/

namespace Cert.KernelIdeal.Exch

open Cert.KernelIdeal Cert.KernelIdeal.Gen
open Idealize.ShloMosaic Idealize.ShloMosaic.TcCoe Idealize.SL.Sem

variable {F : FTy → Type} [FloatOps F]

/-- A program that is the kernel runs, and leaves its arguments and every counter as they were. -/
theorem kept (D : Defs nD τ sig (Elt F) (Pipeline.Sig Λ₀ (Fin 2) fun p => (pcfgs (F := F) p).Adm))
    (P : Dev nD → Prog (TpuEff nD τ sig (Elt F) (Pipeline.Sig Λ₀ (Fin 2) fun p => (pcfgs (F := F) p).Adm) .tc) PUnit)
    (hD : D = defs) (hP : P = main) (m : (ℓ : Loc nD τ sig) → Buf (Elt F) ℓ) (ρ : Dev nD → PrngReg) (h : ∀ c, Spread (dest m c)) :
    θ_run D (onTc (τ := τ) P) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) := by
  subst hD hP
  exact (θ_run defs _ _).mono (fun _ h => ⟨fun c => ⟨(h.1 c).1.1, (h.1 c).1.2.1⟩, h.2⟩) (run_main m ρ (even_of m h))

theorem frame_ideal : Cert.quiescent_KernelIdeal := fun m ρ hpre =>
  kept (F := Ideal) _ _ rfl rfl m ρ fun c => spread_of (F := Ideal) _ _ (hpre c)

theorem frame_kernel : Cert.quiescent_Kernel := fun m ρ hpre =>
  kept (F := Bits) Cert.Kernel.defs Cert.Kernel.main defs_same main_same m ρ fun c => spread_of (F := Bits) _ _ (hpre c)

end Cert.KernelIdeal.Exch
-- ==== Proof.Equal.lean ====
module

public import proofs.«01_k».proof.Proof.Rows
public import proofs.«01_k».proof.Proof.RefRows
public import proofs.«01_k».proof.Proof.Frames
public import Idealize.ShloMosaic.Lib.Layout

@[expose] public section

noncomputable section

/-! The kernel's result is the reference's: each device's is its block of the whole. -/

namespace Cert.Equal

open Cert.Rows
open Idealize.ShloMosaic hiding ix1 ix2 ix3 eq_ix1 eq_ix2 eq_ix3
open Idealize.ShloMosaic.TcCoe Idealize.ShloMosaic.StableHlo Idealize.SL.Sem
open Idealize.ShloMosaic.ValueIdx

variable {α : Type}

theorem block1 (v : (⟨1, ![16384]⟩ : Shape).Idx → α) (q : Fin 4) (j : Fin 4096) :
    Layout.block ⟨1, ![4096]⟩ ⟨1, ![16384]⟩ 0 4 q v (by decide) (ix1 j) = v (ix1 (at4 q j)) := by
  refine congrArg v (funext fun a => Fin.ext ?_)
  match a with
  | ⟨0, _⟩ => show q.val * 4096 + j.val = 4096 * q.val + j.val; omega

theorem block2 (v : (⟨2, ![16384, 1024]⟩ : Shape).Idx → α) (q : Fin 4) (j : Fin 4096) (y : Fin 1024) :
    Layout.block ⟨2, ![4096, 1024]⟩ ⟨2, ![16384, 1024]⟩ 0 4 q v (by decide) (ix2 j y) = v (ix2 (at4 q j) y) := by
  refine congrArg v (funext fun a => Fin.ext ?_)
  match a with
  | ⟨0, _⟩ => show q.val * 4096 + j.val = 4096 * q.val + j.val; omega
  | ⟨1, _⟩ => rfl

/-- A destination of the whole, at the row `j` of block `q`. -/
theorem num_block (D : IVec ⟨1, ![16384]⟩ 32) (q : Fin 4) (E : IVec ⟨1, ![4096]⟩ 32) (hE : E = Layout.block ⟨1, ![4096]⟩ ⟨1, ![16384]⟩ 0 4 q D) :
    (fun j => Cert.ReferenceIdeal.Sorted.num D (at4 q j)) = Cert.KernelIdeal.Exch.num E := by
  funext j
  unfold Cert.ReferenceIdeal.Sorted.num Cert.KernelIdeal.Exch.num
  rw [hE, block1]

theorem at4_surj (i : Fin 16384) : ∃ q j, i = at4 q j :=
  ⟨⟨i.val / 4096, by omega⟩, ⟨i.val % 4096, by omega⟩, Fin.ext (by show i.val = 4096 * (i.val / 4096) + i.val % 4096; omega)⟩

open Cert.KernelIdeal.Exch in
/-- The two results, over one input whole on one side and in blocks on the other. -/
theorem values (m : (ℓ : Loc Cert.KernelIdeal.nD Cert.KernelIdeal.τ Cert.KernelIdeal.sig) → Buf (Elt Ideal) ℓ)
    (X : FVec Ideal ⟨2, ![16384, 1024]⟩ .bf16) (D : IVec ⟨1, ![16384]⟩ 32) (h : ∀ c, Spread (dest m c))
    (hX : ∀ c : Dev Cert.KernelIdeal.nD, src m c = Layout.block ⟨2, ![4096, 1024]⟩ ⟨2, ![16384, 1024]⟩ 0 4 c X)
    (hD : ∀ c : Dev Cert.KernelIdeal.nD, dest m c = Layout.block ⟨1, ![4096]⟩ ⟨1, ![16384]⟩ 0 4 c D) (c : Dev Cert.KernelIdeal.nD) :
    Cert.KernelIdeal.Gen.V8 m (outs m) c (Cert.KernelIdeal.main_v35 : DevRef Cert.KernelIdeal.τ Cert.KernelIdeal.sig)
      = Layout.block ⟨2, ![4096, 1024]⟩ ⟨2, ![16384, 1024]⟩ 0 4 c (Cert.ReferenceIdeal.Sorted.result X D) := by
  have hn : ∀ q : Fin 4, (fun j => Cert.ReferenceIdeal.Sorted.num D (at4 q j)) = num (dest m q) := fun q => num_block D q _ (hD q)
  have hlt : ∀ k, Cert.ReferenceIdeal.Sorted.num D k < 4 := fun k => by
    obtain ⟨q, j, rfl⟩ := at4_surj k
    rw [congrFun (hn q) j]
    exact num_lt (dest m q) (h q) j
  have hsort : ∀ i, sortedFrom (beforeB (Cert.ReferenceIdeal.Sorted.num D)) i = source (fun q => sorted (dest m q)) i := fun i => by
    refine sorted_whole _ (fun q b hb => ?_) _ (fun q i j hij => ?_) i
    · have e := num_card (dest m q) (h q) b hb
      rw [← hn q] at e
      exact e
    · have e := sorted_before (num (dest m q)) i j hij
      rw [← hn q] at e
      have e' : sorted (dest m q) = sortedFrom (beforeB fun j => Cert.ReferenceIdeal.Sorted.num D (at4 q j)) := by rw [hn q]; rfl
      rw [e']
      exact e
  funext j
  obtain ⟨r, y, rfl⟩ : ∃ (r : Fin 4096) (y : Fin 1024), j = ix2 r y := ⟨j 0, j 1, eq_ix2 j⟩
  refine (result_apply m h c r y).trans ?_
  refine (congrFun (hX (from_ r)) _).trans ((block2 X (from_ r) _ y).trans ?_)
  refine Eq.trans ?_ (block2 (Cert.ReferenceIdeal.Sorted.result X D) c r y).symm
  refine Eq.trans ?_ (Cert.ReferenceIdeal.Sorted.result_apply X D hlt (at4 c r) y).symm
  rw [hsort]
  refine congrArg (fun z => X (ix2 z y)) ?_
  have hc : c.val < 4 := c.isLt
  have e1 : (⟨(at4 c r).val % 4096 / 1024, by omega⟩ : Fin 4) = from_ r := Fin.ext (by
    show (4096 * c.val + r.val) % 4096 / 1024 = r.val / 1024; omega)
  have e2 : (⟨1024 * ((at4 c r).val / 4096) + (at4 c r).val % 1024, by omega⟩ : Fin 4096) = at_ c r := Fin.ext (by
    show 1024 * ((4096 * c.val + r.val) / 4096) + (4096 * c.val + r.val) % 1024 = 1024 * c.val + r.val % 1024; omega)
  unfold source
  rw [e1, e2]

open Cert.KernelIdeal.Exch in
theorem algebraic : Cert.algebraic_KernelIdeal_ReferenceIdeal := by
  intro m g m' g' hpre hin
  have h : ∀ c, Spread (dest m c) := fun c => spread_of _ _ (hpre c)
  refine ⟨Cert.ReferenceIdeal.Sorted.result (F := Ideal) _ _, ?_, Cert.ReferenceIdeal.Sorted.run m' g'⟩
  refine (θ_run Cert.KernelIdeal.defs _ _).mono (fun r hr c => ?_) (run_main m g (even_of m h))
  have hc := hr.1 c
  exact ⟨hc.1.2.2.trans (values m _ _ h (fun c => (hin c).1) (fun c => (hin c).2) c), hc.1.1, hc.1.2.1⟩

end Cert.Equal
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.Pre_uniform_Kernel
public import proofs.«01_k».proof.Proof.Gen.Pre_uniform_ReferenceIdeal
public import proofs.«01_k».proof.Proof.Equal

@[expose] public section

noncomputable section

/-! The claims together: the frames of the kernel at the machine's numbers and at the real ones, the frames of
the reference with and without the precondition, and the equality of the two results. -/

namespace Cert.Proof

theorem claim : Cert.Claim :=
  ⟨Cert.Kernel.Gen.facts, Cert.KernelIdeal.Gen.facts, Cert.ReferenceIdeal.Gen.facts, Cert.Pre_uniform_Kernel.Gen.facts,
    Cert.Pre_uniform_ReferenceIdeal.Gen.facts, Cert.KernelIdeal.Exch.frame_kernel, Cert.KernelIdeal.Exch.frame_ideal,
    Cert.ReferenceIdeal.Sorted.frame, Cert.ReferenceIdeal.Sorted.frame_uniform, trivial, Cert.Equal.algebraic⟩

end Cert.Proof

end
